-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  IdealRules.named_const.Statement Cert.KernelIdeal.κ "scale2" .f32 0x3DD53B95#32 ((((Real.sqrt 192) * (Real.log 2))⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4096x2048 : Shape := ⟨2, ![4096, 2048]⟩
abbrev S4096x128 : Shape := ⟨2, ![4096, 128]⟩
abbrev S_ : Shape := ⟨0, ![]⟩

class Facts : Prop where
  bcast_S_S4096x2048 : S_.BroadcastsInDim S4096x2048 (![] : Fin 0 → Fin S4096x2048.rank)
  bcast_S_S4096x128 : S_.BroadcastsInDim S4096x128 (![] : Fin 0 → Fin S4096x128.rank)

variable [Facts]

def fn {F : FTy → Type} [FloatOps F] (main_arg0 : FVec F S4096x2048 .bf16) (main_arg1 : FVec F S4096x2048 .bf16) (main_arg2 : FVec F S4096x128 .bf16) (main_arg3 : FVec F S4096x2048 .f32) : IVec S4096x2048 1 × IVec S4096x2048 1 × IVec S4096x128 1 × IVec S4096x2048 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S4096x2048 .bf16 := Host.absf main_arg1
  let main_cst_0 : FVec F S_ .bf16 := constant S_ .bf16 0x7F80#16
  let main_v4 : FVec F S4096x2048 .bf16 := broadcastInDim S4096x2048 ![] bcast_S_S4096x2048 main_cst_0
  let main_v5 : IVec S4096x2048 1 := cmpf .olt main_v3 main_v4
  let main_v6 : FVec F S4096x128 .bf16 := Host.absf main_arg2
  let main_cst_1 : FVec F S_ .bf16 := constant S_ .bf16 0x7F80#16
  let main_v7 : FVec F S4096x128 .bf16 := broadcastInDim S4096x128 ![] bcast_S_S4096x128 main_cst_1
  let main_v8 : IVec S4096x128 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Kernel.lean ====
abbrev S4096x2048 : Shape := ⟨2, ![4096, 2048]⟩
abbrev S4096x128 : Shape := ⟨2, ![4096, 128]⟩
abbrev S4096x8x256 : Shape := ⟨3, ![4096, 8, 256]⟩
abbrev S4096x1024 : Shape := ⟨2, ![4096, 1024]⟩
abbrev S4096x8x128 : Shape := ⟨3, ![4096, 8, 128]⟩
abbrev S4096x1x128 : Shape := ⟨3, ![4096, 1, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S8x16x1x256 : Shape := ⟨4, ![8, 16, 1, 256]⟩
abbrev S2048x256 : Shape := ⟨2, ![2048, 256]⟩
abbrev S2048x128 : Shape := ⟨2, ![2048, 128]⟩
abbrev S1x2048x1 : Shape := ⟨3, ![1, 2048, 1]⟩
abbrev S1x8x1x256 : Shape := ⟨4, ![1, 8, 1, 256]⟩
abbrev S1x512x512 : Shape := ⟨3, ![1, 512, 512]⟩
abbrev S512x256 : Shape := ⟨2, ![512, 256]⟩
abbrev S512x1 : Shape := ⟨2, ![512, 1]⟩
abbrev S512x128 : Shape := ⟨2, ![512, 128]⟩
abbrev S512 : Shape := ⟨1, ![512]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x1x1x256 : Shape := ⟨4, ![1, 1, 1, 256]⟩
abbrev S1x512x1 : Shape := ⟨3, ![1, 512, 1]⟩
abbrev S512x512 : Shape := ⟨2, ![512, 512]⟩
abbrev S1x512 : Shape := ⟨2, ![1, 512]⟩

abbrev nBuf : Space → Nat
  | .hbm => 61
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x128, .f32⟩
  | .hbm, ⟨7, _⟩ => ⟨S4096x8x256, .f32⟩
  | .hbm, ⟨8, _⟩ => ⟨S4096x1024, .f32⟩
  | .hbm, ⟨9, _⟩ => ⟨S4096x8x128, .f32⟩
  | .hbm, ⟨10, _⟩ => ⟨S4096x1x128, .f32⟩
  | .hbm, ⟨11, _⟩ => ⟨S4096x8x128, .f32⟩
  | .hbm, ⟨12, _⟩ => ⟨S4096x8x256, .f32⟩
  | .hbm, ⟨13, _⟩ => ⟨S4096x1024, .f32⟩
  | .hbm, ⟨14, _⟩ => ⟨S4096x8x128, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x4096x4096, .f32⟩
  | .hbm, ⟨22, _⟩ => ⟨S_, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x128x4096, .f32⟩
  | .hbm, ⟨51, _⟩ => ⟨S4096x8x128, .f32⟩
  | .hbm, ⟨52, _⟩ => ⟨S4096x1024, .f32⟩
  | .hbm, ⟨53, _⟩ => ⟨S8x4096x1, .f32⟩
  | .hbm, ⟨54, _⟩ => ⟨S8x4096x1, .f32⟩
  | .hbm, ⟨55, _⟩ => ⟨S_, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S4096x2048, .f32⟩
  | .hbm, ⟨60, _⟩ => ⟨S8x16x1x256, .f32⟩
  | .local _ .vmem, ⟨0, _⟩ => ⟨S2048x256, .bf16⟩
  | .local _ .vmem, ⟨1, _⟩ => ⟨S2048x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S2048x128, .f32⟩
  | .local _ .vmem, ⟨8, _⟩ => ⟨S2048x128, .f32⟩
  | .local _ .vmem, ⟨9, _⟩ => ⟨S1x2048x1, .f32⟩
  | .local _ .vmem, ⟨10, _⟩ => ⟨S1x2048x1, .f32⟩
  | .local _ .vmem, ⟨11, _⟩ => ⟨S2048x128, .f32⟩
  | .local _ .vmem, ⟨12, _⟩ => ⟨S2048x128, .f32⟩
  | .local _ .vmem, ⟨13, _⟩ => ⟨S2048x256, .f32⟩
  | .local _ .vmem, ⟨14, _⟩ => ⟨S2048x256, .f32⟩
  | .local _ .vmem, ⟨15, _⟩ => ⟨S1x8x1x256, .f32⟩
  | .local _ .vmem, ⟨16, _⟩ => ⟨S1x8x1x256, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 2], ![false, false]⟩

def k0_mult1 : BitVec 32 :=
  let c0_i32_17 : BitVec 32 := 0#32
  c0_i32_17
@[reducible] def k0_t1_loop (i : grid0.Coords) : Scf.Loop 32 :=
  let c0_i32_32 : BitVec 32 := 0#32
  let c2_i32 : BitVec 32 := 2#32
  let arg1 : BitVec 32 := BitVec.ofNat 32 (i 1).val
  let v52 : BitVec 32 := Scalar.muli c2_i32 arg1
  let c0_i32_31 : BitVec 32 := 0#32
  let v53 : BitVec 32 := Scalar.addi v52 c0_i32_31
  let v54 : BitVec 32 := Scalar.subi v53 c0_i32_32
  let c1_i32 : BitVec 32 := 1#32
  let v56 : BitVec 32 := Scalar.divsi v54 c1_i32
  let v57 : BitVec 32 := Scalar.muli v56 c1_i32
  let v58 : BitVec 32 := Scalar.addi c0_i32_32 v57
  let c1_i32_33 : BitVec 32 := 1#32
  ⟨c0_i32_32, v58, c1_i32_33⟩
def k0_mult2 (i : grid0.Coords) (k0_t1 : Fin (k0_t1_loop i).trips) : BitVec 32 :=
  let c2_i32_265 : BitVec 32 := 2#32
  let c0_i32_32 : BitVec 32 := 0#32
  let c1_i32_33 : BitVec 32 := 1#32
  let arg15 : BitVec 32 := Scf.iv c0_i32_32 c1_i32_33 k0_t1
  let v465 : BitVec 32 := Scalar.muli c2_i32_265 arg15
  let c1_i32_266 : BitVec 32 := 1#32
  let v466 : BitVec 32 := Scalar.addi v465 c1_i32_266
  let c512_i32_267 : BitVec 32 := 512#32
  let v467 : BitVec 32 := Scalar.muli v466 c512_i32_267
  v467
def k0_off1 (i : grid0.Coords) (k0_t1 : Fin (k0_t1_loop i).trips) (c1_i32_266 : BitVec 32) : Fin 2 → Nat :=
  let c2_i32_265 : BitVec 32 := 2#32
  let c0_i32_32 : BitVec 32 := 0#32
  let c1_i32_33 : BitVec 32 := 1#32
  let arg15 : BitVec 32 := Scf.iv c0_i32_32 c1_i32_33 k0_t1
  let v465 : BitVec 32 := Scalar.muli c2_i32_265 arg15
  let v466 : BitVec 32 := Scalar.addi v465 c1_i32_266
  let c512_i32_267 : BitVec 32 := 512#32
  let v467 : BitVec 32 := Scalar.muli v466 c512_i32_267
  let v468 : BitVec 32 := v467
  let v469 : Index := Scalar.indexCast v468
  let c0_268 : Index := 0#32
  ![v469.toNat, 0]
def k0_mult3 (i : grid0.Coords) (k0_t1 : Fin (k0_t1_loop i).trips) : BitVec 32 :=
  let c2_i32_279 : BitVec 32 := 2#32
  let c0_i32_32 : BitVec 32 := 0#32
  let c1_i32_33 : BitVec 32 := 1#32
  let arg15 : BitVec 32 := Scf.iv c0_i32_32 c1_i32_33 k0_t1
  let v484 : BitVec 32 := Scalar.muli c2_i32_279 arg15
  let c512_i32_280 : BitVec 32 := 512#32
  let v485 : BitVec 32 := Scalar.muli v484 c512_i32_280
  v485
def k0_off2 (i : grid0.Coords) (k0_t1 : Fin (k0_t1_loop i).trips) : Fin 2 → Nat :=
  let c2_i32_279 : BitVec 32 := 2#32
  let c0_i32_32 : BitVec 32 := 0#32
  let c1_i32_33 : BitVec 32 := 1#32
  let arg15 : BitVec 32 := Scf.iv c0_i32_32 c1_i32_33 k0_t1
  let v484 : BitVec 32 := Scalar.muli c2_i32_279 arg15
  let c512_i32_280 : BitVec 32 := 512#32
  let v485 : BitVec 32 := Scalar.muli v484 c512_i32_280
  let v486 : BitVec 32 := v485
  let v487 : Index := Scalar.indexCast v486
  let c0_281 : Index := 0#32
  ![v487.toNat, 0]
def k0_mult4 (i : grid0.Coords) (k0_t1 : Fin (k0_t1_loop i).trips) : BitVec 32 :=
  let c2_i32_292 : BitVec 32 := 2#32
  let c0_i32_32 : BitVec 32 := 0#32
  let c1_i32_33 : BitVec 32 := 1#32
  let arg15 : BitVec 32 := Scf.iv c0_i32_32 c1_i32_33 k0_t1
  let v512 : BitVec 32 := Scalar.muli c2_i32_292 arg15
  let c2_i32_293 : BitVec 32 := 2#32
  let v513 : BitVec 32 := Scalar.addi v512 c2_i32_293
  let c512_i32_294 : BitVec 32 := 512#32
  let v514 : BitVec 32 := Scalar.muli v513 c512_i32_294
  v514
def k0_mult5 (i : grid0.Coords) (k0_t1 : Fin (k0_t1_loop i).trips) : BitVec 32 :=
  let c2_i32_306 : BitVec 32 := 2#32
  let c0_i32_32 : BitVec 32 := 0#32
  let c1_i32_33 : BitVec 32 := 1#32
  let arg15 : BitVec 32 := Scf.iv c0_i32_32 c1_i32_33 k0_t1
  let v531 : BitVec 32 := Scalar.muli c2_i32_306 arg15
  let c1_i32_307 : BitVec 32 := 1#32
  let v532 : BitVec 32 := Scalar.addi v531 c1_i32_307
  let c512_i32_308 : BitVec 32 := 512#32
  let v533 : BitVec 32 := Scalar.muli v532 c512_i32_308
  v533
@[reducible] def k0_t2_loop (i : grid0.Coords) : Scf.Loop 32 :=
  let c0_i32_32 : BitVec 32 := 0#32
  let c2_i32 : BitVec 32 := 2#32
  let arg1 : BitVec 32 := BitVec.ofNat 32 (i 1).val
  let v52 : BitVec 32 := Scalar.muli c2_i32 arg1
  let c0_i32_31 : BitVec 32 := 0#32
  let v53 : BitVec 32 := Scalar.addi v52 c0_i32_31
  let v54 : BitVec 32 := Scalar.subi v53 c0_i32_32
  let c1_i32 : BitVec 32 := 1#32
  let v56 : BitVec 32 := Scalar.divsi v54 c1_i32
  let v57 : BitVec 32 := Scalar.muli v56 c1_i32
  let v58 : BitVec 32 := Scalar.addi c0_i32_32 v57
  let v55 : BitVec 32 := Scalar.addi c0_i32_32 v54
  let c1_i32_34 : BitVec 32 := 1#32
  ⟨v58, v55, c1_i32_34⟩
def k0_mult6 (i : grid0.Coords) (k0_t2 : Fin (k0_t2_loop i).trips) : BitVec 32 :=
  let c2_i32_265 : BitVec 32 := 2#32
  let c0_i32_32 : BitVec 32 := 0#32
  let c2_i32 : BitVec 32 := 2#32
  let arg1 : BitVec 32 := BitVec.ofNat 32 (i 1).val
  let v52 : BitVec 32 := Scalar.muli c2_i32 arg1
  let c0_i32_31 : BitVec 32 := 0#32
  let v53 : BitVec 32 := Scalar.addi v52 c0_i32_31
  let v54 : BitVec 32 := Scalar.subi v53 c0_i32_32
  let c1_i32 : BitVec 32 := 1#32
  let v56 : BitVec 32 := Scalar.divsi v54 c1_i32
  let v57 : BitVec 32 := Scalar.muli v56 c1_i32
  let v58 : BitVec 32 := Scalar.addi c0_i32_32 v57
  let c1_i32_34 : BitVec 32 := 1#32
  let arg15 : BitVec 32 := Scf.iv v58 c1_i32_34 k0_t2
  let v465 : BitVec 32 := Scalar.muli c2_i32_265 arg15
  let c1_i32_266 : BitVec 32 := 1#32
  let v466 : BitVec 32 := Scalar.addi v465 c1_i32_266
  let c512_i32_267 : BitVec 32 := 512#32
  let v467 : BitVec 32 := Scalar.muli v466 c512_i32_267
  v467
def k0_off3 (i : grid0.Coords) (k0_t2 : Fin (k0_t2_loop i).trips) (c1_i32_266 : BitVec 32) : Fin 2 → Nat :=
  let c2_i32_265 : BitVec 32 := 2#32
  let c0_i32_32 : BitVec 32 := 0#32
  let c2_i32 : BitVec 32 := 2#32
  let arg1 : BitVec 32 := BitVec.ofNat 32 (i 1).val
  let v52 : BitVec 32 := Scalar.muli c2_i32 arg1
  let c0_i32_31 : BitVec 32 := 0#32
  let v53 : BitVec 32 := Scalar.addi v52 c0_i32_31
  let v54 : BitVec 32 := Scalar.subi v53 c0_i32_32
  let c1_i32 : BitVec 32 := 1#32
  let v56 : BitVec 32 := Scalar.divsi v54 c1_i32
  let v57 : BitVec 32 := Scalar.muli v56 c1_i32
  let v58 : BitVec 32 := Scalar.addi c0_i32_32 v57
  let c1_i32_34 : BitVec 32 := 1#32
  let arg15 : BitVec 32 := Scf.iv v58 c1_i32_34 k0_t2
  let v465 : BitVec 32 := Scalar.muli c2_i32_265 arg15
  let v466 : BitVec 32 := Scalar.addi v465 c1_i32_266
  let c512_i32_267 : BitVec 32 := 512#32
  let v467 : BitVec 32 := Scalar.muli v466 c512_i32_267
  let v468 : BitVec 32 := v467
  let v469 : Index := Scalar.indexCast v468
  let c0_268 : Index := 0#32
  ![v469.toNat, 0]
def k0_mult7 (i : grid0.Coords) (k0_t2 : Fin (k0_t2_loop i).trips) : BitVec 32 :=
  let c2_i32_279 : BitVec 32 := 2#32
  let c0_i32_32 : BitVec 32 := 0#32
  let c2_i32 : BitVec 32 := 2#32
  let arg1 : BitVec 32 := BitVec.ofNat 32 (i 1).val
  let v52 : BitVec 32 := Scalar.muli c2_i32 arg1
  let c0_i32_31 : BitVec 32 := 0#32
  let v53 : BitVec 32 := Scalar.addi v52 c0_i32_31
  let v54 : BitVec 32 := Scalar.subi v53 c0_i32_32
  let c1_i32 : BitVec 32 := 1#32
  let v56 : BitVec 32 := Scalar.divsi v54 c1_i32
  let v57 : BitVec 32 := Scalar.muli v56 c1_i32
  let v58 : BitVec 32 := Scalar.addi c0_i32_32 v57
  let c1_i32_34 : BitVec 32 := 1#32
  let arg15 : BitVec 32 := Scf.iv v58 c1_i32_34 k0_t2
  let v484 : BitVec 32 := Scalar.muli c2_i32_279 arg15
  let c512_i32_280 : BitVec 32 := 512#32
  let v485 : BitVec 32 := Scalar.muli v484 c512_i32_280
  v485
def k0_off4 (i : grid0.Coords) (k0_t2 : Fin (k0_t2_loop i).trips) : Fin 2 → Nat :=
  let c2_i32_279 : BitVec 32 := 2#32
  let c0_i32_32 : BitVec 32 := 0#32
  let c2_i32 : BitVec 32 := 2#32
  let arg1 : BitVec 32 := BitVec.ofNat 32 (i 1).val
  let v52 : BitVec 32 := Scalar.muli c2_i32 arg1
  let c0_i32_31 : BitVec 32 := 0#32
  let v53 : BitVec 32 := Scalar.addi v52 c0_i32_31
  let v54 : BitVec 32 := Scalar.subi v53 c0_i32_32
  let c1_i32 : BitVec 32 := 1#32
  let v56 : BitVec 32 := Scalar.divsi v54 c1_i32
  let v57 : BitVec 32 := Scalar.muli v56 c1_i32
  let v58 : BitVec 32 := Scalar.addi c0_i32_32 v57
  let c1_i32_34 : BitVec 32 := 1#32
  let arg15 : BitVec 32 := Scf.iv v58 c1_i32_34 k0_t2
  let v484 : BitVec 32 := Scalar.muli c2_i32_279 arg15
  let c512_i32_280 : BitVec 32 := 512#32
  let v485 : BitVec 32 := Scalar.muli v484 c512_i32_280
  let v486 : BitVec 32 := v485
  let v487 : Index := Scalar.indexCast v486
  let c0_281 : Index := 0#32
  ![v487.toNat, 0]
def k0_mult8 (i : grid0.Coords) (k0_t2 : Fin (k0_t2_loop i).trips) : BitVec 32 :=
  let c2_i32_292 : BitVec 32 := 2#32
  let c0_i32_32 : BitVec 32 := 0#32
  let c2_i32 : BitVec 32 := 2#32
  let arg1 : BitVec 32 := BitVec.ofNat 32 (i 1).val
  let v52 : BitVec 32 := Scalar.muli c2_i32 arg1
  let c0_i32_31 : BitVec 32 := 0#32
  let v53 : BitVec 32 := Scalar.addi v52 c0_i32_31
  let v54 : BitVec 32 := Scalar.subi v53 c0_i32_32
  let c1_i32 : BitVec 32 := 1#32
  let v56 : BitVec 32 := Scalar.divsi v54 c1_i32
  let v57 : BitVec 32 := Scalar.muli v56 c1_i32
  let v58 : BitVec 32 := Scalar.addi c0_i32_32 v57
  let c1_i32_34 : BitVec 32 := 1#32
  let arg15 : BitVec 32 := Scf.iv v58 c1_i32_34 k0_t2
  let v512 : BitVec 32 := Scalar.muli c2_i32_292 arg15
  let c2_i32_293 : BitVec 32 := 2#32
  let v513 : BitVec 32 := Scalar.addi v512 c2_i32_293
  let c512_i32_294 : BitVec 32 := 512#32
  let v514 : BitVec 32 := Scalar.muli v513 c512_i32_294
  v514
def k0_mult9 (i : grid0.Coords) (k0_t2 : Fin (k0_t2_loop i).trips) : BitVec 32 :=
  let c2_i32_306 : BitVec 32 := 2#32
  let c0_i32_32 : BitVec 32 := 0#32
  let c2_i32 : BitVec 32 := 2#32
  let arg1 : BitVec 32 := BitVec.ofNat 32 (i 1).val
  let v52 : BitVec 32 := Scalar.muli c2_i32 arg1
  let c0_i32_31 : BitVec 32 := 0#32
  let v53 : BitVec 32 := Scalar.addi v52 c0_i32_31
  let v54 : BitVec 32 := Scalar.subi v53 c0_i32_32
  let c1_i32 : BitVec 32 := 1#32
  let v56 : BitVec 32 := Scalar.divsi v54 c1_i32
  let v57 : BitVec 32 := Scalar.muli v56 c1_i32
  let v58 : BitVec 32 := Scalar.addi c0_i32_32 v57
  let c1_i32_34 : BitVec 32 := 1#32
  let arg15 : BitVec 32 := Scf.iv v58 c1_i32_34 k0_t2
  let v531 : BitVec 32 := Scalar.muli c2_i32_306 arg15
  let c1_i32_307 : BitVec 32 := 1#32
  let v532 : BitVec 32 := Scalar.addi v531 c1_i32_307
  let c512_i32_308 : BitVec 32 := 512#32
  let v533 : BitVec 32 := Scalar.muli v532 c512_i32_308
  v533
def k0_mult10 : BitVec 32 :=
  let c0_i32_54 : BitVec 32 := 0#32
  c0_i32_54
def k0_mult11 (i : grid0.Coords) : BitVec 32 :=
  let c4_i32_29 : BitVec 32 := 4#32
  let arg1 : BitVec 32 := BitVec.ofNat 32 (i 1).val
  let v50 : BitVec 32 := Scalar.muli c4_i32_29 arg1
  let c0_i32_30 : BitVec 32 := 0#32
  let v51 : BitVec 32 := Scalar.addi v50 c0_i32_30
  let c512_i32_66 : BitVec 32 := 512#32
  let v110 : BitVec 32 := Scalar.muli v51 c512_i32_66
  v110
def k0_off5 (i : grid0.Coords) (c0_i32_30 : BitVec 32) : Fin 2 → Nat :=
  let c4_i32_29 : BitVec 32 := 4#32
  let arg1 : BitVec 32 := BitVec.ofNat 32 (i 1).val
  let v50 : BitVec 32 := Scalar.muli c4_i32_29 arg1
  let v51 : BitVec 32 := Scalar.addi v50 c0_i32_30
  let c512_i32_66 : BitVec 32 := 512#32
  let v110 : BitVec 32 := Scalar.muli v51 c512_i32_66
  let v111 : BitVec 32 := v110
  let v112 : Index := Scalar.indexCast v111
  let c0_67 : Index := 0#32
  ![v112.toNat, 0]
@[reducible] def k0_t3_loop (i : grid0.Coords) : Scf.Loop 32 :=
  let c0_i32_86 : BitVec 32 := 0#32
  let c2_i32_84 : BitVec 32 := 2#32
  let arg1 : BitVec 32 := BitVec.ofNat 32 (i 1).val
  let v147 : BitVec 32 := Scalar.muli c2_i32_84 arg1
  let c0_i32_85 : BitVec 32 := 0#32
  let v148 : BitVec 32 := Scalar.addi v147 c0_i32_85
  let v149 : BitVec 32 := Scalar.subi v148 c0_i32_86
  let c1_i32_87 : BitVec 32 := 1#32
  let v151 : BitVec 32 := Scalar.divsi v149 c1_i32_87
  let v152 : BitVec 32 := Scalar.muli v151 c1_i32_87
  let v153 : BitVec 32 := Scalar.addi c0_i32_86 v152
  let c1_i32_88 : BitVec 32 := 1#32
  ⟨c0_i32_86, v153, c1_i32_88⟩
def k0_mult12 (i : grid0.Coords) (k0_t3 : Fin (k0_t3_loop i).trips) : BitVec 32 :=
  let c2_i32_265 : BitVec 32 := 2#32
  let c0_i32_86 : BitVec 32 := 0#32
  let c1_i32_88 : BitVec 32 := 1#32
  let arg15 : BitVec 32 := Scf.iv c0_i32_86 c1_i32_88 k0_t3
  let v465 : BitVec 32 := Scalar.muli c2_i32_265 arg15
  let c1_i32_266 : BitVec 32 := 1#32
  let v466 : BitVec 32 := Scalar.addi v465 c1_i32_266
  let c512_i32_267 : BitVec 32 := 512#32
  let v467 : BitVec 32 := Scalar.muli v466 c512_i32_267
  v467
def k0_off6 (i : grid0.Coords) (k0_t3 : Fin (k0_t3_loop i).trips) (c1_i32_266 : BitVec 32) : Fin 2 → Nat :=
  let c2_i32_265 : BitVec 32 := 2#32
  let c0_i32_86 : BitVec 32 := 0#32
  let c1_i32_88 : BitVec 32 := 1#32
  let arg15 : BitVec 32 := Scf.iv c0_i32_86 c1_i32_88 k0_t3
  let v465 : BitVec 32 := Scalar.muli c2_i32_265 arg15
  let v466 : BitVec 32 := Scalar.addi v465 c1_i32_266
  let c512_i32_267 : BitVec 32 := 512#32
  let v467 : BitVec 32 := Scalar.muli v466 c512_i32_267
  let v468 : BitVec 32 := v467
  let v469 : Index := Scalar.indexCast v468
  let c0_268 : Index := 0#32
  ![v469.toNat, 0]
def k0_mult13 (i : grid0.Coords) (k0_t3 : Fin (k0_t3_loop i).trips) : BitVec 32 :=
  let c2_i32_279 : BitVec 32 := 2#32
  let c0_i32_86 : BitVec 32 := 0#32
  let c1_i32_88 : BitVec 32 := 1#32
  let arg15 : BitVec 32 := Scf.iv c0_i32_86 c1_i32_88 k0_t3
  let v484 : BitVec 32 := Scalar.muli c2_i32_279 arg15
  let c512_i32_280 : BitVec 32 := 512#32
  let v485 : BitVec 32 := Scalar.muli v484 c512_i32_280
  v485
def k0_off7 (i : grid0.Coords) (k0_t3 : Fin (k0_t3_loop i).trips) : Fin 2 → Nat :=
  let c2_i32_279 : BitVec 32 := 2#32
  let c0_i32_86 : BitVec 32 := 0#32
  let c1_i32_88 : BitVec 32 := 1#32
  let arg15 : BitVec 32 := Scf.iv c0_i32_86 c1_i32_88 k0_t3
  let v484 : BitVec 32 := Scalar.muli c2_i32_279 arg15
  let c512_i32_280 : BitVec 32 := 512#32
  let v485 : BitVec 32 := Scalar.muli v484 c512_i32_280
  let v486 : BitVec 32 := v485
  let v487 : Index := Scalar.indexCast v486
  let c0_281 : Index := 0#32
  ![v487.toNat, 0]
def k0_mult14 (i : grid0.Coords) (k0_t3 : Fin (k0_t3_loop i).trips) : BitVec 32 :=
  let c2_i32_292 : BitVec 32 := 2#32
  let c0_i32_86 : BitVec 32 := 0#32
  let c1_i32_88 : BitVec 32 := 1#32
  let arg15 : BitVec 32 := Scf.iv c0_i32_86 c1_i32_88 k0_t3
  let v512 : BitVec 32 := Scalar.muli c2_i32_292 arg15
  let c2_i32_293 : BitVec 32 := 2#32
  let v513 : BitVec 32 := Scalar.addi v512 c2_i32_293
  let c512_i32_294 : BitVec 32 := 512#32
  let v514 : BitVec 32 := Scalar.muli v513 c512_i32_294
  v514
def k0_mult15 (i : grid0.Coords) (k0_t3 : Fin (k0_t3_loop i).trips) : BitVec 32 :=
  let c2_i32_306 : BitVec 32 := 2#32
  let c0_i32_86 : BitVec 32 := 0#32
  let c1_i32_88 : BitVec 32 := 1#32
  let arg15 : BitVec 32 := Scf.iv c0_i32_86 c1_i32_88 k0_t3
  let v531 : BitVec 32 := Scalar.muli c2_i32_306 arg15
  let c1_i32_307 : BitVec 32 := 1#32
  let v532 : BitVec 32 := Scalar.addi v531 c1_i32_307
  let c512_i32_308 : BitVec 32 := 512#32
  let v533 : BitVec 32 := Scalar.muli v532 c512_i32_308
  v533
@[reducible] def k0_t4_loop (i : grid0.Coords) : Scf.Loop 32 :=
  let c0_i32_86 : BitVec 32 := 0#32
  let c2_i32_84 : BitVec 32 := 2#32
  let arg1 : BitVec 32 := BitVec.ofNat 32 (i 1).val
  let v147 : BitVec 32 := Scalar.muli c2_i32_84 arg1
  let c0_i32_85 : BitVec 32 := 0#32
  let v148 : BitVec 32 := Scalar.addi v147 c0_i32_85
  let v149 : BitVec 32 := Scalar.subi v148 c0_i32_86
  let c1_i32_87 : BitVec 32 := 1#32
  let v151 : BitVec 32 := Scalar.divsi v149 c1_i32_87
  let v152 : BitVec 32 := Scalar.muli v151 c1_i32_87
  let v153 : BitVec 32 := Scalar.addi c0_i32_86 v152
  let v150 : BitVec 32 := Scalar.addi c0_i32_86 v149
  let c1_i32_89 : BitVec 32 := 1#32
  ⟨v153, v150, c1_i32_89⟩
def k0_mult16 (i : grid0.Coords) (k0_t4 : Fin (k0_t4_loop i).trips) : BitVec 32 :=
  let c2_i32_265 : BitVec 32 := 2#32
  let c0_i32_86 : BitVec 32 := 0#32
  let c2_i32_84 : BitVec 32 := 2#32
  let arg1 : BitVec 32 := BitVec.ofNat 32 (i 1).val
  let v147 : BitVec 32 := Scalar.muli c2_i32_84 arg1
  let c0_i32_85 : BitVec 32 := 0#32
  let v148 : BitVec 32 := Scalar.addi v147 c0_i32_85
  let v149 : BitVec 32 := Scalar.subi v148 c0_i32_86
  let c1_i32_87 : BitVec 32 := 1#32
  let v151 : BitVec 32 := Scalar.divsi v149 c1_i32_87
  let v152 : BitVec 32 := Scalar.muli v151 c1_i32_87
  let v153 : BitVec 32 := Scalar.addi c0_i32_86 v152
  let c1_i32_89 : BitVec 32 := 1#32
  let arg15 : BitVec 32 := Scf.iv v153 c1_i32_89 k0_t4
  let v465 : BitVec 32 := Scalar.muli c2_i32_265 arg15
  let c1_i32_266 : BitVec 32 := 1#32
  let v466 : BitVec 32 := Scalar.addi v465 c1_i32_266
  let c512_i32_267 : BitVec 32 := 512#32
  let v467 : BitVec 32 := Scalar.muli v466 c512_i32_267
  v467
def k0_off8 (i : grid0.Coords) (k0_t4 : Fin (k0_t4_loop i).trips) (c1_i32_266 : BitVec 32) : Fin 2 → Nat :=
  let c2_i32_265 : BitVec 32 := 2#32
  let c0_i32_86 : BitVec 32 := 0#32
  let c2_i32_84 : BitVec 32 := 2#32
  let arg1 : BitVec 32 := BitVec.ofNat 32 (i 1).val
  let v147 : BitVec 32 := Scalar.muli c2_i32_84 arg1
  let c0_i32_85 : BitVec 32 := 0#32
  let v148 : BitVec 32 := Scalar.addi v147 c0_i32_85
  let v149 : BitVec 32 := Scalar.subi v148 c0_i32_86
  let c1_i32_87 : BitVec 32 := 1#32
  let v151 : BitVec 32 := Scalar.divsi v149 c1_i32_87
  let v152 : BitVec 32 := Scalar.muli v151 c1_i32_87
  let v153 : BitVec 32 := Scalar.addi c0_i32_86 v152
  let c1_i32_89 : BitVec 32 := 1#32
  let arg15 : BitVec 32 := Scf.iv v153 c1_i32_89 k0_t4
  let v465 : BitVec 32 := Scalar.muli c2_i32_265 arg15
  let v466 : BitVec 32 := Scalar.addi v465 c1_i32_266
  let c512_i32_267 : BitVec 32 := 512#32
  let v467 : BitVec 32 := Scalar.muli v466 c512_i32_267
  let v468 : BitVec 32 := v467
  let v469 : Index := Scalar.indexCast v468
  let c0_268 : Index := 0#32
  ![v469.toNat, 0]
def k0_mult17 (i : grid0.Coords) (k0_t4 : Fin (k0_t4_loop i).trips) : BitVec 32 :=
  let c2_i32_279 : BitVec 32 := 2#32
  let c0_i32_86 : BitVec 32 := 0#32
  let c2_i32_84 : BitVec 32 := 2#32
  let arg1 : BitVec 32 := BitVec.ofNat 32 (i 1).val
  let v147 : BitVec 32 := Scalar.muli c2_i32_84 arg1
  let c0_i32_85 : BitVec 32 := 0#32
  let v148 : BitVec 32 := Scalar.addi v147 c0_i32_85
  let v149 : BitVec 32 := Scalar.subi v148 c0_i32_86
  let c1_i32_87 : BitVec 32 := 1#32
  let v151 : BitVec 32 := Scalar.divsi v149 c1_i32_87
  let v152 : BitVec 32 := Scalar.muli v151 c1_i32_87
  let v153 : BitVec 32 := Scalar.addi c0_i32_86 v152
  let c1_i32_89 : BitVec 32 := 1#32
  let arg15 : BitVec 32 := Scf.iv v153 c1_i32_89 k0_t4
  let v484 : BitVec 32 := Scalar.muli c2_i32_279 arg15
  let c512_i32_280 : BitVec 32 := 512#32
  let v485 : BitVec 32 := Scalar.muli v484 c512_i32_280
  v485
def k0_off9 (i : grid0.Coords) (k0_t4 : Fin (k0_t4_loop i).trips) : Fin 2 → Nat :=
  let c2_i32_279 : BitVec 32 := 2#32
  let c0_i32_86 : BitVec 32 := 0#32
  let c2_i32_84 : BitVec 32 := 2#32
  let arg1 : BitVec 32 := BitVec.ofNat 32 (i 1).val
  let v147 : BitVec 32 := Scalar.muli c2_i32_84 arg1
  let c0_i32_85 : BitVec 32 := 0#32
  let v148 : BitVec 32 := Scalar.addi v147 c0_i32_85
  let v149 : BitVec 32 := Scalar.subi v148 c0_i32_86
  let c1_i32_87 : BitVec 32 := 1#32
  let v151 : BitVec 32 := Scalar.divsi v149 c1_i32_87
  let v152 : BitVec 32 := Scalar.muli v151 c1_i32_87
  let v153 : BitVec 32 := Scalar.addi c0_i32_86 v152
  let c1_i32_89 : BitVec 32 := 1#32
  let arg15 : BitVec 32 := Scf.iv v153 c1_i32_89 k0_t4
  let v484 : BitVec 32 := Scalar.muli c2_i32_279 arg15
  let c512_i32_280 : BitVec 32 := 512#32
  let v485 : BitVec 32 := Scalar.muli v484 c512_i32_280
  let v486 : BitVec 32 := v485
  let v487 : Index := Scalar.indexCast v486
  let c0_281 : Index := 0#32
  ![v487.toNat, 0]
def k0_mult18 (i : grid0.Coords) (k0_t4 : Fin (k0_t4_loop i).trips) : BitVec 32 :=
  let c2_i32_292 : BitVec 32 := 2#32
  let c0_i32_86 : BitVec 32 := 0#32
  let c2_i32_84 : BitVec 32 := 2#32
  let arg1 : BitVec 32 := BitVec.ofNat 32 (i 1).val
  let v147 : BitVec 32 := Scalar.muli c2_i32_84 arg1
  let c0_i32_85 : BitVec 32 := 0#32
  let v148 : BitVec 32 := Scalar.addi v147 c0_i32_85
  let v149 : BitVec 32 := Scalar.subi v148 c0_i32_86
  let c1_i32_87 : BitVec 32 := 1#32
  let v151 : BitVec 32 := Scalar.divsi v149 c1_i32_87
  let v152 : BitVec 32 := Scalar.muli v151 c1_i32_87
  let v153 : BitVec 32 := Scalar.addi c0_i32_86 v152
  let c1_i32_89 : BitVec 32 := 1#32
  let arg15 : BitVec 32 := Scf.iv v153 c1_i32_89 k0_t4
  let v512 : BitVec 32 := Scalar.muli c2_i32_292 arg15
  let c2_i32_293 : BitVec 32 := 2#32
  let v513 : BitVec 32 := Scalar.addi v512 c2_i32_293
  let c512_i32_294 : BitVec 32 := 512#32
  let v514 : BitVec 32 := Scalar.muli v513 c512_i32_294
  v514
def k0_mult19 (i : grid0.Coords) (k0_t4 : Fin (k0_t4_loop i).trips) : BitVec 32 :=
  let c2_i32_306 : BitVec 32 := 2#32
  let c0_i32_86 : BitVec 32 := 0#32
  let c2_i32_84 : BitVec 32 := 2#32
  let arg1 : BitVec 32 := BitVec.ofNat 32 (i 1).val
  let v147 : BitVec 32 := Scalar.muli c2_i32_84 arg1
  let c0_i32_85 : BitVec 32 := 0#32
  let v148 : BitVec 32 := Scalar.addi v147 c0_i32_85
  let v149 : BitVec 32 := Scalar.subi v148 c0_i32_86
  let c1_i32_87 : BitVec 32 := 1#32
  let v151 : BitVec 32 := Scalar.divsi v149 c1_i32_87
  let v152 : BitVec 32 := Scalar.muli v151 c1_i32_87
  let v153 : BitVec 32 := Scalar.addi c0_i32_86 v152
  let c1_i32_89 : BitVec 32 := 1#32
  let arg15 : BitVec 32 := Scf.iv v153 c1_i32_89 k0_t4
  let v531 : BitVec 32 := Scalar.muli c2_i32_306 arg15
  let c1_i32_307 : BitVec 32 := 1#32
  let v532 : BitVec 32 := Scalar.addi v531 c1_i32_307
  let c512_i32_308 : BitVec 32 := 512#32
  let v533 : BitVec 32 := Scalar.muli v532 c512_i32_308
  v533
def k0_mult20 (i : grid0.Coords) : BitVec 32 :=
  let c4_i32_82 : BitVec 32 := 4#32
  let arg1 : BitVec 32 := BitVec.ofNat 32 (i 1).val
  let v145 : BitVec 32 := Scalar.muli c4_i32_82 arg1
  let c1_i32_83 : BitVec 32 := 1#32
  let v146 : BitVec 32 := Scalar.addi v145 c1_i32_83
  let c512_i32_109 : BitVec 32 := 512#32
  let v189 : BitVec 32 := Scalar.muli v146 c512_i32_109
  v189
def k0_mult21 (i : grid0.Coords) : BitVec 32 :=
  let c4_i32_82 : BitVec 32 := 4#32
  let arg1 : BitVec 32 := BitVec.ofNat 32 (i 1).val
  let v145 : BitVec 32 := Scalar.muli c4_i32_82 arg1
  let c1_i32_83 : BitVec 32 := 1#32
  let v146 : BitVec 32 := Scalar.addi v145 c1_i32_83
  let c1_i32_121 : BitVec 32 := 1#32
  let v206 : BitVec 32 := Scalar.subi v146 c1_i32_121
  let c512_i32_122 : BitVec 32 := 512#32
  let v207 : BitVec 32 := Scalar.muli v206 c512_i32_122
  v207
def k0_off10 (i : grid0.Coords) (c1_i32_83 : BitVec 32) : Fin 2 → Nat :=
  let c4_i32_82 : BitVec 32 := 4#32
  let arg1 : BitVec 32 := BitVec.ofNat 32 (i 1).val
  let v145 : BitVec 32 := Scalar.muli c4_i32_82 arg1
  let v146 : BitVec 32 := Scalar.addi v145 c1_i32_83
  let c1_i32_121 : BitVec 32 := 1#32
  let v206 : BitVec 32 := Scalar.subi v146 c1_i32_121
  let c512_i32_122 : BitVec 32 := 512#32
  let v207 : BitVec 32 := Scalar.muli v206 c512_i32_122
  let v208 : BitVec 32 := v207
  let v209 : Index := Scalar.indexCast v208
  let c0_123 : Index := 0#32
  ![v209.toNat, 0]
def k0_mult22 : BitVec 32 :=
  let c0_i32_134 : BitVec 32 := 0#32
  c0_i32_134
def k0_mult23 (i : grid0.Coords) : BitVec 32 :=
  let c4_i32_82 : BitVec 32 := 4#32
  let arg1 : BitVec 32 := BitVec.ofNat 32 (i 1).val
  let v145 : BitVec 32 := Scalar.muli c4_i32_82 arg1
  let c1_i32_83 : BitVec 32 := 1#32
  let v146 : BitVec 32 := Scalar.addi v145 c1_i32_83
  let c512_i32_146 : BitVec 32 := 512#32
  let v247 : BitVec 32 := Scalar.muli v146 c512_i32_146
  v247
@[reducible] def k0_t5_loop (i : grid0.Coords) : Scf.Loop 32 :=
  let c0_i32_166 : BitVec 32 := 0#32
  let c2_i32_164 : BitVec 32 := 2#32
  let arg1 : BitVec 32 := BitVec.ofNat 32 (i 1).val
  let v284 : BitVec 32 := Scalar.muli c2_i32_164 arg1
  let c1_i32_165 : BitVec 32 := 1#32
  let v285 : BitVec 32 := Scalar.addi v284 c1_i32_165
  let v286 : BitVec 32 := Scalar.subi v285 c0_i32_166
  let c1_i32_167 : BitVec 32 := 1#32
  let v288 : BitVec 32 := Scalar.divsi v286 c1_i32_167
  let v289 : BitVec 32 := Scalar.muli v288 c1_i32_167
  let v290 : BitVec 32 := Scalar.addi c0_i32_166 v289
  let c1_i32_168 : BitVec 32 := 1#32
  ⟨c0_i32_166, v290, c1_i32_168⟩
def k0_mult24 (i : grid0.Coords) (k0_t5 : Fin (k0_t5_loop i).trips) : BitVec 32 :=
  let c2_i32_265 : BitVec 32 := 2#32
  let c0_i32_166 : BitVec 32 := 0#32
  let c1_i32_168 : BitVec 32 := 1#32
  let arg15 : BitVec 32 := Scf.iv c0_i32_166 c1_i32_168 k0_t5
  let v465 : BitVec 32 := Scalar.muli c2_i32_265 arg15
  let c1_i32_266 : BitVec 32 := 1#32
  let v466 : BitVec 32 := Scalar.addi v465 c1_i32_266
  let c512_i32_267 : BitVec 32 := 512#32
  let v467 : BitVec 32 := Scalar.muli v466 c512_i32_267
  v467
def k0_off11 (i : grid0.Coords) (k0_t5 : Fin (k0_t5_loop i).trips) (c1_i32_266 : BitVec 32) : Fin 2 → Nat :=
  let c2_i32_265 : BitVec 32 := 2#32
  let c0_i32_166 : BitVec 32 := 0#32
  let c1_i32_168 : BitVec 32 := 1#32
  let arg15 : BitVec 32 := Scf.iv c0_i32_166 c1_i32_168 k0_t5
  let v465 : BitVec 32 := Scalar.muli c2_i32_265 arg15
  let v466 : BitVec 32 := Scalar.addi v465 c1_i32_266
  let c512_i32_267 : BitVec 32 := 512#32
  let v467 : BitVec 32 := Scalar.muli v466 c512_i32_267
  let v468 : BitVec 32 := v467
  let v469 : Index := Scalar.indexCast v468
  let c0_268 : Index := 0#32
  ![v469.toNat, 0]
def k0_mult25 (i : grid0.Coords) (k0_t5 : Fin (k0_t5_loop i).trips) : BitVec 32 :=
  let c2_i32_279 : BitVec 32 := 2#32
  let c0_i32_166 : BitVec 32 := 0#32
  let c1_i32_168 : BitVec 32 := 1#32
  let arg15 : BitVec 32 := Scf.iv c0_i32_166 c1_i32_168 k0_t5
  let v484 : BitVec 32 := Scalar.muli c2_i32_279 arg15
  let c512_i32_280 : BitVec 32 := 512#32
  let v485 : BitVec 32 := Scalar.muli v484 c512_i32_280
  v485
def k0_off12 (i : grid0.Coords) (k0_t5 : Fin (k0_t5_loop i).trips) : Fin 2 → Nat :=
  let c2_i32_279 : BitVec 32 := 2#32
  let c0_i32_166 : BitVec 32 := 0#32
  let c1_i32_168 : BitVec 32 := 1#32
  let arg15 : BitVec 32 := Scf.iv c0_i32_166 c1_i32_168 k0_t5
  let v484 : BitVec 32 := Scalar.muli c2_i32_279 arg15
  let c512_i32_280 : BitVec 32 := 512#32
  let v485 : BitVec 32 := Scalar.muli v484 c512_i32_280
  let v486 : BitVec 32 := v485
  let v487 : Index := Scalar.indexCast v486
  let c0_281 : Index := 0#32
  ![v487.toNat, 0]
def k0_mult26 (i : grid0.Coords) (k0_t5 : Fin (k0_t5_loop i).trips) : BitVec 32 :=
  let c2_i32_292 : BitVec 32 := 2#32
  let c0_i32_166 : BitVec 32 := 0#32
  let c1_i32_168 : BitVec 32 := 1#32
  let arg15 : BitVec 32 := Scf.iv c0_i32_166 c1_i32_168 k0_t5
  let v512 : BitVec 32 := Scalar.muli c2_i32_292 arg15
  let c2_i32_293 : BitVec 32 := 2#32
  let v513 : BitVec 32 := Scalar.addi v512 c2_i32_293
  let c512_i32_294 : BitVec 32 := 512#32
  let v514 : BitVec 32 := Scalar.muli v513 c512_i32_294
  v514
def k0_mult27 (i : grid0.Coords) (k0_t5 : Fin (k0_t5_loop i).trips) : BitVec 32 :=
  let c2_i32_306 : BitVec 32 := 2#32
  let c0_i32_166 : BitVec 32 := 0#32
  let c1_i32_168 : BitVec 32 := 1#32
  let arg15 : BitVec 32 := Scf.iv c0_i32_166 c1_i32_168 k0_t5
  let v531 : BitVec 32 := Scalar.muli c2_i32_306 arg15
  let c1_i32_307 : BitVec 32 := 1#32
  let v532 : BitVec 32 := Scalar.addi v531 c1_i32_307
  let c512_i32_308 : BitVec 32 := 512#32
  let v533 : BitVec 32 := Scalar.muli v532 c512_i32_308
  v533
@[reducible] def k0_t6_loop (i : grid0.Coords) : Scf.Loop 32 :=
  let c0_i32_166 : BitVec 32 := 0#32
  let c2_i32_164 : BitVec 32 := 2#32
  let arg1 : BitVec 32 := BitVec.ofNat 32 (i 1).val
  let v284 : BitVec 32 := Scalar.muli c2_i32_164 arg1
  let c1_i32_165 : BitVec 32 := 1#32
  let v285 : BitVec 32 := Scalar.addi v284 c1_i32_165
  let v286 : BitVec 32 := Scalar.subi v285 c0_i32_166
  let c1_i32_167 : BitVec 32 := 1#32
  let v288 : BitVec 32 := Scalar.divsi v286 c1_i32_167
  let v289 : BitVec 32 := Scalar.muli v288 c1_i32_167
  let v290 : BitVec 32 := Scalar.addi c0_i32_166 v289
  let v287 : BitVec 32 := Scalar.addi c0_i32_166 v286
  let c1_i32_169 : BitVec 32 := 1#32
  ⟨v290, v287, c1_i32_169⟩
def k0_mult28 (i : grid0.Coords) (k0_t6 : Fin (k0_t6_loop i).trips) : BitVec 32 :=
  let c2_i32_265 : BitVec 32 := 2#32
  let c0_i32_166 : BitVec 32 := 0#32
  let c2_i32_164 : BitVec 32 := 2#32
  let arg1 : BitVec 32 := BitVec.ofNat 32 (i 1).val
  let v284 : BitVec 32 := Scalar.muli c2_i32_164 arg1
  let c1_i32_165 : BitVec 32 := 1#32
  let v285 : BitVec 32 := Scalar.addi v284 c1_i32_165
  let v286 : BitVec 32 := Scalar.subi v285 c0_i32_166
  let c1_i32_167 : BitVec 32 := 1#32
  let v288 : BitVec 32 := Scalar.divsi v286 c1_i32_167
  let v289 : BitVec 32 := Scalar.muli v288 c1_i32_167
  let v290 : BitVec 32 := Scalar.addi c0_i32_166 v289
  let c1_i32_169 : BitVec 32 := 1#32
  let arg15 : BitVec 32 := Scf.iv v290 c1_i32_169 k0_t6
  let v465 : BitVec 32 := Scalar.muli c2_i32_265 arg15
  let c1_i32_266 : BitVec 32 := 1#32
  let v466 : BitVec 32 := Scalar.addi v465 c1_i32_266
  let c512_i32_267 : BitVec 32 := 512#32
  let v467 : BitVec 32 := Scalar.muli v466 c512_i32_267
  v467
def k0_off13 (i : grid0.Coords) (k0_t6 : Fin (k0_t6_loop i).trips) (c1_i32_266 : BitVec 32) : Fin 2 → Nat :=
  let c2_i32_265 : BitVec 32 := 2#32
  let c0_i32_166 : BitVec 32 := 0#32
  let c2_i32_164 : BitVec 32 := 2#32
  let arg1 : BitVec 32 := BitVec.ofNat 32 (i 1).val
  let v284 : BitVec 32 := Scalar.muli c2_i32_164 arg1
  let c1_i32_165 : BitVec 32 := 1#32
  let v285 : BitVec 32 := Scalar.addi v284 c1_i32_165
  let v286 : BitVec 32 := Scalar.subi v285 c0_i32_166
  let c1_i32_167 : BitVec 32 := 1#32
  let v288 : BitVec 32 := Scalar.divsi v286 c1_i32_167
  let v289 : BitVec 32 := Scalar.muli v288 c1_i32_167
  let v290 : BitVec 32 := Scalar.addi c0_i32_166 v289
  let c1_i32_169 : BitVec 32 := 1#32
  let arg15 : BitVec 32 := Scf.iv v290 c1_i32_169 k0_t6
  let v465 : BitVec 32 := Scalar.muli c2_i32_265 arg15
  let v466 : BitVec 32 := Scalar.addi v465 c1_i32_266
  let c512_i32_267 : BitVec 32 := 512#32
  let v467 : BitVec 32 := Scalar.muli v466 c512_i32_267
  let v468 : BitVec 32 := v467
  let v469 : Index := Scalar.indexCast v468
  let c0_268 : Index := 0#32
  ![v469.toNat, 0]
def k0_mult29 (i : grid0.Coords) (k0_t6 : Fin (k0_t6_loop i).trips) : BitVec 32 :=
  let c2_i32_279 : BitVec 32 := 2#32
  let c0_i32_166 : BitVec 32 := 0#32
  let c2_i32_164 : BitVec 32 := 2#32
  let arg1 : BitVec 32 := BitVec.ofNat 32 (i 1).val
  let v284 : BitVec 32 := Scalar.muli c2_i32_164 arg1
  let c1_i32_165 : BitVec 32 := 1#32
  let v285 : BitVec 32 := Scalar.addi v284 c1_i32_165
  let v286 : BitVec 32 := Scalar.subi v285 c0_i32_166
  let c1_i32_167 : BitVec 32 := 1#32
  let v288 : BitVec 32 := Scalar.divsi v286 c1_i32_167
  let v289 : BitVec 32 := Scalar.muli v288 c1_i32_167
  let v290 : BitVec 32 := Scalar.addi c0_i32_166 v289
  let c1_i32_169 : BitVec 32 := 1#32
  let arg15 : BitVec 32 := Scf.iv v290 c1_i32_169 k0_t6
  let v484 : BitVec 32 := Scalar.muli c2_i32_279 arg15
  let c512_i32_280 : BitVec 32 := 512#32
  let v485 : BitVec 32 := Scalar.muli v484 c512_i32_280
  v485
def k0_off14 (i : grid0.Coords) (k0_t6 : Fin (k0_t6_loop i).trips) : Fin 2 → Nat :=
  let c2_i32_279 : BitVec 32 := 2#32
  let c0_i32_166 : BitVec 32 := 0#32
  let c2_i32_164 : BitVec 32 := 2#32
  let arg1 : BitVec 32 := BitVec.ofNat 32 (i 1).val
  let v284 : BitVec 32 := Scalar.muli c2_i32_164 arg1
  let c1_i32_165 : BitVec 32 := 1#32
  let v285 : BitVec 32 := Scalar.addi v284 c1_i32_165
  let v286 : BitVec 32 := Scalar.subi v285 c0_i32_166
  let c1_i32_167 : BitVec 32 := 1#32
  let v288 : BitVec 32 := Scalar.divsi v286 c1_i32_167
  let v289 : BitVec 32 := Scalar.muli v288 c1_i32_167
  let v290 : BitVec 32 := Scalar.addi c0_i32_166 v289
  let c1_i32_169 : BitVec 32 := 1#32
  let arg15 : BitVec 32 := Scf.iv v290 c1_i32_169 k0_t6
  let v484 : BitVec 32 := Scalar.muli c2_i32_279 arg15
  let c512_i32_280 : BitVec 32 := 512#32
  let v485 : BitVec 32 := Scalar.muli v484 c512_i32_280
  let v486 : BitVec 32 := v485
  let v487 : Index := Scalar.indexCast v486
  let c0_281 : Index := 0#32
  ![v487.toNat, 0]
def k0_mult30 (i : grid0.Coords) (k0_t6 : Fin (k0_t6_loop i).trips) : BitVec 32 :=
  let c2_i32_292 : BitVec 32 := 2#32
  let c0_i32_166 : BitVec 32 := 0#32
  let c2_i32_164 : BitVec 32 := 2#32
  let arg1 : BitVec 32 := BitVec.ofNat 32 (i 1).val
  let v284 : BitVec 32 := Scalar.muli c2_i32_164 arg1
  let c1_i32_165 : BitVec 32 := 1#32
  let v285 : BitVec 32 := Scalar.addi v284 c1_i32_165
  let v286 : BitVec 32 := Scalar.subi v285 c0_i32_166
  let c1_i32_167 : BitVec 32 := 1#32
  let v288 : BitVec 32 := Scalar.divsi v286 c1_i32_167
  let v289 : BitVec 32 := Scalar.muli v288 c1_i32_167
  let v290 : BitVec 32 := Scalar.addi c0_i32_166 v289
  let c1_i32_169 : BitVec 32 := 1#32
  let arg15 : BitVec 32 := Scf.iv v290 c1_i32_169 k0_t6
  let v512 : BitVec 32 := Scalar.muli c2_i32_292 arg15
  let c2_i32_293 : BitVec 32 := 2#32
  let v513 : BitVec 32 := Scalar.addi v512 c2_i32_293
  let c512_i32_294 : BitVec 32 := 512#32
  let v514 : BitVec 32 := Scalar.muli v513 c512_i32_294
  v514
def k0_mult31 (i : grid0.Coords) (k0_t6 : Fin (k0_t6_loop i).trips) : BitVec 32 :=
  let c2_i32_306 : BitVec 32 := 2#32
  let c0_i32_166 : BitVec 32 := 0#32
  let c2_i32_164 : BitVec 32 := 2#32
  let arg1 : BitVec 32 := BitVec.ofNat 32 (i 1).val
  let v284 : BitVec 32 := Scalar.muli c2_i32_164 arg1
  let c1_i32_165 : BitVec 32 := 1#32
  let v285 : BitVec 32 := Scalar.addi v284 c1_i32_165
  let v286 : BitVec 32 := Scalar.subi v285 c0_i32_166
  let c1_i32_167 : BitVec 32 := 1#32
  let v288 : BitVec 32 := Scalar.divsi v286 c1_i32_167
  let v289 : BitVec 32 := Scalar.muli v288 c1_i32_167
  let v290 : BitVec 32 := Scalar.addi c0_i32_166 v289
  let c1_i32_169 : BitVec 32 := 1#32
  let arg15 : BitVec 32 := Scf.iv v290 c1_i32_169 k0_t6
  let v531 : BitVec 32 := Scalar.muli c2_i32_306 arg15
  let c1_i32_307 : BitVec 32 := 1#32
  let v532 : BitVec 32 := Scalar.addi v531 c1_i32_307
  let c512_i32_308 : BitVec 32 := 512#32
  let v533 : BitVec 32 := Scalar.muli v532 c512_i32_308
  v533
def k0_mult32 : BitVec 32 :=
  let c0_i32_188 : BitVec 32 := 0#32
  c0_i32_188
def k0_mult33 (i : grid0.Coords) : BitVec 32 :=
  let c4_i32_162 : BitVec 32 := 4#32
  let arg1 : BitVec 32 := BitVec.ofNat 32 (i 1).val
  let v282 : BitVec 32 := Scalar.muli c4_i32_162 arg1
  let c2_i32_163 : BitVec 32 := 2#32
  let v283 : BitVec 32 := Scalar.addi v282 c2_i32_163
  let c512_i32_200 : BitVec 32 := 512#32
  let v342 : BitVec 32 := Scalar.muli v283 c512_i32_200
  v342
@[reducible] def k0_t7_loop (i : grid0.Coords) : Scf.Loop 32 :=
  let c0_i32_220 : BitVec 32 := 0#32
  let c2_i32_218 : BitVec 32 := 2#32
  let arg1 : BitVec 32 := BitVec.ofNat 32 (i 1).val
  let v379 : BitVec 32 := Scalar.muli c2_i32_218 arg1
  let c1_i32_219 : BitVec 32 := 1#32
  let v380 : BitVec 32 := Scalar.addi v379 c1_i32_219
  let v381 : BitVec 32 := Scalar.subi v380 c0_i32_220
  let c1_i32_221 : BitVec 32 := 1#32
  let v383 : BitVec 32 := Scalar.divsi v381 c1_i32_221
  let v384 : BitVec 32 := Scalar.muli v383 c1_i32_221
  let v385 : BitVec 32 := Scalar.addi c0_i32_220 v384
  let c1_i32_222 : BitVec 32 := 1#32
  ⟨c0_i32_220, v385, c1_i32_222⟩
def k0_mult34 (i : grid0.Coords) (k0_t7 : Fin (k0_t7_loop i).trips) : BitVec 32 :=
  let c2_i32_265 : BitVec 32 := 2#32
  let c0_i32_220 : BitVec 32 := 0#32
  let c1_i32_222 : BitVec 32 := 1#32
  let arg15 : BitVec 32 := Scf.iv c0_i32_220 c1_i32_222 k0_t7
  let v465 : BitVec 32 := Scalar.muli c2_i32_265 arg15
  let c1_i32_266 : BitVec 32 := 1#32
  let v466 : BitVec 32 := Scalar.addi v465 c1_i32_266
  let c512_i32_267 : BitVec 32 := 512#32
  let v467 : BitVec 32 := Scalar.muli v466 c512_i32_267
  v467
def k0_off15 (i : grid0.Coords) (k0_t7 : Fin (k0_t7_loop i).trips) (c1_i32_266 : BitVec 32) : Fin 2 → Nat :=
  let c2_i32_265 : BitVec 32 := 2#32
  let c0_i32_220 : BitVec 32 := 0#32
  let c1_i32_222 : BitVec 32 := 1#32
  let arg15 : BitVec 32 := Scf.iv c0_i32_220 c1_i32_222 k0_t7
  let v465 : BitVec 32 := Scalar.muli c2_i32_265 arg15
  let v466 : BitVec 32 := Scalar.addi v465 c1_i32_266
  let c512_i32_267 : BitVec 32 := 512#32
  let v467 : BitVec 32 := Scalar.muli v466 c512_i32_267
  let v468 : BitVec 32 := v467
  let v469 : Index := Scalar.indexCast v468
  let c0_268 : Index := 0#32
  ![v469.toNat, 0]
def k0_mult35 (i : grid0.Coords) (k0_t7 : Fin (k0_t7_loop i).trips) : BitVec 32 :=
  let c2_i32_279 : BitVec 32 := 2#32
  let c0_i32_220 : BitVec 32 := 0#32
  let c1_i32_222 : BitVec 32 := 1#32
  let arg15 : BitVec 32 := Scf.iv c0_i32_220 c1_i32_222 k0_t7
  let v484 : BitVec 32 := Scalar.muli c2_i32_279 arg15
  let c512_i32_280 : BitVec 32 := 512#32
  let v485 : BitVec 32 := Scalar.muli v484 c512_i32_280
  v485
def k0_off16 (i : grid0.Coords) (k0_t7 : Fin (k0_t7_loop i).trips) : Fin 2 → Nat :=
  let c2_i32_279 : BitVec 32 := 2#32
  let c0_i32_220 : BitVec 32 := 0#32
  let c1_i32_222 : BitVec 32 := 1#32
  let arg15 : BitVec 32 := Scf.iv c0_i32_220 c1_i32_222 k0_t7
  let v484 : BitVec 32 := Scalar.muli c2_i32_279 arg15
  let c512_i32_280 : BitVec 32 := 512#32
  let v485 : BitVec 32 := Scalar.muli v484 c512_i32_280
  let v486 : BitVec 32 := v485
  let v487 : Index := Scalar.indexCast v486
  let c0_281 : Index := 0#32
  ![v487.toNat, 0]
def k0_mult36 (i : grid0.Coords) (k0_t7 : Fin (k0_t7_loop i).trips) : BitVec 32 :=
  let c2_i32_292 : BitVec 32 := 2#32
  let c0_i32_220 : BitVec 32 := 0#32
  let c1_i32_222 : BitVec 32 := 1#32
  let arg15 : BitVec 32 := Scf.iv c0_i32_220 c1_i32_222 k0_t7
  let v512 : BitVec 32 := Scalar.muli c2_i32_292 arg15
  let c2_i32_293 : BitVec 32 := 2#32
  let v513 : BitVec 32 := Scalar.addi v512 c2_i32_293
  let c512_i32_294 : BitVec 32 := 512#32
  let v514 : BitVec 32 := Scalar.muli v513 c512_i32_294
  v514
def k0_mult37 (i : grid0.Coords) (k0_t7 : Fin (k0_t7_loop i).trips) : BitVec 32 :=
  let c2_i32_306 : BitVec 32 := 2#32
  let c0_i32_220 : BitVec 32 := 0#32
  let c1_i32_222 : BitVec 32 := 1#32
  let arg15 : BitVec 32 := Scf.iv c0_i32_220 c1_i32_222 k0_t7
  let v531 : BitVec 32 := Scalar.muli c2_i32_306 arg15
  let c1_i32_307 : BitVec 32 := 1#32
  let v532 : BitVec 32 := Scalar.addi v531 c1_i32_307
  let c512_i32_308 : BitVec 32 := 512#32
  let v533 : BitVec 32 := Scalar.muli v532 c512_i32_308
  v533
@[reducible] def k0_t8_loop (i : grid0.Coords) : Scf.Loop 32 :=
  let c0_i32_220 : BitVec 32 := 0#32
  let c2_i32_218 : BitVec 32 := 2#32
  let arg1 : BitVec 32 := BitVec.ofNat 32 (i 1).val
  let v379 : BitVec 32 := Scalar.muli c2_i32_218 arg1
  let c1_i32_219 : BitVec 32 := 1#32
  let v380 : BitVec 32 := Scalar.addi v379 c1_i32_219
  let v381 : BitVec 32 := Scalar.subi v380 c0_i32_220
  let c1_i32_221 : BitVec 32 := 1#32
  let v383 : BitVec 32 := Scalar.divsi v381 c1_i32_221
  let v384 : BitVec 32 := Scalar.muli v383 c1_i32_221
  let v385 : BitVec 32 := Scalar.addi c0_i32_220 v384
  let v382 : BitVec 32 := Scalar.addi c0_i32_220 v381
  let c1_i32_223 : BitVec 32 := 1#32
  ⟨v385, v382, c1_i32_223⟩
def k0_mult38 (i : grid0.Coords) (k0_t8 : Fin (k0_t8_loop i).trips) : BitVec 32 :=
  let c2_i32_265 : BitVec 32 := 2#32
  let c0_i32_220 : BitVec 32 := 0#32
  let c2_i32_218 : BitVec 32 := 2#32
  let arg1 : BitVec 32 := BitVec.ofNat 32 (i 1).val
  let v379 : BitVec 32 := Scalar.muli c2_i32_218 arg1
  let c1_i32_219 : BitVec 32 := 1#32
  let v380 : BitVec 32 := Scalar.addi v379 c1_i32_219
  let v381 : BitVec 32 := Scalar.subi v380 c0_i32_220
  let c1_i32_221 : BitVec 32 := 1#32
  let v383 : BitVec 32 := Scalar.divsi v381 c1_i32_221
  let v384 : BitVec 32 := Scalar.muli v383 c1_i32_221
  let v385 : BitVec 32 := Scalar.addi c0_i32_220 v384
  let c1_i32_223 : BitVec 32 := 1#32
  let arg15 : BitVec 32 := Scf.iv v385 c1_i32_223 k0_t8
  let v465 : BitVec 32 := Scalar.muli c2_i32_265 arg15
  let c1_i32_266 : BitVec 32 := 1#32
  let v466 : BitVec 32 := Scalar.addi v465 c1_i32_266
  let c512_i32_267 : BitVec 32 := 512#32
  let v467 : BitVec 32 := Scalar.muli v466 c512_i32_267
  v467
def k0_off17 (i : grid0.Coords) (k0_t8 : Fin (k0_t8_loop i).trips) (c1_i32_266 : BitVec 32) : Fin 2 → Nat :=
  let c2_i32_265 : BitVec 32 := 2#32
  let c0_i32_220 : BitVec 32 := 0#32
  let c2_i32_218 : BitVec 32 := 2#32
  let arg1 : BitVec 32 := BitVec.ofNat 32 (i 1).val
  let v379 : BitVec 32 := Scalar.muli c2_i32_218 arg1
  let c1_i32_219 : BitVec 32 := 1#32
  let v380 : BitVec 32 := Scalar.addi v379 c1_i32_219
  let v381 : BitVec 32 := Scalar.subi v380 c0_i32_220
  let c1_i32_221 : BitVec 32 := 1#32
  let v383 : BitVec 32 := Scalar.divsi v381 c1_i32_221
  let v384 : BitVec 32 := Scalar.muli v383 c1_i32_221
  let v385 : BitVec 32 := Scalar.addi c0_i32_220 v384
  let c1_i32_223 : BitVec 32 := 1#32
  let arg15 : BitVec 32 := Scf.iv v385 c1_i32_223 k0_t8
  let v465 : BitVec 32 := Scalar.muli c2_i32_265 arg15
  let v466 : BitVec 32 := Scalar.addi v465 c1_i32_266
  let c512_i32_267 : BitVec 32 := 512#32
  let v467 : BitVec 32 := Scalar.muli v466 c512_i32_267
  let v468 : BitVec 32 := v467
  let v469 : Index := Scalar.indexCast v468
  let c0_268 : Index := 0#32
  ![v469.toNat, 0]
def k0_mult39 (i : grid0.Coords) (k0_t8 : Fin (k0_t8_loop i).trips) : BitVec 32 :=
  let c2_i32_279 : BitVec 32 := 2#32
  let c0_i32_220 : BitVec 32 := 0#32
  let c2_i32_218 : BitVec 32 := 2#32
  let arg1 : BitVec 32 := BitVec.ofNat 32 (i 1).val
  let v379 : BitVec 32 := Scalar.muli c2_i32_218 arg1
  let c1_i32_219 : BitVec 32 := 1#32
  let v380 : BitVec 32 := Scalar.addi v379 c1_i32_219
  let v381 : BitVec 32 := Scalar.subi v380 c0_i32_220
  let c1_i32_221 : BitVec 32 := 1#32
  let v383 : BitVec 32 := Scalar.divsi v381 c1_i32_221
  let v384 : BitVec 32 := Scalar.muli v383 c1_i32_221
  let v385 : BitVec 32 := Scalar.addi c0_i32_220 v384
  let c1_i32_223 : BitVec 32 := 1#32
  let arg15 : BitVec 32 := Scf.iv v385 c1_i32_223 k0_t8
  let v484 : BitVec 32 := Scalar.muli c2_i32_279 arg15
  let c512_i32_280 : BitVec 32 := 512#32
  let v485 : BitVec 32 := Scalar.muli v484 c512_i32_280
  v485
def k0_off18 (i : grid0.Coords) (k0_t8 : Fin (k0_t8_loop i).trips) : Fin 2 → Nat :=
  let c2_i32_279 : BitVec 32 := 2#32
  let c0_i32_220 : BitVec 32 := 0#32
  let c2_i32_218 : BitVec 32 := 2#32
  let arg1 : BitVec 32 := BitVec.ofNat 32 (i 1).val
  let v379 : BitVec 32 := Scalar.muli c2_i32_218 arg1
  let c1_i32_219 : BitVec 32 := 1#32
  let v380 : BitVec 32 := Scalar.addi v379 c1_i32_219
  let v381 : BitVec 32 := Scalar.subi v380 c0_i32_220
  let c1_i32_221 : BitVec 32 := 1#32
  let v383 : BitVec 32 := Scalar.divsi v381 c1_i32_221
  let v384 : BitVec 32 := Scalar.muli v383 c1_i32_221
  let v385 : BitVec 32 := Scalar.addi c0_i32_220 v384
  let c1_i32_223 : BitVec 32 := 1#32
  let arg15 : BitVec 32 := Scf.iv v385 c1_i32_223 k0_t8
  let v484 : BitVec 32 := Scalar.muli c2_i32_279 arg15
  let c512_i32_280 : BitVec 32 := 512#32
  let v485 : BitVec 32 := Scalar.muli v484 c512_i32_280
  let v486 : BitVec 32 := v485
  let v487 : Index := Scalar.indexCast v486
  let c0_281 : Index := 0#32
  ![v487.toNat, 0]
def k0_mult40 (i : grid0.Coords) (k0_t8 : Fin (k0_t8_loop i).trips) : BitVec 32 :=
  let c2_i32_292 : BitVec 32 := 2#32
  let c0_i32_220 : BitVec 32 := 0#32
  let c2_i32_218 : BitVec 32 := 2#32
  let arg1 : BitVec 32 := BitVec.ofNat 32 (i 1).val
  let v379 : BitVec 32 := Scalar.muli c2_i32_218 arg1
  let c1_i32_219 : BitVec 32 := 1#32
  let v380 : BitVec 32 := Scalar.addi v379 c1_i32_219
  let v381 : BitVec 32 := Scalar.subi v380 c0_i32_220
  let c1_i32_221 : BitVec 32 := 1#32
  let v383 : BitVec 32 := Scalar.divsi v381 c1_i32_221
  let v384 : BitVec 32 := Scalar.muli v383 c1_i32_221
  let v385 : BitVec 32 := Scalar.addi c0_i32_220 v384
  let c1_i32_223 : BitVec 32 := 1#32
  let arg15 : BitVec 32 := Scf.iv v385 c1_i32_223 k0_t8
  let v512 : BitVec 32 := Scalar.muli c2_i32_292 arg15
  let c2_i32_293 : BitVec 32 := 2#32
  let v513 : BitVec 32 := Scalar.addi v512 c2_i32_293
  let c512_i32_294 : BitVec 32 := 512#32
  let v514 : BitVec 32 := Scalar.muli v513 c512_i32_294
  v514
def k0_mult41 (i : grid0.Coords) (k0_t8 : Fin (k0_t8_loop i).trips) : BitVec 32 :=
  let c2_i32_306 : BitVec 32 := 2#32
  let c0_i32_220 : BitVec 32 := 0#32
  let c2_i32_218 : BitVec 32 := 2#32
  let arg1 : BitVec 32 := BitVec.ofNat 32 (i 1).val
  let v379 : BitVec 32 := Scalar.muli c2_i32_218 arg1
  let c1_i32_219 : BitVec 32 := 1#32
  let v380 : BitVec 32 := Scalar.addi v379 c1_i32_219
  let v381 : BitVec 32 := Scalar.subi v380 c0_i32_220
  let c1_i32_221 : BitVec 32 := 1#32
  let v383 : BitVec 32 := Scalar.divsi v381 c1_i32_221
  let v384 : BitVec 32 := Scalar.muli v383 c1_i32_221
  let v385 : BitVec 32 := Scalar.addi c0_i32_220 v384
  let c1_i32_223 : BitVec 32 := 1#32
  let arg15 : BitVec 32 := Scf.iv v385 c1_i32_223 k0_t8
  let v531 : BitVec 32 := Scalar.muli c2_i32_306 arg15
  let c1_i32_307 : BitVec 32 := 1#32
  let v532 : BitVec 32 := Scalar.addi v531 c1_i32_307
  let c512_i32_308 : BitVec 32 := 512#32
  let v533 : BitVec 32 := Scalar.muli v532 c512_i32_308
  v533
def k0_mult42 (i : grid0.Coords) : BitVec 32 :=
  let c4_i32_216 : BitVec 32 := 4#32
  let arg1 : BitVec 32 := BitVec.ofNat 32 (i 1).val
  let v377 : BitVec 32 := Scalar.muli c4_i32_216 arg1
  let c3_i32_217 : BitVec 32 := 3#32
  let v378 : BitVec 32 := Scalar.addi v377 c3_i32_217
  let c512_i32_224 : BitVec 32 := 512#32
  let v388 : BitVec 32 := Scalar.muli v378 c512_i32_224
  v388
def k0_mult43 (i : grid0.Coords) : BitVec 32 :=
  let c4_i32_216 : BitVec 32 := 4#32
  let arg1 : BitVec 32 := BitVec.ofNat 32 (i 1).val
  let v377 : BitVec 32 := Scalar.muli c4_i32_216 arg1
  let c3_i32_217 : BitVec 32 := 3#32
  let v378 : BitVec 32 := Scalar.addi v377 c3_i32_217
  let c1_i32_236 : BitVec 32 := 1#32
  let v405 : BitVec 32 := Scalar.subi v378 c1_i32_236
  let c512_i32_237 : BitVec 32 := 512#32
  let v406 : BitVec 32 := Scalar.muli v405 c512_i32_237
  v406
def k0_mult44 (i : grid0.Coords) : BitVec 32 :=
  let c4_i32_216 : BitVec 32 := 4#32
  let arg1 : BitVec 32 := BitVec.ofNat 32 (i 1).val
  let v377 : BitVec 32 := Scalar.muli c4_i32_216 arg1
  let c3_i32_217 : BitVec 32 := 3#32
  let v378 : BitVec 32 := Scalar.addi v377 c3_i32_217
  let c512_i32_249 : BitVec 32 := 512#32
  let v430 : BitVec 32 := Scalar.muli v378 c512_i32_249
  v430
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale" => some (((Real.sqrt 192)⁻¹ : ℝ) : EReal)
  | "scale2" => some ((((Real.sqrt 192) * (Real.log 2))⁻¹ : ℝ) : EReal)
  | _ => none
-- ==== ReferenceIdeal.lean ====
abbrev S4096x2048 : Shape := ⟨2, ![4096, 2048]⟩
abbrev S4096x128 : Shape := ⟨2, ![4096, 128]⟩
abbrev S4096x1024 : Shape := ⟨2, ![4096, 1024]⟩
abbrev S4096x8x256 : Shape := ⟨3, ![4096, 8, 256]⟩
abbrev S4096x8x128 : Shape := ⟨3, ![4096, 8, 128]⟩
abbrev S4096x1x128 : Shape := ⟨3, ![4096, 1, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S8x4096x256 : Shape := ⟨3, ![8, 4096, 256]⟩
abbrev S8x16x1x256 : Shape := ⟨4, ![8, 16, 1, 256]⟩

abbrev nBuf : Space → Nat
  | .hbm => 116
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x128, .f32⟩
  | .hbm, ⟨7, _⟩ => ⟨S4096x1024, .f32⟩
  | .hbm, ⟨8, _⟩ => ⟨S4096x8x256, .f32⟩
  | .hbm, ⟨9, _⟩ => ⟨S4096x1024, .f32⟩
  | .hbm, ⟨10, _⟩ => ⟨S4096x8x128, .f32⟩
  | .hbm, ⟨11, _⟩ => ⟨S4096x1x128, .f32⟩
  | .hbm, ⟨12, _⟩ => ⟨S4096x8x128, .f32⟩
  | .hbm, ⟨13, _⟩ => ⟨S4096x8x256, .f32⟩
  | .hbm, ⟨14, _⟩ => ⟨S4096x1024, .f32⟩
  | .hbm, ⟨15, _⟩ => ⟨S4096x8x128, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x4096x4096, .f32⟩
  | .hbm, ⟨23, _⟩ => ⟨S_, .f32⟩
  | .hbm, ⟨24, _⟩ => ⟨S_, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S_, .f32⟩
  | .hbm, ⟨29, _⟩ => ⟨S8x4096x4096, .i1⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S_, .f32⟩
  | .hbm, ⟨42, _⟩ => ⟨S8x4096x4096, .i1⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x128x4096, .f32⟩
  | .hbm, ⟨60, _⟩ => ⟨S4096x8x128, .f32⟩
  | .hbm, ⟨61, _⟩ => ⟨S4096x1024, .f32⟩
  | .hbm, ⟨62, _⟩ => ⟨S8x4096x1, .f32⟩
  | .hbm, ⟨63, _⟩ => ⟨S8x4096x1, .f32⟩
  | .hbm, ⟨64, _⟩ => ⟨S4096x1024, .f32⟩
  | .hbm, ⟨65, _⟩ => ⟨S4096x8x128, .f32⟩
  | .hbm, ⟨66, _⟩ => ⟨S_, .f32⟩
  | .hbm, ⟨67, _⟩ => ⟨S4096x8, .f32⟩
  | .hbm, ⟨68, _⟩ => ⟨S4096x8x128, .f32⟩
  | .hbm, ⟨69, _⟩ => ⟨S8x128x4096, .f32⟩
  | .hbm, ⟨70, _⟩ => ⟨S8x4096x4096, .f32⟩
  | .hbm, ⟨71, _⟩ => ⟨S8x128x4096, .f32⟩
  | .hbm, ⟨72, _⟩ => ⟨S4096x8x128, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S8x4096x1, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096x4096, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S8x4096x4096, .f32⟩
  | .hbm, ⟨95, _⟩ => ⟨S8x4096x256, .f32⟩
  | .hbm, ⟨96, _⟩ => ⟨S4096x8x256, .f32⟩
  | .hbm, ⟨97, _⟩ => ⟨S8x4096x256, .f32⟩
  | .hbm, ⟨98, _⟩ => ⟨S4096x8x256, .f32⟩
  | .hbm, ⟨99, _⟩ => ⟨S4096x1024, .f32⟩
  | .hbm, ⟨100, _⟩ => ⟨S_, .f32⟩
  | .hbm, ⟨101, _⟩ => ⟨S4096x2048, .f32⟩
  | .hbm, ⟨102, _⟩ => ⟨S4096x8x128, .f32⟩
  | .hbm, ⟨103, _⟩ => ⟨S4096x8x128, .f32⟩
  | .hbm, ⟨104, _⟩ => ⟨S_, .f32⟩
  | .hbm, ⟨105, _⟩ => ⟨S4096x128, .f32⟩
  | .hbm, ⟨106, _⟩ => ⟨S4096x1x128, .f32⟩
  | .hbm, ⟨107, _⟩ => ⟨S_, .f32⟩
  | .hbm, ⟨108, _⟩ => ⟨S4096x128, .f32⟩
  | .hbm, ⟨109, _⟩ => ⟨S4096x1024, .f32⟩
  | .hbm, ⟨110, _⟩ => ⟨S_, .f32⟩
  | .hbm, ⟨111, _⟩ => ⟨S4096x2048, .f32⟩
  | .hbm, ⟨112, _⟩ => ⟨S4096x2048, .f32⟩
  | .hbm, ⟨113, _⟩ => ⟨S4096x2048, .f32⟩
  | .hbm, ⟨114, _⟩ => ⟨S8x4096, .f32⟩
  | .hbm, ⟨115, _⟩ => ⟨S8x16x1x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_v22_1 : Ref sig .tc := ⟨.hbm, 29, rfl⟩
abbrev main_call0_v2 : Ref sig .tc := ⟨.hbm, 30, rfl⟩
abbrev main_v22_0 : Ref sig .tc := ⟨.hbm, 31, rfl⟩
abbrev main_call0_cst : Ref sig .tc := ⟨.hbm, 32, rfl⟩
abbrev main_v22_2 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_call1_v0 : Ref sig .tc := ⟨.hbm, 41, rfl⟩
abbrev main_v28_1 : Ref sig .tc := ⟨.hbm, 42, rfl⟩
abbrev main_call1_v2 : Ref sig .tc := ⟨.hbm, 43, rfl⟩
abbrev main_v28_0 : Ref sig .tc := ⟨.hbm, 44, rfl⟩
abbrev main_call1_cst : Ref sig .tc := ⟨.hbm, 45, rfl⟩
abbrev main_v28_2 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call2_cst : Ref sig .tc := ⟨.hbm, 86, rfl⟩
abbrev main_call2_v0 : Ref sig .tc := ⟨.hbm, 87, rfl⟩
abbrev main_v62 : Ref sig .tc := ⟨.hbm, 88, rfl⟩
abbrev main_v63 : Ref sig .tc := ⟨.hbm, 89, rfl⟩
abbrev main_call3_cst : Ref sig .tc := ⟨.hbm, 90, rfl⟩
abbrev main_call3_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_cst_11 : Ref sig .tc := ⟨.hbm, 107, rfl⟩
abbrev main_v77 : Ref sig .tc := ⟨.hbm, 108, rfl⟩
abbrev main_v78 : Ref sig .tc := ⟨.hbm, 109, rfl⟩
abbrev main_cst_12 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Kernel2.lean ====
abbrev S4096x6144 : Shape := ⟨2, ![4096, 6144]⟩
abbrev S6144x2048 : Shape := ⟨2, ![6144, 2048]⟩
abbrev S4096x2048 : Shape := ⟨2, ![4096, 2048]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .f32⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S2048x2048, .f32⟩
  | .local _ .vmem, ⟨4, _⟩ => ⟨S1024x2048, .f32⟩
  | .local _ .vmem, ⟨5, _⟩ => ⟨S1024x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x6144 : Shape := ⟨2, ![4096, 6144]⟩
abbrev S6144x2048 : Shape := ⟨2, ![6144, 2048]⟩
abbrev S_ : Shape := ⟨0, ![]⟩
abbrev S4096x2048 : Shape := ⟨2, ![4096, 2048]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .f32⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x6144 : Shape := ⟨2, ![4096, 6144]⟩
abbrev S4096x2048 : Shape := ⟨2, ![4096, 2048]⟩
abbrev S6144x2048 : Shape := ⟨2, ![6144, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S6144x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x6144 : Shape := ⟨2, ![4096, 6144]⟩
abbrev S4096x2048 : Shape := ⟨2, ![4096, 2048]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S6144x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .f32⟩
  | .hbm, ⟨2, _⟩ => ⟨S4096x6144, .f32⟩
  | .hbm, ⟨3, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .f32⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .f32⟩
  | .local _ .vmem, ⟨3, _⟩ => ⟨S1024x2048, .f32⟩
  | .local _ .vmem, ⟨4, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .f32⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S1024x512, .f32⟩
  | .local _ .vmem, ⟨4, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .f32⟩
  | .hbm, ⟨2, _⟩ => ⟨S_, .f32⟩
  | .hbm, ⟨3, _⟩ => ⟨S4096x512, .f32⟩
  | .hbm, ⟨4, _⟩ => ⟨S4096x2048, .f32⟩
  | .hbm, ⟨5, _⟩ => ⟨S4096x2048, .f32⟩
  | .hbm, ⟨6, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .f32⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .f32⟩
  | .hbm, ⟨2, _⟩ => ⟨S4096x512, .f32⟩
  | .hbm, ⟨3, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .f32⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S1024x512, .f32⟩
  | .local _ .vmem, ⟨4, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .f32⟩
  | .hbm, ⟨2, _⟩ => ⟨S_, .f32⟩
  | .hbm, ⟨3, _⟩ => ⟨S4096x512, .f32⟩
  | .hbm, ⟨4, _⟩ => ⟨S4096x2048, .f32⟩
  | .hbm, ⟨5, _⟩ => ⟨S4096x2048, .f32⟩
  | .hbm, ⟨6, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .f32⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .f32⟩
  | .hbm, ⟨2, _⟩ => ⟨S4096x512, .f32⟩
  | .hbm, ⟨3, _⟩ => ⟨S4096x2048, .f32⟩
  | .hbm, ⟨4, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S1347x2048 : Shape := ⟨2, ![1347, 2048]⟩
abbrev S1347x128 : Shape := ⟨2, ![1347, 128]⟩

abbrev nBuf : Space → Nat
  | .hbm => 7
  | .vmem => 14
  | .smem => 0
  | _ => 0

abbrev bufTy : (tb : Table) → Fin (tcTables nBuf tb) → BufTy
  | .hbm, ⟨0, _⟩ => ⟨S1347x2048, .f32⟩
  | .hbm, ⟨1, _⟩ => ⟨S1347x2048, .f32⟩
  | .hbm, ⟨2, _⟩ => ⟨S1347x2048, .f32⟩
  | .hbm, ⟨3, _⟩ => ⟨S1347x2048, .f32⟩
  | .hbm, ⟨4, _⟩ => ⟨S1347x2048, .f32⟩
  | .hbm, ⟨5, _⟩ => ⟨S1347x2048, .f32⟩
  | .hbm, ⟨6, _⟩ => ⟨S1347x2048, .f32⟩
  | .local _ .vmem, ⟨0, _⟩ => ⟨S1347x128, .f32⟩
  | .local _ .vmem, ⟨1, _⟩ => ⟨S1347x128, .f32⟩
  | .local _ .vmem, ⟨2, _⟩ => ⟨S1347x128, .f32⟩
  | .local _ .vmem, ⟨3, _⟩ => ⟨S1347x128, .f32⟩
  | .local _ .vmem, ⟨4, _⟩ => ⟨S1347x128, .f32⟩
  | .local _ .vmem, ⟨5, _⟩ => ⟨S1347x128, .f32⟩
  | .local _ .vmem, ⟨6, _⟩ => ⟨S1347x128, .f32⟩
  | .local _ .vmem, ⟨7, _⟩ => ⟨S1347x128, .f32⟩
  | .local _ .vmem, ⟨8, _⟩ => ⟨S1347x128, .f32⟩
  | .local _ .vmem, ⟨9, _⟩ => ⟨S1347x128, .f32⟩
  | .local _ .vmem, ⟨10, _⟩ => ⟨S1347x128, .f32⟩
  | .local _ .vmem, ⟨11, _⟩ => ⟨S1347x128, .f32⟩
  | .local _ .vmem, ⟨12, _⟩ => ⟨S1347x128, .f32⟩
  | .local _ .vmem, ⟨13, _⟩ => ⟨S1347x128, .f32⟩
  | _, _ => ⟨S1347x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1347x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1347x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1347x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1347x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1347x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1347x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1347x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S1347x2048 : Shape := ⟨2, ![1347, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1347x2048, .f32⟩
  | .hbm, ⟨1, _⟩ => ⟨S1347x2048, .f32⟩
  | .hbm, ⟨2, _⟩ => ⟨S1347x2048, .f32⟩
  | .hbm, ⟨3, _⟩ => ⟨S1347x2048, .f32⟩
  | .hbm, ⟨4, _⟩ => ⟨S_, .f32⟩
  | .hbm, ⟨5, _⟩ => ⟨S1347x2048, .f32⟩
  | .hbm, ⟨6, _⟩ => ⟨S1347x2048, .f32⟩
  | .hbm, ⟨7, _⟩ => ⟨S_, .f32⟩
  | .hbm, ⟨8, _⟩ => ⟨S1347x2048, .f32⟩
  | .hbm, ⟨9, _⟩ => ⟨S1347x2048, .f32⟩
  | .hbm, ⟨10, _⟩ => ⟨S1347x2048, .f32⟩
  | .hbm, ⟨11, _⟩ => ⟨S_, .f32⟩
  | .hbm, ⟨12, _⟩ => ⟨S1347x2048, .f32⟩
  | .hbm, ⟨13, _⟩ => ⟨S1347x2048, .f32⟩
  | .hbm, ⟨14, _⟩ => ⟨S1347x2048, .f32⟩
  | .hbm, ⟨15, _⟩ => ⟨S_, .f32⟩
  | .hbm, ⟨16, _⟩ => ⟨S1347x2048, .f32⟩
  | .hbm, ⟨17, _⟩ => ⟨S1347x2048, .f32⟩
  | .hbm, ⟨18, _⟩ => ⟨S1347x2048, .f32⟩
  | .hbm, ⟨19, _⟩ => ⟨S_, .f32⟩
  | .hbm, ⟨20, _⟩ => ⟨S1347x2048, .f32⟩
  | .hbm, ⟨21, _⟩ => ⟨S1347x2048, .f32⟩
  | .hbm, ⟨22, _⟩ => ⟨S_, .f32⟩
  | .hbm, ⟨23, _⟩ => ⟨S1347x2048, .f32⟩
  | .hbm, ⟨24, _⟩ => ⟨S1347x2048, .f32⟩
  | .hbm, ⟨25, _⟩ => ⟨S1347x2048, .f32⟩
  | .hbm, ⟨26, _⟩ => ⟨S_, .f32⟩
  | .hbm, ⟨27, _⟩ => ⟨S1347x2048, .f32⟩
  | .hbm, ⟨28, _⟩ => ⟨S1347x2048, .f32⟩
  | .hbm, ⟨29, _⟩ => ⟨S1347x2048, .f32⟩
  | .hbm, ⟨30, _⟩ => ⟨S_, .f32⟩
  | .hbm, ⟨31, _⟩ => ⟨S1347x2048, .f32⟩
  | .hbm, ⟨32, _⟩ => ⟨S1347x2048, .f32⟩
  | .hbm, ⟨33, _⟩ => ⟨S1347x2048, .f32⟩
  | .hbm, ⟨34, _⟩ => ⟨S_, .f32⟩
  | .hbm, ⟨35, _⟩ => ⟨S1347x2048, .f32⟩
  | .hbm, ⟨36, _⟩ => ⟨S1347x2048, .f32⟩
  | _, _ => ⟨S1347x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S512x384 : Shape := ⟨2, ![512, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S512x384 : Shape := ⟨2, ![512, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S_, .f32⟩
  | .hbm, ⟨5, _⟩ => ⟨S512x384, .f32⟩
  | .hbm, ⟨6, _⟩ => ⟨S512x384, .f32⟩
  | .hbm, ⟨7, _⟩ => ⟨S_, .f32⟩
  | .hbm, ⟨8, _⟩ => ⟨S512x384, .f32⟩
  | .hbm, ⟨9, _⟩ => ⟨S512x384, .f32⟩
  | .hbm, ⟨10, _⟩ => ⟨S512x384, .f32⟩
  | .hbm, ⟨11, _⟩ => ⟨S_, .f32⟩
  | .hbm, ⟨12, _⟩ => ⟨S512x384, .f32⟩
  | .hbm, ⟨13, _⟩ => ⟨S512x384, .f32⟩
  | .hbm, ⟨14, _⟩ => ⟨S512x384, .f32⟩
  | .hbm, ⟨15, _⟩ => ⟨S_, .f32⟩
  | .hbm, ⟨16, _⟩ => ⟨S512x384, .f32⟩
  | .hbm, ⟨17, _⟩ => ⟨S512x384, .f32⟩
  | .hbm, ⟨18, _⟩ => ⟨S512x384, .f32⟩
  | .hbm, ⟨19, _⟩ => ⟨S_, .f32⟩
  | .hbm, ⟨20, _⟩ => ⟨S512x384, .f32⟩
  | .hbm, ⟨21, _⟩ => ⟨S512x384, .f32⟩
  | .hbm, ⟨22, _⟩ => ⟨S_, .f32⟩
  | .hbm, ⟨23, _⟩ => ⟨S512x384, .f32⟩
  | .hbm, ⟨24, _⟩ => ⟨S512x384, .f32⟩
  | .hbm, ⟨25, _⟩ => ⟨S512x384, .f32⟩
  | .hbm, ⟨26, _⟩ => ⟨S_, .f32⟩
  | .hbm, ⟨27, _⟩ => ⟨S512x384, .f32⟩
  | .hbm, ⟨28, _⟩ => ⟨S512x384, .f32⟩
  | .hbm, ⟨29, _⟩ => ⟨S512x384, .f32⟩
  | .hbm, ⟨30, _⟩ => ⟨S_, .f32⟩
  | .hbm, ⟨31, _⟩ => ⟨S512x384, .f32⟩
  | .hbm, ⟨32, _⟩ => ⟨S512x384, .f32⟩
  | .hbm, ⟨33, _⟩ => ⟨S512x384, .f32⟩
  | .hbm, ⟨34, _⟩ => ⟨S_, .f32⟩
  | .hbm, ⟨35, _⟩ => ⟨S512x384, .f32⟩
  | .hbm, ⟨36, _⟩ => ⟨S512x384, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S512x512 : Shape := ⟨2, ![512, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1536x192 : Shape := ⟨2, ![1536, 192]⟩
abbrev S512x192 : Shape := ⟨2, ![512, 192]⟩

abbrev nBuf : Space → Nat
  | .hbm => 7
  | .vmem => 14
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S1536x192, .f32⟩
  | .hbm, ⟨6, _⟩ => ⟨S1536x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S1536x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S1536x192 : Shape := ⟨2, ![1536, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S_, .f32⟩
  | .hbm, ⟨5, _⟩ => ⟨S1536x192, .f32⟩
  | .hbm, ⟨6, _⟩ => ⟨S1536x192, .f32⟩
  | .hbm, ⟨7, _⟩ => ⟨S_, .f32⟩
  | .hbm, ⟨8, _⟩ => ⟨S1536x192, .f32⟩
  | .hbm, ⟨9, _⟩ => ⟨S1536x192, .f32⟩
  | .hbm, ⟨10, _⟩ => ⟨S1536x192, .f32⟩
  | .hbm, ⟨11, _⟩ => ⟨S_, .f32⟩
  | .hbm, ⟨12, _⟩ => ⟨S1536x192, .f32⟩
  | .hbm, ⟨13, _⟩ => ⟨S1536x192, .f32⟩
  | .hbm, ⟨14, _⟩ => ⟨S1536x192, .f32⟩
  | .hbm, ⟨15, _⟩ => ⟨S_, .f32⟩
  | .hbm, ⟨16, _⟩ => ⟨S1536x192, .f32⟩
  | .hbm, ⟨17, _⟩ => ⟨S1536x192, .f32⟩
  | .hbm, ⟨18, _⟩ => ⟨S1536x192, .f32⟩
  | .hbm, ⟨19, _⟩ => ⟨S_, .f32⟩
  | .hbm, ⟨20, _⟩ => ⟨S1536x192, .f32⟩
  | .hbm, ⟨21, _⟩ => ⟨S1536x192, .f32⟩
  | .hbm, ⟨22, _⟩ => ⟨S_, .f32⟩
  | .hbm, ⟨23, _⟩ => ⟨S1536x192, .f32⟩
  | .hbm, ⟨24, _⟩ => ⟨S1536x192, .f32⟩
  | .hbm, ⟨25, _⟩ => ⟨S1536x192, .f32⟩
  | .hbm, ⟨26, _⟩ => ⟨S_, .f32⟩
  | .hbm, ⟨27, _⟩ => ⟨S1536x192, .f32⟩
  | .hbm, ⟨28, _⟩ => ⟨S1536x192, .f32⟩
  | .hbm, ⟨29, _⟩ => ⟨S1536x192, .f32⟩
  | .hbm, ⟨30, _⟩ => ⟨S_, .f32⟩
  | .hbm, ⟨31, _⟩ => ⟨S1536x192, .f32⟩
  | .hbm, ⟨32, _⟩ => ⟨S1536x192, .f32⟩
  | .hbm, ⟨33, _⟩ => ⟨S1536x192, .f32⟩
  | .hbm, ⟨34, _⟩ => ⟨S_, .f32⟩
  | .hbm, ⟨35, _⟩ => ⟨S1536x192, .f32⟩
  | .hbm, ⟨36, _⟩ => ⟨S1536x192, .f32⟩
  | _, _ => ⟨S1536x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference18Ideal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S512x2048 : Shape := ⟨2, ![512, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S552x128 : Shape := ⟨2, ![552, 128]⟩

abbrev nBuf : Space → Nat
  | .hbm => 7
  | .vmem => 7
  | .smem => 0
  | _ => 0

abbrev bufTy : (tb : Table) → Fin (tcTables nBuf tb) → BufTy
  | .hbm, ⟨0, _⟩ => ⟨S552x128, .f32⟩
  | .hbm, ⟨1, _⟩ => ⟨S552x128, .f32⟩
  | .hbm, ⟨2, _⟩ => ⟨S552x128, .f32⟩
  | .hbm, ⟨3, _⟩ => ⟨S552x128, .f32⟩
  | .hbm, ⟨4, _⟩ => ⟨S552x128, .f32⟩
  | .hbm, ⟨5, _⟩ => ⟨S552x128, .f32⟩
  | .hbm, ⟨6, _⟩ => ⟨S552x128, .f32⟩
  | .local _ .vmem, ⟨0, _⟩ => ⟨S552x128, .f32⟩
  | .local _ .vmem, ⟨1, _⟩ => ⟨S552x128, .f32⟩
  | .local _ .vmem, ⟨2, _⟩ => ⟨S552x128, .f32⟩
  | .local _ .vmem, ⟨3, _⟩ => ⟨S552x128, .f32⟩
  | .local _ .vmem, ⟨4, _⟩ => ⟨S552x128, .f32⟩
  | .local _ .vmem, ⟨5, _⟩ => ⟨S552x128, .f32⟩
  | .local _ .vmem, ⟨6, _⟩ => ⟨S552x128, .f32⟩
  | _, _ => ⟨S552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S552x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S552x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S552x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S552x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S552x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference21Ideal.lean ====
abbrev S552x128 : Shape := ⟨2, ![552, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S552x128, .f32⟩
  | .hbm, ⟨1, _⟩ => ⟨S552x128, .f32⟩
  | .hbm, ⟨2, _⟩ => ⟨S552x128, .f32⟩
  | .hbm, ⟨3, _⟩ => ⟨S552x128, .f32⟩
  | .hbm, ⟨4, _⟩ => ⟨S_, .f32⟩
  | .hbm, ⟨5, _⟩ => ⟨S552x128, .f32⟩
  | .hbm, ⟨6, _⟩ => ⟨S552x128, .f32⟩
  | .hbm, ⟨7, _⟩ => ⟨S_, .f32⟩
  | .hbm, ⟨8, _⟩ => ⟨S552x128, .f32⟩
  | .hbm, ⟨9, _⟩ => ⟨S552x128, .f32⟩
  | .hbm, ⟨10, _⟩ => ⟨S552x128, .f32⟩
  | .hbm, ⟨11, _⟩ => ⟨S_, .f32⟩
  | .hbm, ⟨12, _⟩ => ⟨S552x128, .f32⟩
  | .hbm, ⟨13, _⟩ => ⟨S552x128, .f32⟩
  | .hbm, ⟨14, _⟩ => ⟨S552x128, .f32⟩
  | .hbm, ⟨15, _⟩ => ⟨S_, .f32⟩
  | .hbm, ⟨16, _⟩ => ⟨S552x128, .f32⟩
  | .hbm, ⟨17, _⟩ => ⟨S552x128, .f32⟩
  | .hbm, ⟨18, _⟩ => ⟨S552x128, .f32⟩
  | .hbm, ⟨19, _⟩ => ⟨S_, .f32⟩
  | .hbm, ⟨20, _⟩ => ⟨S552x128, .f32⟩
  | .hbm, ⟨21, _⟩ => ⟨S552x128, .f32⟩
  | .hbm, ⟨22, _⟩ => ⟨S_, .f32⟩
  | .hbm, ⟨23, _⟩ => ⟨S552x128, .f32⟩
  | .hbm, ⟨24, _⟩ => ⟨S552x128, .f32⟩
  | .hbm, ⟨25, _⟩ => ⟨S552x128, .f32⟩
  | .hbm, ⟨26, _⟩ => ⟨S_, .f32⟩
  | .hbm, ⟨27, _⟩ => ⟨S552x128, .f32⟩
  | .hbm, ⟨28, _⟩ => ⟨S552x128, .f32⟩
  | .hbm, ⟨29, _⟩ => ⟨S552x128, .f32⟩
  | .hbm, ⟨30, _⟩ => ⟨S_, .f32⟩
  | .hbm, ⟨31, _⟩ => ⟨S552x128, .f32⟩
  | .hbm, ⟨32, _⟩ => ⟨S552x128, .f32⟩
  | .hbm, ⟨33, _⟩ => ⟨S552x128, .f32⟩
  | .hbm, ⟨34, _⟩ => ⟨S_, .f32⟩
  | .hbm, ⟨35, _⟩ => ⟨S552x128, .f32⟩
  | .hbm, ⟨36, _⟩ => ⟨S552x128, .f32⟩
  | _, _ => ⟨S552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.KernelRun.lean ====
/-
  The kernel's body at any grid point, its two outputs left at some contents.
-/
module

public import proofs.«01_k».proof.Proof.Gen.Kernel.Frame.Runs

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1528000 in
/-- The body's triple: on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec F S2048x256 .bf16) (x1 : Vec F S4096x128 .bf16) (x2 : Vec F S4096x128 .bf16) (x3 : Vec F S4096x128 .bf16) (x4 : Vec F S2048x128 .f32) (x5 : Vec F S1x2048x1 .f32) (x6 : Vec F S2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_bwd_dq i arg2 harg2 arg3 harg3 arg4 harg4 arg5 harg5 arg6 harg6 arg7 harg7 arg8 harg8 arg9 harg9 arg10 harg10 arg11 harg11 arg12 harg12 arg13 harg13 arg14 harg14) K := by
    intro E K
    simp only [cc0_mla_bwd_dq_eq_skeleton]; unfold cc0_mla_bwd_dq_skel
    simp only [k0_part29_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Proof.KernelFrame

end
-- ==== Proof.KernelFrame.lean ====
/-
  The kernel's frame: every run ends with the arguments unchanged.
-/
module

public import proofs.«01_k».proof.Proof.KernelRun
public import Idealize.ShloMosaic.Lib.Claim

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments are unchanged at the end of a run of the pipeline. -/
theorem kept_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 3 rfl).trans ((hA c 3).trans (V_main_arg1 m c)),
      (Pipeline.RDat.FramePost.arr_in h c 2 rfl).trans ((hA c 2).trans (V_main_arg2 m c)),
      (Pipeline.RDat.FramePost.arr_in h c 6 rfl).trans ((hA c 6).trans (V_main_arg3 m c))⟩) h

/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  kept_of m ρ (fun c => (dats m 0 c).toRForget forgets0) (A_eq m) (run_main m ρ)

/-- Every run ends, the arguments unchanged and every semaphore at zero. -/
theorem whole_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.KernelFrame

end
-- ==== Proof.IdealRun.lean ====
/-
  The idealized kernel's body at any grid point, with what it stores into its two outputs.
-/
module

public import proofs.«01_k».proof.Proof.Gen.KernelIdeal.Frame.Runs

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1528000 in
/-- The body at any grid point: what it stores into its two outputs, the first as a function of what the two scratch
    buffers that it writes before it reads them hold at the start. -/
noncomputable def bodyRun (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec F S2048x256 .bf16) (x1 : Vec F S4096x128 .bf16) (x2 : Vec F S4096x128 .bf16) (x3 : Vec F S4096x128 .bf16) (x4 : Vec F S2048x128 .f32) (x5 : Vec F S1x2048x1 .f32) (x6 : Vec F S2048x128 .f32) :
    Σ' (L7 : BufTy.Contents (Elt F) arg13.view.ty → BufTy.Contents (Elt F) arg14.view.ty → List (View.Piece (Elt F) S2048x256 .f32)), { L8 : List (View.Piece (Elt F) S1x8x1x256 .f32) //
      ∀ (fs2 : BufTy.Contents (Elt F) arg13.view.ty) (fs3 : BufTy.Contents (Elt F) arg14.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} fs2) ∗ (arg14.view.loc (c : Thread nD τ) ↦[arg14.view.set]{fullShare} fs3)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f (L7 fs2 fs3)) ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_bwd_dq i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun fs2 fs3 E K => ?run⟩
  case run =>
    simp only [cc0_mla_bwd_dq_eq_skeleton]; unfold cc0_mla_bwd_dq_skel
    simp only [k0_part29_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, HS2, HS3, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Proof.KernelIdealFrame

end
-- ==== Proof.IdealFrame.lean ====
/-
  The idealized kernel's frame: every run ends with the arguments unchanged.
-/
module

public import proofs.«01_k».proof.Proof.IdealRun
public import Idealize.ShloMosaic.Lib.Claim

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer held at some value is held at some contents. -/
theorem open_owns (c : Dev nD) {s : Shape} {e : EltTy} (a : Memref sig .tc .vmem s e) :
    (iprop(∃ d, owns (c : Thread nD τ) a fullShare d) : sProp 𝕄) ⊢ iprop(∃ f, (a.view.loc (c : Thread nD τ) ↦[a.view.set]{fullShare} f)) := by
  unfold owns
  iintro ⟨%d, %f, -, H⟩
  iexists _; iexact H

/-- A buffer held at what some stores leave is held at some value. -/
theorem close_owns (c : Dev nD) {s : Shape} {e : EltTy} (a : Memref sig .tc .vmem s e) (L : List (View.Piece (Elt F) s e)) :
    (iprop(∃ f, (a.view.loc (c : Thread nD τ) ↦[a.view.set]{fullShare} a.view.writes (Elt F) f L)) : sProp 𝕄) ⊢ iprop(∃ d, owns (c : Thread nD τ) a fullShare d) := by
  unfold owns
  iintro ⟨%f, H⟩
  iexists _, _; isplitr
  swap; · iexact H
  ipureintro; rfl

/-- The body at any grid point, its two outputs left at some contents. -/
theorem kernelRun0_A (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec F S2048x256 .bf16) (x1 : Vec F S4096x128 .bf16) (x2 : Vec F S4096x128 .bf16) (x3 : Vec F S4096x128 .bf16) (x4 : Vec F S2048x128 .f32) (x5 : Vec F S1x2048x1 .f32) (x6 : Vec F S2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_bwd_dq i arg2 harg2 arg3 harg3 arg4 harg4 arg5 harg5 arg6 harg6 arg7 harg7 arg8 harg8 arg9 harg9 arg10 harg10 arg11 harg11 arg12 harg12 arg13 harg13 arg14 harg14) K := by
  intro E K
  iintro ⟨H0, H1, H2, H3, H4, H5, H6, H7, H8, HS0, HS1, HS2, HS3, Hk⟩
  ihave G2 := (open_owns c arg13) $$ HS2
  ihave G3 := (open_owns c arg14) $$ HS3
  icases G2 with ⟨%fs2, G2⟩
  icases G3 with ⟨%fs3, G3⟩
  iapply ((bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2 fs2 fs3 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [G2]; · iexact G2
  isplitl [G3]; · iexact G3
  iintro ⟨H0, H1, H2, H3, H4, H5, H6, H7, H8, HS0, HS1, HS2, HS3⟩
  ihave K7 := (close_owns c arg9 _) $$ H7
  ihave K8 := (close_owns c arg10 _) $$ H8
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [K7]; · iexact K7
  isplitl [K8]; · iexact K8
  isplitl [HS0]; · iexact HS0
  isplitl [HS1]; · iexact HS1
  isplitl [HS2]; · iexact HS2
  iexact HS3

variable (m : (ℓ : Loc nD τ sig) → Buf (Elt F) ℓ) (ρ : Dev nD → PrngReg)

/-- The arguments are unchanged at the end of a run of the pipeline. -/
theorem kept_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 3 rfl).trans ((hA c 3).trans (V_main_arg1 m c)),
      (Pipeline.RDat.FramePost.arr_in h c 2 rfl).trans ((hA c 2).trans (V_main_arg2 m c)),
      (Pipeline.RDat.FramePost.arr_in h c 6 rfl).trans ((hA c 6).trans (V_main_arg3 m c))⟩) h

/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  kept_of m ρ (fun c => (dats m 0 c).toRForget forgets0) (A_eq m) (run_main m ρ)

/-- Every run ends, the arguments unchanged and every semaphore at zero. -/
theorem whole_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.KernelIdealFrame

end
-- ==== Proof.IdealValue.lean ====
/-
  The idealized kernel's run with its two outputs named: at every grid point the blocks are the given ones.
-/
module

public import proofs.«01_k».proof.Proof.IdealFrame
public import Idealize.ShloMosaic.Lib.Pipeline.Value

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The stores of the queries' gradient cover its block. -/
theorem cover7 (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec F S2048x256 .bf16) (x1 : Vec F S4096x128 .bf16) (x2 : Vec F S4096x128 .bf16) (x3 : Vec F S4096x128 .bf16) (x4 : Vec F S2048x128 .f32) (x5 : Vec F S1x2048x1 .f32) (x6 : Vec F S2048x128 .f32) (fs2 : BufTy.Contents (Elt F) arg13.view.ty) (fs3 : BufTy.Contents (Elt F) arg14.view.ty) (y : S2048x256.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 fs2 fs3, y ∈ pc.1.set :=
  View.cover_of_tiledL ((bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 fs2 fs3) S512x256.size (by sl_kernel_rfl) y

/-- The stores of the row means cover their block. -/
theorem cover8 (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec F S2048x256 .bf16) (x1 : Vec F S4096x128 .bf16) (x2 : Vec F S4096x128 .bf16) (x3 : Vec F S4096x128 .bf16) (x4 : Vec F S2048x128 .f32) (x5 : Vec F S1x2048x1 .f32) (x6 : Vec F S2048x128 .f32) (y : S1x8x1x256.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1 S1x1x1x256.size (by sl_kernel_rfl) y

variable (m : (ℓ : Loc nD τ sig) → Buf (Elt F) ℓ) (ρ : Dev nD → PrngReg)
variable (O7 : Dev nD → Fin cfg0.N → Vec F S2048x256 .f32) (O8 : Dev nD → Fin cfg0.N → Vec F S1x8x1x256 .f32)

/-- At every point the body leaves the given blocks in the queries' gradient. -/
def Leaves7 : Prop := ∀ (c : Dev nD) (t : Fin cfg0.N) fs2 fs3, View.canon ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t)).1 fs2 fs3) = O7 c t

/-- At every point the body leaves the given blocks in the row means. -/
def Leaves8 : Prop := ∀ (c : Dev nD) (t : Fin cfg0.N), View.canon (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t)).2.1 = O8 c t

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => O7 c t
    | ⟨8, _⟩ => O8 c t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem vA_eq (c : Dev nD) (w : Fin cfg0.W) : (vdats m O7 O8 0 c).A w = V m c (Pipeline.arrRef spec0 w) := by
  dsimp only [vdats]

/-- What the body leaves, window by window (the proof data's `match` reduced by `dsimp`). -/
theorem vafter0_0 (c : Dev nD) (t : Fin cfg0.N) : (vdats m O7 O8 0 c).after 0 t = iblk m c 0 t := by dsimp only [vdats]
theorem vafter0_1 (c : Dev nD) (t : Fin cfg0.N) : (vdats m O7 O8 0 c).after 1 t = iblk m c 1 t := by dsimp only [vdats]
theorem vafter0_2 (c : Dev nD) (t : Fin cfg0.N) : (vdats m O7 O8 0 c).after 2 t = iblk m c 2 t := by dsimp only [vdats]
theorem vafter0_3 (c : Dev nD) (t : Fin cfg0.N) : (vdats m O7 O8 0 c).after 3 t = iblk m c 3 t := by dsimp only [vdats]
theorem vafter0_4 (c : Dev nD) (t : Fin cfg0.N) : (vdats m O7 O8 0 c).after 4 t = iblk m c 4 t := by dsimp only [vdats]
theorem vafter0_5 (c : Dev nD) (t : Fin cfg0.N) : (vdats m O7 O8 0 c).after 5 t = iblk m c 5 t := by dsimp only [vdats]
theorem vafter0_6 (c : Dev nD) (t : Fin cfg0.N) : (vdats m O7 O8 0 c).after 6 t = iblk m c 6 t := by dsimp only [vdats]
theorem vafter0_7 (c : Dev nD) (t : Fin cfg0.N) : (vdats m O7 O8 0 c).after 7 t = O7 c t := by dsimp only [vdats]
theorem vafter0_8 (c : Dev nD) (t : Fin cfg0.N) : (vdats m O7 O8 0 c).after 8 t = O8 c t := by dsimp only [vdats]

/-- Each input's current staging buffer holds its block at every point, fetched there or not (`beforeK_W_of`). -/
theorem vbefore0_0 (c : Dev nD) (t : Fin cfg0.N) (d) : (vdats m O7 O8 0 c).before 0 t d = iblk m c 0 t :=
  before0_0_of m (vdats m O7 O8 0 c) (vA_eq m O7 O8 c 0) (vafter0_0 m O7 O8 c) t d
theorem vbefore0_1 (c : Dev nD) (t : Fin cfg0.N) (d) : (vdats m O7 O8 0 c).before 1 t d = iblk m c 1 t :=
  before0_1_of m (vdats m O7 O8 0 c) (vA_eq m O7 O8 c 1) (vafter0_1 m O7 O8 c) t d
theorem vbefore0_2 (c : Dev nD) (t : Fin cfg0.N) (d) : (vdats m O7 O8 0 c).before 2 t d = iblk m c 2 t :=
  before0_2_of m (vdats m O7 O8 0 c) (vA_eq m O7 O8 c 2) (vafter0_2 m O7 O8 c) t d
theorem vbefore0_3 (c : Dev nD) (t : Fin cfg0.N) (d) : (vdats m O7 O8 0 c).before 3 t d = iblk m c 3 t :=
  before0_3_of m (vdats m O7 O8 0 c) (vA_eq m O7 O8 c 3) (vafter0_3 m O7 O8 c) t d
theorem vbefore0_4 (c : Dev nD) (t : Fin cfg0.N) (d) : (vdats m O7 O8 0 c).before 4 t d = iblk m c 4 t :=
  before0_4_of m (vdats m O7 O8 0 c) (vA_eq m O7 O8 c 4) (vafter0_4 m O7 O8 c) t d
theorem vbefore0_5 (c : Dev nD) (t : Fin cfg0.N) (d) : (vdats m O7 O8 0 c).before 5 t d = iblk m c 5 t :=
  before0_5_of m (vdats m O7 O8 0 c) (vA_eq m O7 O8 c 5) (vafter0_5 m O7 O8 c) t d
theorem vbefore0_6 (c : Dev nD) (t : Fin cfg0.N) (d) : (vdats m O7 O8 0 c).before 6 t d = iblk m c 6 t :=
  before0_6_of m (vdats m O7 O8 0 c) (vA_eq m O7 O8 c 6) (vafter0_6 m O7 O8 c) t d

/-! ## The body obligation, at a generic point -/

/-- What the body is called with at point `t` (Lib/Pipeline.lean `BodyObligation`'s precondition, the windows one by one), -/
def vbodyPre (c : Dev nD) (t : Fin cfg0.N) : sProp 𝕄 :=
  iprop((vdats m O7 O8 0 c).Φ t.castSucc ∗ (vdats m O7 O8 0 c).owesAt () t.castSucc
    ∗ (∃ d, owns (c : Thread nD τ) (ms0_0 t) fullShare ((vdats m O7 O8 0 c).before 0 t d))
    ∗ (∃ d, owns (c : Thread nD τ) (ms0_1 t) fullShare ((vdats m O7 O8 0 c).before 1 t d))
    ∗ (∃ d, owns (c : Thread nD τ) (ms0_2 t) fullShare ((vdats m O7 O8 0 c).before 2 t d))
    ∗ (∃ d, owns (c : Thread nD τ) (ms0_3 t) fullShare ((vdats m O7 O8 0 c).before 3 t d))
    ∗ (∃ d, owns (c : Thread nD τ) (ms0_4 t) fullShare ((vdats m O7 O8 0 c).before 4 t d))
    ∗ (∃ d, owns (c : Thread nD τ) (ms0_5 t) fullShare ((vdats m O7 O8 0 c).before 5 t d))
    ∗ (∃ d, owns (c : Thread nD τ) (ms0_6 t) fullShare ((vdats m O7 O8 0 c).before 6 t d))
    ∗ (∃ d, owns (c : Thread nD τ) (ms0_7 t) fullShare ((vdats m O7 O8 0 c).before 7 t d))
    ∗ (∃ d, owns (c : Thread nD τ) (ms0_8 t) fullShare ((vdats m O7 O8 0 c).before 8 t d)))

/-- and what it returns. -/
def vbodyPost (c : Dev nD) (t : Fin cfg0.N) : sProp 𝕄 :=
  iprop((vdats m O7 O8 0 c).Φ t.succ ∗ (vdats m O7 O8 0 c).owesAt () t.succ
    ∗ owns (c : Thread nD τ) (ms0_0 t) fullShare ((vdats m O7 O8 0 c).after 0 t)
    ∗ owns (c : Thread nD τ) (ms0_1 t) fullShare ((vdats m O7 O8 0 c).after 1 t)
    ∗ owns (c : Thread nD τ) (ms0_2 t) fullShare ((vdats m O7 O8 0 c).after 2 t)
    ∗ owns (c : Thread nD τ) (ms0_3 t) fullShare ((vdats m O7 O8 0 c).after 3 t)
    ∗ owns (c : Thread nD τ) (ms0_4 t) fullShare ((vdats m O7 O8 0 c).after 4 t)
    ∗ owns (c : Thread nD τ) (ms0_5 t) fullShare ((vdats m O7 O8 0 c).after 5 t)
    ∗ owns (c : Thread nD τ) (ms0_6 t) fullShare ((vdats m O7 O8 0 c).after 6 t)
    ∗ owns (c : Thread nD τ) (ms0_7 t) fullShare ((vdats m O7 O8 0 c).after 7 t)
    ∗ owns (c : Thread nD τ) (ms0_8 t) fullShare ((vdats m O7 O8 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem vsound_body (h7 : Leaves7 m O7) (h8 : Leaves8 m O8) (c : Dev nD) (t : Fin cfg0.N) :
    vbodyPre m O7 O8 c t ⊢ wp frame (wpE (defs₀ (F := F)) Variants.none c none) Set.univ (bodyAt0 t) (fun _ => vbodyPost m O7 O8 c t) := by
  unfold vbodyPre vbodyPost bodyAt0
  simp only [vbefore0_0, vbefore0_1, vbefore0_2, vbefore0_3, vbefore0_4, vbefore0_5, vbefore0_6]
  rw [show (vdats m O7 O8 0 c).Φ t.succ = (vdats m O7 O8 0 c).Φ t.castSucc from rfl,
    show (vdats m O7 O8 0 c).owesAt () t.succ = (vdats m O7 O8 0 c).owesAt () t.castSucc from rfl,
    vafter0_0, vafter0_1, vafter0_2, vafter0_3, vafter0_4, vafter0_5, vafter0_6, vafter0_7, vafter0_8]
  rw [show (vdats m O7 O8 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave G2 := (open_owns c scM0_2) $$ HS2
  ihave G3 := (open_owns c scM0_3) $$ HS3
  icases G2 with ⟨%fs2, G2⟩
  icases G3 with ⟨%fs3, G3⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t)).2.2 fs2 fs3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [G2]; · iexact G2
  isplitl [G3]; · iexact G3
  iintro ⟨H0, H1, H2, H3, H4, H5, H6, ⟨%e7, H7⟩, ⟨%e8, H8⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact (View.read_writes_of_cover _ _ VO0_7 VO0_7.junk _ (cover7 c _ _ _ _ _ _ _ _ _ _ _ _ _ _ _ _ _ _ _ _ _ _ _ _ _ _ _ _ _ _ _ _ _ _ _ _)).trans ((View.read_writes_junk_eq_canon VO0_7 _).trans (h7 c t fs2 fs3))
  unfold owns; iexists _; isplitr
  swap; · iexact H8
  ipureintro; exact (View.read_writes_of_cover _ _ VO0_8 VO0_8.junk _ (cover8 c _ _ _ _ _ _ _ _ _ _ _ _ _ _ _ _ _ _ _ _ _ _ _ _ _ _ _ _ _ _ _ _ _ _)).trans ((View.read_writes_junk_eq_canon VO0_8 _).trans (h8 c t))

/-- The library's body obligation, at every point: the body's triple restated (Lib/Pipeline/FrameBody.lean `triple_restated`). -/
theorem vbody_obligation (h7 : Leaves7 m O7) (h8 : Leaves8 m O8) (c : Dev nD) : BodyObligation (vdats (F := F) m O7 O8 0 c) (defs₀ (F := F)) Variants.none () Set.univ := fun t => by
  rw [bigSep_W0, bigSep_W0, defs₀_row]
  exact triple_restated (vsound_body m O7 O8 h7 h8 c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem vrun_main_quiescent (h7 : Leaves7 m O7) (h8 : Leaves8 m O8) : θ_run defs (onTc (τ := τ) (main (F := F))) (s₀ m ρ) (fun r => (Pipeline.FramePost cfgs (vdats m O7 O8) 0 (V m)) r ∧ r.2.sem = fun _ => 0) :=
  Pipeline.θ_run_frame_shared (Q' := _) cfgs (vdats m O7 O8) (0 : Fin 1) launch₀0 defs₀ Variants.none m ρ main
    (hbody := fun c => (vbody_obligation m O7 O8 h7 h8 c).loose) (hq := fun _ _ _ => rfl)
    (howed := fun _ _ => rfl) (V := V m) (hmain := hmain m Variants.none) (hA := vA_eq m O7 O8) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem vrun_main (h7 : Leaves7 m O7) (h8 : Leaves8 m O8) : θ_run defs (onTc (τ := τ) (main (F := F))) (s₀ m ρ) (Pipeline.FramePost cfgs (vdats m O7 O8) 0 (V m)) :=
  (θ_run defs _ _).mono (fun _ h => h.1) (vrun_main_quiescent m ρ O7 O8 h7 h8)

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((vdats m O7 O8 0 c).arrAt 7 cfg0.N) = (vdats m O7 O8 0 c).flushed 7 t :=
  (vdats m O7 O8 0 c).read_blk_arrAt_eq_flushed 7 disjoint7 cfg0.N t t.isLt hf

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((vdats m O7 O8 0 c).arrAt 8 cfg0.N) = (vdats m O7 O8 0 c).flushed 8 t :=
  (vdats m O7 O8 0 c).read_blk_arrAt_eq_flushed 8 disjoint8 cfg0.N t t.isLt hf

/-- After the frame run, output window 7's array is `(vdats m O7 O8 0 c).arrAt 7 N`. -/
theorem post7 (r : PUnit × MemSt nD τ sig (Elt F)) (h : Pipeline.FramePost cfgs (vdats m O7 O8) 0 (V m) r) (c : Dev nD) :
    r.2.mem ((c : Thread nD τ).loc main_v42_0) = (vdats m O7 O8 0 c).arrAt 7 cfg0.N :=
  (h c).1 7

/-- After the frame run, output window 8's array is `(vdats m O7 O8 0 c).arrAt 8 N`. -/
theorem post8 (r : PUnit × MemSt nD τ sig (Elt F)) (h : Pipeline.FramePost cfgs (vdats m O7 O8) 0 (V m) r) (c : Dev nD) :
    r.2.mem ((c : Thread nD τ).loc main_v42_1) = (vdats m O7 O8 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (vdats m O7 O8) 0 (V m) r) (c : Dev nD) :
    r.2.mem ((c : Thread nD τ).loc main_arg0) = m ((c : Thread nD τ).loc main_arg0) :=
  ((h c).1 0).trans (((vdats m O7 O8 0 c).arrAt_in 0 rfl _).trans ((vA_eq m O7 O8 c 0).trans (V_main_arg0 m c)))

/-- After the frame run, argument `main_arg1` is as launched: input window 3 stages it and never writes it back. -/
theorem kept_main_arg1 (r : PUnit × MemSt nD τ sig (Elt F)) (h : Pipeline.FramePost cfgs (vdats m O7 O8) 0 (V m) r) (c : Dev nD) :
    r.2.mem ((c : Thread nD τ).loc main_arg1) = m ((c : Thread nD τ).loc main_arg1) :=
  ((h c).1 3).trans (((vdats m O7 O8 0 c).arrAt_in 3 rfl _).trans ((vA_eq m O7 O8 c 3).trans (V_main_arg1 m c)))

/-- After the frame run, argument `main_arg2` is as launched: input window 2 stages it and never writes it back. -/
theorem kept_main_arg2 (r : PUnit × MemSt nD τ sig (Elt F)) (h : Pipeline.FramePost cfgs (vdats m O7 O8) 0 (V m) r) (c : Dev nD) :
    r.2.mem ((c : Thread nD τ).loc main_arg2) = m ((c : Thread nD τ).loc main_arg2) :=
  ((h c).1 2).trans (((vdats m O7 O8 0 c).arrAt_in 2 rfl _).trans ((vA_eq m O7 O8 c 2).trans (V_main_arg2 m c)))

/-- After the frame run, argument `main_arg3` is as launched: input window 6 stages it and never writes it back. -/
theorem kept_main_arg3 (r : PUnit × MemSt nD τ sig (Elt F)) (h : Pipeline.FramePost cfgs (vdats m O7 O8) 0 (V m) r) (c : Dev nD) :
    r.2.mem ((c : Thread nD τ).loc main_arg3) = m ((c : Thread nD τ).loc main_arg3) :=
  ((h c).1 6).trans (((vdats m O7 O8 0 c).arrAt_in 6 rfl _).trans ((vA_eq m O7 O8 c 6).trans (V_main_arg3 m c)))

/-- The frame run with each output array after the run NAMED — `(vdats m O7 O8 0 c).arrAt w N`, which `blocks_w` / `entry_w` read —,
    the arguments unchanged. -/
theorem run_blocks (h7 : Leaves7 m O7) (h8 : Leaves8 m O8) : θ_run defs (onTc (τ := τ) (main (F := F))) ⟨m, fun _ => 0, ρ⟩ fun r => ∀ c : Dev nD,
      r.2.mem ((c : Thread nD τ).loc main_v42_0) = (vdats m O7 O8 0 c).arrAt 7 cfg0.N
      ∧ r.2.mem ((c : Thread nD τ).loc main_v42_1) = (vdats m O7 O8 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post7 m O7 O8 r h c,
      post8 m O7 O8 r h c,
      kept_main_arg0 m O7 O8 r h c,
      kept_main_arg1 m O7 O8 r h c,
      kept_main_arg2 m O7 O8 r h c,
      kept_main_arg3 m O7 O8 r h c⟩)
    (vrun_main m ρ O7 O8 h7 h8)

end Cert.Proof.KernelIdealFrame

end
-- ==== Proof.HostPre.lean ====
/-
  What the host lines before the kernel leave in its operands: the forward pass's output and the logarithm of its row
  sums, by the reference's own lines.
-/
module

public import proofs.«01_k».proof.Proof.Gen.KernelIdeal.Frame.Runs
public import proofs.«01_k».proof.Proof.Gen.ReferenceIdeal.Read

@[expose] public section

noncomputable section

namespace Cert.Proof.HostPre

open Idealize.ShloMosaic Idealize.ShloMosaic.TcCoe Idealize.ShloMosaic.StableHlo Cert.KernelIdeal Cert.KernelIdeal.Gen

variable (m : (ℓ : Loc nD τ sig) → Buf (Elt Ideal) ℓ)

set_option maxHeartbeats 2000000 in
set_option maxRecDepth 8192 in
theorem v36 (c : Dev nD) : V m c main_v36 = Cert.ReferenceIdeal.Read.val_main_v40 (F := Ideal) (m ((c : Thread nD τ).loc main_arg0))
    (m ((c : Thread nD τ).loc main_arg1)) (m ((c : Thread nD τ).loc main_arg2)) := by
  show StableHlo.after _ _ _ = _
  simp only [hostOps0, hostOps0_1, hostOps0_2, hostOps0_3, hostOps0_4, List.flatten_cons, List.flatten_nil, List.append_nil, List.cons_append,
      List.nil_append, TRef.nullary, TRef.ternary, TRef.unary, TRef.toBuf, TRef.ofBuf, cast_eq]
  after_results_simp
  all_goals rfl

set_option maxHeartbeats 2000000 in
set_option maxRecDepth 8192 in
theorem v41 (c : Dev nD) : V m c main_v41 = Host.divf (Cert.ReferenceIdeal.Read.val_main_v42 (F := Ideal) (m ((c : Thread nD τ).loc main_arg0))
    (m ((c : Thread nD τ).loc main_arg1)) (m ((c : Thread nD τ).loc main_arg2)))
      (broadcastInDim S8x4096x1 ![] bcast_S_S8x4096x1 (Host.log (F := Ideal) (φ := .f32) (constant S_ .f32 0x40000000#32))) := by
  show StableHlo.after _ _ _ = _
  simp only [hostOps0, hostOps0_1, hostOps0_2, hostOps0_3, hostOps0_4, List.flatten_cons, List.flatten_nil, List.append_nil, List.cons_append,
      List.nil_append, TRef.nullary, TRef.ternary, TRef.unary, TRef.toBuf, TRef.ofBuf, cast_eq]
  after_results_simp
  all_goals rfl

end Cert.Proof.HostPre

end
-- ==== Proof.AttnBase.lean ====
/-
  What the value proofs share: finite sums of reals inside the extended reals, the exact operations at reals, the
  literals, the comparison of two small indices, and the columns at which a head's lanes lie.
-/
module

public import Idealize.ShloMosaic.PureOps.Ideal.Laws
public import Idealize.ShloMosaic.Lib.ValueIdx
public import Idealize.ShloMosaic.Lib.Pipeline.Value
public import Mathlib.Analysis.SpecialFunctions.Pow.Real
public import Mathlib.Tactic.Linarith

@[expose] public section

noncomputable section

namespace Cert.Proof.Attn

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sum_coe {ι : Type*} [Fintype ι] {f : ι → EReal} {g : ι → ℝ} (h : ∀ i, f i = ((g i : ℝ) : EReal)) :
    ∑ i, f i = ((∑ i, g i : ℝ) : EReal) := by
  rw [coe_sum]; exact Finset.sum_congr rfl fun i _ => h i

theorem mul_coe {a b : EReal} {x y : ℝ} (ha : a = (x : EReal)) (hb : b = (y : EReal)) : a * b = ((x * y : ℝ) : EReal) := by
  rw [ha, hb, EReal.coe_mul]

theorem sum_mul_coe {ι : Type*} [Fintype ι] {f g : ι → EReal} {a b : ι → ℝ} (hf : ∀ i, f i = ((a i : ℝ) : EReal))
    (hg : ∀ i, g i = ((b i : ℝ) : EReal)) : ∑ i, f i * g i = ((∑ i, a i * b i : ℝ) : EReal) :=
  sum_coe fun i => mul_coe (hf i) (hg i)

theorem div_real {a b : EReal} {x y : ℝ} (ha : a = (x : EReal)) (hb : b = (y : EReal)) (hy : y ≠ 0) :
    Ideal.div a b = ((x / y : ℝ) : EReal) := by
  rw [ha, hb, Ideal.div_coe hy, ← EReal.coe_mul]; congr 1; rw [one_div, div_eq_mul_inv]

theorem log_real {a : EReal} {x : ℝ} (ha : a = (x : EReal)) (hx : 0 < x) : Ideal.log a = ((Real.log x : ℝ) : EReal) := by
  rw [ha, Ideal.log_coe, if_neg (not_le.mpr hx)]

theorem fold_max_real {ι : Type*} (s : Finset ι) (f : ι → EReal) (g : ι → ℝ) (h : ∀ i, f i = ((g i : ℝ) : EReal))
    (hs : s.Nonempty) : ∃ r : ℝ, s.fold max (⊥ : EReal) f = (r : EReal) := by
  classical
  induction hs using Finset.Nonempty.cons_induction with
  | singleton a => exact ⟨g a, by rw [Finset.fold_singleton, h]; exact max_eq_left bot_le⟩
  | cons a s ha hs ih =>
    obtain ⟨r, hr⟩ := ih
    refine ⟨max (g a) r, ?_⟩
    rw [Finset.fold_cons, hr, h]
    exact (EReal.coe_strictMono.monotone.map_max).symm

/-- The word `192.0`. -/
theorem lit_192 : Ideal.ofBits .f32 0x43400000#32 = ((192 : ℝ) : EReal) := by
  simp [Ideal.ofBits, Ideal.ieee, -EReal.coe_mul]; norm_num

/-- The word `2.0`. -/
theorem lit_2 : Ideal.ofBits .f32 0x40000000#32 = ((2 : ℝ) : EReal) := by
  simp [Ideal.ofBits, Ideal.ieee, -EReal.coe_mul]; norm_num

/-- The word `1.0`. -/
theorem lit_1 : Ideal.ofBits .f32 0x3F800000#32 = ((1 : ℝ) : EReal) := by
  simp [Ideal.ofBits, Ideal.ieee, -EReal.coe_mul]; norm_num

/-- The word `0.0`. -/
theorem lit_0 : Ideal.ofBits .f32 0x00000000#32 = ((0 : ℝ) : EReal) := by
  rw [Ideal.ofBits_zero_f32]; rfl

/-- The word `-∞`. -/
theorem lit_bot : Ideal.ofBits .f32 0xFF800000#32 = ⊥ := by simp [Ideal.ofBits, Ideal.ieee]

/-- The small positive constant the denominators carry: the word nearest to `1e-20`. -/
def eps : ℝ := 12379400 / 2 ^ 90

theorem eps_pos : 0 < eps := by unfold eps; positivity

theorem lit_eps : Ideal.ofBits .f32 0x1E3CE508#32 = ((eps : ℝ) : EReal) := by
  unfold eps
  simp [Ideal.ofBits, Ideal.ieee, -EReal.coe_mul]; norm_num

/-- The value `-1e30` that stands where a key is out of sight. -/
def big : ℝ := -(13234890 * 2 ^ 76)

theorem lit_big : Ideal.ofBits .f32 0xF149F2CA#32 = ((big : ℝ) : EReal) := by
  unfold big
  simp [Ideal.ofBits, Ideal.ieee, -EReal.coe_mul]

/-- Two indices below `2^31` compared as signed words. -/
theorem sle_ofNat (a b : ℕ) (ha : a < 2 ^ 31) (hb : b < 2 ^ 31) :
    IntOp.cmpi .sle (BitVec.ofNat 32 a) (BitVec.ofNat 32 b) = if a ≤ b then 1#1 else 0#1 := by
  have e : ∀ x : ℕ, x < 2 ^ 31 → (BitVec.ofNat 32 x).toInt = (x : ℤ) := fun x hx => by
    rw [BitVec.toInt_eq_toNat_of_lt (by rw [BitVec.toNat_ofNat]; omega), BitVec.toNat_ofNat]; omega
  have : (BitVec.ofNat 32 a).sle (BitVec.ofNat 32 b) = decide (a ≤ b) := by
    rw [BitVec.sle_eq_decide, e a ha, e b hb]; simp
  unfold IntOp.cmpi
  simp only [this]
  by_cases h : a ≤ b <;> simp [h]

theorem select_mask {α : Type} (c : BitVec 1) (p : Prop) [Decidable p] (h : c = if p then 1#1 else 0#1) (a b : α) :
    Scalar.select c a b = if p then a else b := by
  subst h; by_cases hp : p <;> simp [Scalar.select, hp]

/-- Column of lane `d` of head `h`, heads 256 lanes wide. -/
def c256 (h : Fin 8) (d : Fin 256) : Fin 2048 := ⟨h.val * 256 + d.val, by omega⟩

/-- Column of lane `d` of head `h`, heads 128 lanes wide. -/
def c128 (h : Fin 8) (d : Fin 128) : Fin 2048 := ⟨h.val * 128 + d.val, by omega⟩

/-- Column of lane `d` of head `h` in the second half, heads 128 lanes wide. -/
def c128' (h : Fin 8) (d : Fin 128) : Fin 2048 := ⟨1024 + (h.val * 128 + d.val), by omega⟩

end Cert.Proof.Attn

end
-- ==== Proof.MathAttn.lean ====
/-
  The real-number mathematics of one head of causal attention and of its gradient, for one query row: scores `s n`, a
  set `M n` of visible keys, the row's shift `m`, and a positive constant `ε` added to the sum of the exponentials.
-/
module

public import Idealize.ShloMosaic.PureOps.Ideal.Laws
public import Mathlib.Analysis.SpecialFunctions.Pow.Real
public import Mathlib.Algebra.BigOperators.Field
public import Mathlib.Tactic.FieldSimp
public import Mathlib.Tactic.Ring
public import Mathlib.Tactic.Linarith

@[expose] public section

noncomputable section

namespace Cert.Proof.Attn

variable {N C : Type*} [Fintype N] [Fintype C]

/-- The weight of key `n`: the exponential of the shifted score where the key is visible. -/
def wt (M : N → Prop) [DecidablePred M] (s : N → ℝ) (m : ℝ) (n : N) : ℝ := if M n then Real.exp (s n - m) else 0

/-- The sum of the weights plus `ε`. -/
def den (M : N → Prop) [DecidablePred M] (s : N → ℝ) (m ε : ℝ) : ℝ := ∑ n, wt M s m n + ε

/-- The attention probability of key `n`. -/
def prob (M : N → Prop) [DecidablePred M] (s : N → ℝ) (m ε : ℝ) (n : N) : ℝ := wt M s m n / den M s m ε

/-- The gradient of the scores: the probability times the gradient of the probability less its mean over the row. -/
def dsc (M : N → Prop) [DecidablePred M] (s : N → ℝ) (m ε : ℝ) (dp : N → ℝ) (n : N) : ℝ :=
  prob M s m ε n * (dp n - ∑ n', prob M s m ε n' * dp n')

variable (M : N → Prop) [DecidablePred M] (s : N → ℝ) (m ε : ℝ)

theorem wt_nonneg (n : N) : 0 ≤ wt M s m n := by
  unfold wt; split_ifs
  · exact (Real.exp_pos _).le
  · exact le_rfl

theorem den_pos (hε : 0 < ε) : 0 < den M s m ε :=
  add_pos_of_nonneg_of_pos (Finset.sum_nonneg fun n _ => wt_nonneg M s m n) hε

theorem wt_le_den (hε : 0 < ε) (n : N) : wt M s m n ≤ den M s m ε :=
  (Finset.single_le_sum (f := wt M s m) (fun n _ => wt_nonneg M s m n) (Finset.mem_univ n)).trans
    (le_add_of_nonneg_right hε.le)

/-- The probability from the base-two exponential of the scaled raw score less the row's base-two log-sum, clipped at
    zero: the clip never acts, because no weight exceeds the sum. -/
theorem exp2_prob (hε : 0 < ε) (n : N) (hn : M n) (raw c : ℝ) (hc : s n = raw / c) :
    Real.rpow 2 (min (raw * (c * Real.log 2)⁻¹ - (m + Real.log (den M s m ε)) / Real.log 2) 0) = prob M s m ε n := by
  have hl : 0 < Real.log 2 := Real.log_pos one_lt_two
  have hd := den_pos M s m ε hε
  have hw : wt M s m n = Real.exp (s n - m) := by unfold wt; rw [if_pos hn]
  have hle : Real.exp (s n - m) ≤ den M s m ε := hw ▸ wt_le_den M s m ε hε n
  have hx : raw * (c * Real.log 2)⁻¹ - (m + Real.log (den M s m ε)) / Real.log 2
      = (s n - m - Real.log (den M s m ε)) / Real.log 2 := by
    rw [hc, mul_inv]
    simp only [div_eq_mul_inv]; ring
  have h0 : s n - m - Real.log (den M s m ε) ≤ 0 := by
    have := Real.log_le_log (Real.exp_pos _) hle
    rw [Real.log_exp] at this; linarith
  rw [hx, min_eq_left (div_nonpos_of_nonpos_of_nonneg h0 hl.le)]
  show (2 : ℝ) ^ (_ : ℝ) = _
  rw [Real.rpow_def_of_pos two_pos, mul_div_cancel₀ _ hl.ne', Real.exp_sub, Real.exp_log hd]
  unfold prob; rw [hw]

/-- The mean of the probabilities' gradient over the row, from the row's output and the output's gradient. -/
theorem mean_eq (g : C → ℝ) (v : N → C → ℝ) :
    ∑ c, (∑ n, v n c * prob M s m ε n) * g c = ∑ n, prob M s m ε n * ∑ c, g c * v n c := by
  simp only [Finset.sum_mul, Finset.mul_sum]
  rw [Finset.sum_comm]
  refine Finset.sum_congr rfl fun n _ => Finset.sum_congr rfl fun c _ => by ring

/-- The gradient of the scores as differentiation writes it: through the quotient, the mask, the exponential and the
    mask again. -/
theorem dsc_eq (hε : 0 < ε) (dp : N → ℝ) (n : N) (x : ℝ) (hx : M n → x = s n - m) :
    (if M n then (if M n then dp n / den M s m ε + -(∑ n', dp n' * (1 / (den M s m ε * den M s m ε)) * wt M s m n')
      else 0) * Real.exp x else 0) = dsc M s m ε dp n := by
  have hd := (den_pos M s m ε hε).ne'
  unfold dsc
  by_cases h : M n
  · rw [if_pos h, if_pos h, hx h]
    have e1 : ∑ n', dp n' * (1 / (den M s m ε * den M s m ε)) * wt M s m n'
        = (∑ n', prob M s m ε n' * dp n') / den M s m ε := by
      rw [Finset.sum_div]
      refine Finset.sum_congr rfl fun n' _ => ?_
      unfold prob; field_simp
    rw [e1]
    have hw : Real.exp (s n - m) = wt M s m n := by unfold wt; rw [if_pos h]
    rw [hw]
    unfold prob
    field_simp
    ring
  · rw [if_neg h]
    have : prob M s m ε n = 0 := by unfold prob wt; rw [if_neg h, zero_div]
    rw [this, zero_mul]

/-- A key out of sight has probability zero. -/
theorem prob_zero (n : N) (h : ¬ M n) : prob M s m ε n = 0 := by unfold prob wt; rw [if_neg h, zero_div]

theorem dsc_zero (dp : N → ℝ) (n : N) (h : ¬ M n) : dsc M s m ε dp n = 0 := by
  unfold dsc; rw [prob_zero M s m ε n h, zero_mul]

end Cert.Proof.Attn

end
-- ==== Proof.AttnReal.lean ====
/-
  The real quantities of the attention with eight heads: keys from their two parts, scores, probabilities, the row's
  mean `D`, and the gradient of the scores.
-/
module

public import proofs.«01_k».proof.Proof.AttnBase
public import proofs.«01_k».proof.Proof.MathAttn

@[expose] public section

noncomputable section

namespace Cert.Proof.Attn

/-- Real arguments: queries, keys with values behind them, the shared key part, the output's gradient. -/
structure Args where
  q : Fin 4096 → Fin 2048 → ℝ
  kv : Fin 4096 → Fin 2048 → ℝ
  kp : Fin 4096 → Fin 128 → ℝ
  g : Fin 4096 → Fin 2048 → ℝ
  /-- the row's shift -/
  m : Fin 8 → Fin 4096 → ℝ

namespace Args
variable (A : Args) (h : Fin 8) (t n : Fin 4096)

/-- Lane `d` of key `n`: the head's own part, then the part all heads share. -/
def key (d : Fin 256) : ℝ :=
  if hd : d.val < 128 then A.kv n (c128 h ⟨d.val, hd⟩) else A.kp n ⟨d.val - 128, by omega⟩

def raw : ℝ := ∑ d : Fin 256, A.q t (c256 h d) * A.key h n d

def sc : ℝ := A.raw h t n / Real.sqrt 192

/-- Key `n` is visible from row `t`. -/
abbrev vis (t : Fin 4096) : Fin 4096 → Prop := fun n => n.val ≤ t.val

def p : ℝ := prob (vis t) (A.sc h t) (A.m h t) eps n

def l : ℝ := den (vis t) (A.sc h t) (A.m h t) eps

def dp : ℝ := ∑ c : Fin 128, A.g t (c128 h c) * A.kv n (c128' h c)

def o (c : Fin 128) : ℝ := ∑ n, A.kv n (c128' h c) * A.p h t n

def D : ℝ := ∑ c : Fin 128, A.o h t c * A.g t (c128 h c)

def ds : ℝ := A.p h t n * (A.dp h t n - A.D h t)

def dq (d : Fin 256) : ℝ := (∑ n, A.ds h t n * A.key h n d) / Real.sqrt 192

theorem sqrt192_pos : 0 < Real.sqrt 192 := Real.sqrt_pos.mpr (by norm_num)

theorem l_pos : 0 < A.l h t := den_pos _ _ _ _ eps_pos

theorem D_eq : A.D h t = ∑ n, A.p h t n * A.dp h t n :=
  mean_eq (vis t) (A.sc h t) (A.m h t) eps (fun c => A.g t (c128 h c)) fun n c => A.kv n (c128' h c)

theorem ds_eq : A.ds h t n = dsc (vis t) (A.sc h t) (A.m h t) eps (A.dp h t) n := by
  unfold ds dsc; rw [D_eq]; rfl

theorem ds_zero (hn : ¬ vis t n) : A.ds h t n = 0 := by
  rw [ds_eq]; exact dsc_zero _ _ _ _ _ _ hn

/-- The probability as the base-two exponential of the raw score, scaled, less the base-two log-sum, clipped at 0. -/
theorem p_exp2 (hn : vis t n) :
    Real.rpow 2 (min (A.raw h t n * (Real.sqrt 192 * Real.log 2)⁻¹ - (A.m h t + Real.log (A.l h t)) / Real.log 2) 0)
      = A.p h t n :=
  exp2_prob (vis t) (A.sc h t) (A.m h t) eps eps_pos n hn (A.raw h t n) (Real.sqrt 192) rfl

/-- The differentiated reference's form of the gradient of the scores. -/
theorem ds_ref (x : ℝ) (hx : vis t n → x = A.sc h t n - A.m h t) :
    (if vis t n then (if vis t n then A.dp h t n / A.l h t
        + -(∑ n', A.dp h t n' * (1 / (A.l h t * A.l h t)) * wt (vis t) (A.sc h t) (A.m h t) n') else 0) * Real.exp x else 0)
      = A.ds h t n := by
  rw [ds_eq]; exact dsc_eq (vis t) (A.sc h t) (A.m h t) eps eps_pos (A.dp h t) n x hx

end Args

end Cert.Proof.Attn

end
-- ==== Proof.KerAttn.lean ====
/-
  One step of the kernel at real operands: the products of a block of queries with a block of keys, and what the step
  adds to the queries' gradient.
-/
module

public import proofs.«01_k».proof.Proof.AttnReal
public import proofs.«01_k».proof.Proof.Gen.KernelIdeal.Skeleton
public import Idealize.ShloMosaic.Lib.MatmulPlain
public import Idealize.ShloMosaic.Lib.ValueLayout
public import Idealize.ShloMosaic.Lib.ValueLayoutCasts
public import Idealize.ShloMosaic.Lib.ValueIdx

@[expose] public section

noncomputable section

namespace Cert.Proof.KerAttn

open Idealize.ShloMosaic Idealize.ShloMosaic.ValueIdx Cert.KernelIdeal Cert.KernelIdeal.Gen Cert.Proof.Attn

/-- The base-two scale of the scores. -/
theorem scale2_real : (Named.named (F := Ideal) κ "scale2" 0x3DD53B95#32 : Ideal .f32)
    = (((Real.sqrt 192 * Real.log 2)⁻¹ : ℝ) : EReal) := IdealRules.named_const.ideal_named_scalar _ _ _ _ rfl

/-- The scale of the scores. -/
theorem scale_real : (Named.named (F := Ideal) κ "scale" 0x3D93CD3A#32 : Ideal .f32)
    = (((Real.sqrt 192)⁻¹ : ℝ) : EReal) := IdealRules.named_const.ideal_named_scalar _ _ _ _ rfl

/-- The keys of a block: own lanes, then shared lanes. -/
abbrev keys (k1 k2 : Vec Ideal S512x128 .bf16) : FVec Ideal S512x256 .bf16 := k0_pay4 k1 k2

theorem keys_left (k1 k2 : Vec Ideal S512x128 .bf16) (n : Fin 512) (d : Fin 256) (hd : d.val < 128) :
    keys k1 k2 (ix2 n d) = k1 (ix2 n ⟨d.val, hd⟩) := by
  unfold keys k0_pay4
  exact concatenate_pair_apply_left (1 : Fin 2) k1 k2 concatenates_S512x128_S512x128_S512x256_d1 (ix2 n d) rfl (ix2 n (⟨d.val, hd⟩ : Fin 128))
    (fun a => by match a with | ⟨0, _⟩ => rfl | ⟨1, _⟩ => rfl)

theorem keys_right (k1 k2 : Vec Ideal S512x128 .bf16) (n : Fin 512) (d : Fin 256) (hd : ¬ d.val < 128) :
    keys k1 k2 (ix2 n d) = k2 (ix2 n ⟨d.val - 128, by omega⟩) := by
  unfold keys k0_pay4
  exact concatenate_pair_apply_right (1 : Fin 2) k1 k2 concatenates_S512x128_S512x128_S512x256_d1 (ix2 n d) rfl rfl (ix2 n (⟨d.val - 128, by omega⟩ : Fin 128))
    (fun a ha => by match a with | ⟨0, _⟩ => rfl | ⟨1, _⟩ => exact absurd rfl ha)
    (by show d.val - 128 + 128 = d.val; omega)

/-- A block of keys and values holds the reals of `A` at the keys `ν`. -/
structure KeyBlk (A : Args) (h : Fin 8) (ν : Fin 512 → Fin 4096) (k1 k2 v : Vec Ideal S512x128 .bf16) : Prop where
  k1 : ∀ n d, (k1 (ix2 n d) : EReal) = ((A.kv (ν n) (c128 h d) : ℝ) : EReal)
  k2 : ∀ n d, (k2 (ix2 n d) : EReal) = ((A.kp (ν n) d : ℝ) : EReal)
  v : ∀ n d, (v (ix2 n d) : EReal) = ((A.kv (ν n) (c128' h d) : ℝ) : EReal)

/-- A block of queries, output gradients, means and log-sums holds the reals of `A` at the rows `ρ`. -/
structure RowBlk (A : Args) (h : Fin 8) (ρ : Fin 512 → Fin 4096) (q : Vec Ideal S512x256 .bf16) (g : FVec Ideal S512x128 .bf16)
    (D : FVec Ideal S512x1 .f32) (lse : FVec Ideal S512x1 .f32) : Prop where
  q : ∀ r d, (q (ix2 r d) : EReal) = ((A.q (ρ r) (c256 h d) : ℝ) : EReal)
  g : ∀ r d, (g (ix2 r d) : EReal) = ((A.g (ρ r) (c128 h d) : ℝ) : EReal)
  D : ∀ r, (D (ix2 r (0 : Fin 1)) : EReal) = ((A.D h (ρ r) : ℝ) : EReal)
  lse : ∀ r, (lse (ix2 r (0 : Fin 1)) : EReal) = (((A.m h (ρ r) + Real.log (A.l h (ρ r))) / Real.log 2 : ℝ) : EReal)

/-- A block of products holds the reals `f`. -/
def Holds2 (s : Vec Ideal S1x512x512 .f32) (f : Fin 512 → Fin 512 → ℝ) : Prop :=
  ∀ r n, (s (ix3 (0 : Fin 1) r n) : EReal) = ((f r n : ℝ) : EReal)

variable {A : Args} {h : Fin 8} {ρ ν : Fin 512 → Fin 4096} {q : Vec Ideal S512x256 .bf16} {g : FVec Ideal S512x128 .bf16}
  {D lse : FVec Ideal S512x1 .f32} {k1 k2 v : Vec Ideal S512x128 .bf16}

theorem KeyBlk.key (K : KeyBlk A h ν k1 k2 v) (n : Fin 512) (d : Fin 256) :
    (keys k1 k2 (ix2 n d) : EReal) = ((A.key h (ν n) d : ℝ) : EReal) := by
  unfold Args.key
  by_cases hd : d.val < 128
  · rw [dif_pos hd, keys_left k1 k2 n d hd]; exact K.k1 n _
  · rw [dif_neg hd, keys_right k1 k2 n d hd]; exact K.k2 n _

/-- The products of queries and keys. -/
theorem s_holds (R : RowBlk A h ρ q g D lse) (K : KeyBlk A h ν k1 k2 v) :
    Holds2 (k0_pay73 q k1 k2) fun r n => A.raw h (ρ r) (ν n) := fun r n => by
  have e : k0_pay73 q k1 k2 (ix3 (0 : Fin 1) r n)
      = matmul (F := Ideal) (φ₁ := .bf16) (φ₂ := .bf16) (DotDims.transposedRhs 512 256 512) none q (keys k1 k2) (constant S512x512 .f32 0x00000000#32) (ix2 r n) := by
    unfold k0_pay73
    exact shapeCast_ab_1ab_apply _ _ (0 : Fin 1) r n
  rw [e, matmul, Ideal.matmul_transposedRhs_apply]
  show Ideal.ofBits .f32 0x00000000#32 + _ = _
  rw [sum_mul_coe (fun d => R.q r d) (fun d => K.key n d), lit_0, ← EReal.coe_add, zero_add]; rfl

/-- The products of output gradients and values. -/
theorem p_holds (R : RowBlk A h ρ q g D lse) (K : KeyBlk A h ν k1 k2 v) :
    Holds2 (k0_pay74 g v) fun r n => A.dp h (ρ r) (ν n) := fun r n => by
  have e : k0_pay74 g v (ix3 (0 : Fin 1) r n)
      = matmul (F := Ideal) (φ₁ := .bf16) (φ₂ := .bf16) (DotDims.transposedRhs 512 128 512) none g v (constant S512x512 .f32 0x00000000#32) (ix2 r n) := by
    unfold k0_pay74
    exact shapeCast_ab_1ab_apply _ _ (0 : Fin 1) r n
  rw [e, matmul, Ideal.matmul_transposedRhs_apply]
  show Ideal.ofBits .f32 0x00000000#32 + _ = _
  rw [sum_mul_coe (fun d => R.g r d) (fun d => K.v n d), lit_0, ← EReal.coe_add, zero_add]; rfl

/-- A column spread over the lanes. -/
theorem spread (x : FVec Ideal S512x1 .f32) (hb : S512x1.Broadcasts S512x512) (r n : Fin 512) :
    broadcastTo S512x512 x hb (ix2 r n) = x (ix2 r (0 : Fin 1)) :=
  broadcastTo_apply x hb (ix2 r n) (ix2 r (0 : Fin 1)) (fun a => by match a with | ⟨0, _⟩ => rfl | ⟨1, _⟩ => rfl)

/-- The probability from a raw score. -/
theorem prob_step {s lse₀ : EReal} (t n : Fin 4096) (hs : s = ((A.raw h t n : ℝ) : EReal))
    (hl : lse₀ = (((A.m h t + Real.log (A.l h t)) / Real.log 2 : ℝ) : EReal)) (hv : n.val ≤ t.val) :
    Ideal.exp2 (min (s * (((Real.sqrt 192 * Real.log 2)⁻¹ : ℝ) : EReal) - lse₀) (Ideal.ofBits .f32 0x00000000#32))
      = ((A.p h t n : ℝ) : EReal) := by
  rw [hs, hl, lit_0, ← EReal.coe_mul, ← EReal.coe_sub, ← EReal.coe_strictMono.monotone.map_min, Ideal.exp2_coe, A.p_exp2 h t n hv]

/-- The gradient of the scores a step multiplies by the keys: all keys visible. -/
def dsU (D lse : FVec Ideal S512x1 .f32) (s p : Vec Ideal S1x512x512 .f32) : FVec Ideal S512x512 .bf16 := k0_pay125 D lse s p

theorem dsU_at (R : RowBlk A h ρ q g D lse) {s p : Vec Ideal S1x512x512 .f32}
    (hs : Holds2 s fun r n => A.raw h (ρ r) (ν n)) (hp : Holds2 p fun r n => A.dp h (ρ r) (ν n)) (r n : Fin 512)
    (hv : (ν n).val ≤ (ρ r).val) : (dsU D lse s p (ix2 r n) : EReal) = ((A.ds h (ρ r) (ν n) : ℝ) : EReal) := by
  have e : (dsU D lse s p (ix2 r n) : EReal)
      = Ideal.exp2 (min ((s (ix3 (0 : Fin 1) r n) : EReal) * (Named.named (F := Ideal) κ "scale2" 0x3DD53B95#32 : Ideal .f32)
          - lse (ix2 r (0 : Fin 1))) (Ideal.ofBits .f32 0x00000000#32))
        * ((p (ix3 (0 : Fin 1) r n) : EReal) - D (ix2 r (0 : Fin 1))) := by
    show Ideal.exp2 (min ((shapeCast S512x512 s shapeCasts_S1x512x512_S512x512 (ix2 r n) : EReal) * (Named.named (F := Ideal) κ "scale2" 0x3DD53B95#32 : Ideal .f32)
          - broadcastTo S512x512 lse broadcasts_S512x1_S512x512 (ix2 r n)) (Ideal.ofBits .f32 0x00000000#32))
        * ((shapeCast S512x512 p shapeCasts_S1x512x512_S512x512 (ix2 r n) : EReal) - broadcastTo S512x512 D broadcasts_S512x1_S512x512 (ix2 r n)) = _
    rw [spread, spread, shapeCast_1ab_ab_apply, shapeCast_1ab_ab_apply]
  rw [e, scale2_real, prob_step (ρ r) (ν n) (hs r n) (R.lse r) hv, hp r n, R.D r, ← EReal.coe_sub, ← EReal.coe_mul]; rfl

/-- What a step adds. -/
theorem add_step {ds : FVec Ideal S512x512 .bf16} (K : KeyBlk A h ν k1 k2 v)
    (hds : ∀ r n, (ds (ix2 r n) : EReal) = ((A.ds h (ρ r) (ν n) : ℝ) : EReal)) (acc : FVec Ideal S512x256 .f32)
    (a : Fin 512 → Fin 256 → ℝ) (ha : ∀ r d, (acc (ix2 r d) : EReal) = ((a r d : ℝ) : EReal)) (r : Fin 512) (d : Fin 256) :
    (addf acc (matmul dot_S512x512_S512x256_S512x256_1_0_0_1_n_n none ds (keys k1 k2) (constant S512x256 .f32 0x00000000#32)) (ix2 r d) : EReal)
      = ((a r d + ∑ n, A.ds h (ρ r) (ν n) * A.key h (ν n) d : ℝ) : EReal) := by
  have e : matmul dot_S512x512_S512x256_S512x256_1_0_0_1_n_n none ds (keys k1 k2) (constant S512x256 .f32 0x00000000#32) (ix2 r d)
      = matmul (F := Ideal) (φ₁ := .bf16) (φ₂ := .bf16) (DotDims.plain 512 512 256) none ds (keys k1 k2) (constant S512x256 .f32 0x00000000#32) (ix2 r d) := rfl
  rw [addf_apply, e, matmul, Ideal.matmul_plain_apply]
  show (acc (ix2 r d) : EReal) + (Ideal.ofBits .f32 0x00000000#32 + _) = _
  rw [sum_mul_coe (fun n => hds r n) (fun n => K.key n d), ha, lit_0, ← EReal.coe_add, ← EReal.coe_add, zero_add]

/-- A step over a block of visible keys. -/
theorem step_holds (R : RowBlk A h ρ q g D lse) (K : KeyBlk A h ν k1 k2 v) {s p : Vec Ideal S1x512x512 .f32}
    (hs : Holds2 s fun r n => A.raw h (ρ r) (ν n)) (hp : Holds2 p fun r n => A.dp h (ρ r) (ν n))
    (hv : ∀ r n, (ν n).val ≤ (ρ r).val) (acc : FVec Ideal S512x256 .f32)
    (a : Fin 512 → Fin 256 → ℝ) (ha : ∀ r d, (acc (ix2 r d) : EReal) = ((a r d : ℝ) : EReal)) (r : Fin 512) (d : Fin 256) :
    (k0_pay89 D lse acc k1 k2 s p (ix2 r d) : EReal)
      = ((a r d + ∑ n, A.ds h (ρ r) (ν n) * A.key h (ν n) d : ℝ) : EReal) :=
  add_step K (fun r n => dsU_at R hs hp r n (hv r n)) acc a ha r d

/-- The gradient of the scores under the mask. -/
theorem dsM_at (R : RowBlk A h ρ q g D lse) {s p : Vec Ideal S1x512x512 .f32}
    (hs : Holds2 s fun r n => A.raw h (ρ r) (ν n)) (hp : Holds2 p fun r n => A.dp h (ρ r) (ν n)) (row : IVec S512x1 32)
    (hrow : ∀ r, row (ix2 r (0 : Fin 1)) = BitVec.ofNat 32 (ρ r).val) (w : BitVec 32)
    (hw : ∀ n : Fin 512, IntOp.addi (IntOp.muli w 512#32) (BitVec.ofNat 32 n.val) = BitVec.ofNat 32 (ν n).val) (r n : Fin 512) :
    (k0_pay87 row D lse w s p (ix2 r n) : EReal) = ((A.ds h (ρ r) (ν n) : ℝ) : EReal) := by
  have eb : ∀ x : IVec S1x512 32, broadcastTo S512x512 x broadcasts_S1x512_S512x512 (ix2 r n) = x (ix2 (0 : Fin 1) n) := fun x =>
    broadcastTo_apply x broadcasts_S1x512_S512x512 (ix2 r n) (ix2 (0 : Fin 1) n) (fun a => by match a with | ⟨0, _⟩ => rfl | ⟨1, _⟩ => rfl)
  have er : ∀ x : IVec S512x1 32, broadcastTo S512x512 x broadcasts_S512x1_S512x512 (ix2 r n) = x (ix2 r (0 : Fin 1)) := fun x =>
    broadcastTo_apply x broadcasts_S512x1_S512x512 (ix2 r n) (ix2 r (0 : Fin 1)) (fun a => by match a with | ⟨0, _⟩ => rfl | ⟨1, _⟩ => rfl)
  have e : (k0_pay87 row D lse w s p (ix2 r n) : EReal)
      = (Scalar.select (IntOp.cmpi .sle (BitVec.ofNat 32 (ν n).val) (BitVec.ofNat 32 (ρ r).val))
          (Ideal.exp2 (min ((s (ix3 (0 : Fin 1) r n) : EReal) * (Named.named (F := Ideal) κ "scale2" 0x3DD53B95#32 : Ideal .f32)
            - lse (ix2 r (0 : Fin 1))) (Ideal.ofBits .f32 0x00000000#32))) (Ideal.ofBits .f32 0x00000000#32) : EReal)
        * ((p (ix3 (0 : Fin 1) r n) : EReal) - D (ix2 r (0 : Fin 1))) := by
    show (Scalar.select (IntOp.cmpi .sle (broadcastTo S512x512 (addi (broadcast S1x512 (Scalar.muli w 512#32)) (iota .tc S1x512 32 [1] iota_S1x512_d1_w32)) broadcasts_S1x512_S512x512 (ix2 r n))
          (broadcastTo S512x512 row broadcasts_S512x1_S512x512 (ix2 r n)))
        (Ideal.exp2 (min ((shapeCast S512x512 s shapeCasts_S1x512x512_S512x512 (ix2 r n) : EReal) * (Named.named (F := Ideal) κ "scale2" 0x3DD53B95#32 : Ideal .f32)
          - broadcastTo S512x512 lse broadcasts_S512x1_S512x512 (ix2 r n)) (Ideal.ofBits .f32 0x00000000#32))) (Ideal.ofBits .f32 0x00000000#32) : EReal)
        * ((shapeCast S512x512 p shapeCasts_S1x512x512_S512x512 (ix2 r n) : EReal) - broadcastTo S512x512 D broadcasts_S512x1_S512x512 (ix2 r n)) = _
    rw [spread, spread, shapeCast_1ab_ab_apply, shapeCast_1ab_ab_apply, eb, er, hrow r, ← hw n]
    have ei : addi (broadcast S1x512 (Scalar.muli w 512#32)) (iota .tc S1x512 32 [1] iota_S1x512_d1_w32) (ix2 (0 : Fin 1) n)
        = IntOp.addi (IntOp.muli w 512#32) (BitVec.ofNat 32 n.val) := by
      show IntOp.addi (IntOp.muli w 512#32) (iota .tc S1x512 32 [1] iota_S1x512_d1_w32 (ix2 (0 : Fin 1) n)) = _
      rw [iota_single_apply]
    rw [ei]
  have hlt : ∀ x : Fin 4096, x.val < 2 ^ 31 := fun x => by omega
  rw [e, select_mask _ _ (sle_ofNat (ν n).val (ρ r).val (hlt _) (hlt _)), scale2_real, hp r n, R.D r, ← EReal.coe_sub]
  by_cases hv : (ν n).val ≤ (ρ r).val
  · rw [if_pos hv, prob_step (ρ r) (ν n) (hs r n) (R.lse r) hv, ← EReal.coe_mul]; rfl
  · rw [if_neg hv, lit_0, ← EReal.coe_mul, zero_mul, A.ds_zero h (ρ r) (ν n) hv]

/-- The last step of a block of queries, over the block of keys on the diagonal, and the scale. -/
theorem last_holds (R : RowBlk A h ρ q g D lse) (K : KeyBlk A h ν k1 k2 v) {s p : Vec Ideal S1x512x512 .f32}
    (hs : Holds2 s fun r n => A.raw h (ρ r) (ν n)) (hp : Holds2 p fun r n => A.dp h (ρ r) (ν n)) (row : IVec S512x1 32)
    (hrow : ∀ r, row (ix2 r (0 : Fin 1)) = BitVec.ofNat 32 (ρ r).val) (w : BitVec 32)
    (hw : ∀ n : Fin 512, IntOp.addi (IntOp.muli w 512#32) (BitVec.ofNat 32 n.val) = BitVec.ofNat 32 (ν n).val)
    (acc : FVec Ideal S512x256 .f32)
    (a : Fin 512 → Fin 256 → ℝ) (ha : ∀ r d, (acc (ix2 r d) : EReal) = ((a r d : ℝ) : EReal)) (r : Fin 512) (d : Fin 256) :
    (k0_pay88 acc (keys k1 k2) (k0_pay87 row D lse w s p) (constant S512x256 .f32 0x00000000#32) (ix2 r d) : EReal)
      = (((a r d + ∑ n, A.ds h (ρ r) (ν n) * A.key h (ν n) d) / Real.sqrt 192 : ℝ) : EReal) := by
  have e := add_step K (fun r n => dsM_at R hs hp row hrow w hw r n) acc a ha r d
  have e' : (k0_pay88 acc (keys k1 k2) (k0_pay87 row D lse w s p) (constant S512x256 .f32 0x00000000#32) (ix2 r d) : EReal)
    = (addf acc (matmul dot_S512x512_S512x256_S512x256_1_0_0_1_n_n none (k0_pay87 row D lse w s p) (keys k1 k2) (constant S512x256 .f32 0x00000000#32)) (ix2 r d) : EReal)
      * (Named.named (F := Ideal) κ "scale" 0x3D93CD3A#32 : Ideal .f32) := rfl
  rw [e', e, scale_real, ← EReal.coe_mul, div_eq_mul_inv]

/-! The other blocks' steps are the same functions. -/

theorem pay104_eq (row : IVec S512x1 32) (D lse : FVec Ideal S512x1 .f32) (w : BitVec 32) (acc : FVec Ideal S512x256 .f32)
    (k1 k2 : Vec Ideal S512x128 .bf16) (s p : Vec Ideal S1x512x512 .f32) :
    k0_pay104 row D lse w acc k1 k2 s p
      = k0_pay88 acc (keys k1 k2) (k0_pay87 row D lse w s p) (constant S512x256 .f32 0x00000000#32) := rfl

theorem pay119_eq (row : IVec S512x1 32) (D lse : FVec Ideal S512x1 .f32) (w : BitVec 32) (acc : FVec Ideal S512x256 .f32)
    (k1 k2 : Vec Ideal S512x128 .bf16) (s p : Vec Ideal S1x512x512 .f32) :
    k0_pay119 row D lse acc (k0_pay116 k1 k2) (k0_pay117 w) (k0_pay118 s) p
      = k0_pay88 acc (keys k1 k2) (k0_pay87 row D lse w s p) (constant S512x256 .f32 0x00000000#32) := rfl

theorem pay126_eq (row : IVec S512x1 32) (D lse : FVec Ideal S512x1 .f32) (w : BitVec 32) (acc : FVec Ideal S512x256 .f32)
    (k1 k2 k1' k2' : Vec Ideal S512x128 .bf16) (s p s' p' : Vec Ideal S1x512x512 .f32) :
    k0_pay1 (k0_pay126 row D lse w acc (k0_pay124 k1' k2') (k0_pay125 D lse s' p') (constant S512x256 .f32 0x00000000#32) k1 k2 s p)
        (Named.named (F := Ideal) κ "scale" 0x3D93CD3A#32)
      = k0_pay88 (k0_pay89 D lse acc k1' k2' s' p') (keys k1 k2) (k0_pay87 row D lse w s p) (constant S512x256 .f32 0x00000000#32) := rfl

end Cert.Proof.KerAttn

end
-- ==== Proof.Blocks.lean ====
/-
  Blocks of 512 keys of the whole arrays: what a load of one block of a whole memref reads, and the offsets the kernel
  computes for the blocks of a pair.
-/
module

public import proofs.«01_k».proof.Proof.KerAttn
public import Idealize.ShloMosaic.Lib.WholeRead
public import Idealize.ShloMosaic.Lib.VecWindow
public import Idealize.ShloMosaic.Lib.Scf

@[expose] public section

noncomputable section

namespace Cert.Proof.KerAttn

open Idealize.ShloMosaic Idealize.ShloMosaic.ValueIdx Cert.KernelIdeal Cert.KernelIdeal.Gen Cert.Proof.Attn

/-- Key `n` of block `j`. -/
def nb (j : ℕ) (n : Fin 512) : Fin 4096 := ⟨(512 * j + n.val) % 4096, Nat.mod_lt _ (by norm_num)⟩

theorem nb_val (j : ℕ) (hj : j < 8) (n : Fin 512) : (nb j n).val = 512 * j + n.val := by
  unfold nb; exact Nat.mod_eq_of_lt (by omega)

/-- What block `j` adds to lane `d` of the queries' gradient at row `t`, before the scale. -/
def part (A : Args) (h : Fin 8) (t : Fin 4096) (j : ℕ) (d : Fin 256) : ℝ :=
  ∑ n : Fin 512, A.ds h t (nb j n) * A.key h (nb j n) d

/-- The block starting at row `512 j` of a whole array, as a load reads it. -/
theorem read_blk {κ : Kind} {sp : Space} {e : EltTy} (m : Memref sig κ sp S4096x128 e) (hm : m.IsWhole)
    (X : S4096x128.Idx → Elt Ideal e) (j : ℕ) (hj : j < 8) {off : Fin 2 → ℕ} (ho : off = ![512 * j, 0])
    (hb : ∀ a, off a + (![512, 128] : Fin 2 → ℕ) a ≤ S4096x128.size a) (n : Fin 512) (d : Fin 128) :
    (View.readAt (Elt Ideal) m.view (Rect.unit (s := S4096x128) off ![512, 128] hb).toLoadRect (hm.unread X) (ix2 n d) : Elt Ideal e)
      = X (ix2 (nb j n) d) := by
  subst ho
  rw [hm.readAt_unread]
  refine congrArg X (funext fun a => Fin.ext ?_)
  match a with
  | ⟨0, _⟩ => rw [show ((ix2 (nb j n) d : S4096x128.Idx) ⟨0, by decide⟩).val = (nb j n).val from rfl, nb_val j hj]; show 512 * j + 1 * n.val = _; omega
  | ⟨1, _⟩ => show 0 + 1 * d.val = d.val; omega

/-- The whole arrays of keys and values at head `h`. -/
structure KeyArr (A : Args) (h : Fin 8) (x3 x4 x5 : Vec Ideal S4096x128 .bf16) : Prop where
  k1 : ∀ n d, (x3 (ix2 n d) : EReal) = ((A.kv n (c128 h d) : ℝ) : EReal)
  k2 : ∀ n d, (x4 (ix2 n d) : EReal) = ((A.kp n d : ℝ) : EReal)
  v : ∀ n d, (x5 (ix2 n d) : EReal) = ((A.kv n (c128' h d) : ℝ) : EReal)

section
variable {A : Args} {h : Fin 8} {x3 x4 x5 : Vec Ideal S4096x128 .bf16} {κ : Kind} {sp : Space}
  {m3 m4 m5 : Memref sig κ sp S4096x128 .bf16} {h3 : m3.IsWhole} {h4 : m4.IsWhole} {h5 : m5.IsWhole}

theorem key_blk (H : KeyArr A h x3 x4 x5) (j : ℕ) (hj : j < 8) {o3 o4 o5 : Fin 2 → ℕ}
    (e3 : o3 = ![512 * j, 0]) (e4 : o4 = ![512 * j, 0]) (e5 : o5 = ![512 * j, 0])
    (b3 : ∀ a, o3 a + (![512, 128] : Fin 2 → ℕ) a ≤ S4096x128.size a) (b4 : ∀ a, o4 a + (![512, 128] : Fin 2 → ℕ) a ≤ S4096x128.size a)
    (b5 : ∀ a, o5 a + (![512, 128] : Fin 2 → ℕ) a ≤ S4096x128.size a) :
    KeyBlk A h (nb j) (View.readAt (Elt Ideal) m3.view (Rect.unit (s := S4096x128) o3 ![512, 128] b3).toLoadRect (h3.unread x3))
      (View.readAt (Elt Ideal) m4.view (Rect.unit (s := S4096x128) o4 ![512, 128] b4).toLoadRect (h4.unread x4))
      (View.readAt (Elt Ideal) m5.view (Rect.unit (s := S4096x128) o5 ![512, 128] b5).toLoadRect (h5.unread x5)) where
  k1 n d := (read_blk m3 h3 x3 j hj e3 b3 n d).trans (H.k1 _ d)
  k2 n d := (read_blk m4 h4 x4 j hj e4 b4 n d).trans (H.k2 _ d)
  v n d := (read_blk m5 h5 x5 j hj e5 b5 n d).trans (H.v _ d)

theorem blk_inb (j : ℕ) (hj : j < 8) : ∀ a : Fin 2, (![512 * j, 0] : Fin 2 → ℕ) a + (![512, 128] : Fin 2 → ℕ) a ≤ S4096x128.size a
  | ⟨0, _⟩ => by show 512 * j + 512 ≤ 4096; omega
  | ⟨1, _⟩ => by show 0 + 128 ≤ 128; omega

/-- The products of queries and keys of block `j`, from the loads of the two key parts. -/
theorem s_blk {ρ : Fin 512 → Fin 4096} {q : Vec Ideal S512x256 .bf16} {g : FVec Ideal S512x128 .bf16} {D lse : FVec Ideal S512x1 .f32}
    (H : KeyArr A h x3 x4 x5) (R : RowBlk A h ρ q g D lse) (j : ℕ) (hj : j < 8) {o3 o4 : Fin 2 → ℕ} (e3 : o3 = ![512 * j, 0]) (e4 : o4 = ![512 * j, 0])
    (b3 : ∀ a, o3 a + (![512, 128] : Fin 2 → ℕ) a ≤ S4096x128.size a) (b4 : ∀ a, o4 a + (![512, 128] : Fin 2 → ℕ) a ≤ S4096x128.size a) :
    Holds2 (k0_pay73 q (View.readAt (Elt Ideal) m3.view (Rect.unit (s := S4096x128) o3 ![512, 128] b3).toLoadRect (h3.unread x3))
      (View.readAt (Elt Ideal) m4.view (Rect.unit (s := S4096x128) o4 ![512, 128] b4).toLoadRect (h4.unread x4)))
      fun r n => A.raw h (ρ r) (nb j n) :=
  s_holds R (key_blk (m3 := m3) (m4 := m4) (m5 := m3) (h3 := h3) (h4 := h4) (h5 := h3) H j hj e3 e4 rfl b3 b4 (blk_inb j hj))

/-- The products of output gradients and values of block `j`, from the load of the values. -/
theorem p_blk {ρ : Fin 512 → Fin 4096} {q : Vec Ideal S512x256 .bf16} {g : FVec Ideal S512x128 .bf16} {D lse : FVec Ideal S512x1 .f32}
    (H : KeyArr A h x3 x4 x5) (R : RowBlk A h ρ q g D lse) (j : ℕ) (hj : j < 8) {o5 : Fin 2 → ℕ} (e5 : o5 = ![512 * j, 0])
    (b5 : ∀ a, o5 a + (![512, 128] : Fin 2 → ℕ) a ≤ S4096x128.size a) :
    Holds2 (k0_pay74 g (View.readAt (Elt Ideal) m5.view (Rect.unit (s := S4096x128) o5 ![512, 128] b5).toLoadRect (h5.unread x5)))
      fun r n => A.dp h (ρ r) (nb j n) :=
  p_holds R (key_blk (m3 := m5) (m4 := m5) (m5 := m5) (h3 := h5) (h4 := h5) (h5 := h5) H j hj rfl rfl e5 (blk_inb j hj) (blk_inb j hj) b5)

/-- One unmasked step with block `j`. -/
theorem step_blk {ρ : Fin 512 → Fin 4096} {q : Vec Ideal S512x256 .bf16} {g : FVec Ideal S512x128 .bf16} {D lse : FVec Ideal S512x1 .f32}
    (H : KeyArr A h x3 x4 x5) (R : RowBlk A h ρ q g D lse) (j : ℕ) (hj : j < 8) {o3 o4 : Fin 2 → ℕ} (e3 : o3 = ![512 * j, 0]) (e4 : o4 = ![512 * j, 0])
    (b3 : ∀ a, o3 a + (![512, 128] : Fin 2 → ℕ) a ≤ S4096x128.size a) (b4 : ∀ a, o4 a + (![512, 128] : Fin 2 → ℕ) a ≤ S4096x128.size a)
    {s p : Vec Ideal S1x512x512 .f32}
    (hs : Holds2 s fun r n => A.raw h (ρ r) (nb j n)) (hp : Holds2 p fun r n => A.dp h (ρ r) (nb j n))
    (hv : ∀ r n, (nb j n).val ≤ (ρ r).val) (acc : FVec Ideal S512x256 .f32)
    (a : Fin 512 → Fin 256 → ℝ) (ha : ∀ r d, (acc (ix2 r d) : EReal) = ((a r d : ℝ) : EReal)) (r : Fin 512) (d : Fin 256) :
    (k0_pay89 D lse acc (View.readAt (Elt Ideal) m3.view (Rect.unit (s := S4096x128) o3 ![512, 128] b3).toLoadRect (h3.unread x3))
      (View.readAt (Elt Ideal) m4.view (Rect.unit (s := S4096x128) o4 ![512, 128] b4).toLoadRect (h4.unread x4)) s p (ix2 r d) : EReal)
      = ((a r d + part A h (ρ r) j d : ℝ) : EReal) :=
  step_holds R (key_blk (m3 := m3) (m4 := m4) (m5 := m3) (h3 := h3) (h4 := h4) (h5 := h3) H j hj e3 e4 rfl b3 b4 (blk_inb j hj)) hs hp hv acc a ha r d
end

theorem holds2_of_eq {s w : Vec Ideal S1x512x512 .f32} {f : Fin 512 → Fin 512 → ℝ} (e : s = w) (h : Holds2 w f) : Holds2 s f := e ▸ h

/-- The offsets of block `2 k + w` as the loop computes them. -/
theorem off_pair (k w : ℕ) (hk : k < 100) (hw : w < 100) :
    (![BitVec.toNat (Scalar.indexCast (Scalar.muli (Scalar.addi (Scalar.muli 2#32 (Scf.iv 0#32 1#32 k)) (BitVec.ofNat 32 w)) 512#32)), 0] : Fin 2 → ℕ)
      = ![512 * (2 * k + w), 0] := by
  have e : BitVec.toNat (Scalar.indexCast (Scalar.muli (Scalar.addi (Scalar.muli 2#32 (Scf.iv 0#32 1#32 k)) (BitVec.ofNat 32 w)) 512#32)) = 512 * (2 * k + w) := by
    show BitVec.toNat ((2#32 * (0#32 + BitVec.ofNat 32 k * 1#32) + BitVec.ofNat 32 w) * 512#32) = _
    simp only [BitVec.toNat_mul, BitVec.toNat_add, BitVec.toNat_ofNat]
    omega
  rw [e]

theorem off_pair0 (k : ℕ) (hk : k < 100) :
    (![BitVec.toNat (Scalar.indexCast (Scalar.muli (Scalar.muli 2#32 (Scf.iv 0#32 1#32 k)) 512#32)), 0] : Fin 2 → ℕ)
      = ![512 * (2 * k), 0] := by
  have e : BitVec.toNat (Scalar.indexCast (Scalar.muli (Scalar.muli 2#32 (Scf.iv 0#32 1#32 k)) 512#32)) = 512 * (2 * k) := by
    show BitVec.toNat ((2#32 * (0#32 + BitVec.ofNat 32 k * 1#32)) * 512#32) = _
    simp only [BitVec.toNat_mul, BitVec.toNat_add, BitVec.toNat_ofNat]
    omega
  rw [e]

end Cert.Proof.KerAttn

end
-- ==== Proof.Trip1.lean ====
/-
  One trip of the first loop over pairs of key blocks, at real operands.
-/
module

public import proofs.«01_k».proof.Proof.Blocks
public import proofs.«01_k».proof.Proof.Gen.KernelIdeal.Loops

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

set_option maxHeartbeats 800000 in
set_option maxRecDepth 8192 in
/-- One trip of loop 1: the sum gains two blocks, and the products of the next block stand ready. -/
theorem trip1 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v1 : Vec Ideal S512x256 .bf16) (v14 : FVec Ideal S512x1 .f32) (v31 : FVec Ideal S512x128 .bf16) (v32 : Vec Ideal S1x512x1 .f32) (k : Fin (k0_t1_loop i).trips)
    {A : Args} {h : Fin 8} {x3 x4 x5 : Vec Ideal S4096x128 .bf16} {ρ : Fin 512 → Fin 4096}
    (H : KeyArr A h x3 x4 x5) (R : RowBlk A h ρ v1 v31 v14 (k0_pay72 v32)) (hk : k.val < 3)
    (hv : ∀ r, 1024 * (k.val + 1) ≤ (ρ r).val + 1)
    (acc : FVec Ideal S512x256 .f32) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty)
    (a : Fin 512 → Fin 256 → ℝ) (ha : ∀ r d, (acc (ix2 r d) : EReal) = ((a r d : ℝ) : EReal))
    (hs : Holds2 (View.readAt (Elt Ideal) arg11.view (Rect.unit ![0, 0, 0] S1x512x512.size inb_S1x512x512_S1x512x512_0_0_0).toLoadRect f11) fun r n => A.raw h (ρ r) (nb (2 * k.val) n))
    (hp : Holds2 (View.readAt (Elt Ideal) arg12.view (Rect.unit ![0, 0, 0] S1x512x512.size inb_S1x512x512_S1x512x512_0_0_0).toLoadRect f12) fun r n => A.dp h (ρ r) (nb (2 * k.val) n)) :
    (∀ r d, ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) k).1 acc f11 f12 f13 f14 (ix2 r d) : EReal) = ((a r d + part A h (ρ r) (2 * k.val) d + part A h (ρ r) (2 * k.val + 1) d : ℝ) : EReal))
    ∧ (∃ w, (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) k).2.1 acc f11 f12 f13 f14 = [⟨Rect.unit ![0, 0, 0] S1x512x512.size inb_S1x512x512_S1x512x512_0_0_0, w⟩] ∧ Holds2 w fun r n => A.raw h (ρ r) (nb (2 * k.val + 2) n))
    ∧ (∃ w, (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) k).2.2.1 acc f11 f12 f13 f14 = [⟨Rect.unit ![0, 0, 0] S1x512x512.size inb_S1x512x512_S1x512x512_0_0_0, w⟩] ∧ Holds2 w fun r n => A.dp h (ρ r) (nb (2 * k.val + 2) n)) := by
  have e0 := off_pair0 k.val (by omega)
  have e1 := off_pair k.val 1 (by omega) (by omega)
  have e2 := off_pair k.val 2 (by omega) (by omega)
  refine And.intro (fun r d => ?_) (And.intro (Exists.intro ?w1 (And.intro ?h1 ?h2)) (Exists.intro ?w2 (And.intro ?h3 ?h4)))
  case h1 => unfold trip_k0_t1; dsimp only; sl_unfold_words; exact rfl
  case h2 => exact s_blk H R (2 * k.val + 2) (by omega) e2 e2 _ _
  case h3 => unfold trip_k0_t1; dsimp only; sl_unfold_words; exact rfl
  case h4 => exact p_blk H R (2 * k.val + 2) (by omega) e2 _
  · unfold trip_k0_t1
    dsimp only
    sl_unfold_words
    refine step_blk H R (2 * k.val + 1) (by omega) e1 e1 _ _ ?_ ?_ ?_ _ (fun r d => a r d + part A h (ρ r) (2 * k.val) d) ?_ r d
    · rw [View.readCov_cons_toLoadRect]; exact s_blk H R (2 * k.val + 1) (by omega) e1 e1 _ _
    · rw [View.readCov_cons_toLoadRect]; exact p_blk H R (2 * k.val + 1) (by omega) e1 _
    · intro r n; have := hv r; rw [nb_val _ (by omega)]; omega
    · intro r d
      exact step_blk H R (2 * k.val) (by omega) e0 e0 _ _ hs hp (fun r n => by have := hv r; rw [nb_val _ (by omega)]; omega) acc a ha r d

end Cert.Proof.KerAttn

end
-- ==== Proof.Loop1.lean ====
/-
  The first loop over pairs of key blocks, at real operands.
-/
module

public import proofs.«01_k».proof.Proof.Trip1

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

set_option maxHeartbeats 800000 in
set_option maxRecDepth 8192 in
/-- Loop 1 before trip `k`: the sum holds the blocks before `2 k`, and the products of block `2 k` stand ready. -/
theorem loop1 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v1 : Vec Ideal S512x256 .bf16) (v14 : FVec Ideal S512x1 .f32) (v31 : FVec Ideal S512x128 .bf16) (v32 : Vec Ideal S1x512x1 .f32)
    {A : Args} {h : Fin 8} {x3 x4 x5 : Vec Ideal S4096x128 .bf16} {ρ : Fin 512 → Fin 4096}
    (H : KeyArr A h x3 x4 x5) (R : RowBlk A h ρ v1 v31 v14 (k0_pay72 v32)) (ht : (k0_t1_loop i).trips ≤ 3)
    (hv : ∀ r, 1024 * (k0_t1_loop i).trips ≤ (ρ r).val + 1)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) (init : FVec Ideal S512x256 .f32)
    (hi : ∀ r d, (init (ix2 r d) : EReal) = ((0 : ℝ) : EReal))
    (hs : Holds2 (View.readAt (Elt Ideal) arg11.view (Rect.unit ![0, 0, 0] S1x512x512.size inb_S1x512x512_S1x512x512_0_0_0).toLoadRect G11) fun r n => A.raw h (ρ r) (nb 0 n))
    (hp : Holds2 (View.readAt (Elt Ideal) arg12.view (Rect.unit ![0, 0, 0] S1x512x512.size inb_S1x512x512_S1x512x512_0_0_0).toLoadRect G12) fun r n => A.dp h (ρ r) (nb 0 n)) :
    ∀ k : ℕ, k ≤ (k0_t1_loop i).trips →
      (∀ r d, ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init k).1 (ix2 r d) : EReal) = ((∑ j ∈ Finset.range (2 * k), part A h (ρ r) j d : ℝ) : EReal))
      ∧ Holds2 (View.readAt (Elt Ideal) arg11.view (Rect.unit ![0, 0, 0] S1x512x512.size inb_S1x512x512_S1x512x512_0_0_0).toLoadRect (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init k).2.1)) (fun r n => A.raw h (ρ r) (nb (2 * k) n))
      ∧ Holds2 (View.readAt (Elt Ideal) arg12.view (Rect.unit ![0, 0, 0] S1x512x512.size inb_S1x512x512_S1x512x512_0_0_0).toLoadRect (arg12.view.writes (Elt Ideal) G12 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init k).2.2.1)) (fun r n => A.dp h (ρ r) (nb (2 * k) n)) := by
  intro k
  induction k with
  | zero => intro _; exact ⟨fun r d => (hi r d).trans (by simp), hs, hp⟩
  | succ k ih =>
    intro hk
    obtain ⟨i1, i2, i3⟩ := ih (by omega)
    have T := trip1 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 ⟨k, hk⟩ H R (by show k < 3; omega) (fun r => by have := hv r; show 1024 * (k + 1) ≤ _; omega) _
      (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init k).2.1) (arg12.view.writes (Elt Ideal) G12 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init k).2.2.1)
      (arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init k).2.2.2.1) (arg14.view.writes (Elt Ideal) G14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init k).2.2.2.2)
      (fun r d => ∑ j ∈ Finset.range (2 * k), part A h (ρ r) j d) i1 i2 i3
    obtain ⟨T1, ⟨w1, e1, h1⟩, ⟨w2, e2, h2⟩⟩ := T
    have S := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init ⟨k, hk⟩
    refine ⟨fun r d => ?_, ?_, ?_⟩
    · refine ((congrFun (congrArg (fun x => x.1) S) (ix2 r d)).trans (T1 r d)).trans ?_
      rw [show 2 * (k + 1) = 2 * k + 1 + 1 by ring, Finset.sum_range_succ, Finset.sum_range_succ]
    · have e := (congrArg (fun x => x.2.1) S).trans (congrArg (· ++ _) e1)
      rw [show 2 * (k + 1) = 2 * k + 2 by ring]
      refine holds2_of_eq (w := w1) ?_ h1
      rw [show (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init (k + 1)).2.1 = _ from e]
      exact View.readAt_writes_full _ _ _ _ _ _
    · have e := (congrArg (fun x => x.2.2.1) S).trans (congrArg (· ++ _) e2)
      rw [show 2 * (k + 1) = 2 * k + 2 by ring]
      refine holds2_of_eq (w := w2) ?_ h2
      rw [show (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) G11 G12 G13 G14 init (k + 1)).2.2.1 = _ from e]
      exact View.readAt_writes_full _ _ _ _ _ _

end Cert.Proof.KerAttn

end
-- ==== Proof.Trip3.lean ====
/-
  One trip of the second loop over pairs of key blocks, at real operands.
-/
module

public import proofs.«01_k».proof.Proof.Blocks
public import proofs.«01_k».proof.Proof.Gen.KernelIdeal.Loops

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

set_option maxHeartbeats 800000 in
set_option maxRecDepth 8192 in
/-- One trip of loop 3: the sum gains two blocks, and the products of the next block stand ready. -/
theorem trip3 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v60 : FVec Ideal S512x256 .f32) (v61 : Vec Ideal S512x256 .bf16) (v74 : FVec Ideal S512x1 .f32) (v91 : FVec Ideal S512x128 .bf16) (v93 : FVec Ideal S512x1 .f32) (v116 : FVec Ideal S512x256 .bf16) (v139 : FVec Ideal S512x512 .bf16) (cst_78 : FVec Ideal S512x256 .f32) (k : Fin (k0_t3_loop i).trips)
    {A : Args} {h : Fin 8} {x3 x4 x5 : Vec Ideal S4096x128 .bf16} {ρ : Fin 512 → Fin 4096}
    (H : KeyArr A h x3 x4 x5) (R : RowBlk A h ρ v61 v91 v74 (v93)) (hk : k.val < 3)
    (hv : ∀ r, 1024 * (k.val + 1) ≤ (ρ r).val + 1)
    (acc : FVec Ideal S512x256 .f32) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty)
    (a : Fin 512 → Fin 256 → ℝ) (ha : ∀ r d, (acc (ix2 r d) : EReal) = ((a r d : ℝ) : EReal))
    (hs : Holds2 (View.readAt (Elt Ideal) arg13.view (Rect.unit ![0, 0, 0] S1x512x512.size inb_S1x512x512_S1x512x512_0_0_0).toLoadRect f13) fun r n => A.raw h (ρ r) (nb (2 * k.val) n))
    (hp : Holds2 (View.readAt (Elt Ideal) arg14.view (Rect.unit ![0, 0, 0] S1x512x512.size inb_S1x512x512_S1x512x512_0_0_0).toLoadRect f14) fun r n => A.dp h (ρ r) (nb (2 * k.val) n)) :
    (∀ r d, ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) k).1 acc f11 f12 f13 f14 (ix2 r d) : EReal) = ((a r d + part A h (ρ r) (2 * k.val) d + part A h (ρ r) (2 * k.val + 1) d : ℝ) : EReal))
    ∧ (∃ w, (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) k).2.2.2.1 acc f11 f12 f13 f14 = [⟨Rect.unit ![0, 0, 0] S1x512x512.size inb_S1x512x512_S1x512x512_0_0_0, w⟩] ∧ Holds2 w fun r n => A.raw h (ρ r) (nb (2 * k.val + 2) n))
    ∧ (∃ w, (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) k).2.2.2.2.1 acc f11 f12 f13 f14 = [⟨Rect.unit ![0, 0, 0] S1x512x512.size inb_S1x512x512_S1x512x512_0_0_0, w⟩] ∧ Holds2 w fun r n => A.dp h (ρ r) (nb (2 * k.val + 2) n)) := by
  have e0 := off_pair0 k.val (by omega)
  have e1 := off_pair k.val 1 (by omega) (by omega)
  have e2 := off_pair k.val 2 (by omega) (by omega)
  refine And.intro (fun r d => ?_) (And.intro (Exists.intro ?w1 (And.intro ?h1 ?h2)) (Exists.intro ?w2 (And.intro ?h3 ?h4)))
  case h1 => unfold trip_k0_t3; dsimp only; sl_unfold_words; exact rfl
  case h2 => exact s_blk H R (2 * k.val + 2) (by omega) e2 e2 _ _
  case h3 => unfold trip_k0_t3; dsimp only; sl_unfold_words; exact rfl
  case h4 => exact p_blk H R (2 * k.val + 2) (by omega) e2 _
  · unfold trip_k0_t3
    dsimp only
    sl_unfold_words
    refine step_blk H R (2 * k.val + 1) (by omega) e1 e1 _ _ ?_ ?_ ?_ _ (fun r d => a r d + part A h (ρ r) (2 * k.val) d) ?_ r d
    · rw [View.readCov_cons_toLoadRect]; exact s_blk H R (2 * k.val + 1) (by omega) e1 e1 _ _
    · rw [View.readCov_cons_toLoadRect]; exact p_blk H R (2 * k.val + 1) (by omega) e1 _
    · intro r n; have := hv r; rw [nb_val _ (by omega)]; omega
    · intro r d
      exact step_blk H R (2 * k.val) (by omega) e0 e0 _ _ hs hp (fun r n => by have := hv r; rw [nb_val _ (by omega)]; omega) acc a ha r d

end Cert.Proof.KerAttn

end
-- ==== Proof.Loop3.lean ====
/-
  The second loop over pairs of key blocks, at real operands.
-/
module

public import proofs.«01_k».proof.Proof.Trip3

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

set_option maxHeartbeats 800000 in
set_option maxRecDepth 8192 in
/-- Loop 3 before trip `k`: the sum holds the blocks before `2 k`, and the products of block `2 k` stand ready. -/
theorem loop3 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v60 : FVec Ideal S512x256 .f32) (v61 : Vec Ideal S512x256 .bf16) (v74 : FVec Ideal S512x1 .f32) (v91 : FVec Ideal S512x128 .bf16) (v93 : FVec Ideal S512x1 .f32) (v116 : FVec Ideal S512x256 .bf16) (v139 : FVec Ideal S512x512 .bf16) (cst_78 : FVec Ideal S512x256 .f32)
    {A : Args} {h : Fin 8} {x3 x4 x5 : Vec Ideal S4096x128 .bf16} {ρ : Fin 512 → Fin 4096}
    (H : KeyArr A h x3 x4 x5) (R : RowBlk A h ρ v61 v91 v74 (v93)) (ht : (k0_t3_loop i).trips ≤ 3)
    (hv : ∀ r, 1024 * (k0_t3_loop i).trips ≤ (ρ r).val + 1)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) (init : FVec Ideal S512x256 .f32)
    (hi : ∀ r d, (init (ix2 r d) : EReal) = ((0 : ℝ) : EReal))
    (hs : Holds2 (View.readAt (Elt Ideal) arg13.view (Rect.unit ![0, 0, 0] S1x512x512.size inb_S1x512x512_S1x512x512_0_0_0).toLoadRect G13) fun r n => A.raw h (ρ r) (nb 0 n))
    (hp : Holds2 (View.readAt (Elt Ideal) arg14.view (Rect.unit ![0, 0, 0] S1x512x512.size inb_S1x512x512_S1x512x512_0_0_0).toLoadRect G14) fun r n => A.dp h (ρ r) (nb 0 n)) :
    ∀ k : ℕ, k ≤ (k0_t3_loop i).trips →
      (∀ r d, ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init k).1 (ix2 r d) : EReal) = ((∑ j ∈ Finset.range (2 * k), part A h (ρ r) j d : ℝ) : EReal))
      ∧ Holds2 (View.readAt (Elt Ideal) arg13.view (Rect.unit ![0, 0, 0] S1x512x512.size inb_S1x512x512_S1x512x512_0_0_0).toLoadRect (arg13.view.writes (Elt Ideal) G13 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init k).2.2.2.1)) (fun r n => A.raw h (ρ r) (nb (2 * k) n))
      ∧ Holds2 (View.readAt (Elt Ideal) arg14.view (Rect.unit ![0, 0, 0] S1x512x512.size inb_S1x512x512_S1x512x512_0_0_0).toLoadRect (arg14.view.writes (Elt Ideal) G14 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init k).2.2.2.2)) (fun r n => A.dp h (ρ r) (nb (2 * k) n)) := by
  intro k
  induction k with
  | zero => intro _; exact ⟨fun r d => (hi r d).trans (by simp), hs, hp⟩
  | succ k ih =>
    intro hk
    obtain ⟨i1, i2, i3⟩ := ih (by omega)
    have T := trip3 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 ⟨k, hk⟩ H R (by show k < 3; omega) (fun r => by have := hv r; show 1024 * (k + 1) ≤ _; omega) _
      (arg11.view.writes (Elt Ideal) G11 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init k).2.1) (arg12.view.writes (Elt Ideal) G12 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init k).2.2.1)
      (arg13.view.writes (Elt Ideal) G13 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init k).2.2.2.1) (arg14.view.writes (Elt Ideal) G14 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init k).2.2.2.2)
      (fun r d => ∑ j ∈ Finset.range (2 * k), part A h (ρ r) j d) i1 i2 i3
    obtain ⟨T1, ⟨w1, e1, h1⟩, ⟨w2, e2, h2⟩⟩ := T
    have S := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init ⟨k, hk⟩
    refine ⟨fun r d => ?_, ?_, ?_⟩
    · refine ((congrFun (congrArg (fun x => x.1) S) (ix2 r d)).trans (T1 r d)).trans ?_
      rw [show 2 * (k + 1) = 2 * k + 1 + 1 by ring, Finset.sum_range_succ, Finset.sum_range_succ]
    · have e := (congrArg (fun x => x.2.2.2.1) S).trans (congrArg (· ++ _) e1)
      rw [show 2 * (k + 1) = 2 * k + 2 by ring]
      refine holds2_of_eq (w := w1) ?_ h1
      rw [show (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init (k + 1)).2.2.2.1 = _ from e]
      exact View.readAt_writes_full _ _ _ _ _ _
    · have e := (congrArg (fun x => x.2.2.2.2) S).trans (congrArg (· ++ _) e2)
      rw [show 2 * (k + 1) = 2 * k + 2 by ring]
      refine holds2_of_eq (w := w2) ?_ h2
      rw [show (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 G13 G14 init (k + 1)).2.2.2.2 = _ from e]
      exact View.readAt_writes_full _ _ _ _ _ _

end Cert.Proof.KerAttn

end
-- ==== Proof.Trip5.lean ====
/-
  One trip of the third loop over pairs of key blocks, at real operands.
-/
module

public import proofs.«01_k».proof.Proof.Blocks
public import proofs.«01_k».proof.Proof.Gen.KernelIdeal.Loops

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

set_option maxHeartbeats 800000 in
set_option maxRecDepth 8192 in
/-- One trip of loop 5: the sum gains two blocks, and the products of the next block stand ready. -/
theorem trip5 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v156 : Vec Ideal S512x256 .bf16) (v169 : FVec Ideal S512x1 .f32) (v186 : FVec Ideal S512x128 .bf16) (v188 : FVec Ideal S512x1 .f32) (k : Fin (k0_t5_loop i).trips)
    {A : Args} {h : Fin 8} {x3 x4 x5 : Vec Ideal S4096x128 .bf16} {ρ : Fin 512 → Fin 4096}
    (H : KeyArr A h x3 x4 x5) (R : RowBlk A h ρ v156 v186 v169 (v188)) (hk : k.val < 3)
    (hv : ∀ r, 1024 * (k.val + 1) ≤ (ρ r).val + 1)
    (acc : FVec Ideal S512x256 .f32) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty)
    (a : Fin 512 → Fin 256 → ℝ) (ha : ∀ r d, (acc (ix2 r d) : EReal) = ((a r d : ℝ) : EReal))
    (hs : Holds2 (View.readAt (Elt Ideal) arg13.view (Rect.unit ![0, 0, 0] S1x512x512.size inb_S1x512x512_S1x512x512_0_0_0).toLoadRect f13) fun r n => A.raw h (ρ r) (nb (2 * k.val) n))
    (hp : Holds2 (View.readAt (Elt Ideal) arg14.view (Rect.unit ![0, 0, 0] S1x512x512.size inb_S1x512x512_S1x512x512_0_0_0).toLoadRect f14) fun r n => A.dp h (ρ r) (nb (2 * k.val) n)) :
    (∀ r d, ((trip_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) k).1 acc f11 f12 f13 f14 (ix2 r d) : EReal) = ((a r d + part A h (ρ r) (2 * k.val) d + part A h (ρ r) (2 * k.val + 1) d : ℝ) : EReal))
    ∧ (∃ w, (trip_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) k).2.2.2.1 acc f11 f12 f13 f14 = [⟨Rect.unit ![0, 0, 0] S1x512x512.size inb_S1x512x512_S1x512x512_0_0_0, w⟩] ∧ Holds2 w fun r n => A.raw h (ρ r) (nb (2 * k.val + 2) n))
    ∧ (∃ w, (trip_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) k).2.2.2.2.1 acc f11 f12 f13 f14 = [⟨Rect.unit ![0, 0, 0] S1x512x512.size inb_S1x512x512_S1x512x512_0_0_0, w⟩] ∧ Holds2 w fun r n => A.dp h (ρ r) (nb (2 * k.val + 2) n)) := by
  have e0 := off_pair0 k.val (by omega)
  have e1 := off_pair k.val 1 (by omega) (by omega)
  have e2 := off_pair k.val 2 (by omega) (by omega)
  refine And.intro (fun r d => ?_) (And.intro (Exists.intro ?w1 (And.intro ?h1 ?h2)) (Exists.intro ?w2 (And.intro ?h3 ?h4)))
  case h1 => unfold trip_k0_t5; dsimp only; sl_unfold_words; exact rfl
  case h2 => exact s_blk H R (2 * k.val + 2) (by omega) e2 e2 _ _
  case h3 => unfold trip_k0_t5; dsimp only; sl_unfold_words; exact rfl
  case h4 => exact p_blk H R (2 * k.val + 2) (by omega) e2 _
  · unfold trip_k0_t5
    dsimp only
    sl_unfold_words
    refine step_blk H R (2 * k.val + 1) (by omega) e1 e1 _ _ ?_ ?_ ?_ _ (fun r d => a r d + part A h (ρ r) (2 * k.val) d) ?_ r d
    · rw [View.readCov_cons_toLoadRect]; exact s_blk H R (2 * k.val + 1) (by omega) e1 e1 _ _
    · rw [View.readCov_cons_toLoadRect]; exact p_blk H R (2 * k.val + 1) (by omega) e1 _
    · intro r n; have := hv r; rw [nb_val _ (by omega)]; omega
    · intro r d
      exact step_blk H R (2 * k.val) (by omega) e0 e0 _ _ hs hp (fun r n => by have := hv r; rw [nb_val _ (by omega)]; omega) acc a ha r d

end Cert.Proof.KerAttn

end
-- ==== Proof.Loop5.lean ====
/-
  The third loop over pairs of key blocks, at real operands.
-/
module

public import proofs.«01_k».proof.Proof.Trip5

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

set_option maxHeartbeats 800000 in
set_option maxRecDepth 8192 in
/-- Loop 5 before trip `k`: the sum holds the blocks before `2 k`, and the products of block `2 k` stand ready. -/
theorem loop5 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v156 : Vec Ideal S512x256 .bf16) (v169 : FVec Ideal S512x1 .f32) (v186 : FVec Ideal S512x128 .bf16) (v188 : FVec Ideal S512x1 .f32)
    {A : Args} {h : Fin 8} {x3 x4 x5 : Vec Ideal S4096x128 .bf16} {ρ : Fin 512 → Fin 4096}
    (H : KeyArr A h x3 x4 x5) (R : RowBlk A h ρ v156 v186 v169 (v188)) (ht : (k0_t5_loop i).trips ≤ 3)
    (hv : ∀ r, 1024 * (k0_t5_loop i).trips ≤ (ρ r).val + 1)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) (init : FVec Ideal S512x256 .f32)
    (hi : ∀ r d, (init (ix2 r d) : EReal) = ((0 : ℝ) : EReal))
    (hs : Holds2 (View.readAt (Elt Ideal) arg13.view (Rect.unit ![0, 0, 0] S1x512x512.size inb_S1x512x512_S1x512x512_0_0_0).toLoadRect G13) fun r n => A.raw h (ρ r) (nb 0 n))
    (hp : Holds2 (View.readAt (Elt Ideal) arg14.view (Rect.unit ![0, 0, 0] S1x512x512.size inb_S1x512x512_S1x512x512_0_0_0).toLoadRect G14) fun r n => A.dp h (ρ r) (nb 0 n)) :
    ∀ k : ℕ, k ≤ (k0_t5_loop i).trips →
      (∀ r d, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init k).1 (ix2 r d) : EReal) = ((∑ j ∈ Finset.range (2 * k), part A h (ρ r) j d : ℝ) : EReal))
      ∧ Holds2 (View.readAt (Elt Ideal) arg13.view (Rect.unit ![0, 0, 0] S1x512x512.size inb_S1x512x512_S1x512x512_0_0_0).toLoadRect (arg13.view.writes (Elt Ideal) G13 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init k).2.2.2.1)) (fun r n => A.raw h (ρ r) (nb (2 * k) n))
      ∧ Holds2 (View.readAt (Elt Ideal) arg14.view (Rect.unit ![0, 0, 0] S1x512x512.size inb_S1x512x512_S1x512x512_0_0_0).toLoadRect (arg14.view.writes (Elt Ideal) G14 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init k).2.2.2.2)) (fun r n => A.dp h (ρ r) (nb (2 * k) n)) := by
  intro k
  induction k with
  | zero => intro _; exact ⟨fun r d => (hi r d).trans (by simp), hs, hp⟩
  | succ k ih =>
    intro hk
    obtain ⟨i1, i2, i3⟩ := ih (by omega)
    have T := trip5 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 ⟨k, hk⟩ H R (by show k < 3; omega) (fun r => by have := hv r; show 1024 * (k + 1) ≤ _; omega) _
      (arg11.view.writes (Elt Ideal) G11 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init k).2.1) (arg12.view.writes (Elt Ideal) G12 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init k).2.2.1)
      (arg13.view.writes (Elt Ideal) G13 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init k).2.2.2.1) (arg14.view.writes (Elt Ideal) G14 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init k).2.2.2.2)
      (fun r d => ∑ j ∈ Finset.range (2 * k), part A h (ρ r) j d) i1 i2 i3
    obtain ⟨T1, ⟨w1, e1, h1⟩, ⟨w2, e2, h2⟩⟩ := T
    have S := st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init ⟨k, hk⟩
    refine ⟨fun r d => ?_, ?_, ?_⟩
    · refine ((congrFun (congrArg (fun x => x.1) S) (ix2 r d)).trans (T1 r d)).trans ?_
      rw [show 2 * (k + 1) = 2 * k + 1 + 1 by ring, Finset.sum_range_succ, Finset.sum_range_succ]
    · have e := (congrArg (fun x => x.2.2.2.1) S).trans (congrArg (· ++ _) e1)
      rw [show 2 * (k + 1) = 2 * k + 2 by ring]
      refine holds2_of_eq (w := w1) ?_ h1
      rw [show (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init (k + 1)).2.2.2.1 = _ from e]
      exact View.readAt_writes_full _ _ _ _ _ _
    · have e := (congrArg (fun x => x.2.2.2.2) S).trans (congrArg (· ++ _) e2)
      rw [show 2 * (k + 1) = 2 * k + 2 by ring]
      refine holds2_of_eq (w := w2) ?_ h2
      rw [show (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 G13 G14 init (k + 1)).2.2.2.2 = _ from e]
      exact View.readAt_writes_full _ _ _ _ _ _

end Cert.Proof.KerAttn

end
-- ==== Proof.Trip7.lean ====
/-
  One trip of the fourth loop over pairs of key blocks, at real operands.
-/
module

public import proofs.«01_k».proof.Proof.Blocks
public import proofs.«01_k».proof.Proof.Gen.KernelIdeal.Loops

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

set_option maxHeartbeats 800000 in
set_option maxRecDepth 8192 in
/-- One trip of loop 7: the sum gains two blocks, and the products of the next block stand ready. -/
theorem trip7 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v163 : IVec S512x1 32) (v169 : FVec Ideal S512x1 .f32) (v188 : FVec Ideal S512x1 .f32) (v292 : FVec Ideal S512x256 .f32) (v293 : Vec Ideal S512x256 .bf16) (v306 : FVec Ideal S512x1 .f32) (v323 : FVec Ideal S512x128 .bf16) (v325 : FVec Ideal S512x1 .f32) (v348 : FVec Ideal S512x256 .bf16) (v351 : IVec S1x512 32) (v353 : FVec Ideal S512x512 .f32) (k : Fin (k0_t7_loop i).trips)
    {A : Args} {h : Fin 8} {x3 x4 x5 : Vec Ideal S4096x128 .bf16} {ρ : Fin 512 → Fin 4096}
    (H : KeyArr A h x3 x4 x5) (R : RowBlk A h ρ v293 v323 v306 (v325)) (hk : k.val < 3)
    (hv : ∀ r, 1024 * (k.val + 1) ≤ (ρ r).val + 1)
    (acc : FVec Ideal S512x256 .f32) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty)
    (a : Fin 512 → Fin 256 → ℝ) (ha : ∀ r d, (acc (ix2 r d) : EReal) = ((a r d : ℝ) : EReal))
    (hs : Holds2 (View.readAt (Elt Ideal) arg11.view (Rect.unit ![0, 0, 0] S1x512x512.size inb_S1x512x512_S1x512x512_0_0_0).toLoadRect f11) fun r n => A.raw h (ρ r) (nb (2 * k.val) n))
    (hp : Holds2 (View.readAt (Elt Ideal) arg12.view (Rect.unit ![0, 0, 0] S1x512x512.size inb_S1x512x512_S1x512x512_0_0_0).toLoadRect f12) fun r n => A.dp h (ρ r) (nb (2 * k.val) n)) :
    (∀ r d, ((trip_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) k).1 acc f11 f12 f13 f14 (ix2 r d) : EReal) = ((a r d + part A h (ρ r) (2 * k.val) d + part A h (ρ r) (2 * k.val + 1) d : ℝ) : EReal))
    ∧ (∃ w, (trip_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) k).2.1 acc f11 f12 f13 f14 = [⟨Rect.unit ![0, 0, 0] S1x512x512.size inb_S1x512x512_S1x512x512_0_0_0, w⟩] ∧ Holds2 w fun r n => A.raw h (ρ r) (nb (2 * k.val + 2) n))
    ∧ (∃ w, (trip_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) k).2.2.1 acc f11 f12 f13 f14 = [⟨Rect.unit ![0, 0, 0] S1x512x512.size inb_S1x512x512_S1x512x512_0_0_0, w⟩] ∧ Holds2 w fun r n => A.dp h (ρ r) (nb (2 * k.val + 2) n)) := by
  have e0 := off_pair0 k.val (by omega)
  have e1 := off_pair k.val 1 (by omega) (by omega)
  have e2 := off_pair k.val 2 (by omega) (by omega)
  refine And.intro (fun r d => ?_) (And.intro (Exists.intro ?w1 (And.intro ?h1 ?h2)) (Exists.intro ?w2 (And.intro ?h3 ?h4)))
  case h1 => unfold trip_k0_t7; dsimp only; sl_unfold_words; exact rfl
  case h2 => exact s_blk H R (2 * k.val + 2) (by omega) e2 e2 _ _
  case h3 => unfold trip_k0_t7; dsimp only; sl_unfold_words; exact rfl
  case h4 => exact p_blk H R (2 * k.val + 2) (by omega) e2 _
  · unfold trip_k0_t7
    dsimp only
    sl_unfold_words
    refine step_blk H R (2 * k.val + 1) (by omega) e1 e1 _ _ ?_ ?_ ?_ _ (fun r d => a r d + part A h (ρ r) (2 * k.val) d) ?_ r d
    · rw [View.readCov_cons_toLoadRect]; exact s_blk H R (2 * k.val + 1) (by omega) e1 e1 _ _
    · rw [View.readCov_cons_toLoadRect]; exact p_blk H R (2 * k.val + 1) (by omega) e1 _
    · intro r n; have := hv r; rw [nb_val _ (by omega)]; omega
    · intro r d
      exact step_blk H R (2 * k.val) (by omega) e0 e0 _ _ hs hp (fun r n => by have := hv r; rw [nb_val _ (by omega)]; omega) acc a ha r d

end Cert.Proof.KerAttn

end
-- ==== Proof.Loop7.lean ====
/-
  The fourth loop over pairs of key blocks, at real operands.
-/
module

public import proofs.«01_k».proof.Proof.Trip7

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

set_option maxHeartbeats 800000 in
set_option maxRecDepth 8192 in
/-- Loop 7 before trip `k`: the sum holds the blocks before `2 k`, and the products of block `2 k` stand ready. -/
theorem loop7 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v163 : IVec S512x1 32) (v169 : FVec Ideal S512x1 .f32) (v188 : FVec Ideal S512x1 .f32) (v292 : FVec Ideal S512x256 .f32) (v293 : Vec Ideal S512x256 .bf16) (v306 : FVec Ideal S512x1 .f32) (v323 : FVec Ideal S512x128 .bf16) (v325 : FVec Ideal S512x1 .f32) (v348 : FVec Ideal S512x256 .bf16) (v351 : IVec S1x512 32) (v353 : FVec Ideal S512x512 .f32)
    {A : Args} {h : Fin 8} {x3 x4 x5 : Vec Ideal S4096x128 .bf16} {ρ : Fin 512 → Fin 4096}
    (H : KeyArr A h x3 x4 x5) (R : RowBlk A h ρ v293 v323 v306 (v325)) (ht : (k0_t7_loop i).trips ≤ 3)
    (hv : ∀ r, 1024 * (k0_t7_loop i).trips ≤ (ρ r).val + 1)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) (init : FVec Ideal S512x256 .f32)
    (hi : ∀ r d, (init (ix2 r d) : EReal) = ((0 : ℝ) : EReal))
    (hs : Holds2 (View.readAt (Elt Ideal) arg11.view (Rect.unit ![0, 0, 0] S1x512x512.size inb_S1x512x512_S1x512x512_0_0_0).toLoadRect G11) fun r n => A.raw h (ρ r) (nb 0 n))
    (hp : Holds2 (View.readAt (Elt Ideal) arg12.view (Rect.unit ![0, 0, 0] S1x512x512.size inb_S1x512x512_S1x512x512_0_0_0).toLoadRect G12) fun r n => A.dp h (ρ r) (nb 0 n)) :
    ∀ k : ℕ, k ≤ (k0_t7_loop i).trips →
      (∀ r d, ((st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init k).1 (ix2 r d) : EReal) = ((∑ j ∈ Finset.range (2 * k), part A h (ρ r) j d : ℝ) : EReal))
      ∧ Holds2 (View.readAt (Elt Ideal) arg11.view (Rect.unit ![0, 0, 0] S1x512x512.size inb_S1x512x512_S1x512x512_0_0_0).toLoadRect (arg11.view.writes (Elt Ideal) G11 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init k).2.1)) (fun r n => A.raw h (ρ r) (nb (2 * k) n))
      ∧ Holds2 (View.readAt (Elt Ideal) arg12.view (Rect.unit ![0, 0, 0] S1x512x512.size inb_S1x512x512_S1x512x512_0_0_0).toLoadRect (arg12.view.writes (Elt Ideal) G12 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init k).2.2.1)) (fun r n => A.dp h (ρ r) (nb (2 * k) n)) := by
  intro k
  induction k with
  | zero => intro _; exact ⟨fun r d => (hi r d).trans (by simp), hs, hp⟩
  | succ k ih =>
    intro hk
    obtain ⟨i1, i2, i3⟩ := ih (by omega)
    have T := trip7 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 ⟨k, hk⟩ H R (by show k < 3; omega) (fun r => by have := hv r; show 1024 * (k + 1) ≤ _; omega) _
      (arg11.view.writes (Elt Ideal) G11 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init k).2.1) (arg12.view.writes (Elt Ideal) G12 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init k).2.2.1)
      (arg13.view.writes (Elt Ideal) G13 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init k).2.2.2.1) (arg14.view.writes (Elt Ideal) G14 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init k).2.2.2.2)
      (fun r d => ∑ j ∈ Finset.range (2 * k), part A h (ρ r) j d) i1 i2 i3
    obtain ⟨T1, ⟨w1, e1, h1⟩, ⟨w2, e2, h2⟩⟩ := T
    have S := st_k0_t7_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init ⟨k, hk⟩
    refine ⟨fun r d => ?_, ?_, ?_⟩
    · refine ((congrFun (congrArg (fun x => x.1) S) (ix2 r d)).trans (T1 r d)).trans ?_
      rw [show 2 * (k + 1) = 2 * k + 1 + 1 by ring, Finset.sum_range_succ, Finset.sum_range_succ]
    · have e := (congrArg (fun x => x.2.1) S).trans (congrArg (· ++ _) e1)
      rw [show 2 * (k + 1) = 2 * k + 2 by ring]
      refine holds2_of_eq (w := w1) ?_ h1
      rw [show (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init (k + 1)).2.1 = _ from e]
      exact View.readAt_writes_full _ _ _ _ _ _
    · have e := (congrArg (fun x => x.2.2.1) S).trans (congrArg (· ++ _) e2)
      rw [show 2 * (k + 1) = 2 * k + 2 by ring]
      refine holds2_of_eq (w := w2) ?_ h2
      rw [show (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) G11 G12 G13 G14 init (k + 1)).2.2.1 = _ from e]
      exact View.readAt_writes_full _ _ _ _ _ _

end Cert.Proof.KerAttn

end
-- ==== Proof.Ends.lean ====
/-
  The end of each loop over pairs of key blocks, with the loop of no trips that the lowering puts behind it.
-/
module

public import proofs.«01_k».proof.Proof.Loop1
public import proofs.«01_k».proof.Proof.Loop3
public import proofs.«01_k».proof.Proof.Loop5
public import proofs.«01_k».proof.Proof.Loop7
public import Idealize.ShloMosaic.Lib.LoopRemainder

@[expose] public section

noncomputable section

namespace Cert.Proof.KerAttn

open Idealize.ShloMosaic Idealize.ShloMosaic.TcCoe Idealize.ShloMosaic.Tactic Idealize.ShloMosaic.ValueIdx Cert.KernelIdeal Cert.KernelIdeal.Gen Cert.Proof.Attn

/-- A load behind three rounds of stores, the last of them empty. -/
theorem cov_drop {κ : Kind} {sp : Space} {s : Shape} {e : EltTy} (v : View sig κ sp s e) (L1 L2 L : List (View.Piece (Elt Ideal) s e))
    (h : L1 = []) (B : LoadRect s) :
    v.readCov (L1 ++ (L2 ++ L)) B = v.readAt (Elt Ideal) B (v.writes (Elt Ideal) (v.writes (Elt Ideal) v.junk L) L2) := by
  subst h
  rw [View.readCov, List.nil_append, View.writes_append]

set_option maxHeartbeats 800000 in
set_option maxRecDepth 8192 in
/-- Loop 1 and the loop of no trips behind it: the sum holds the blocks before the one whose products stand ready. -/
theorem end1 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v1 : Vec Ideal S512x256 .bf16) (v14 : FVec Ideal S512x1 .f32) (v31 : FVec Ideal S512x128 .bf16) (v32 : Vec Ideal S1x512x1 .f32) (v58 : BitVec 32)
    {A : Args} {h : Fin 8} {x3 x4 x5 : Vec Ideal S4096x128 .bf16} {ρ : Fin 512 → Fin 4096}
    (H : KeyArr A h x3 x4 x5) (R : RowBlk A h ρ v1 v31 v14 (k0_pay72 v32)) (ht : (k0_t1_loop i).trips ≤ 3)
    (hv : ∀ r, 1024 * (k0_t1_loop i).trips ≤ (ρ r).val + 1)
    (L11 L12 : List (View.Piece (Elt Ideal) S1x512x512 .f32))
    (G13 : BufTy.Contents (Elt Ideal) arg13.view.ty) (G14 : BufTy.Contents (Elt Ideal) arg14.view.ty)
    (g11 : BufTy.Contents (Elt Ideal) arg11.view.ty) (g12 : BufTy.Contents (Elt Ideal) arg12.view.ty)
    (g13 : BufTy.Contents (Elt Ideal) arg13.view.ty) (g14 : BufTy.Contents (Elt Ideal) arg14.view.ty) (init : FVec Ideal S512x256 .f32)
    (hi : ∀ r d, (init (ix2 r d) : EReal) = ((0 : ℝ) : EReal))
    (hs : Holds2 (arg11.view.readCov L11 (Rect.unit ![0, 0, 0] S1x512x512.size inb_S1x512x512_S1x512x512_0_0_0).toLoadRect) fun r n => A.raw h (ρ r) (nb 0 n))
    (hp : Holds2 (arg12.view.readCov L12 (Rect.unit ![0, 0, 0] S1x512x512.size inb_S1x512x512_S1x512x512_0_0_0).toLoadRect) fun r n => A.dp h (ρ r) (nb 0 n)) :
    (∀ r d, ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 v58 (harg3.unread x3) (harg4.unread x4) (harg5.unread x5) g11 g12 g13 g14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) (arg11.view.writes (Elt Ideal) arg11.view.junk L11) (arg12.view.writes (Elt Ideal) arg12.view.junk L12) G13 G14 init (k0_t1_loop i).trips).1 (k0_t2_loop i).trips).1 (ix2 r d) : EReal) = ((∑ j ∈ Finset.range (2 * (k0_t1_loop i).trips), part A h (ρ r) j d : ℝ) : EReal))
      ∧ Holds2 (arg11.view.readCov ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 v58 (harg3.unread x3) (harg4.unread x4) (harg5.unread x5) g11 g12 g13 g14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) (arg11.view.writes (Elt Ideal) arg11.view.junk L11) (arg12.view.writes (Elt Ideal) arg12.view.junk L12) G13 G14 init (k0_t1_loop i).trips).1 (k0_t2_loop i).trips).2.1 ++ ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) (arg11.view.writes (Elt Ideal) arg11.view.junk L11) (arg12.view.writes (Elt Ideal) arg12.view.junk L12) G13 G14 init (k0_t1_loop i).trips).2.1 ++ L11)) (Rect.unit ![0, 0, 0] S1x512x512.size inb_S1x512x512_S1x512x512_0_0_0).toLoadRect) (fun r n => A.raw h (ρ r) (nb (2 * (k0_t1_loop i).trips) n))
      ∧ Holds2 (arg12.view.readCov ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 v58 (harg3.unread x3) (harg4.unread x4) (harg5.unread x5) g11 g12 g13 g14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) (arg11.view.writes (Elt Ideal) arg11.view.junk L11) (arg12.view.writes (Elt Ideal) arg12.view.junk L12) G13 G14 init (k0_t1_loop i).trips).1 (k0_t2_loop i).trips).2.2.1 ++ ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) (arg11.view.writes (Elt Ideal) arg11.view.junk L11) (arg12.view.writes (Elt Ideal) arg12.view.junk L12) G13 G14 init (k0_t1_loop i).trips).2.2.1 ++ L12)) (Rect.unit ![0, 0, 0] S1x512x512.size inb_S1x512x512_S1x512x512_0_0_0).toLoadRect) (fun r n => A.dp h (ρ r) (nb (2 * (k0_t1_loop i).trips) n)) := by
  have h0 : (k0_t2_loop i).trips = 0 := Scf.rem_trips _ _
  have hT : st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 v58 (harg3.unread x3) (harg4.unread x4) (harg5.unread x5) g11 g12 g13 g14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) (arg11.view.writes (Elt Ideal) arg11.view.junk L11) (arg12.view.writes (Elt Ideal) arg12.view.junk L12) G13 G14 init (k0_t1_loop i).trips).1 (k0_t2_loop i).trips = ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) (arg11.view.writes (Elt Ideal) arg11.view.junk L11) (arg12.view.writes (Elt Ideal) arg12.view.junk L12) G13 G14 init (k0_t1_loop i).trips).1, [], [], [], []) := (congrArg (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 v58 (harg3.unread x3) (harg4.unread x4) (harg5.unread x5) g11 g12 g13 g14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 (harg3.unread x3) (harg4.unread x4) (harg5.unread x5) (arg11.view.writes (Elt Ideal) arg11.view.junk L11) (arg12.view.writes (Elt Ideal) arg12.view.junk L12) G13 G14 init (k0_t1_loop i).trips).1) h0).trans rfl
  obtain ⟨l1, l2, l3⟩ := loop1 𝒱 c bd i arg2 harg2 arg3 harg3 arg4 harg4 arg5 harg5 arg6 harg6 arg7 harg7 arg8 harg8 arg9 harg9 arg10 harg10 arg11 harg11 arg12 harg12 arg13 harg13 arg14 harg14 arg1 v0 v1 v14 v31 v32 H R ht hv (arg11.view.writes (Elt Ideal) arg11.view.junk L11) (arg12.view.writes (Elt Ideal) arg12.view.junk L12) G13 G14 init hi hs hp _ le_rfl
  exact ⟨fun r d => (congrFun (congrArg (fun x => x.1) hT) (ix2 r d)).trans (l1 r d),
    holds2_of_eq (cov_drop _ _ _ _ (congrArg (fun x => x.2.1) hT) _) l2,
    holds2_of_eq (cov_drop _ _ _ _ (congrArg (fun x => x.2.2.1) hT) _) l3⟩

set_option maxHeartbeats 800000 in
set_option maxRecDepth 8192 in
/-- Loop 3 and the loop of no trips behind it: the sum holds the blocks before the one whose products stand ready. -/
theorem end3 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v60 : FVec Ideal S512x256 .f32) (v61 : Vec Ideal S512x256 .bf16) (v74 : FVec Ideal S512x1 .f32) (v91 : FVec Ideal S512x128 .bf16) (v93 : FVec Ideal S512x1 .f32) (v116 : FVec Ideal S512x256 .bf16) (v139 : FVec Ideal S512x512 .bf16) (cst_78 : FVec Ideal S512x256 .f32) (v153 : BitVec 32)
    {A : Args} {h : Fin 8} {x3 x4 x5 : Vec Ideal S4096x128 .bf16} {ρ : Fin 512 → Fin 4096}
    (H : KeyArr A h x3 x4 x5) (R : RowBlk A h ρ v61 v91 v74 (v93)) (ht : (k0_t3_loop i).trips ≤ 3)
    (hv : ∀ r, 1024 * (k0_t3_loop i).trips ≤ (ρ r).val + 1)
    (L13 L14 : List (View.Piece (Elt Ideal) S1x512x512 .f32))
    (G11 : BufTy.Contents (Elt Ideal) arg11.view.ty) (G12 : BufTy.Contents (Elt Ideal) arg12.view.ty)
    (g11 : BufTy.Contents (Elt Ideal) arg11.view.ty) (g12 : BufTy.Contents (Elt Ideal) arg12.view.ty)
    (g13 : BufTy.Contents (Elt Ideal) arg13.view.ty) (g14 : BufTy.Contents (Elt Ideal) arg14.view.ty) (init : FVec Ideal S512x256 .f32)
    (hi : ∀ r d, (init (ix2 r d) : EReal) = ((0 : ℝ) : EReal))
    (hs : Holds2 (arg13.view.readCov L13 (Rect.unit ![0, 0, 0] S1x512x512.size inb_S1x512x512_S1x512x512_0_0_0).toLoadRect) fun r n => A.raw h (ρ r) (nb 0 n))
    (hp : Holds2 (arg14.view.readCov L14 (Rect.unit ![0, 0, 0] S1x512x512.size inb_S1x512x512_S1x512x512_0_0_0).toLoadRect) fun r n => A.dp h (ρ r) (nb 0 n)) :
    (∀ r d, ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 v153 (harg3.unread x3) (harg4.unread x4) (harg5.unread x5) g11 g12 g13 g14 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 (arg13.view.writes (Elt Ideal) arg13.view.junk L13) (arg14.view.writes (Elt Ideal) arg14.view.junk L14) init (k0_t3_loop i).trips).1 (k0_t4_loop i).trips).1 (ix2 r d) : EReal) = ((∑ j ∈ Finset.range (2 * (k0_t3_loop i).trips), part A h (ρ r) j d : ℝ) : EReal))
      ∧ Holds2 (arg13.view.readCov ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 v153 (harg3.unread x3) (harg4.unread x4) (harg5.unread x5) g11 g12 g13 g14 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 (arg13.view.writes (Elt Ideal) arg13.view.junk L13) (arg14.view.writes (Elt Ideal) arg14.view.junk L14) init (k0_t3_loop i).trips).1 (k0_t4_loop i).trips).2.2.2.1 ++ ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 (arg13.view.writes (Elt Ideal) arg13.view.junk L13) (arg14.view.writes (Elt Ideal) arg14.view.junk L14) init (k0_t3_loop i).trips).2.2.2.1 ++ L13)) (Rect.unit ![0, 0, 0] S1x512x512.size inb_S1x512x512_S1x512x512_0_0_0).toLoadRect) (fun r n => A.raw h (ρ r) (nb (2 * (k0_t3_loop i).trips) n))
      ∧ Holds2 (arg14.view.readCov ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 v153 (harg3.unread x3) (harg4.unread x4) (harg5.unread x5) g11 g12 g13 g14 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 (arg13.view.writes (Elt Ideal) arg13.view.junk L13) (arg14.view.writes (Elt Ideal) arg14.view.junk L14) init (k0_t3_loop i).trips).1 (k0_t4_loop i).trips).2.2.2.2 ++ ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 (arg13.view.writes (Elt Ideal) arg13.view.junk L13) (arg14.view.writes (Elt Ideal) arg14.view.junk L14) init (k0_t3_loop i).trips).2.2.2.2 ++ L14)) (Rect.unit ![0, 0, 0] S1x512x512.size inb_S1x512x512_S1x512x512_0_0_0).toLoadRect) (fun r n => A.dp h (ρ r) (nb (2 * (k0_t3_loop i).trips) n)) := by
  have h0 : (k0_t4_loop i).trips = 0 := Scf.rem_trips _ _
  have hT : st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 v153 (harg3.unread x3) (harg4.unread x4) (harg5.unread x5) g11 g12 g13 g14 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 (arg13.view.writes (Elt Ideal) arg13.view.junk L13) (arg14.view.writes (Elt Ideal) arg14.view.junk L14) init (k0_t3_loop i).trips).1 (k0_t4_loop i).trips = ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 (arg13.view.writes (Elt Ideal) arg13.view.junk L13) (arg14.view.writes (Elt Ideal) arg14.view.junk L14) init (k0_t3_loop i).trips).1, [], [], [], []) := (congrArg (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 v153 (harg3.unread x3) (harg4.unread x4) (harg5.unread x5) g11 g12 g13 g14 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 (harg3.unread x3) (harg4.unread x4) (harg5.unread x5) G11 G12 (arg13.view.writes (Elt Ideal) arg13.view.junk L13) (arg14.view.writes (Elt Ideal) arg14.view.junk L14) init (k0_t3_loop i).trips).1) h0).trans rfl
  obtain ⟨l1, l2, l3⟩ := loop3 𝒱 c bd i arg2 harg2 arg3 harg3 arg4 harg4 arg5 harg5 arg6 harg6 arg7 harg7 arg8 harg8 arg9 harg9 arg10 harg10 arg11 harg11 arg12 harg12 arg13 harg13 arg14 harg14 arg1 v0 v60 v61 v74 v91 v93 v116 v139 cst_78 H R ht hv G11 G12 (arg13.view.writes (Elt Ideal) arg13.view.junk L13) (arg14.view.writes (Elt Ideal) arg14.view.junk L14) init hi hs hp _ le_rfl
  exact ⟨fun r d => (congrFun (congrArg (fun x => x.1) hT) (ix2 r d)).trans (l1 r d),
    holds2_of_eq (cov_drop _ _ _ _ (congrArg (fun x => x.2.2.2.1) hT) _) l2,
    holds2_of_eq (cov_drop _ _ _ _ (congrArg (fun x => x.2.2.2.2) hT) _) l3⟩

set_option maxHeartbeats 800000 in
set_option maxRecDepth 8192 in
/-- Loop 5 and the loop of no trips behind it: the sum holds the blocks before the one whose products stand ready. -/
theorem end5 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v156 : Vec Ideal S512x256 .bf16) (v169 : FVec Ideal S512x1 .f32) (v186 : FVec Ideal S512x128 .bf16) (v188 : FVec Ideal S512x1 .f32) (v290 : BitVec 32)
    {A : Args} {h : Fin 8} {x3 x4 x5 : Vec Ideal S4096x128 .bf16} {ρ : Fin 512 → Fin 4096}
    (H : KeyArr A h x3 x4 x5) (R : RowBlk A h ρ v156 v186 v169 (v188)) (ht : (k0_t5_loop i).trips ≤ 3)
    (hv : ∀ r, 1024 * (k0_t5_loop i).trips ≤ (ρ r).val + 1)
    (L13 L14 : List (View.Piece (Elt Ideal) S1x512x512 .f32))
    (G11 : BufTy.Contents (Elt Ideal) arg11.view.ty) (G12 : BufTy.Contents (Elt Ideal) arg12.view.ty)
    (g11 : BufTy.Contents (Elt Ideal) arg11.view.ty) (g12 : BufTy.Contents (Elt Ideal) arg12.view.ty)
    (g13 : BufTy.Contents (Elt Ideal) arg13.view.ty) (g14 : BufTy.Contents (Elt Ideal) arg14.view.ty) (init : FVec Ideal S512x256 .f32)
    (hi : ∀ r d, (init (ix2 r d) : EReal) = ((0 : ℝ) : EReal))
    (hs : Holds2 (arg13.view.readCov L13 (Rect.unit ![0, 0, 0] S1x512x512.size inb_S1x512x512_S1x512x512_0_0_0).toLoadRect) fun r n => A.raw h (ρ r) (nb 0 n))
    (hp : Holds2 (arg14.view.readCov L14 (Rect.unit ![0, 0, 0] S1x512x512.size inb_S1x512x512_S1x512x512_0_0_0).toLoadRect) fun r n => A.dp h (ρ r) (nb 0 n)) :
    (∀ r d, ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 v290 (harg3.unread x3) (harg4.unread x4) (harg5.unread x5) g11 g12 g13 g14 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 (arg13.view.writes (Elt Ideal) arg13.view.junk L13) (arg14.view.writes (Elt Ideal) arg14.view.junk L14) init (k0_t5_loop i).trips).1 (k0_t6_loop i).trips).1 (ix2 r d) : EReal) = ((∑ j ∈ Finset.range (2 * (k0_t5_loop i).trips), part A h (ρ r) j d : ℝ) : EReal))
      ∧ Holds2 (arg13.view.readCov ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 v290 (harg3.unread x3) (harg4.unread x4) (harg5.unread x5) g11 g12 g13 g14 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 (arg13.view.writes (Elt Ideal) arg13.view.junk L13) (arg14.view.writes (Elt Ideal) arg14.view.junk L14) init (k0_t5_loop i).trips).1 (k0_t6_loop i).trips).2.2.2.1 ++ ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 (arg13.view.writes (Elt Ideal) arg13.view.junk L13) (arg14.view.writes (Elt Ideal) arg14.view.junk L14) init (k0_t5_loop i).trips).2.2.2.1 ++ L13)) (Rect.unit ![0, 0, 0] S1x512x512.size inb_S1x512x512_S1x512x512_0_0_0).toLoadRect) (fun r n => A.raw h (ρ r) (nb (2 * (k0_t5_loop i).trips) n))
      ∧ Holds2 (arg14.view.readCov ((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 v290 (harg3.unread x3) (harg4.unread x4) (harg5.unread x5) g11 g12 g13 g14 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 (arg13.view.writes (Elt Ideal) arg13.view.junk L13) (arg14.view.writes (Elt Ideal) arg14.view.junk L14) init (k0_t5_loop i).trips).1 (k0_t6_loop i).trips).2.2.2.2 ++ ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 (arg13.view.writes (Elt Ideal) arg13.view.junk L13) (arg14.view.writes (Elt Ideal) arg14.view.junk L14) init (k0_t5_loop i).trips).2.2.2.2 ++ L14)) (Rect.unit ![0, 0, 0] S1x512x512.size inb_S1x512x512_S1x512x512_0_0_0).toLoadRect) (fun r n => A.dp h (ρ r) (nb (2 * (k0_t5_loop i).trips) n)) := by
  have h0 : (k0_t6_loop i).trips = 0 := Scf.rem_trips _ _
  have hT : st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 v290 (harg3.unread x3) (harg4.unread x4) (harg5.unread x5) g11 g12 g13 g14 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 (arg13.view.writes (Elt Ideal) arg13.view.junk L13) (arg14.view.writes (Elt Ideal) arg14.view.junk L14) init (k0_t5_loop i).trips).1 (k0_t6_loop i).trips = ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 (arg13.view.writes (Elt Ideal) arg13.view.junk L13) (arg14.view.writes (Elt Ideal) arg14.view.junk L14) init (k0_t5_loop i).trips).1, [], [], [], []) := (congrArg (st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 v290 (harg3.unread x3) (harg4.unread x4) (harg5.unread x5) g11 g12 g13 g14 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 (harg3.unread x3) (harg4.unread x4) (harg5.unread x5) G11 G12 (arg13.view.writes (Elt Ideal) arg13.view.junk L13) (arg14.view.writes (Elt Ideal) arg14.view.junk L14) init (k0_t5_loop i).trips).1) h0).trans rfl
  obtain ⟨l1, l2, l3⟩ := loop5 𝒱 c bd i arg2 harg2 arg3 harg3 arg4 harg4 arg5 harg5 arg6 harg6 arg7 harg7 arg8 harg8 arg9 harg9 arg10 harg10 arg11 harg11 arg12 harg12 arg13 harg13 arg14 harg14 arg1 v0 v156 v169 v186 v188 H R ht hv G11 G12 (arg13.view.writes (Elt Ideal) arg13.view.junk L13) (arg14.view.writes (Elt Ideal) arg14.view.junk L14) init hi hs hp _ le_rfl
  exact ⟨fun r d => (congrFun (congrArg (fun x => x.1) hT) (ix2 r d)).trans (l1 r d),
    holds2_of_eq (cov_drop _ _ _ _ (congrArg (fun x => x.2.2.2.1) hT) _) l2,
    holds2_of_eq (cov_drop _ _ _ _ (congrArg (fun x => x.2.2.2.2) hT) _) l3⟩

set_option maxHeartbeats 800000 in
set_option maxRecDepth 8192 in
/-- Loop 7 and the loop of no trips behind it: the sum holds the blocks before the one whose products stand ready. -/
theorem end7 (𝒱 : Variants) (c : Dev nD) (bd : Option 𝒱.V) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg1 : BitVec 32) (v0 : FVec Ideal S512x256 .f32) (v163 : IVec S512x1 32) (v169 : FVec Ideal S512x1 .f32) (v188 : FVec Ideal S512x1 .f32) (v292 : FVec Ideal S512x256 .f32) (v293 : Vec Ideal S512x256 .bf16) (v306 : FVec Ideal S512x1 .f32) (v323 : FVec Ideal S512x128 .bf16) (v325 : FVec Ideal S512x1 .f32) (v348 : FVec Ideal S512x256 .bf16) (v351 : IVec S1x512 32) (v353 : FVec Ideal S512x512 .f32) (v385 : BitVec 32)
    {A : Args} {h : Fin 8} {x3 x4 x5 : Vec Ideal S4096x128 .bf16} {ρ : Fin 512 → Fin 4096}
    (H : KeyArr A h x3 x4 x5) (R : RowBlk A h ρ v293 v323 v306 (v325)) (ht : (k0_t7_loop i).trips ≤ 3)
    (hv : ∀ r, 1024 * (k0_t7_loop i).trips ≤ (ρ r).val + 1)
    (L11 L12 : List (View.Piece (Elt Ideal) S1x512x512 .f32))
    (G13 : BufTy.Contents (Elt Ideal) arg13.view.ty) (G14 : BufTy.Contents (Elt Ideal) arg14.view.ty)
    (g11 : BufTy.Contents (Elt Ideal) arg11.view.ty) (g12 : BufTy.Contents (Elt Ideal) arg12.view.ty)
    (g13 : BufTy.Contents (Elt Ideal) arg13.view.ty) (g14 : BufTy.Contents (Elt Ideal) arg14.view.ty) (init : FVec Ideal S512x256 .f32)
    (hi : ∀ r d, (init (ix2 r d) : EReal) = ((0 : ℝ) : EReal))
    (hs : Holds2 (arg11.view.readCov L11 (Rect.unit ![0, 0, 0] S1x512x512.size inb_S1x512x512_S1x512x512_0_0_0).toLoadRect) fun r n => A.raw h (ρ r) (nb 0 n))
    (hp : Holds2 (arg12.view.readCov L12 (Rect.unit ![0, 0, 0] S1x512x512.size inb_S1x512x512_S1x512x512_0_0_0).toLoadRect) fun r n => A.dp h (ρ r) (nb 0 n)) :
    (∀ r d, ((st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 v385 (harg3.unread x3) (harg4.unread x4) (harg5.unread x5) g11 g12 g13 g14 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) (arg11.view.writes (Elt Ideal) arg11.view.junk L11) (arg12.view.writes (Elt Ideal) arg12.view.junk L12) G13 G14 init (k0_t7_loop i).trips).1 (k0_t8_loop i).trips).1 (ix2 r d) : EReal) = ((∑ j ∈ Finset.range (2 * (k0_t7_loop i).trips), part A h (ρ r) j d : ℝ) : EReal))
      ∧ Holds2 (arg11.view.readCov ((st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 v385 (harg3.unread x3) (harg4.unread x4) (harg5.unread x5) g11 g12 g13 g14 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) (arg11.view.writes (Elt Ideal) arg11.view.junk L11) (arg12.view.writes (Elt Ideal) arg12.view.junk L12) G13 G14 init (k0_t7_loop i).trips).1 (k0_t8_loop i).trips).2.1 ++ ((st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) (arg11.view.writes (Elt Ideal) arg11.view.junk L11) (arg12.view.writes (Elt Ideal) arg12.view.junk L12) G13 G14 init (k0_t7_loop i).trips).2.1 ++ L11)) (Rect.unit ![0, 0, 0] S1x512x512.size inb_S1x512x512_S1x512x512_0_0_0).toLoadRect) (fun r n => A.raw h (ρ r) (nb (2 * (k0_t7_loop i).trips) n))
      ∧ Holds2 (arg12.view.readCov ((st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 v385 (harg3.unread x3) (harg4.unread x4) (harg5.unread x5) g11 g12 g13 g14 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) (arg11.view.writes (Elt Ideal) arg11.view.junk L11) (arg12.view.writes (Elt Ideal) arg12.view.junk L12) G13 G14 init (k0_t7_loop i).trips).1 (k0_t8_loop i).trips).2.2.1 ++ ((st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) (arg11.view.writes (Elt Ideal) arg11.view.junk L11) (arg12.view.writes (Elt Ideal) arg12.view.junk L12) G13 G14 init (k0_t7_loop i).trips).2.2.1 ++ L12)) (Rect.unit ![0, 0, 0] S1x512x512.size inb_S1x512x512_S1x512x512_0_0_0).toLoadRect) (fun r n => A.dp h (ρ r) (nb (2 * (k0_t7_loop i).trips) n)) := by
  have h0 : (k0_t8_loop i).trips = 0 := Scf.rem_trips _ _
  have hT : st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 v385 (harg3.unread x3) (harg4.unread x4) (harg5.unread x5) g11 g12 g13 g14 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) (arg11.view.writes (Elt Ideal) arg11.view.junk L11) (arg12.view.writes (Elt Ideal) arg12.view.junk L12) G13 G14 init (k0_t7_loop i).trips).1 (k0_t8_loop i).trips = ((st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) (arg11.view.writes (Elt Ideal) arg11.view.junk L11) (arg12.view.writes (Elt Ideal) arg12.view.junk L12) G13 G14 init (k0_t7_loop i).trips).1, [], [], [], []) := (congrArg (st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 v385 (harg3.unread x3) (harg4.unread x4) (harg5.unread x5) g11 g12 g13 g14 (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 (harg3.unread x3) (harg4.unread x4) (harg5.unread x5) (arg11.view.writes (Elt Ideal) arg11.view.junk L11) (arg12.view.writes (Elt Ideal) arg12.view.junk L12) G13 G14 init (k0_t7_loop i).trips).1) h0).trans rfl
  obtain ⟨l1, l2, l3⟩ := loop7 𝒱 c bd i arg2 harg2 arg3 harg3 arg4 harg4 arg5 harg5 arg6 harg6 arg7 harg7 arg8 harg8 arg9 harg9 arg10 harg10 arg11 harg11 arg12 harg12 arg13 harg13 arg14 harg14 arg1 v0 v163 v169 v188 v292 v293 v306 v323 v325 v348 v351 v353 H R ht hv (arg11.view.writes (Elt Ideal) arg11.view.junk L11) (arg12.view.writes (Elt Ideal) arg12.view.junk L12) G13 G14 init hi hs hp _ le_rfl
  exact ⟨fun r d => (congrFun (congrArg (fun x => x.1) hT) (ix2 r d)).trans (l1 r d),
    holds2_of_eq (cov_drop _ _ _ _ (congrArg (fun x => x.2.1) hT) _) l2,
    holds2_of_eq (cov_drop _ _ _ _ (congrArg (fun x => x.2.2.1) hT) _) l3⟩

end Cert.Proof.KerAttn

end
-- ==== Proof.Rows.lean ====
/-
  Blocks of 512 query rows of a window of 2048 rows: what the loads of one block read, the row means of output times output
  gradient, and the rows in which the kernel stores those means.
-/
module

public import proofs.«01_k».proof.Proof.Blocks
public import Idealize.ShloMosaic.Lib.ValueLayoutCasts

@[expose] public section

noncomputable section

namespace Cert.Proof.KerAttn

open Idealize.ShloMosaic Idealize.ShloMosaic.ValueIdx Cert.KernelIdeal Cert.KernelIdeal.Gen Cert.Proof.Attn

/-- Row `r` of window `g`. -/
def wrow (g : Fin 2) (r : Fin 2048) : Fin 4096 := ⟨2048 * g.val + r.val, by omega⟩

/-- Row `r` of block `b` of a window. -/
def brow (b : Fin 4) (r : Fin 512) : Fin 2048 := ⟨512 * b.val + r.val, by omega⟩

/-- The windows of queries, means, log-sums and output gradients hold the reals of `A` at head `h` and window `g`. -/
structure RowArr (A : Args) (h : Fin 8) (g : Fin 2) (x2 : Vec Ideal S2048x256 .bf16) (x6 : Vec Ideal S2048x128 .f32)
    (x7 : Vec Ideal S1x2048x1 .f32) (x8 : Vec Ideal S2048x128 .f32) : Prop where
  q : ∀ r d, (x2 (ix2 r d) : EReal) = ((A.q (wrow g r) (c256 h d) : ℝ) : EReal)
  o : ∀ r c, (x6 (ix2 r c) : EReal) = ((A.o h (wrow g r) c : ℝ) : EReal)
  lse : ∀ r, (x7 (ix3 (0 : Fin 1) r (0 : Fin 1)) : EReal)
    = (((A.m h (wrow g r) + Real.log (A.l h (wrow g r))) / Real.log 2 : ℝ) : EReal)
  g : ∀ r c, (x8 (ix2 r c) : EReal) = ((A.g (wrow g r) (c128 h c) : ℝ) : EReal)

/-- The block starting at row `512 b` of a window, as a load reads it. -/
theorem read_row2 {κ : Kind} {sp : Space} {e : EltTy} {w : ℕ} (m : Memref sig κ sp ⟨2, ![2048, w]⟩ e) (hm : m.IsWhole)
    (X : (⟨2, ![2048, w]⟩ : Shape).Idx → Elt Ideal e) (b : Fin 4) {off : Fin 2 → ℕ} (ho : off = ![512 * b.val, 0])
    (hb : ∀ a, off a + (![512, w] : Fin 2 → ℕ) a ≤ (⟨2, ![2048, w]⟩ : Shape).size a) (r : Fin 512) (d : Fin w) :
    (View.readAt (Elt Ideal) m.view (Rect.unit (s := ⟨2, ![2048, w]⟩) off ![512, w] hb).toLoadRect (hm.unread X) (ix2 r d) : Elt Ideal e)
      = X (ix2 (brow b r) d) := by
  subst ho
  rw [hm.readAt_unread]
  refine congrArg X (funext fun a => Fin.ext ?_)
  match a with
  | ⟨0, _⟩ => show 512 * b.val + 1 * r.val = 512 * b.val + r.val; omega
  | ⟨1, _⟩ => show 0 + 1 * d.val = d.val; omega

/-- The block of the log-sums starting at row `512 b`, as a load reads it. -/
theorem read_row3 {κ : Kind} {sp : Space} {e : EltTy} (m : Memref sig κ sp S1x2048x1 e) (hm : m.IsWhole)
    (X : S1x2048x1.Idx → Elt Ideal e) (b : Fin 4) {off : Fin 3 → ℕ} (ho : off = ![0, 512 * b.val, 0])
    (hb : ∀ a, off a + (![1, 512, 1] : Fin 3 → ℕ) a ≤ S1x2048x1.size a) (r : Fin 512) :
    (View.readAt (Elt Ideal) m.view (Rect.unit (s := S1x2048x1) off ![1, 512, 1] hb).toLoadRect (hm.unread X)
      (ix3 (0 : Fin 1) r (0 : Fin 1)) : Elt Ideal e) = X (ix3 (0 : Fin 1) (brow b r) (0 : Fin 1)) := by
  subst ho
  rw [hm.readAt_unread]
  refine congrArg X (funext fun a => Fin.ext ?_)
  match a with
  | ⟨0, _⟩ => rfl
  | ⟨1, _⟩ => show 512 * b.val + 1 * r.val = 512 * b.val + r.val; omega
  | ⟨2, _⟩ => rfl

/-- The row means: the sum over the lanes of the products. -/
theorem mean_at (y o : Vec Ideal S512x128 .f32) (r : Fin 512) :
    (k0_pay68 y o (ix2 r (0 : Fin 1)) : EReal) = ∑ k : Fin 128, (y (ix2 r k) : EReal) * (o (ix2 r k) : EReal) := by
  unfold k0_pay68
  refine (shapeCast_a_a1_apply (a := 512) _ shapeCasts_S512_S512x1 r 0).trans ?_
  refine (Ideal.multiReduction_add_single _ _ reduces_S512x128_S512 (.inl rfl) rfl (ix1 r)).trans ?_
  refine Finset.sum_congr rfl fun k _ => ?_
  have el : reduces_S512x128_S512.lift (ix1 r) k = ix2 r k := by
    funext a
    match a with
    | ⟨0, _⟩ => rfl
    | ⟨1, _⟩ => rfl
  show (y _ : EReal) * (shapeCast S512x128 o shapeCasts_S512x128_S512x128 _ : EReal) = _
  rw [el, shapeCast_self]; rfl

/-- Rows 0 to 255 of the means, laid as a row of lanes. -/
theorem lanes_lo (y o : Vec Ideal S512x128 .f32) (w : Fin 256) :
    k0_pay69 y o (ix4 (0 : Fin 1) (0 : Fin 1) (0 : Fin 1) w) = k0_pay68 y o (ix2 (⟨w.val, by omega⟩ : Fin 512) (0 : Fin 1)) := by
  unfold k0_pay69
  refine (shapeCast_apply _ shapeCasts_S1x256_S1x1x1x256 _ (ix2 (0 : Fin 1) w) ?_).trans ?_
  · rw [Shape.rowMajor_val_two, Shape.rowMajor_val_four]
    show 0 * 256 + w.val = ((0 * 1 + 0) * 1 + 0) * 256 + w.val; omega
  refine (extractStridedSlice_apply _ _ slices_S128x256_o0_0_S1x256 _ (ix2 (0 : Fin 128) w) ?_).trans ?_
  · intro a
    match a with
    | ⟨0, _⟩ => rfl
    | ⟨1, _⟩ => show w.val = 0 + w.val; omega
  refine (transpose_apply _ _ transposes_S256x128_p1_0_S128x256 _ (ix2 w (0 : Fin 128)) ?_).trans ?_
  · intro a
    match a with
    | ⟨0, _⟩ => rfl
    | ⟨1, _⟩ => rfl
  refine (broadcastTo_apply _ broadcasts_S256x1_S256x128 _ (ix2 w (0 : Fin 1)) ?_).trans ?_
  · intro a
    match a with
    | ⟨0, _⟩ => rfl
    | ⟨1, _⟩ => rfl
  rw [shapeCast_self]
  refine extractStridedSlice_apply _ _ slices_S512x1_o0_0_S256x1 _ _ ?_
  intro a
  match a with
  | ⟨0, _⟩ => show w.val = 0 + w.val; omega
  | ⟨1, _⟩ => rfl

/-- Rows 256 to 511 of the means, laid as a row of lanes. -/
theorem lanes_hi (y o : Vec Ideal S512x128 .f32) (w : Fin 256) :
    k0_pay70 y o (ix4 (0 : Fin 1) (0 : Fin 1) (0 : Fin 1) w) = k0_pay68 y o (ix2 (⟨256 + w.val, by omega⟩ : Fin 512) (0 : Fin 1)) := by
  unfold k0_pay70
  refine (shapeCast_apply _ shapeCasts_S1x256_S1x1x1x256 _ (ix2 (0 : Fin 1) w) ?_).trans ?_
  · rw [Shape.rowMajor_val_two, Shape.rowMajor_val_four]
    show 0 * 256 + w.val = ((0 * 1 + 0) * 1 + 0) * 256 + w.val; omega
  refine (extractStridedSlice_apply _ _ slices_S128x256_o0_0_S1x256 _ (ix2 (0 : Fin 128) w) ?_).trans ?_
  · intro a
    match a with
    | ⟨0, _⟩ => rfl
    | ⟨1, _⟩ => show w.val = 0 + w.val; omega
  refine (transpose_apply _ _ transposes_S256x128_p1_0_S128x256 _ (ix2 w (0 : Fin 128)) ?_).trans ?_
  · intro a
    match a with
    | ⟨0, _⟩ => rfl
    | ⟨1, _⟩ => rfl
  refine (broadcastTo_apply _ broadcasts_S256x1_S256x128 _ (ix2 w (0 : Fin 1)) ?_).trans ?_
  · intro a
    match a with
    | ⟨0, _⟩ => rfl
    | ⟨1, _⟩ => rfl
  rw [shapeCast_self]
  refine extractStridedSlice_apply _ _ slices_S512x1_o256_0_S256x1 _ _ ?_
  intro a
  match a with
  | ⟨0, _⟩ => rfl
  | ⟨1, _⟩ => rfl

variable {A : Args} {h : Fin 8} {g : Fin 2} {x2 : Vec Ideal S2048x256 .bf16} {x6 : Vec Ideal S2048x128 .f32}
  {x7 : Vec Ideal S1x2048x1 .f32} {x8 : Vec Ideal S2048x128 .f32}

/-- The row means of a block are the reals `D`. -/
theorem mean_real {κ κ' : Kind} {sp sp' : Space} (m6 : Memref sig κ sp S2048x128 .f32) (h6 : m6.IsWhole)
    (m8 : Memref sig κ' sp' S2048x128 .f32) (h8 : m8.IsWhole) (H : RowArr A h g x2 x6 x7 x8) (b : Fin 4)
    {o6 o8 : Fin 2 → ℕ} (e6 : o6 = ![512 * b.val, 0]) (e8 : o8 = ![512 * b.val, 0])
    (b6 : ∀ a, o6 a + (![512, 128] : Fin 2 → ℕ) a ≤ S2048x128.size a)
    (b8 : ∀ a, o8 a + (![512, 128] : Fin 2 → ℕ) a ≤ S2048x128.size a) (r : Fin 512) :
    (k0_pay68 (View.readAt (Elt Ideal) m8.view (Rect.unit (s := S2048x128) o8 ![512, 128] b8).toLoadRect (h8.unread x8))
      (View.readAt (Elt Ideal) m6.view (Rect.unit (s := S2048x128) o6 ![512, 128] b6).toLoadRect (h6.unread x6)) (ix2 r (0 : Fin 1)) : EReal)
      = ((A.D h (wrow g (brow b r)) : ℝ) : EReal) := by
  rw [mean_at]
  have e : ∀ k : Fin 128, ((View.readAt (Elt Ideal) m8.view (Rect.unit (s := S2048x128) o8 ![512, 128] b8).toLoadRect (h8.unread x8) (ix2 r k) : EReal)
      * (View.readAt (Elt Ideal) m6.view (Rect.unit (s := S2048x128) o6 ![512, 128] b6).toLoadRect (h6.unread x6) (ix2 r k) : EReal))
      = ((A.g (wrow g (brow b r)) (c128 h k) : ℝ) : EReal) * ((A.o h (wrow g (brow b r)) k : ℝ) : EReal) := fun k =>
    congrArg₂ (· * ·) ((read_row2 m8 h8 x8 b e8 b8 r k).trans (H.g _ k)) ((read_row2 m6 h6 x6 b e6 b6 r k).trans (H.o _ k))
  rw [Finset.sum_congr rfl fun k _ => e k, sum_mul_coe (fun _ => rfl) (fun _ => rfl)]
  unfold Args.D
  exact congrArg _ (Finset.sum_congr rfl fun k _ => mul_comm _ _)

/-- The loads of block `b` hold the reals of `A` at its rows. -/
theorem row_blk {κ2 κ6 κ7 κ8 : Kind} {sp2 sp6 sp7 sp8 : Space} (m2 : Memref sig κ2 sp2 S2048x256 .bf16) (h2 : m2.IsWhole)
    (m6 : Memref sig κ6 sp6 S2048x128 .f32) (h6 : m6.IsWhole) (m7 : Memref sig κ7 sp7 S1x2048x1 .f32) (h7 : m7.IsWhole)
    (m8 : Memref sig κ8 sp8 S2048x128 .f32) (h8 : m8.IsWhole) (H : RowArr A h g x2 x6 x7 x8) (b : Fin 4)
    {o2 o6 o8 : Fin 2 → ℕ} {o7 : Fin 3 → ℕ} (e2 : o2 = ![512 * b.val, 0]) (e6 : o6 = ![512 * b.val, 0])
    (e7 : o7 = ![0, 512 * b.val, 0]) (e8 : o8 = ![512 * b.val, 0])
    (b2 : ∀ a, o2 a + (![512, 256] : Fin 2 → ℕ) a ≤ S2048x256.size a)
    (b6 : ∀ a, o6 a + (![512, 128] : Fin 2 → ℕ) a ≤ S2048x128.size a)
    (b7 : ∀ a, o7 a + (![1, 512, 1] : Fin 3 → ℕ) a ≤ S1x2048x1.size a)
    (b8 : ∀ a, o8 a + (![512, 128] : Fin 2 → ℕ) a ≤ S2048x128.size a) :
    RowBlk A h (fun r => wrow g (brow b r))
      (View.readAt (Elt Ideal) m2.view (Rect.unit (s := S2048x256) o2 ![512, 256] b2).toLoadRect (h2.unread x2))
      (k0_pay71 (View.readAt (Elt Ideal) m8.view (Rect.unit (s := S2048x128) o8 ![512, 128] b8).toLoadRect (h8.unread x8)))
      (k0_pay68 (View.readAt (Elt Ideal) m8.view (Rect.unit (s := S2048x128) o8 ![512, 128] b8).toLoadRect (h8.unread x8))
        (View.readAt (Elt Ideal) m6.view (Rect.unit (s := S2048x128) o6 ![512, 128] b6).toLoadRect (h6.unread x6)))
      (k0_pay72 (View.readAt (Elt Ideal) m7.view (Rect.unit (s := S1x2048x1) o7 ![1, 512, 1] b7).toLoadRect (h7.unread x7))) where
  q r d := (read_row2 m2 h2 x2 b e2 b2 r d).trans (H.q _ d)
  g r d := (read_row2 m8 h8 x8 b e8 b8 r d).trans (H.g _ d)
  D r := mean_real m6 h6 m8 h8 H b e6 e8 b6 b8 r
  lse r := by
    unfold k0_pay72
    refine (shapeCast_apply _ shapeCasts_S1x512x1_S512x1 (ix2 r (0 : Fin 1)) (ix3 (0 : Fin 1) r (0 : Fin 1)) ?_).trans
      ((read_row3 m7 h7 x7 b e7 b7 r).trans (H.lse _))
    rw [Shape.rowMajor_val_three, Shape.rowMajor_val_two]
    show (0 * 512 + r.val) * 1 + 0 = r.val * 1 + 0; omega

/-- The row numbers of a block, as words. -/
theorem row_word (i : grid0.Coords) (r : Fin 512) :
    k0_pay67 i (ix2 r (0 : Fin 1)) = BitVec.ofNat 32 (2048 * (i 1).val + r.val) := by
  unfold k0_pay67
  show IntOp.addi (Scalar.addi (Scalar.muli (Scalar.addi (Scalar.muli 4#32 (BitVec.ofNat 32 (i 1).val)) 0#32) 512#32) 0#32)
    (iota .tc S512x1 32 [0] iota_S512x1_d0_w32 (ix2 r (0 : Fin 1))) = _
  rw [iota_single_apply]
  have hi : (i 1).val < 2 := (i 1).isLt
  have hr : r.val < 512 := r.isLt
  apply BitVec.eq_of_toNat_eq
  show (((((4#32 * BitVec.ofNat 32 (i 1).val) + 0#32) * 512#32) + 0#32) + BitVec.ofNat 32 r.val).toNat = _
  simp only [BitVec.toNat_add, BitVec.toNat_mul, BitVec.toNat_ofNat]
  omega

/-- The accumulator starts at zero. -/
theorem acc_zero (r : Fin 512) (d : Fin 256) : (k0_pay66 (F := Ideal) (ix2 r d) : EReal) = ((0 : ℝ) : EReal) := by
  show Ideal.ofBits .f32 0x00000000#32 = _
  rw [lit_0]

end Cert.Proof.KerAttn
-- ==== Proof.BlockSum.lean ====
/-
  The queries' gradient as a sum over blocks of keys, and the last step of a block of queries: the masked block of keys on the
  diagonal, and the scale.
-/
module

public import proofs.«01_k».proof.Proof.Ends
public import proofs.«01_k».proof.Proof.Rows

@[expose] public section

noncomputable section

namespace Cert.Proof.KerAttn

open Idealize.ShloMosaic Idealize.ShloMosaic.ValueIdx Cert.KernelIdeal Cert.KernelIdeal.Gen Cert.Proof.Attn

theorem sum_nb (f : Fin 4096 → ℝ) : ∑ n, f n = ∑ j ∈ Finset.range 8, ∑ n : Fin 512, f (nb j n) := by
  rw [Finset.sum_range fun j => ∑ n : Fin 512, f (nb j n), ← Fintype.sum_prod_type' (f := fun (j : Fin 8) (n : Fin 512) => f (nb j n))]
  refine (Fintype.sum_equiv (finProdFinEquiv (m := 8) (n := 512)) _ _ fun x => congrArg f (Fin.ext ?_)).symm
  rw [nb_val _ x.1.isLt]
  show 512 * x.1.val + x.2.val = x.2.val + 512 * x.1.val
  omega

theorem part_zero (A : Args) (h : Fin 8) (t : Fin 4096) (j : ℕ) (hj : j < 8) (ht : t.val < 512 * j) (d : Fin 256) : part A h t j d = 0 := by
  unfold part
  refine Finset.sum_eq_zero fun n _ => ?_
  have e : A.ds h t (nb j n) = 0 := A.ds_zero h t (nb j n) fun hv => ?_
  · rw [e, zero_mul]
  have h1 : (nb j n).val ≤ t.val := hv
  rw [nb_val j hj] at h1
  omega

theorem dq_blocks (A : Args) (h : Fin 8) (t : Fin 4096) (J : ℕ) (hJ : J ≤ 8) (ht : t.val < 512 * J) (d : Fin 256) :
    A.dq h t d = (∑ j ∈ Finset.range J, part A h t j d) / Real.sqrt 192 := by
  unfold Args.dq
  rw [sum_nb]
  congr 1
  refine (Finset.sum_subset (Finset.range_mono hJ) fun j h1 h2 => ?_).symm
  rw [Finset.mem_range] at h1 h2
  exact part_zero A h t j h1 (by omega) d

variable {κ' : Kind} {sp : Space} {m3 m4 : Memref sig κ' sp S4096x128 .bf16} {h3 : m3.IsWhole} {h4 : m4.IsWhole}
variable {A : Args} {h : Fin 8} {x3 x4 x5 : Vec Ideal S4096x128 .bf16}

/-- The last step of a block of queries. -/
theorem fin_blk {ρ : Fin 512 → Fin 4096} {q : Vec Ideal S512x256 .bf16} {g : FVec Ideal S512x128 .bf16} {D lse : FVec Ideal S512x1 .f32}
    (H : KeyArr A h x3 x4 x5) (R : RowBlk A h ρ q g D lse) (J : ℕ) (hJ : J < 8) {o3 o4 : Fin 2 → ℕ} (e3 : o3 = ![512 * J, 0]) (e4 : o4 = ![512 * J, 0])
    (b3 : ∀ a, o3 a + (![512, 128] : Fin 2 → ℕ) a ≤ S4096x128.size a) (b4 : ∀ a, o4 a + (![512, 128] : Fin 2 → ℕ) a ≤ S4096x128.size a)
    {s p : Vec Ideal S1x512x512 .f32}
    (row : IVec S512x1 32) (hrow : ∀ r, row (ix2 r (0 : Fin 1)) = BitVec.ofNat 32 (ρ r).val) (w : BitVec 32) (hw : w.toNat = J)
    (hρ : ∀ r, (ρ r).val < 512 * (J + 1)) (acc : FVec Ideal S512x256 .f32)
    (ha : ∀ r d, (acc (ix2 r d) : EReal) = ((∑ j ∈ Finset.range J, part A h (ρ r) j d : ℝ) : EReal))
    (hs : Holds2 s fun r n => A.raw h (ρ r) (nb J n)) (hp : Holds2 p fun r n => A.dp h (ρ r) (nb J n)) (r : Fin 512) (d : Fin 256) :
    (k0_pay88 acc (keys (View.readAt (Elt Ideal) m3.view (Rect.unit (s := S4096x128) o3 ![512, 128] b3).toLoadRect (h3.unread x3))
        (View.readAt (Elt Ideal) m4.view (Rect.unit (s := S4096x128) o4 ![512, 128] b4).toLoadRect (h4.unread x4)))
      (k0_pay87 row D lse w s p) (constant S512x256 .f32 0x00000000#32) (ix2 r d) : EReal) = ((A.dq h (ρ r) d : ℝ) : EReal) := by
  have K := key_blk (m3 := m3) (m4 := m4) (m5 := m3) (h3 := h3) (h4 := h4) (h5 := h3) H J hJ e3 e4 rfl b3 b4 (blk_inb J hJ)
  refine (last_holds R K hs hp row hrow w (fun n => ?_) acc (fun r d => ∑ j ∈ Finset.range J, part A h (ρ r) j d) ha r d).trans ?_
  · rw [nb_val J hJ]
    apply BitVec.eq_of_toNat_eq
    show (w * 512#32 + BitVec.ofNat 32 n.val).toNat = _
    simp only [BitVec.toNat_add, BitVec.toNat_mul, BitVec.toNat_ofNat, hw]
    omega
  · rw [dq_blocks A h (ρ r) (J + 1) (by omega) (hρ r), Finset.sum_range_succ]; rfl

/-! The words and loop bounds of a grid point. -/

theorem gi_cases (i : grid0.Coords) : (i 1).val = 0 ∨ (i 1).val = 1 := by
  have : (i 1).val < 2 := (i 1).isLt
  omega

theorem off5_eq (i : grid0.Coords) (b : ℕ) (hb : b < 4) : k0_off5 i (BitVec.ofNat 32 b) = ![512 * (4 * (i 1).val + b), 0] := by
  have e : (BitVec.toNat (Scalar.indexCast (Scalar.muli (Scalar.addi (Scalar.muli 4#32 (BitVec.ofNat 32 (i 1).val)) (BitVec.ofNat 32 b)) 512#32)))
      = 512 * (4 * (i 1).val + b) := by
    have hi : (i 1).val < 2 := (i 1).isLt
    show BitVec.toNat ((4#32 * BitVec.ofNat 32 (i 1).val + BitVec.ofNat 32 b) * 512#32) = _
    simp only [BitVec.toNat_mul, BitVec.toNat_add, BitVec.toNat_ofNat]
    omega
  unfold k0_off5
  show (![BitVec.toNat (Scalar.indexCast (Scalar.muli (Scalar.addi (Scalar.muli 4#32 (BitVec.ofNat 32 (i 1).val)) (BitVec.ofNat 32 b)) 512#32)), 0] : Fin 2 → ℕ) = _
  rw [e]

theorem off10_eq (i : grid0.Coords) (b : ℕ) (hb : b < 3) : k0_off10 i (BitVec.ofNat 32 (b + 1)) = ![512 * (4 * (i 1).val + b), 0] := by
  have e : (BitVec.toNat (Scalar.indexCast (Scalar.muli (Scalar.subi (Scalar.addi (Scalar.muli 4#32 (BitVec.ofNat 32 (i 1).val)) (BitVec.ofNat 32 (b + 1))) 1#32) 512#32)))
      = 512 * (4 * (i 1).val + b) := by
    have hi : (i 1).val < 2 := (i 1).isLt
    show BitVec.toNat ((4#32 * BitVec.ofNat 32 (i 1).val + BitVec.ofNat 32 (b + 1) - 1#32) * 512#32) = _
    simp only [BitVec.toNat_mul, BitVec.toNat_add, BitVec.toNat_sub, BitVec.toNat_ofNat]
    omega
  unfold k0_off10
  show (![BitVec.toNat (Scalar.indexCast (Scalar.muli (Scalar.subi (Scalar.addi (Scalar.muli 4#32 (BitVec.ofNat 32 (i 1).val)) (BitVec.ofNat 32 (b + 1))) 1#32) 512#32)), 0] : Fin 2 → ℕ) = _
  rw [e]

theorem word_blk (i : grid0.Coords) (b : ℕ) (hb : b < 4) :
    (Scalar.addi (Scalar.muli 4#32 (BitVec.ofNat 32 (i 1).val)) (BitVec.ofNat 32 b)).toNat = 4 * (i 1).val + b := by
  have hi : (i 1).val < 2 := (i 1).isLt
  show BitVec.toNat (4#32 * BitVec.ofNat 32 (i 1).val + BitVec.ofNat 32 b) = _
  simp only [BitVec.toNat_mul, BitVec.toNat_add, BitVec.toNat_ofNat]
  omega

theorem trips1 (i : grid0.Coords) : (k0_t1_loop i).trips = 2 * (i 1).val := by
  show Scf.trips 0#32 (Scalar.addi 0#32 (Scalar.muli (Scalar.divsi (Scalar.subi (Scalar.addi (Scalar.muli 2#32 (BitVec.ofNat 32 (i 1).val)) 0#32) 0#32) 1#32) 1#32)) 1#32 = _
  rcases gi_cases i with e | e <;> rw [e] <;> decide

theorem trips5 (i : grid0.Coords) : (k0_t5_loop i).trips = 2 * (i 1).val + 1 := by
  show Scf.trips 0#32 (Scalar.addi 0#32 (Scalar.muli (Scalar.divsi (Scalar.subi (Scalar.addi (Scalar.muli 2#32 (BitVec.ofNat 32 (i 1).val)) 1#32) 0#32) 1#32) 1#32)) 1#32 = _
  rcases gi_cases i with e | e <;> rw [e] <;> decide

theorem trips3 (i : grid0.Coords) : (k0_t3_loop i).trips = 2 * (i 1).val := trips1 i

theorem trips7 (i : grid0.Coords) : (k0_t7_loop i).trips = 2 * (i 1).val + 1 := trips5 i

/-- The row numbers of block `b`, as words. -/
theorem row_blk_word (i : grid0.Coords) (b : Fin 4) (r : Fin 512) :
    (addi (broadcast S512x1 (Scalar.addi (Scalar.muli (Scalar.addi (Scalar.muli 4#32 (BitVec.ofNat 32 (i 1).val)) (BitVec.ofNat 32 b.val)) 512#32) 0#32))
      (iota .tc S512x1 32 [0] iota_S512x1_d0_w32) : IVec S512x1 32) (ix2 r (0 : Fin 1)) = BitVec.ofNat 32 (wrow (i 1) (brow b r)).val := by
  show IntOp.addi (Scalar.addi (Scalar.muli (Scalar.addi (Scalar.muli 4#32 (BitVec.ofNat 32 (i 1).val)) (BitVec.ofNat 32 b.val)) 512#32) 0#32)
    (iota .tc S512x1 32 [0] iota_S512x1_d0_w32 (ix2 r (0 : Fin 1))) = _
  rw [iota_single_apply]
  have hi : (i 1).val < 2 := (i 1).isLt
  have hr : r.val < 512 := r.isLt
  have hb : b.val < 4 := b.isLt
  apply BitVec.eq_of_toNat_eq
  show ((((4#32 * BitVec.ofNat 32 (i 1).val) + BitVec.ofNat 32 b.val) * 512#32 + 0#32) + BitVec.ofNat 32 r.val).toNat
    = (BitVec.ofNat 32 (2048 * (i 1).val + (512 * b.val + r.val))).toNat
  simp only [BitVec.toNat_add, BitVec.toNat_mul, BitVec.toNat_ofNat]
  omega

end Cert.Proof.KerAttn

end
-- ==== Proof.Pieces0.lean ====
/-
  What the body stores at a grid point, at real operands: the four blocks of the queries' gradient and the eight rows of the
  row means.
-/
module

public import proofs.«01_k».proof.Proof.IdealRun
public import proofs.«01_k».proof.Proof.BlockSum

@[expose] public section

noncomputable section

namespace Cert.Proof.KerAttn

open Idealize.ShloMosaic Idealize.ShloMosaic.TcCoe Idealize.ShloMosaic.ValueIdx Cert.KernelIdeal Cert.KernelIdeal.Gen Cert.Proof.Attn Cert.Proof.KernelIdealFrame

variable {A : Args} {h : Fin 8}

set_option maxHeartbeats 3000000 in
set_option maxRecDepth 8192 in
theorem pieces_q0 (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec Ideal S2048x256 .bf16) (x1 : Vec Ideal S4096x128 .bf16) (x2 : Vec Ideal S4096x128 .bf16) (x3 : Vec Ideal S4096x128 .bf16) (x4 : Vec Ideal S2048x128 .f32) (x5 : Vec Ideal S1x2048x1 .f32) (x6 : Vec Ideal S2048x128 .f32)
    (HK : KeyArr A h x1 x2 x3) (HR : RowArr A h (i 1) x0 x4 x5 x6)
    (fs2 : BufTy.Contents (Elt Ideal) arg13.view.ty) (fs3 : BufTy.Contents (Elt Ideal) arg14.view.ty) :
    ∃ w3 w2 w1 w0 : Vec Ideal S512x256 .f32,
      (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 fs2 fs3
        = [⟨Rect.unit (s := S2048x256) ![1536, 0] ![512, 256] inb_S2048x256_S512x256_1536_0, w3⟩, ⟨Rect.unit (s := S2048x256) ![1024, 0] ![512, 256] inb_S2048x256_S512x256_1024_0, w2⟩,
          ⟨Rect.unit (s := S2048x256) ![512, 0] ![512, 256] inb_S2048x256_S512x256_512_0, w1⟩, ⟨Rect.unit (s := S2048x256) ![0, 0] ![512, 256] inb_S2048x256_S512x256_0_0, w0⟩]
      ∧ (∀ r d, (w0 (ix2 r d) : EReal) = ((A.dq h (wrow (i 1) (brow 0 r)) d : ℝ) : EReal)) := by

  have hi : (i 1).val < 2 := (i 1).isLt
  have t1 := trips1 i
  have t3 := trips3 i
  have t5 := trips5 i
  have t7 := trips7 i
  have R0 := (row_blk arg2 harg2 arg6 harg6 arg7 harg7 arg8 harg8 HR 0 rfl rfl rfl rfl inb_S2048x256_S512x256_0_0 inb_S2048x128_S512x128_0_0 inb_S1x2048x1_S1x512x1_0_0_0 inb_S2048x128_S512x128_0_0)
  have hρ0 : ∀ r : Fin 512, (wrow (i 1) (brow 0 r)).val = 2048 * (i 1).val + (512 * 0 + r.val) := fun r => rfl
  have hρ1 : ∀ r : Fin 512, (wrow (i 1) (brow 1 r)).val = 2048 * (i 1).val + (512 * 1 + r.val) := fun r => rfl
  have hρ2 : ∀ r : Fin 512, (wrow (i 1) (brow 2 r)).val = 2048 * (i 1).val + (512 * 2 + r.val) := fun r => rfl
  have hρ3 : ∀ r : Fin 512, (wrow (i 1) (brow 3 r)).val = 2048 * (i 1).val + (512 * 3 + r.val) := fun r => rfl
  refine ⟨_, _, _, _, rfl, ?_⟩
  intro r d
  have hv : ∀ r : Fin 512, 1024 * (k0_t1_loop i).trips ≤ (wrow (i 1) (brow 0 r)).val + 1 := fun r => by rw [t1, hρ0]; omega
  have eo : k0_off5 i 0#32 = ![512 * (2 * (k0_t1_loop i).trips), 0] := (off5_eq i 0 (by norm_num)).trans (by rw [t1]; congr 2; omega)
  have hw : (Scalar.addi (Scalar.muli 4#32 (BitVec.ofNat 32 (i 1).val)) 0#32).toNat = 2 * (k0_t1_loop i).trips := (word_blk i 0 (by norm_num)).trans (by omega)
  have hs0 := s_blk (m3 := arg3) (h3 := harg3) (m4 := arg4) (h4 := harg4) HK R0 0 (by norm_num) rfl rfl inb_S4096x128_S512x128_0_0 inb_S4096x128_S512x128_0_0
  have hp0 := p_blk (m5 := arg5) (h5 := harg5) HK R0 0 (by norm_num) rfl inb_S4096x128_S512x128_0_0
  have E := fun L11 L12 G13 G14 g11 g12 g13 g14 hs hp => end1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_pay66 _ _ _ _
      (Scalar.addi 0#32 (Scalar.muli (Scalar.divsi (Scalar.subi (Scalar.addi (Scalar.muli 2#32 (BitVec.ofNat 32 (i 1).val)) 0#32) 0#32) 1#32) 1#32)) HK R0 (by omega) hv L11 L12 G13 G14 g11 g12 g13 g14 k0_pay66 acc_zero hs hp
  refine fin_blk (m3 := arg3) (h3 := harg3) (m4 := arg4) (h4 := harg4) HK R0 _ (by omega) eo eo (k0_off5_inb i 0) (k0_off5_inb i 0) _
    (fun r => row_blk_word i 0 r) _ hw (fun r => by rw [hρ0]; omega) _ ?_ ?_ ?_ r d
  · exact (E _ _ _ _ _ _ _ _ (holds2_of_eq (View.readCov_full _ _ _ _ _) hs0) (holds2_of_eq (View.readCov_full _ _ _ _ _) hp0)).1
  · exact (E _ _ _ _ _ _ _ _ (holds2_of_eq (View.readCov_full _ _ _ _ _) hs0) (holds2_of_eq (View.readCov_full _ _ _ _ _) hp0)).2.1
  · exact (E _ _ _ _ _ _ _ _ (holds2_of_eq (View.readCov_full _ _ _ _ _) hs0) (holds2_of_eq (View.readCov_full _ _ _ _ _) hp0)).2.2

end Cert.Proof.KerAttn

end
-- ==== Proof.Pieces1.lean ====
/-
  What the body stores at a grid point, at real operands: the four blocks of the queries' gradient and the eight rows of the
  row means.
-/
module

public import proofs.«01_k».proof.Proof.IdealRun
public import proofs.«01_k».proof.Proof.BlockSum

@[expose] public section

noncomputable section

namespace Cert.Proof.KerAttn

open Idealize.ShloMosaic Idealize.ShloMosaic.TcCoe Idealize.ShloMosaic.ValueIdx Cert.KernelIdeal Cert.KernelIdeal.Gen Cert.Proof.Attn Cert.Proof.KernelIdealFrame

variable {A : Args} {h : Fin 8}

set_option maxHeartbeats 3000000 in
set_option maxRecDepth 8192 in
theorem pieces_q1 (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec Ideal S2048x256 .bf16) (x1 : Vec Ideal S4096x128 .bf16) (x2 : Vec Ideal S4096x128 .bf16) (x3 : Vec Ideal S4096x128 .bf16) (x4 : Vec Ideal S2048x128 .f32) (x5 : Vec Ideal S1x2048x1 .f32) (x6 : Vec Ideal S2048x128 .f32)
    (HK : KeyArr A h x1 x2 x3) (HR : RowArr A h (i 1) x0 x4 x5 x6)
    (fs2 : BufTy.Contents (Elt Ideal) arg13.view.ty) (fs3 : BufTy.Contents (Elt Ideal) arg14.view.ty) :
    ∃ w3 w2 w1 w0 : Vec Ideal S512x256 .f32,
      (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 fs2 fs3
        = [⟨Rect.unit (s := S2048x256) ![1536, 0] ![512, 256] inb_S2048x256_S512x256_1536_0, w3⟩, ⟨Rect.unit (s := S2048x256) ![1024, 0] ![512, 256] inb_S2048x256_S512x256_1024_0, w2⟩,
          ⟨Rect.unit (s := S2048x256) ![512, 0] ![512, 256] inb_S2048x256_S512x256_512_0, w1⟩, ⟨Rect.unit (s := S2048x256) ![0, 0] ![512, 256] inb_S2048x256_S512x256_0_0, w0⟩]
      ∧ (∀ r d, (w1 (ix2 r d) : EReal) = ((A.dq h (wrow (i 1) (brow 1 r)) d : ℝ) : EReal)) := by

  have hi : (i 1).val < 2 := (i 1).isLt
  have t1 := trips1 i
  have t3 := trips3 i
  have t5 := trips5 i
  have t7 := trips7 i
  have R1 := (row_blk arg2 harg2 arg6 harg6 arg7 harg7 arg8 harg8 HR 1 rfl rfl rfl rfl inb_S2048x256_S512x256_512_0 inb_S2048x128_S512x128_512_0 inb_S1x2048x1_S1x512x1_0_512_0 inb_S2048x128_S512x128_512_0)
  have hρ0 : ∀ r : Fin 512, (wrow (i 1) (brow 0 r)).val = 2048 * (i 1).val + (512 * 0 + r.val) := fun r => rfl
  have hρ1 : ∀ r : Fin 512, (wrow (i 1) (brow 1 r)).val = 2048 * (i 1).val + (512 * 1 + r.val) := fun r => rfl
  have hρ2 : ∀ r : Fin 512, (wrow (i 1) (brow 2 r)).val = 2048 * (i 1).val + (512 * 2 + r.val) := fun r => rfl
  have hρ3 : ∀ r : Fin 512, (wrow (i 1) (brow 3 r)).val = 2048 * (i 1).val + (512 * 3 + r.val) := fun r => rfl
  refine ⟨_, _, _, _, rfl, ?_⟩
  intro r d
  have hv : ∀ r : Fin 512, 1024 * (k0_t3_loop i).trips ≤ (wrow (i 1) (brow 1 r)).val + 1 := fun r => by rw [t3, hρ1]; omega
  have eo : k0_off5 i 1#32 = ![512 * (2 * (k0_t3_loop i).trips + 1), 0] := (off5_eq i 1 (by norm_num)).trans (by rw [t3]; congr 2; omega)
  have hw : (Scalar.addi (Scalar.muli 4#32 (BitVec.ofNat 32 (i 1).val)) 1#32).toNat = 2 * (k0_t3_loop i).trips + 1 := (word_blk i 1 (by norm_num)).trans (by omega)
  have hs0 := s_blk (m3 := arg3) (h3 := harg3) (m4 := arg4) (h4 := harg4) HK R1 0 (by norm_num) rfl rfl inb_S4096x128_S512x128_0_0 inb_S4096x128_S512x128_0_0
  have hp0 := p_blk (m5 := arg5) (h5 := harg5) HK R1 0 (by norm_num) rfl inb_S4096x128_S512x128_0_0
  have eo' : k0_off10 i 1#32 = ![512 * (2 * (k0_t3_loop i).trips), 0] := (off10_eq i 0 (by norm_num)).trans (by rw [t3]; congr 2; omega)
  have hs1 := s_blk (m3 := arg3) (h3 := harg3) (m4 := arg4) (h4 := harg4) HK R1 _ (by omega) eo eo (k0_off5_inb i 1) (k0_off5_inb i 1)
  have hp1 := p_blk (m5 := arg5) (h5 := harg5) HK R1 _ (by omega) eo (k0_off5_inb i 1)
  have E := fun v60 v116 v139 cst L13 L14 G11 G12 g11 g12 g13 g14 hs hp => end3 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_pay66 v60 _ _ _ _ v116 v139 cst
      (Scalar.addi 0#32 (Scalar.muli (Scalar.divsi (Scalar.subi (Scalar.addi (Scalar.muli 2#32 (BitVec.ofNat 32 (i 1).val)) 0#32) 0#32) 1#32) 1#32)) HK R1 (by omega) hv L13 L14 G11 G12 g11 g12 g13 g14 k0_pay66 acc_zero hs hp
  refine (congrFun (pay104_eq _ _ _ _ _ _ _ _ _) (ix2 r d)).trans (fin_blk (m3 := arg3) (h3 := harg3) (m4 := arg4) (h4 := harg4) HK R1 _ (by omega) eo eo (k0_off5_inb i 1) (k0_off5_inb i 1) _
    (fun r => row_blk_word i 1 r) _ hw (fun r => by rw [hρ1]; omega) _ ?_ ?_ ?_ r d)
  · intro r d
    refine (step_blk (m3 := arg3) (h3 := harg3) (m4 := arg4) (h4 := harg4) HK R1 _ (by omega) eo' eo' (k0_off10_inb i 0) (k0_off10_inb i 0) ?_ ?_ ?_ _
      (fun r d => ∑ j ∈ Finset.range (2 * (k0_t3_loop i).trips), part A h (wrow (i 1) (brow 1 r)) j d) ?_ r d).trans (congrArg _ (Finset.sum_range_succ _ _).symm)
    · exact (E _ _ _ _ _ _ _ _ _ _ _ _ (holds2_of_eq (View.readCov_full _ _ _ _ _) hs0) (holds2_of_eq (View.readCov_full _ _ _ _ _) hp0)).2.1
    · exact (E _ _ _ _ _ _ _ _ _ _ _ _ (holds2_of_eq (View.readCov_full _ _ _ _ _) hs0) (holds2_of_eq (View.readCov_full _ _ _ _ _) hp0)).2.2
    · intro r n; rw [nb_val _ (by omega), hρ1]; omega
    · exact (E _ _ _ _ _ _ _ _ _ _ _ _ (holds2_of_eq (View.readCov_full _ _ _ _ _) hs0) (holds2_of_eq (View.readCov_full _ _ _ _ _) hp0)).1
  · exact holds2_of_eq (View.readCov_full _ _ _ _ _) hs1
  · exact holds2_of_eq (View.readCov_full _ _ _ _ _) hp1

end Cert.Proof.KerAttn

end
-- ==== Proof.Pieces2.lean ====
/-
  What the body stores at a grid point, at real operands: the four blocks of the queries' gradient and the eight rows of the
  row means.
-/
module

public import proofs.«01_k».proof.Proof.IdealRun
public import proofs.«01_k».proof.Proof.BlockSum

@[expose] public section

noncomputable section

namespace Cert.Proof.KerAttn

open Idealize.ShloMosaic Idealize.ShloMosaic.TcCoe Idealize.ShloMosaic.ValueIdx Cert.KernelIdeal Cert.KernelIdeal.Gen Cert.Proof.Attn Cert.Proof.KernelIdealFrame

variable {A : Args} {h : Fin 8}

set_option maxHeartbeats 3000000 in
set_option maxRecDepth 8192 in
theorem pieces_q2 (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec Ideal S2048x256 .bf16) (x1 : Vec Ideal S4096x128 .bf16) (x2 : Vec Ideal S4096x128 .bf16) (x3 : Vec Ideal S4096x128 .bf16) (x4 : Vec Ideal S2048x128 .f32) (x5 : Vec Ideal S1x2048x1 .f32) (x6 : Vec Ideal S2048x128 .f32)
    (HK : KeyArr A h x1 x2 x3) (HR : RowArr A h (i 1) x0 x4 x5 x6)
    (fs2 : BufTy.Contents (Elt Ideal) arg13.view.ty) (fs3 : BufTy.Contents (Elt Ideal) arg14.view.ty) :
    ∃ w3 w2 w1 w0 : Vec Ideal S512x256 .f32,
      (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 fs2 fs3
        = [⟨Rect.unit (s := S2048x256) ![1536, 0] ![512, 256] inb_S2048x256_S512x256_1536_0, w3⟩, ⟨Rect.unit (s := S2048x256) ![1024, 0] ![512, 256] inb_S2048x256_S512x256_1024_0, w2⟩,
          ⟨Rect.unit (s := S2048x256) ![512, 0] ![512, 256] inb_S2048x256_S512x256_512_0, w1⟩, ⟨Rect.unit (s := S2048x256) ![0, 0] ![512, 256] inb_S2048x256_S512x256_0_0, w0⟩]
      ∧ (∀ r d, (w2 (ix2 r d) : EReal) = ((A.dq h (wrow (i 1) (brow 2 r)) d : ℝ) : EReal)) := by

  have hi : (i 1).val < 2 := (i 1).isLt
  have t1 := trips1 i
  have t3 := trips3 i
  have t5 := trips5 i
  have t7 := trips7 i
  have R2 := (row_blk arg2 harg2 arg6 harg6 arg7 harg7 arg8 harg8 HR 2 rfl rfl rfl rfl inb_S2048x256_S512x256_1024_0 inb_S2048x128_S512x128_1024_0 inb_S1x2048x1_S1x512x1_0_1024_0 inb_S2048x128_S512x128_1024_0)
  have hρ0 : ∀ r : Fin 512, (wrow (i 1) (brow 0 r)).val = 2048 * (i 1).val + (512 * 0 + r.val) := fun r => rfl
  have hρ1 : ∀ r : Fin 512, (wrow (i 1) (brow 1 r)).val = 2048 * (i 1).val + (512 * 1 + r.val) := fun r => rfl
  have hρ2 : ∀ r : Fin 512, (wrow (i 1) (brow 2 r)).val = 2048 * (i 1).val + (512 * 2 + r.val) := fun r => rfl
  have hρ3 : ∀ r : Fin 512, (wrow (i 1) (brow 3 r)).val = 2048 * (i 1).val + (512 * 3 + r.val) := fun r => rfl
  refine ⟨_, _, _, _, rfl, ?_⟩
  intro r d
  have hv : ∀ r : Fin 512, 1024 * (k0_t5_loop i).trips ≤ (wrow (i 1) (brow 2 r)).val + 1 := fun r => by rw [t5, hρ2]; omega
  have eo : k0_off5 i 2#32 = ![512 * (2 * (k0_t5_loop i).trips), 0] := (off5_eq i 2 (by norm_num)).trans (by rw [t5]; congr 2; omega)
  have hw : (Scalar.addi (Scalar.muli 4#32 (BitVec.ofNat 32 (i 1).val)) 2#32).toNat = 2 * (k0_t5_loop i).trips := (word_blk i 2 (by norm_num)).trans (by omega)
  have hs0 := s_blk (m3 := arg3) (h3 := harg3) (m4 := arg4) (h4 := harg4) HK R2 0 (by norm_num) rfl rfl inb_S4096x128_S512x128_0_0 inb_S4096x128_S512x128_0_0
  have hp0 := p_blk (m5 := arg5) (h5 := harg5) HK R2 0 (by norm_num) rfl inb_S4096x128_S512x128_0_0
  have E := fun L13 L14 G11 G12 g11 g12 g13 g14 hs hp => end5 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_pay66 _ _ _ _
      (Scalar.addi 0#32 (Scalar.muli (Scalar.divsi (Scalar.subi (Scalar.addi (Scalar.muli 2#32 (BitVec.ofNat 32 (i 1).val)) 1#32) 0#32) 1#32) 1#32)) HK R2 (by omega) hv L13 L14 G11 G12 g11 g12 g13 g14 k0_pay66 acc_zero hs hp
  refine (congrFun (pay119_eq _ _ _ _ _ _ _ _ _) (ix2 r d)).trans (fin_blk (m3 := arg3) (h3 := harg3) (m4 := arg4) (h4 := harg4) HK R2 _ (by omega) eo eo (k0_off5_inb i 2) (k0_off5_inb i 2) _
    (fun r => row_blk_word i 2 r) _ hw (fun r => by rw [hρ2]; omega) _ ?_ ?_ ?_ r d)
  · exact (E _ _ _ _ _ _ _ _ (holds2_of_eq (View.readCov_full _ _ _ _ _) hs0) (holds2_of_eq (View.readCov_full _ _ _ _ _) hp0)).1
  · exact (E _ _ _ _ _ _ _ _ (holds2_of_eq (View.readCov_full _ _ _ _ _) hs0) (holds2_of_eq (View.readCov_full _ _ _ _ _) hp0)).2.1
  · exact (E _ _ _ _ _ _ _ _ (holds2_of_eq (View.readCov_full _ _ _ _ _) hs0) (holds2_of_eq (View.readCov_full _ _ _ _ _) hp0)).2.2

end Cert.Proof.KerAttn

end
-- ==== Proof.Pieces3.lean ====
/-
  What the body stores at a grid point, at real operands: the four blocks of the queries' gradient and the eight rows of the
  row means.
-/
module

public import proofs.«01_k».proof.Proof.IdealRun
public import proofs.«01_k».proof.Proof.BlockSum

@[expose] public section

noncomputable section

namespace Cert.Proof.KerAttn

open Idealize.ShloMosaic Idealize.ShloMosaic.TcCoe Idealize.ShloMosaic.ValueIdx Cert.KernelIdeal Cert.KernelIdeal.Gen Cert.Proof.Attn Cert.Proof.KernelIdealFrame

variable {A : Args} {h : Fin 8}

set_option maxHeartbeats 3000000 in
set_option maxRecDepth 8192 in
theorem pieces_q3 (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec Ideal S2048x256 .bf16) (x1 : Vec Ideal S4096x128 .bf16) (x2 : Vec Ideal S4096x128 .bf16) (x3 : Vec Ideal S4096x128 .bf16) (x4 : Vec Ideal S2048x128 .f32) (x5 : Vec Ideal S1x2048x1 .f32) (x6 : Vec Ideal S2048x128 .f32)
    (HK : KeyArr A h x1 x2 x3) (HR : RowArr A h (i 1) x0 x4 x5 x6)
    (fs2 : BufTy.Contents (Elt Ideal) arg13.view.ty) (fs3 : BufTy.Contents (Elt Ideal) arg14.view.ty) :
    ∃ w3 w2 w1 w0 : Vec Ideal S512x256 .f32,
      (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 fs2 fs3
        = [⟨Rect.unit (s := S2048x256) ![1536, 0] ![512, 256] inb_S2048x256_S512x256_1536_0, w3⟩, ⟨Rect.unit (s := S2048x256) ![1024, 0] ![512, 256] inb_S2048x256_S512x256_1024_0, w2⟩,
          ⟨Rect.unit (s := S2048x256) ![512, 0] ![512, 256] inb_S2048x256_S512x256_512_0, w1⟩, ⟨Rect.unit (s := S2048x256) ![0, 0] ![512, 256] inb_S2048x256_S512x256_0_0, w0⟩]
      ∧ (∀ r d, (w3 (ix2 r d) : EReal) = ((A.dq h (wrow (i 1) (brow 3 r)) d : ℝ) : EReal)) := by
  have hi : (i 1).val < 2 := (i 1).isLt
  have t1 := trips1 i
  have t3 := trips3 i
  have t5 := trips5 i
  have t7 := trips7 i
  have R3 := (row_blk arg2 harg2 arg6 harg6 arg7 harg7 arg8 harg8 HR 3 rfl rfl rfl rfl inb_S2048x256_S512x256_1536_0 inb_S2048x128_S512x128_1536_0 inb_S1x2048x1_S1x512x1_0_1536_0 inb_S2048x128_S512x128_1536_0)
  have hρ0 : ∀ r : Fin 512, (wrow (i 1) (brow 0 r)).val = 2048 * (i 1).val + (512 * 0 + r.val) := fun r => rfl
  have hρ1 : ∀ r : Fin 512, (wrow (i 1) (brow 1 r)).val = 2048 * (i 1).val + (512 * 1 + r.val) := fun r => rfl
  have hρ2 : ∀ r : Fin 512, (wrow (i 1) (brow 2 r)).val = 2048 * (i 1).val + (512 * 2 + r.val) := fun r => rfl
  have hρ3 : ∀ r : Fin 512, (wrow (i 1) (brow 3 r)).val = 2048 * (i 1).val + (512 * 3 + r.val) := fun r => rfl
  refine ⟨_, _, _, _, rfl, ?_⟩
  intro r d
  have hv : ∀ r : Fin 512, 1024 * (k0_t7_loop i).trips ≤ (wrow (i 1) (brow 3 r)).val + 1 := fun r => by rw [t7, hρ3]; omega
  have eo : k0_off5 i 3#32 = ![512 * (2 * (k0_t7_loop i).trips + 1), 0] := (off5_eq i 3 (by norm_num)).trans (by rw [t7]; congr 2; omega)
  have hw : (Scalar.addi (Scalar.muli 4#32 (BitVec.ofNat 32 (i 1).val)) 3#32).toNat = 2 * (k0_t7_loop i).trips + 1 := (word_blk i 3 (by norm_num)).trans (by omega)
  have hs0 := s_blk (m3 := arg3) (h3 := harg3) (m4 := arg4) (h4 := harg4) HK R3 0 (by norm_num) rfl rfl inb_S4096x128_S512x128_0_0 inb_S4096x128_S512x128_0_0
  have hp0 := p_blk (m5 := arg5) (h5 := harg5) HK R3 0 (by norm_num) rfl inb_S4096x128_S512x128_0_0
  have eo' : k0_off10 i 3#32 = ![512 * (2 * (k0_t7_loop i).trips), 0] := (off10_eq i 2 (by norm_num)).trans (by rw [t7]; congr 2; omega)
  have hs1 := s_blk (m3 := arg3) (h3 := harg3) (m4 := arg4) (h4 := harg4) HK R3 _ (by omega) eo eo (k0_off5_inb i 3) (k0_off5_inb i 3)
  have hp1 := p_blk (m5 := arg5) (h5 := harg5) HK R3 _ (by omega) eo (k0_off5_inb i 3)
  have E := fun v163 v169 v188 v292 v348 v351 v353 L11 L12 G13 G14 g11 g12 g13 g14 hs hp => end7 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k0_pay66 v163 v169 v188 v292 _ _ _ _ v348 v351 v353
      (Scalar.addi 0#32 (Scalar.muli (Scalar.divsi (Scalar.subi (Scalar.addi (Scalar.muli 2#32 (BitVec.ofNat 32 (i 1).val)) 1#32) 0#32) 1#32) 1#32)) HK R3 (by omega) hv L11 L12 G13 G14 g11 g12 g13 g14 k0_pay66 acc_zero hs hp
  refine (congrFun (pay126_eq _ _ _ _ _ _ _ _ _ _ _ _ _) (ix2 r d)).trans ?_
  refine fin_blk (m3 := arg3) (h3 := harg3) (m4 := arg4) (h4 := harg4) HK R3 (2 * (k0_t7_loop i).trips + 1) (by omega) eo eo (k0_off5_inb i 3) (k0_off5_inb i 3) _ (fun r => row_blk_word i 3 r) _ ?hw (fun r => by rw [hρ3]; omega) _ ?_ ?_ ?_ r d
  case hw => exact hw
  · intro r d
    refine (step_blk (m3 := arg3) (h3 := harg3) (m4 := arg4) (h4 := harg4) HK R3 _ (by omega) eo' eo' (k0_off10_inb i 1) (k0_off10_inb i 1) ?_ ?_ ?_ _
      (fun r d => ∑ j ∈ Finset.range (2 * (k0_t7_loop i).trips), part A h (wrow (i 1) (brow 3 r)) j d) ?_ r d).trans (congrArg _ (Finset.sum_range_succ _ _).symm)
    · exact (E _ _ _ _ _ _ _ _ _ _ _ _ _ _ _ (holds2_of_eq (View.readCov_full _ _ _ _ _) hs0) (holds2_of_eq (View.readCov_full _ _ _ _ _) hp0)).2.1
    · exact (E _ _ _ _ _ _ _ _ _ _ _ _ _ _ _ (holds2_of_eq (View.readCov_full _ _ _ _ _) hs0) (holds2_of_eq (View.readCov_full _ _ _ _ _) hp0)).2.2
    · intro r n; rw [nb_val _ (by omega), hρ3]; omega
    · exact (E _ _ _ _ _ _ _ _ _ _ _ _ _ _ _ (holds2_of_eq (View.readCov_full _ _ _ _ _) hs0) (holds2_of_eq (View.readCov_full _ _ _ _ _) hp0)).1
  · exact holds2_of_eq (View.readCov_full _ _ _ _ _) hs1
  · exact holds2_of_eq (View.readCov_full _ _ _ _ _) hp1

end Cert.Proof.KerAttn

end
-- ==== Proof.Outs.lean ====
/-
  What the body leaves in its two outputs at a grid point, entry by entry, at real operands.
-/
module

public import proofs.«01_k».proof.Proof.Pieces0
public import proofs.«01_k».proof.Proof.Pieces1
public import proofs.«01_k».proof.Proof.Pieces2
public import proofs.«01_k».proof.Proof.Pieces3

@[expose] public section

noncomputable section

namespace Cert.Proof.KerAttn

open Idealize.ShloMosaic Idealize.ShloMosaic.TcCoe Idealize.ShloMosaic.ValueIdx Cert.KernelIdeal Cert.KernelIdeal.Gen Cert.Proof.Attn Cert.Proof.KernelIdealFrame

/-- The last store of a block of rows is what is read at its rows. -/
theorem row_hit (b : Fin 4) {o : Fin 2 → ℕ} (e : o = ![512 * b.val, 0]) (inb : ∀ a, o a + (![512, 256] : Fin 2 → ℕ) a ≤ S2048x256.size a)
    (w : Vec Ideal S512x256 .f32) (L : List (View.Piece (Elt Ideal) S2048x256 .f32)) (r : Fin 512) (d : Fin 256) :
    View.canon ((⟨Rect.unit (s := S2048x256) o ![512, 256] inb, w⟩ : View.Piece (Elt Ideal) S2048x256 .f32) :: L) (ix2 (brow b r) d) = w (ix2 r d) := by
  subst e
  have : (ix2 (brow b r) d : S2048x256.Idx) = (Rect.unit (s := S2048x256) ![512 * b.val, 0] ![512, 256] inb).emb (ix2 r d) := by
    refine funext fun a => Fin.ext ?_
    match a with
    | ⟨0, _⟩ => exact (congrArg _ (Nat.one_mul _).symm : 512 * b.val + r.val = 512 * b.val + 1 * r.val)
    | ⟨1, _⟩ => show d.val = 0 + 1 * d.val; omega
  rw [this]
  exact View.canon_cons_emb (Rect.unit (s := S2048x256) ![512 * b.val, 0] ![512, 256] inb) w L _

/-- A store of another block of rows is not read at these rows. -/
theorem row_miss (b b' : Fin 4) (hb : b ≠ b') {o : Fin 2 → ℕ} (e : o = ![512 * b'.val, 0]) (inb : ∀ a, o a + (![512, 256] : Fin 2 → ℕ) a ≤ S2048x256.size a)
    (w : Vec Ideal S512x256 .f32) (L : List (View.Piece (Elt Ideal) S2048x256 .f32)) (r : Fin 512) (d : Fin 256) :
    View.canon ((⟨Rect.unit (s := S2048x256) o ![512, 256] inb, w⟩ : View.Piece (Elt Ideal) S2048x256 .f32) :: L) (ix2 (brow b r) d) = View.canon L (ix2 (brow b r) d) := by
  subst e
  refine View.canon_cons_of_not_mem _ _ fun hm => hb ?_
  have := ((Rect.mem_set_unit (inb := inb)).mp hm) 0
  have h1 : 512 * b'.val ≤ 512 * b.val + r.val := this.1
  have h2 : 512 * b.val + r.val < 512 * b'.val + 512 := this.2
  have := r.isLt
  exact Fin.ext (by omega)

/-- The last store of a row of the means is what is read in it. -/
theorem lane_hit (k : Fin 8) {o : Fin 4 → ℕ} (e : o = ![0, k.val, 0, 0]) (inb : ∀ a, o a + (![1, 1, 1, 256] : Fin 4 → ℕ) a ≤ S1x8x1x256.size a)
    (w : Vec Ideal S1x1x1x256 .f32) (L : List (View.Piece (Elt Ideal) S1x8x1x256 .f32)) (d : Fin 256) :
    View.canon ((⟨Rect.unit (s := S1x8x1x256) o ![1, 1, 1, 256] inb, w⟩ : View.Piece (Elt Ideal) S1x8x1x256 .f32) :: L) (ix4 (0 : Fin 1) k (0 : Fin 1) d)
      = w (ix4 (0 : Fin 1) (0 : Fin 1) (0 : Fin 1) d) := by
  subst e
  have : (ix4 (0 : Fin 1) k (0 : Fin 1) d : S1x8x1x256.Idx) = (Rect.unit (s := S1x8x1x256) ![0, k.val, 0, 0] ![1, 1, 1, 256] inb).emb (ix4 (0 : Fin 1) (0 : Fin 1) (0 : Fin 1) d) := by
    refine funext fun a => Fin.ext ?_
    match a with
    | ⟨0, _⟩ => rfl
    | ⟨1, _⟩ => rfl
    | ⟨2, _⟩ => rfl
    | ⟨3, _⟩ => show d.val = 0 + 1 * d.val; omega
  rw [this]
  exact View.canon_cons_emb (Rect.unit (s := S1x8x1x256) ![0, k.val, 0, 0] ![1, 1, 1, 256] inb) w L _

/-- A store of another row of the means is not read in this one. -/
theorem lane_miss (k k' : Fin 8) (hk : k ≠ k') {o : Fin 4 → ℕ} (e : o = ![0, k'.val, 0, 0]) (inb : ∀ a, o a + (![1, 1, 1, 256] : Fin 4 → ℕ) a ≤ S1x8x1x256.size a)
    (w : Vec Ideal S1x1x1x256 .f32) (L : List (View.Piece (Elt Ideal) S1x8x1x256 .f32)) (d : Fin 256) :
    View.canon ((⟨Rect.unit (s := S1x8x1x256) o ![1, 1, 1, 256] inb, w⟩ : View.Piece (Elt Ideal) S1x8x1x256 .f32) :: L) (ix4 (0 : Fin 1) k (0 : Fin 1) d)
      = View.canon L (ix4 (0 : Fin 1) k (0 : Fin 1) d) := by
  subst e
  refine View.canon_cons_of_not_mem _ _ fun hm => hk ?_
  have := ((Rect.mem_set_unit (inb := inb)).mp hm) 1
  have h1 : k'.val ≤ k.val := this.1
  have h2 : k.val < k'.val + 1 := this.2
  exact Fin.ext (by omega)

/-- Every row of a block of 2048 lies in one of its four blocks of 512. -/
theorem brow_split (ρ : Fin 2048) : ∃ b r, ρ = brow b r :=
  ⟨⟨ρ.val / 512, by omega⟩, ⟨ρ.val % 512, by omega⟩, Fin.ext (by show ρ.val = 512 * (ρ.val / 512) + ρ.val % 512; omega)⟩

variable {A : Args} {h : Fin 8}

set_option maxRecDepth 8192 in
/-- The queries' gradient, as the body leaves it. -/
theorem out_q (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec Ideal S2048x256 .bf16) (x1 : Vec Ideal S4096x128 .bf16) (x2 : Vec Ideal S4096x128 .bf16) (x3 : Vec Ideal S4096x128 .bf16) (x4 : Vec Ideal S2048x128 .f32) (x5 : Vec Ideal S1x2048x1 .f32) (x6 : Vec Ideal S2048x128 .f32)
    (HK : KeyArr A h x1 x2 x3) (HR : RowArr A h (i 1) x0 x4 x5 x6)
    (fs2 : BufTy.Contents (Elt Ideal) arg13.view.ty) (fs3 : BufTy.Contents (Elt Ideal) arg14.view.ty) (ρ : Fin 2048) (d : Fin 256) :
    (View.canon ((bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 fs2 fs3) (ix2 ρ d) : EReal) = ((A.dq h (wrow (i 1) ρ) d : ℝ) : EReal) := by
  obtain ⟨b, r, rfl⟩ := brow_split ρ
  match b with
  | 0 =>
    obtain ⟨w3, w2, w1, w0, e, hw⟩ := pieces_q0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 HK HR fs2 fs3
    rw [e]
    exact ((row_miss 0 3 (by decide) rfl _ _ _ _ _).trans ((row_miss 0 2 (by decide) rfl _ _ _ _ _).trans ((row_miss 0 1 (by decide) rfl _ _ _ _ _).trans (row_hit 0 rfl _ _ _ _ _)))).trans (hw r d)
  | 1 =>
    obtain ⟨w3, w2, w1, w0, e, hw⟩ := pieces_q1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 HK HR fs2 fs3
    rw [e]
    exact ((row_miss 1 3 (by decide) rfl _ _ _ _ _).trans ((row_miss 1 2 (by decide) rfl _ _ _ _ _).trans (row_hit 1 rfl _ _ _ _ _))).trans (hw r d)
  | 2 =>
    obtain ⟨w3, w2, w1, w0, e, hw⟩ := pieces_q2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 HK HR fs2 fs3
    rw [e]
    exact ((row_miss 2 3 (by decide) rfl _ _ _ _ _).trans (row_hit 2 rfl _ _ _ _ _)).trans (hw r d)
  | 3 =>
    obtain ⟨w3, w2, w1, w0, e, hw⟩ := pieces_q3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 HK HR fs2 fs3
    rw [e]
    exact (row_hit 3 rfl _ _ _ _ _).trans (hw r d)

set_option maxRecDepth 8192 in
/-- The stores of the row means. -/
theorem pieces_D (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec Ideal S2048x256 .bf16) (x1 : Vec Ideal S4096x128 .bf16) (x2 : Vec Ideal S4096x128 .bf16) (x3 : Vec Ideal S4096x128 .bf16) (x4 : Vec Ideal S2048x128 .f32) (x5 : Vec Ideal S1x2048x1 .f32) (x6 : Vec Ideal S2048x128 .f32) :
    (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1
      = [⟨Rect.unit (s := S1x8x1x256) ![0, 7, 0, 0] ![1, 1, 1, 256] inb_S1x8x1x256_S1x1x1x256_0_7_0_0, k0_pay70 (View.readAt (Elt Ideal) arg8.view (Rect.unit (s := S2048x128) ![1536, 0] ![512, 128] inb_S2048x128_S512x128_1536_0).toLoadRect (harg8.unread x6)) (View.readAt (Elt Ideal) arg6.view (Rect.unit (s := S2048x128) ![1536, 0] ![512, 128] inb_S2048x128_S512x128_1536_0).toLoadRect (harg6.unread x4))⟩,
        ⟨Rect.unit (s := S1x8x1x256) ![0, 6, 0, 0] ![1, 1, 1, 256] inb_S1x8x1x256_S1x1x1x256_0_6_0_0, k0_pay69 (View.readAt (Elt Ideal) arg8.view (Rect.unit (s := S2048x128) ![1536, 0] ![512, 128] inb_S2048x128_S512x128_1536_0).toLoadRect (harg8.unread x6)) (View.readAt (Elt Ideal) arg6.view (Rect.unit (s := S2048x128) ![1536, 0] ![512, 128] inb_S2048x128_S512x128_1536_0).toLoadRect (harg6.unread x4))⟩,
        ⟨Rect.unit (s := S1x8x1x256) ![0, 5, 0, 0] ![1, 1, 1, 256] inb_S1x8x1x256_S1x1x1x256_0_5_0_0, k0_pay70 (View.readAt (Elt Ideal) arg8.view (Rect.unit (s := S2048x128) ![1024, 0] ![512, 128] inb_S2048x128_S512x128_1024_0).toLoadRect (harg8.unread x6)) (View.readAt (Elt Ideal) arg6.view (Rect.unit (s := S2048x128) ![1024, 0] ![512, 128] inb_S2048x128_S512x128_1024_0).toLoadRect (harg6.unread x4))⟩,
        ⟨Rect.unit (s := S1x8x1x256) ![0, 4, 0, 0] ![1, 1, 1, 256] inb_S1x8x1x256_S1x1x1x256_0_4_0_0, k0_pay69 (View.readAt (Elt Ideal) arg8.view (Rect.unit (s := S2048x128) ![1024, 0] ![512, 128] inb_S2048x128_S512x128_1024_0).toLoadRect (harg8.unread x6)) (View.readAt (Elt Ideal) arg6.view (Rect.unit (s := S2048x128) ![1024, 0] ![512, 128] inb_S2048x128_S512x128_1024_0).toLoadRect (harg6.unread x4))⟩,
        ⟨Rect.unit (s := S1x8x1x256) ![0, 3, 0, 0] ![1, 1, 1, 256] inb_S1x8x1x256_S1x1x1x256_0_3_0_0, k0_pay70 (View.readAt (Elt Ideal) arg8.view (Rect.unit (s := S2048x128) ![512, 0] ![512, 128] inb_S2048x128_S512x128_512_0).toLoadRect (harg8.unread x6)) (View.readAt (Elt Ideal) arg6.view (Rect.unit (s := S2048x128) ![512, 0] ![512, 128] inb_S2048x128_S512x128_512_0).toLoadRect (harg6.unread x4))⟩,
        ⟨Rect.unit (s := S1x8x1x256) ![0, 2, 0, 0] ![1, 1, 1, 256] inb_S1x8x1x256_S1x1x1x256_0_2_0_0, k0_pay69 (View.readAt (Elt Ideal) arg8.view (Rect.unit (s := S2048x128) ![512, 0] ![512, 128] inb_S2048x128_S512x128_512_0).toLoadRect (harg8.unread x6)) (View.readAt (Elt Ideal) arg6.view (Rect.unit (s := S2048x128) ![512, 0] ![512, 128] inb_S2048x128_S512x128_512_0).toLoadRect (harg6.unread x4))⟩,
        ⟨Rect.unit (s := S1x8x1x256) ![0, 1, 0, 0] ![1, 1, 1, 256] inb_S1x8x1x256_S1x1x1x256_0_1_0_0, k0_pay70 (View.readAt (Elt Ideal) arg8.view (Rect.unit (s := S2048x128) ![0, 0] ![512, 128] inb_S2048x128_S512x128_0_0).toLoadRect (harg8.unread x6)) (View.readAt (Elt Ideal) arg6.view (Rect.unit (s := S2048x128) ![0, 0] ![512, 128] inb_S2048x128_S512x128_0_0).toLoadRect (harg6.unread x4))⟩,
        ⟨Rect.unit (s := S1x8x1x256) ![0, 0, 0, 0] ![1, 1, 1, 256] inb_S1x8x1x256_S1x1x1x256_0_0_0_0, k0_pay69 (View.readAt (Elt Ideal) arg8.view (Rect.unit (s := S2048x128) ![0, 0] ![512, 128] inb_S2048x128_S512x128_0_0).toLoadRect (harg8.unread x6)) (View.readAt (Elt Ideal) arg6.view (Rect.unit (s := S2048x128) ![0, 0] ![512, 128] inb_S2048x128_S512x128_0_0).toLoadRect (harg6.unread x4))⟩] := rfl

set_option maxRecDepth 8192 in
/-- The row means, as the body leaves them. -/
theorem out_D (c : Dev nD) (i : grid0.Coords) (arg2 : Memref sig .tc .vmem S2048x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S1x8x1x256 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole)
    (x0 : Vec Ideal S2048x256 .bf16) (x1 : Vec Ideal S4096x128 .bf16) (x2 : Vec Ideal S4096x128 .bf16) (x3 : Vec Ideal S4096x128 .bf16) (x4 : Vec Ideal S2048x128 .f32) (x5 : Vec Ideal S1x2048x1 .f32) (x6 : Vec Ideal S2048x128 .f32)
    (HR : RowArr A h (i 1) x0 x4 x5 x6) (k : Fin 8) (w : Fin 256) :
    (View.canon (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1 (ix4 (0 : Fin 1) k (0 : Fin 1) w) : EReal)
      = ((A.D h (wrow (i 1) ⟨256 * k.val + w.val, by have := k.isLt; omega⟩) : ℝ) : EReal) := by
  rw [pieces_D]
  match k with
  | 0 => exact ((lane_miss 0 7 (by decide) rfl _ _ _ _).trans ((lane_miss 0 6 (by decide) rfl _ _ _ _).trans ((lane_miss 0 5 (by decide) rfl _ _ _ _).trans ((lane_miss 0 4 (by decide) rfl _ _ _ _).trans ((lane_miss 0 3 (by decide) rfl _ _ _ _).trans ((lane_miss 0 2 (by decide) rfl _ _ _ _).trans ((lane_miss 0 1 (by decide) rfl _ _ _ _).trans (lane_hit 0 rfl _ _ _ _)))))))).trans ((lanes_lo _ _ w).trans ((mean_real arg6 harg6 arg8 harg8 HR 0 rfl rfl inb_S2048x128_S512x128_0_0 inb_S2048x128_S512x128_0_0 _).trans
      (congrArg (fun t => ((A.D h (wrow (i 1) t) : ℝ) : EReal)) (Fin.ext (by show 512 * 0 + (w.val) = 256 * 0 + w.val; omega)))))
  | 1 => exact ((lane_miss 1 7 (by decide) rfl _ _ _ _).trans ((lane_miss 1 6 (by decide) rfl _ _ _ _).trans ((lane_miss 1 5 (by decide) rfl _ _ _ _).trans ((lane_miss 1 4 (by decide) rfl _ _ _ _).trans ((lane_miss 1 3 (by decide) rfl _ _ _ _).trans ((lane_miss 1 2 (by decide) rfl _ _ _ _).trans (lane_hit 1 rfl _ _ _ _))))))).trans ((lanes_hi _ _ w).trans ((mean_real arg6 harg6 arg8 harg8 HR 0 rfl rfl inb_S2048x128_S512x128_0_0 inb_S2048x128_S512x128_0_0 _).trans
      (congrArg (fun t => ((A.D h (wrow (i 1) t) : ℝ) : EReal)) (Fin.ext (by show 512 * 0 + (256 + w.val) = 256 * 1 + w.val; omega)))))
  | 2 => exact ((lane_miss 2 7 (by decide) rfl _ _ _ _).trans ((lane_miss 2 6 (by decide) rfl _ _ _ _).trans ((lane_miss 2 5 (by decide) rfl _ _ _ _).trans ((lane_miss 2 4 (by decide) rfl _ _ _ _).trans ((lane_miss 2 3 (by decide) rfl _ _ _ _).trans (lane_hit 2 rfl _ _ _ _)))))).trans ((lanes_lo _ _ w).trans ((mean_real arg6 harg6 arg8 harg8 HR 1 rfl rfl inb_S2048x128_S512x128_512_0 inb_S2048x128_S512x128_512_0 _).trans
      (congrArg (fun t => ((A.D h (wrow (i 1) t) : ℝ) : EReal)) (Fin.ext (by show 512 * 1 + (w.val) = 256 * 2 + w.val; omega)))))
  | 3 => exact ((lane_miss 3 7 (by decide) rfl _ _ _ _).trans ((lane_miss 3 6 (by decide) rfl _ _ _ _).trans ((lane_miss 3 5 (by decide) rfl _ _ _ _).trans ((lane_miss 3 4 (by decide) rfl _ _ _ _).trans (lane_hit 3 rfl _ _ _ _))))).trans ((lanes_hi _ _ w).trans ((mean_real arg6 harg6 arg8 harg8 HR 1 rfl rfl inb_S2048x128_S512x128_512_0 inb_S2048x128_S512x128_512_0 _).trans
      (congrArg (fun t => ((A.D h (wrow (i 1) t) : ℝ) : EReal)) (Fin.ext (by show 512 * 1 + (256 + w.val) = 256 * 3 + w.val; omega)))))
  | 4 => exact ((lane_miss 4 7 (by decide) rfl _ _ _ _).trans ((lane_miss 4 6 (by decide) rfl _ _ _ _).trans ((lane_miss 4 5 (by decide) rfl _ _ _ _).trans (lane_hit 4 rfl _ _ _ _)))).trans ((lanes_lo _ _ w).trans ((mean_real arg6 harg6 arg8 harg8 HR 2 rfl rfl inb_S2048x128_S512x128_1024_0 inb_S2048x128_S512x128_1024_0 _).trans
      (congrArg (fun t => ((A.D h (wrow (i 1) t) : ℝ) : EReal)) (Fin.ext (by show 512 * 2 + (w.val) = 256 * 4 + w.val; omega)))))
  | 5 => exact ((lane_miss 5 7 (by decide) rfl _ _ _ _).trans ((lane_miss 5 6 (by decide) rfl _ _ _ _).trans (lane_hit 5 rfl _ _ _ _))).trans ((lanes_hi _ _ w).trans ((mean_real arg6 harg6 arg8 harg8 HR 2 rfl rfl inb_S2048x128_S512x128_1024_0 inb_S2048x128_S512x128_1024_0 _).trans
      (congrArg (fun t => ((A.D h (wrow (i 1) t) : ℝ) : EReal)) (Fin.ext (by show 512 * 2 + (256 + w.val) = 256 * 5 + w.val; omega)))))
  | 6 => exact ((lane_miss 6 7 (by decide) rfl _ _ _ _).trans (lane_hit 6 rfl _ _ _ _)).trans ((lanes_lo _ _ w).trans ((mean_real arg6 harg6 arg8 harg8 HR 3 rfl rfl inb_S2048x128_S512x128_1536_0 inb_S2048x128_S512x128_1536_0 _).trans
      (congrArg (fun t => ((A.D h (wrow (i 1) t) : ℝ) : EReal)) (Fin.ext (by show 512 * 3 + (w.val) = 256 * 6 + w.val; omega)))))
  | 7 => exact (lane_hit 7 rfl _ _ _ _).trans ((lanes_hi _ _ w).trans ((mean_real arg6 harg6 arg8 harg8 HR 3 rfl rfl inb_S2048x128_S512x128_1536_0 inb_S2048x128_S512x128_1536_0 _).trans
      (congrArg (fun t => ((A.D h (wrow (i 1) t) : ℝ) : EReal)) (Fin.ext (by show 512 * 3 + (256 + w.val) = 256 * 7 + w.val; omega)))))

end Cert.Proof.KerAttn

end
-- ==== Proof.RefAttn.lean ====
/-
  The reference at real arguments: each value its program writes on the way to the queries' gradient, read at an index.
-/
module

public import proofs.«01_k».proof.Proof.AttnReal
public import proofs.«01_k».proof.Proof.Gen.ReferenceIdeal.Read

@[expose] public section

noncomputable section

namespace Cert.Proof.RefAttn

open Idealize.ShloMosaic Idealize.ShloMosaic.ValueIdx Cert.ReferenceIdeal Cert.ReferenceIdeal.Read Cert.Proof.Attn

/-- The arguments hold the reals of `A`. -/
structure Holds (x0 x1 : (⟨S4096x2048, .bf16⟩ : BufTy).Contents (Elt Ideal))
    (x2 : (⟨S4096x128, .bf16⟩ : BufTy).Contents (Elt Ideal)) (x3 : (⟨S4096x2048, .f32⟩ : BufTy).Contents (Elt Ideal))
    (A : Args) : Prop where
  q : ∀ t j, (x0 (ix2 t j) : EReal) = ((A.q t j : ℝ) : EReal)
  kv : ∀ t j, (x1 (ix2 t j) : EReal) = ((A.kv t j : ℝ) : EReal)
  kp : ∀ t j, (x2 (ix2 t j) : EReal) = ((A.kp t j : ℝ) : EReal)
  g : ∀ t j, (x3 (ix2 t j) : EReal) = ((A.g t j : ℝ) : EReal)

variable {x0 x1 : (⟨S4096x2048, .bf16⟩ : BufTy).Contents (Elt Ideal)}
  {x2 : (⟨S4096x128, .bf16⟩ : BufTy).Contents (Elt Ideal)} {x3 : (⟨S4096x2048, .f32⟩ : BufTy).Contents (Elt Ideal)}
  {A : Args} (H : Holds x0 x1 x2 x3 A)
include H

theorem v4_at (t : Fin 4096) (h : Fin 8) (d : Fin 256) :
    (val_main_v4 (F := Ideal) x0 (ix3 t h d) : EReal) = ((A.q t (c256 h d) : ℝ) : EReal) := by
  rw [val_main_v4_apply, val_main_v0_apply]
  have e : idx_main_v4 (ix3 t h d) = ix2 t (c256 h d) := by
    funext a
    match a with
    | ⟨0, _⟩ => exact Fin.ext (by show ((t.val * 8 + h.val) * 256 + d.val) / 2048 = t.val; omega)
    | ⟨1, _⟩ => exact Fin.ext (by show ((t.val * 8 + h.val) * 256 + d.val) % 2048 = h.val * 256 + d.val; omega)
  rw [e]; exact H.q t _

theorem v6_at (t : Fin 4096) (h : Fin 8) (d : Fin 128) :
    (val_main_v6 (F := Ideal) x1 (ix3 t h d) : EReal) = ((A.kv t (c128 h d) : ℝ) : EReal) := by
  rw [val_main_v6_apply, val_main_v5_apply, val_main_v1_apply]
  have e : idx_main_v5 (idx_main_v6 (ix3 t h d)) = ix2 t (c128 h d) := by
    funext a
    match a with
    | ⟨0, _⟩ => exact Fin.ext (by show ((t.val * 8 + h.val) * 128 + d.val) / 1024 = t.val; omega)
    | ⟨1, _⟩ => exact Fin.ext (by show ((t.val * 8 + h.val) * 128 + d.val) % 1024 = h.val * 128 + d.val; omega)
  rw [e]; exact H.kv t _

theorem v11_at (t : Fin 4096) (h : Fin 8) (d : Fin 128) :
    (val_main_v11 (F := Ideal) x1 (ix3 t h d) : EReal) = ((A.kv t (c128' h d) : ℝ) : EReal) := by
  rw [val_main_v11_apply, val_main_v10_apply, val_main_v1_apply]
  have e : idx_main_v10 (idx_main_v11 (ix3 t h d)) = ix2 t (c128' h d) := by
    funext a
    match a with
    | ⟨0, _⟩ => exact Fin.ext (by show ((t.val * 8 + h.val) * 128 + d.val) / 1024 = t.val; omega)
    | ⟨1, _⟩ =>
      exact Fin.ext (by show 1024 + ((t.val * 8 + h.val) * 128 + d.val) % 1024 = 1024 + (h.val * 128 + d.val); omega)
  rw [e]; exact H.kv t _

theorem v8_at (t : Fin 4096) (h : Fin 8) (d : Fin 128) :
    (val_main_v8 (F := Ideal) x2 (ix3 t h d) : EReal) = ((A.kp t d : ℝ) : EReal) := by
  rw [val_main_v8_apply, val_main_v7_apply, val_main_v2_apply]
  have e : idx_main_v7 (idx_main_v8 (ix3 t h d)) = ix2 t d := by
    funext a
    match a with
    | ⟨0, _⟩ => rfl
    | ⟨1, _⟩ => rfl
  rw [e]; exact H.kp t _

theorem v9_at (n : Fin 4096) (h : Fin 8) (d : Fin 256) :
    (val_main_v9 (F := Ideal) x1 x2 (ix3 n h d) : EReal) = ((A.key h n d : ℝ) : EReal) := by
  unfold val_main_v9 Args.key
  by_cases hd : d.val < 128
  · rw [dif_pos hd, ← v6_at H n h ⟨d.val, hd⟩]
    exact concatenate_pair_apply_left (2 : Fin 3) (val_main_v6 (F := Ideal) x1) (val_main_v8 (F := Ideal) x2) _
      (ix3 n h d) rfl (ix3 n h (⟨d.val, hd⟩ : Fin 128))
      (fun a => by match a with | ⟨0, _⟩ => rfl | ⟨1, _⟩ => rfl | ⟨2, _⟩ => rfl)
  · rw [dif_neg hd, ← v8_at H n h ⟨d.val - 128, by omega⟩]
    exact concatenate_pair_apply_right (2 : Fin 3) (val_main_v6 (F := Ideal) x1) (val_main_v8 (F := Ideal) x2) _
      (ix3 n h d) rfl rfl (ix3 n h (⟨d.val - 128, by omega⟩ : Fin 128))
      (fun a ha => by match a with | ⟨0, _⟩ => rfl | ⟨1, _⟩ => rfl | ⟨2, _⟩ => exact absurd rfl ha)
      (by show d.val - 128 + 128 = d.val; omega)

omit H in
theorem v17_at (t n : Fin 4096) :
    val_main_v17 (F := Ideal) (ix2 t n) = if n.val ≤ t.val then 1#1 else 0#1 := by
  rw [val_main_v17_apply, val_main_v15_apply, val_main_v13_apply, val_main_v12_apply, val_main_v16_apply,
    val_main_v14_apply, val_main_v12_apply]
  exact sle_ofNat n.val t.val (by omega) (by omega)

theorem v18_at (h : Fin 8) (t n : Fin 4096) :
    (val_main_v18 (F := Ideal) x0 x1 x2 (ix3 h t n) : EReal) = ((A.raw h t n : ℝ) : EReal) := by
  rw [val_main_v18_apply]
  refine sum_mul_coe (fun d => ?_) fun d => ?_
  · have e : lidx_main_v18 (ix3 h t n) d = ix3 t h d := by
      funext a; match a with | ⟨0, _⟩ => rfl | ⟨1, _⟩ => rfl | ⟨2, _⟩ => rfl
    rw [e]; exact v4_at H t h d
  · have e : ridx_main_v18 (ix3 h t n) d = ix3 n h d := by
      funext a; match a with | ⟨0, _⟩ => rfl | ⟨1, _⟩ => rfl | ⟨2, _⟩ => rfl
    rw [e]; exact v9_at H n h d

omit H in
theorem v19_at (i : S_.Idx) : (val_main_v19 (F := Ideal) i : EReal) = ((Real.sqrt 192 : ℝ) : EReal) := by
  rw [val_main_v19_apply, val_main_cst_apply]
  show Ideal.sqrt (Ideal.ofBits .f32 0x43400000#32) = _
  rw [lit_192, Ideal.sqrt_coe, if_neg (by norm_num)]

theorem v21_at (h : Fin 8) (t n : Fin 4096) :
    (val_main_v21 (F := Ideal) x0 x1 x2 (ix3 h t n) : EReal) = ((A.sc h t n : ℝ) : EReal) := by
  rw [val_main_v21_apply, val_main_v20_apply]
  exact div_real (v18_at H h t n) (v19_at _) Args.sqrt192_pos.ne'

/-- The masked score. -/
def msc (A : Args) (h : Fin 8) (t n : Fin 4096) : ℝ := if n.val ≤ t.val then A.sc h t n else big

theorem v22_at (h : Fin 8) (t n : Fin 4096) :
    (val_main_v22_0 (F := Ideal) x0 x1 x2 (ix3 h t n) : EReal) = ((msc A h t n : ℝ) : EReal) := by
  rw [val_main_v22_0_apply, val_main_v22_1_apply]
  have e : idx_main_v22_1 (ix3 h t n) = ix2 t n := by
    funext a; match a with | ⟨0, _⟩ => rfl | ⟨1, _⟩ => rfl
  rw [e, select_mask _ _ (v17_at t n), v21_at H h t n]
  unfold msc
  split_ifs
  · rfl
  · rw [val_main_call0_v2_apply, val_main_call0_v0_apply, val_main_cst_0_apply]
    exact lit_big

/-- The row's maximum is real. -/
theorem v23_real (h : Fin 8) (t : Fin 4096) :
    ∃ r : ℝ, (val_main_v23 (F := Ideal) x0 x1 x2 (ix2 h t) : EReal) = (r : EReal) := by
  have hr : S8x4096x4096.Reduces [(2 : Fin S8x4096x4096.rank)] S8x4096 := by decide
  unfold val_main_v23
  have e := Host.reduce_eq_fold_single (FloatOps.maximumf (F := Ideal) (φ := .f32)) (val_main_v22_0 (F := Ideal) x0 x1 x2)
    (val_main_cst_1 (F := Ideal)) Gen.reducesTo_S8x4096x4096_S8x4096_d2 hr Gen.h_S_ (ix2 h t)
  rw [e, val_main_cst_1_apply]
  have key : ∀ (b : EReal) (f : Fin 4096 → EReal), b = ⊥ → (∀ n, f n = ((msc A h t n : ℝ) : EReal)) →
      ∃ r : ℝ, (Finset.univ : Finset (Fin 4096)).fold max b f = (r : EReal) := fun b f hb hf => by
    rw [hb]; exact fold_max_real Finset.univ f (fun n => msc A h t n) hf Finset.univ_nonempty
  refine key _ _ lit_bot fun n => ?_
  rw [← v22_at H h t n]
  have el : hr.lift (ix2 h t) n = ix3 h t n := by
    funext a; match a with | ⟨0, _⟩ => rfl | ⟨1, _⟩ => rfl | ⟨2, _⟩ => rfl
  exact congrArg (val_main_v22_0 (F := Ideal) x0 x1 x2) el

variable (hm : ∀ h t, (val_main_v23 (F := Ideal) x0 x1 x2 (ix2 h t) : EReal) = ((A.m h t : ℝ) : EReal))
include hm

omit H in
theorem v24_at (h : Fin 8) (t : Fin 4096) (z : Fin 1) :
    (val_main_v24 (F := Ideal) x0 x1 x2 (ix3 h t z) : EReal) = ((A.m h t : ℝ) : EReal) := by
  rw [val_main_v24_apply]
  have e : idx_main_v24 (ix3 h t z) = ix2 h t := by
    funext a; match a with | ⟨0, _⟩ => rfl | ⟨1, _⟩ => rfl
  rw [e]; exact hm h t

theorem v27_at (h : Fin 8) (t n : Fin 4096) :
    (val_main_v27 (F := Ideal) x0 x1 x2 (ix3 h t n) : EReal) = ((Real.exp (msc A h t n - A.m h t) : ℝ) : EReal) := by
  rw [val_main_v27_apply, val_main_v26_apply, val_main_v25_apply]
  have e : idx_main_v25 (ix3 h t n) = ix3 h t (⟨0, Nat.one_pos⟩ : Fin 1) := by
    funext a; match a with | ⟨0, _⟩ => rfl | ⟨1, _⟩ => rfl | ⟨2, _⟩ => rfl
  rw [e, v24_at hm h t, v22_at H h t n]
  show Ideal.exp (((msc A h t n : ℝ) : EReal) - ((A.m h t : ℝ) : EReal)) = _
  rw [← EReal.coe_sub, Ideal.exp_coe]

omit H hm in
theorem v28m_at (h : Fin 8) (t n : Fin 4096) :
    val_main_v28_1 (F := Ideal) (ix3 h t n) = if n.val ≤ t.val then 1#1 else 0#1 := by
  rw [val_main_v28_1_apply]
  have e : idx_main_v28_1 (ix3 h t n) = ix2 t n := by
    funext a; match a with | ⟨0, _⟩ => rfl | ⟨1, _⟩ => rfl
  rw [e]; exact v17_at t n

theorem v28_at (h : Fin 8) (t n : Fin 4096) : (val_main_v28_0 (F := Ideal) x0 x1 x2 (ix3 h t n) : EReal)
    = ((wt (Args.vis t) (A.sc h t) (A.m h t) n : ℝ) : EReal) := by
  rw [val_main_v28_0_apply, select_mask _ _ (v28m_at h t n), v27_at H hm h t n]
  unfold wt msc
  by_cases hn : n.val ≤ t.val
  · rw [if_pos hn, if_pos hn, if_pos hn]
  · rw [if_neg hn, if_neg hn, val_main_call1_v2_apply, val_main_call1_v0_apply, val_main_cst_2_apply]
    exact lit_0

theorem v32_at (h : Fin 8) (t : Fin 4096) (z : Fin 1) :
    (val_main_v32 (F := Ideal) x0 x1 x2 (ix3 h t z) : EReal) = ((A.l h t : ℝ) : EReal) := by
  rw [val_main_v32_apply, val_main_v30_apply, val_main_v29_apply, val_main_v31_apply, val_main_cst_4_apply, val_main_cst_3_apply]
  have e : ∀ k, idx_main_v29 (idx_main_v30 (ix3 h t z)) k = ix3 h t k := fun k => by
    funext a; match a with | ⟨0, _⟩ => rfl | ⟨1, _⟩ => rfl | ⟨2, _⟩ => rfl
  have es : ∑ k : Fin 4096, (val_main_v28_0 (F := Ideal) x0 x1 x2 (idx_main_v29 (idx_main_v30 (ix3 h t z)) k) : EReal)
      = ((∑ n, wt (Args.vis t) (A.sc h t) (A.m h t) n : ℝ) : EReal) :=
    sum_coe fun k => by rw [e k]; exact v28_at H hm h t k
  show (Ideal.ofBits .f32 0x00000000#32 + ∑ k : Fin 4096, (val_main_v28_0 (F := Ideal) x0 x1 x2 (idx_main_v29 (idx_main_v30 (ix3 h t z)) k) : EReal))
    + Ideal.ofBits .f32 0x1E3CE508#32 = _
  rw [es, lit_0, lit_eps, ← EReal.coe_add, ← EReal.coe_add, zero_add]; rfl

theorem v34_at (h : Fin 8) (t n : Fin 4096) :
    (val_main_v34 (F := Ideal) x0 x1 x2 (ix3 h t n) : EReal) = ((A.p h t n : ℝ) : EReal) := by
  rw [val_main_v34_apply, val_main_v33_apply]
  have e : idx_main_v33 (ix3 h t n) = ix3 h t (⟨0, Nat.one_pos⟩ : Fin 1) := by
    funext a; match a with | ⟨0, _⟩ => rfl | ⟨1, _⟩ => rfl | ⟨2, _⟩ => rfl
  rw [e]
  exact div_real (v28_at H hm h t n) (v32_at H hm h t _) (A.l_pos h t).ne'

theorem v37_at (h : Fin 8) (t : Fin 4096) (z : Fin 1) :
    (val_main_v37 (F := Ideal) x0 x1 x2 (ix3 h t z) : EReal) = ((1 / (A.l h t * A.l h t) : ℝ) : EReal) := by
  rw [val_main_v37_apply, val_main_v36_apply, val_main_cst_5_apply, val_main_v35_apply]
  exact div_real lit_1 (mul_coe (v32_at H hm h t z) (v32_at H hm h t z)) (mul_pos (A.l_pos h t) (A.l_pos h t)).ne'

theorem v38_at (h : Fin 8) (c : Fin 128) (t : Fin 4096) :
    (val_main_v38 (F := Ideal) x0 x1 x2 (ix3 h c t) : EReal) = ((A.o h t c : ℝ) : EReal) := by
  rw [val_main_v38_apply]
  refine sum_mul_coe (fun n => ?_) fun n => ?_
  · have e : lidx_main_v38 (ix3 h c t) n = ix3 n h c := by
      funext a; match a with | ⟨0, _⟩ => rfl | ⟨1, _⟩ => rfl | ⟨2, _⟩ => rfl
    rw [e]; exact v11_at H n h c
  · have e : ridx_main_v38 (ix3 h c t) n = ix3 h t n := by
      funext a; match a with | ⟨0, _⟩ => rfl | ⟨1, _⟩ => rfl | ⟨2, _⟩ => rfl
    rw [e]; exact v34_at H hm h t n

/-- Column of lane `c` of head `h` in a matrix of the eight heads' 128 lanes. -/
def c1024 (h : Fin 8) (c : Fin 128) : Fin 1024 := ⟨h.val * 128 + c.val, by omega⟩

theorem v40_at (t : Fin 4096) (h : Fin 8) (c : Fin 128) :
    (val_main_v40 (F := Ideal) x0 x1 x2 (ix2 t (c1024 h c)) : EReal) = ((A.o h t c : ℝ) : EReal) := by
  rw [val_main_v40_apply, val_main_v39_apply]
  have e : idx_main_v39 (idx_main_v40 (ix2 t (c1024 h c))) = ix3 h c t := by
    funext a
    match a with
    | ⟨0, _⟩ => exact Fin.ext (by show (t.val * 1024 + (h.val * 128 + c.val)) / 128 % 8 = h.val; omega)
    | ⟨1, _⟩ => exact Fin.ext (by show (t.val * 1024 + (h.val * 128 + c.val)) % 128 = c.val; omega)
    | ⟨2, _⟩ => exact Fin.ext (by show (t.val * 1024 + (h.val * 128 + c.val)) / 1024 = t.val; omega)
  rw [e]; exact v38_at H hm h c t

theorem v42_at (h : Fin 8) (t : Fin 4096) (z : Fin 1) : (val_main_v42 (F := Ideal) x0 x1 x2 (ix3 h t z) : EReal)
    = ((A.m h t + Real.log (A.l h t) : ℝ) : EReal) := by
  rw [val_main_v42_apply, val_main_v41_apply, v24_at hm h t z]
  show ((A.m h t : ℝ) : EReal) + Ideal.log _ = _
  rw [log_real (v32_at H hm h t z) (A.l_pos h t), ← EReal.coe_add]

omit hm in
theorem v3_at (t : Fin 4096) (h : Fin 8) (c : Fin 128) :
    (val_main_v3 (F := Ideal) x3 (ix2 t (c1024 h c)) : EReal) = ((A.g t (c128 h c) : ℝ) : EReal) := by
  rw [val_main_v3_apply, ← H.g]
  congr 1
  funext a; match a with | ⟨0, _⟩ => rfl | ⟨1, _⟩ => rfl

theorem v45_at (t : Fin 4096) (h : Fin 8) :
    (val_main_v45 (F := Ideal) x0 x1 x2 x3 (ix2 t h) : EReal) = ((A.D h t : ℝ) : EReal) := by
  rw [val_main_v45_apply, val_main_cst_6_apply]
  have es : ∀ k : Fin 128, (val_main_v44 (F := Ideal) x0 x1 x2 x3 (idx_main_v45 (ix2 t h) k) : EReal)
      = ((A.o h t k * A.g t (c128 h k) : ℝ) : EReal) := fun k => by
    rw [val_main_v44_apply, val_main_v43_apply]
    have e : idx_main_v44 (idx_main_v45 (ix2 t h) k) = ix2 t (c1024 h k) := by
      funext a
      match a with
      | ⟨0, _⟩ => exact Fin.ext (by show ((t.val * 8 + h.val) * 128 + k.val) / 1024 = t.val; omega)
      | ⟨1, _⟩ => exact Fin.ext (by show ((t.val * 8 + h.val) * 128 + k.val) % 1024 = h.val * 128 + k.val; omega)
    rw [e]
    exact mul_coe (v40_at H hm t h k) (v3_at H t h k)
  show Ideal.ofBits .f32 0x00000000#32 + ∑ k : Fin 128, (val_main_v44 (F := Ideal) x0 x1 x2 x3 (idx_main_v45 (ix2 t h) k) : EReal) = _
  rw [sum_coe es, lit_0, ← EReal.coe_add, zero_add]; rfl

omit hm in
theorem v47_at (h : Fin 8) (c : Fin 128) (t : Fin 4096) :
    (val_main_v47 (F := Ideal) x3 (ix3 h c t) : EReal) = ((A.g t (c128 h c) : ℝ) : EReal) := by
  rw [val_main_v47_apply, val_main_v46_apply]
  have e : idx_main_v46 (idx_main_v47 (ix3 h c t)) = ix2 t (c1024 h c) := by
    funext a
    match a with
    | ⟨0, _⟩ => exact Fin.ext (by show ((t.val * 8 + h.val) * 128 + c.val) / 1024 = t.val; omega)
    | ⟨1, _⟩ => exact Fin.ext (by show ((t.val * 8 + h.val) * 128 + c.val) % 1024 = h.val * 128 + c.val; omega)
  rw [e]; exact v3_at H t h c

omit hm in
theorem v48_at (h : Fin 8) (t n : Fin 4096) :
    (val_main_v48 (F := Ideal) x1 x3 (ix3 h t n) : EReal) = ((A.dp h t n : ℝ) : EReal) := by
  rw [val_main_v48_apply]
  refine sum_mul_coe (fun c => ?_) fun c => ?_
  · have e : lidx_main_v48 (ix3 h t n) c = ix3 h c t := by
      funext a; match a with | ⟨0, _⟩ => rfl | ⟨1, _⟩ => rfl | ⟨2, _⟩ => rfl
    rw [e]; exact v47_at H h c t
  · have e : ridx_main_v48 (ix3 h t n) c = ix3 n h c := by
      funext a; match a with | ⟨0, _⟩ => rfl | ⟨1, _⟩ => rfl | ⟨2, _⟩ => rfl
    rw [e]; exact v11_at H n h c

/-- The row's sum the differentiated quotient takes off. -/
def rowSum (A : Args) (h : Fin 8) (t : Fin 4096) : ℝ :=
  ∑ n, A.dp h t n * (1 / (A.l h t * A.l h t)) * wt (Args.vis t) (A.sc h t) (A.m h t) n

theorem v54_at (h : Fin 8) (t : Fin 4096) :
    (val_main_v54 (F := Ideal) x0 x1 x2 x3 (ix2 h t) : EReal) = ((rowSum A h t : ℝ) : EReal) := by
  rw [val_main_v54_apply, val_main_cst_7_apply]
  have es : ∀ n : Fin 4096, (val_main_v53 (F := Ideal) x0 x1 x2 x3 (idx_main_v54 (ix2 h t) n) : EReal)
      = ((A.dp h t n * (1 / (A.l h t * A.l h t)) * wt (Args.vis t) (A.sc h t) (A.m h t) n : ℝ) : EReal) := fun n => by
    have e : idx_main_v54 (ix2 h t) n = ix3 h t n := by
      funext a; match a with | ⟨0, _⟩ => rfl | ⟨1, _⟩ => rfl | ⟨2, _⟩ => rfl
    rw [e, val_main_v53_apply, val_main_v52_apply, val_main_v51_apply]
    have e' : idx_main_v51 (ix3 h t n) = ix3 h t (⟨0, Nat.one_pos⟩ : Fin 1) := by
      funext a; match a with | ⟨0, _⟩ => rfl | ⟨1, _⟩ => rfl | ⟨2, _⟩ => rfl
    rw [e']
    exact mul_coe (mul_coe (v48_at H h t n) (v37_at H hm h t _)) (v28_at H hm h t n)
  show Ideal.ofBits .f32 0x00000000#32 + ∑ k : Fin 4096, (val_main_v53 (F := Ideal) x0 x1 x2 x3 (idx_main_v54 (ix2 h t) k) : EReal) = _
  rw [sum_coe es, lit_0, ← EReal.coe_add, zero_add]; rfl

theorem v60_at (h : Fin 8) (t n : Fin 4096) :
    (val_main_v60 (F := Ideal) x0 x1 x2 x3 (ix3 h t n) : EReal) = ((-rowSum A h t : ℝ) : EReal) := by
  rw [val_main_v60_apply, val_main_v59_apply, val_main_cst_8_apply]
  have es : ∀ k : Fin 1, (val_main_v56 (F := Ideal) x0 x1 x2 x3 (idx_main_v59 (idx_main_v60 (ix3 h t n)) k) : EReal)
      = ((-rowSum A h t : ℝ) : EReal) := fun k => by
    rw [val_main_v56_apply, val_main_v55_apply]
    have e : idx_main_v55 (idx_main_v59 (idx_main_v60 (ix3 h t n)) k) = ix2 h t := by
      funext a
      match a with
      | ⟨0, _⟩ => exact Fin.ext (by show ((h.val * 4096 + t.val) * 1 + k.val) / 4096 = h.val; omega)
      | ⟨1, _⟩ => exact Fin.ext (by show ((h.val * 4096 + t.val) * 1 + k.val) % 4096 = t.val; omega)
    rw [e, v54_at H hm h t]
    rfl
  show Ideal.ofBits .f32 0x00000000#32 + ∑ k : Fin 1, (val_main_v56 (F := Ideal) x0 x1 x2 x3 (idx_main_v59 (idx_main_v60 (ix3 h t n)) k) : EReal) = _
  rw [sum_coe es, lit_0, ← EReal.coe_add, zero_add, Fin.sum_univ_one]

theorem v61_at (h : Fin 8) (t n : Fin 4096) : (val_main_v61 (F := Ideal) x0 x1 x2 x3 (ix3 h t n) : EReal)
    = ((A.dp h t n / A.l h t + -rowSum A h t : ℝ) : EReal) := by
  rw [val_main_v61_apply, val_main_v58_apply, val_main_v57_apply, v60_at H hm h t n]
  have e : idx_main_v57 (ix3 h t n) = ix3 h t (⟨0, Nat.one_pos⟩ : Fin 1) := by
    funext a; match a with | ⟨0, _⟩ => rfl | ⟨1, _⟩ => rfl | ⟨2, _⟩ => rfl
  rw [e]
  show Ideal.div _ _ + ((-rowSum A h t : ℝ) : EReal) = _
  rw [div_real (v48_at H h t n) (v32_at H hm h t _) (A.l_pos h t).ne', ← EReal.coe_add]

omit H hm in
theorem v22m_at (h : Fin 8) (t n : Fin 4096) :
    val_main_v22_1 (F := Ideal) (ix3 h t n) = if n.val ≤ t.val then 1#1 else 0#1 := by
  rw [val_main_v22_1_apply]
  have e : idx_main_v22_1 (ix3 h t n) = ix2 t n := by
    funext a; match a with | ⟨0, _⟩ => rfl | ⟨1, _⟩ => rfl
  rw [e]; exact v17_at t n

/-- The gradient of the scores. -/
theorem v64_at (h : Fin 8) (t n : Fin 4096) :
    (val_main_v64 (F := Ideal) x0 x1 x2 x3 (ix3 h t n) : EReal) = ((A.ds h t n : ℝ) : EReal) := by
  have hx : Args.vis t n → msc A h t n - A.m h t = A.sc h t n - A.m h t := fun hn => by
    unfold msc; rw [if_pos (show n.val ≤ t.val from hn)]
  rw [← A.ds_ref h t n _ hx, val_main_v64_apply, select_mask _ _ (v22m_at h t n), val_main_v63_apply,
    val_main_v62_apply, select_mask _ _ (v28m_at h t n), v27_at H hm h t n, v61_at H hm h t n]
  by_cases hn : n.val ≤ t.val
  · rw [if_pos hn, if_pos hn, if_pos hn, if_pos hn]
    exact mul_coe rfl rfl
  · rw [if_neg hn, if_neg hn, val_main_call3_v0_apply]
    exact lit_0

theorem v66_at (h : Fin 8) (t n : Fin 4096) :
    (val_main_v66 (F := Ideal) x0 x1 x2 x3 (ix3 h t n) : EReal) = ((A.ds h t n / Real.sqrt 192 : ℝ) : EReal) := by
  rw [val_main_v66_apply, val_main_v65_apply]
  exact div_real (v64_at H hm h t n) (v19_at _) Args.sqrt192_pos.ne'

/-- The queries' gradient. -/
theorem v81_at (t : Fin 4096) (h : Fin 8) (d : Fin 256) :
    (val_main_v81 (F := Ideal) x0 x1 x2 x3 (ix2 t (c256 h d)) : EReal) = ((A.dq h t d : ℝ) : EReal) := by
  rw [val_main_v81_apply, val_main_v70_apply]
  have e : idx_main_v70 (idx_main_v81 (ix2 t (c256 h d))) = ix3 h t d := by
    funext a
    match a with
    | ⟨0, _⟩ => exact Fin.ext (by show (t.val * 2048 + (h.val * 256 + d.val)) / 256 % 8 = h.val; omega)
    | ⟨1, _⟩ => exact Fin.ext (by show (t.val * 2048 + (h.val * 256 + d.val)) / 2048 = t.val; omega)
    | ⟨2, _⟩ => exact Fin.ext (by show (t.val * 2048 + (h.val * 256 + d.val)) % 256 = d.val; omega)
  rw [e, val_main_v69_apply]
  have es : ∀ n : Fin 4096, (val_main_v66 (F := Ideal) x0 x1 x2 x3 (lidx_main_v69 (ix3 h t d) n) : EReal)
      = ((A.ds h t n / Real.sqrt 192 : ℝ) : EReal) := fun n => by
    have e : lidx_main_v69 (ix3 h t d) n = ix3 h t n := by
      funext a; match a with | ⟨0, _⟩ => rfl | ⟨1, _⟩ => rfl | ⟨2, _⟩ => rfl
    rw [e]; exact v66_at H hm h t n
  have es' : ∀ n : Fin 4096, (val_main_v9 (F := Ideal) x1 x2 (ridx_main_v69 (ix3 h t d) n) : EReal)
      = ((A.key h n d : ℝ) : EReal) := fun n => by
    have e : ridx_main_v69 (ix3 h t d) n = ix3 n h d := by
      funext a; match a with | ⟨0, _⟩ => rfl | ⟨1, _⟩ => rfl | ⟨2, _⟩ => rfl
    rw [e]; exact v9_at H n h d
  rw [sum_mul_coe es es']
  unfold Args.dq
  rw [Finset.sum_div]
  congr 1
  exact Finset.sum_congr rfl fun n _ => div_mul_eq_mul_div _ _ _

/-- The rows' means, in rows of 256. -/
theorem v83_at (h : Fin 8) (r : Fin 16) (z : Fin 1) (w : Fin 256) :
    (val_main_v83 (F := Ideal) x0 x1 x2 x3 (ix4 h r z w) : EReal) = ((A.D h ⟨r.val * 256 + w.val, by omega⟩ : ℝ) : EReal) := by
  rw [val_main_v83_apply, val_main_v82_apply]
  have e : idx_main_v82 (idx_main_v83 (ix4 h r z w)) = ix2 (⟨r.val * 256 + w.val, by omega⟩ : Fin 4096) h := by
    funext a
    match a with
    | ⟨0, _⟩ =>
      exact Fin.ext (by show (((h.val * 16 + r.val) * 1 + z.val) * 256 + w.val) % 4096 = r.val * 256 + w.val; omega)
    | ⟨1, _⟩ =>
      exact Fin.ext (by show (((h.val * 16 + r.val) * 1 + z.val) * 256 + w.val) / 4096 = h.val; omega)
  rw [e]; exact v45_at H hm _ h

end Cert.Proof.RefAttn

end
-- ==== Proof.Windows.lean ====
/-
  The blocks of the kernel's windows, entry by entry: which rows, columns and heads of the arrays a grid point reads and
  writes.
-/
module

public import proofs.«01_k».proof.Proof.IdealValue
public import proofs.«01_k».proof.Proof.HostPre
public import proofs.«01_k».proof.Proof.Outs
public import proofs.«01_k».proof.Proof.RefAttn

@[expose] public section

noncomputable section

namespace Cert.Proof.Windows

open Idealize.ShloMosaic Idealize.ShloMosaic.TcCoe Cert.KernelIdeal Cert.KernelIdeal.Gen Cert.Proof.KernelIdealFrame
open Cert.Proof.Attn Cert.Proof.KerAttn Cert.Proof.RefAttn
open Idealize.ShloMosaic Idealize.ShloMosaic.TcCoe Idealize.ShloMosaic.ValueIdx

/-- The head of a grid point. -/
def hd (t : Fin cfg0.N) : Fin 8 := grid0.coords t 0

/-- The group of query rows of a grid point. -/
def gr (t : Fin cfg0.N) : Fin 2 := grid0.coords t 1

theorem idx0 : ∀ t : Fin cfg0.N, win0_0.index t (0 : Fin 2) = (gr t).val ∧ win0_0.index t (1 : Fin 2) = (hd t).val :=
  (by decide +kernel : ∀ t : Fin grid0.N, win0_0.index t (0 : Fin 2) = (gr t).val ∧ win0_0.index t (1 : Fin 2) = (hd t).val)

theorem idx1 : ∀ t : Fin cfg0.N, win0_1.index t (0 : Fin 2) = 0 ∧ win0_1.index t (1 : Fin 2) = (hd t).val :=
  (by decide +kernel : ∀ t : Fin grid0.N, win0_1.index t (0 : Fin 2) = 0 ∧ win0_1.index t (1 : Fin 2) = (hd t).val)

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem idx3 : ∀ t : Fin cfg0.N, win0_3.index t (0 : Fin 2) = 0 ∧ win0_3.index t (1 : Fin 2) = 8 + (hd t).val :=
  (by decide +kernel : ∀ t : Fin grid0.N, win0_3.index t (0 : Fin 2) = 0 ∧ win0_3.index t (1 : Fin 2) = 8 + (hd t).val)

theorem idx4 : ∀ t : Fin cfg0.N, win0_4.index t (0 : Fin 2) = (gr t).val ∧ win0_4.index t (1 : Fin 2) = (hd t).val :=
  (by decide +kernel : ∀ t : Fin grid0.N, win0_4.index t (0 : Fin 2) = (gr t).val ∧ win0_4.index t (1 : Fin 2) = (hd t).val)

theorem idx5 : ∀ t : Fin cfg0.N, win0_5.index t (0 : Fin 3) = (hd t).val ∧ win0_5.index t (1 : Fin 3) = (gr t).val
    ∧ win0_5.index t (2 : Fin 3) = 0 :=
  (by decide +kernel : ∀ t : Fin grid0.N, win0_5.index t (0 : Fin 3) = (hd t).val ∧ win0_5.index t (1 : Fin 3) = (gr t).val
    ∧ win0_5.index t (2 : Fin 3) = 0)

theorem idx6 : ∀ t : Fin cfg0.N, win0_6.index t (0 : Fin 2) = (gr t).val ∧ win0_6.index t (1 : Fin 2) = (hd t).val :=
  (by decide +kernel : ∀ t : Fin grid0.N, win0_6.index t (0 : Fin 2) = (gr t).val ∧ win0_6.index t (1 : Fin 2) = (hd t).val)

theorem idx7 : ∀ t : Fin cfg0.N, win0_7.index t (0 : Fin 2) = (gr t).val ∧ win0_7.index t (1 : Fin 2) = (hd t).val :=
  (by decide +kernel : ∀ t : Fin grid0.N, win0_7.index t (0 : Fin 2) = (gr t).val ∧ win0_7.index t (1 : Fin 2) = (hd t).val)

theorem idx8 : ∀ t : Fin cfg0.N, win0_8.index t (0 : Fin 4) = (hd t).val ∧ win0_8.index t (1 : Fin 4) = (gr t).val
    ∧ win0_8.index t (2 : Fin 4) = 0 ∧ win0_8.index t (3 : Fin 4) = 0 :=
  (by decide +kernel : ∀ t : Fin grid0.N, win0_8.index t (0 : Fin 4) = (hd t).val ∧ win0_8.index t (1 : Fin 4) = (gr t).val
    ∧ win0_8.index t (2 : Fin 4) = 0 ∧ win0_8.index t (3 : Fin 4) = 0)

/-- Every head and group is a grid point's. -/
theorem point : ∀ (h : Fin 8) (g : Fin 2), ∃ t : Fin cfg0.N, hd t = h ∧ gr t = g :=
  (by decide +kernel : ∀ (h : Fin 8) (g : Fin 2), ∃ t : Fin grid0.N, hd t = h ∧ gr t = g)

theorem emb0 (t : Fin cfg0.N) (r : Fin 2048) (d : Fin 256) :
    ((cfg0.win 0).blk t).view.emb (ix2 r d) = ix2 (wrow (gr t) r) (c256 (hd t) d) := by
  obtain ⟨e0, e1⟩ := idx0 t
  funext a; apply Fin.ext
  match a with
  | ⟨0, _⟩ => show win0_0.index t (0 : Fin 2) * 2048 + 1 * r.val = 2048 * (gr t).val + r.val; omega
  | ⟨1, _⟩ => show win0_0.index t (1 : Fin 2) * 256 + 1 * d.val = (hd t).val * 256 + d.val; omega

theorem emb1 (t : Fin cfg0.N) (r : Fin 4096) (d : Fin 128) :
    ((cfg0.win 1).blk t).view.emb (ix2 r d) = ix2 r (c128 (hd t) d) := by
  obtain ⟨e0, e1⟩ := idx1 t
  funext a; apply Fin.ext
  match a with
  | ⟨0, _⟩ => show win0_1.index t (0 : Fin 2) * 4096 + 1 * r.val = r.val; omega
  | ⟨1, _⟩ => show win0_1.index t (1 : Fin 2) * 128 + 1 * d.val = (hd t).val * 128 + d.val; omega

theorem emb2 (t : Fin cfg0.N) (r : Fin 4096) (d : Fin 128) :
    ((cfg0.win 2).blk t).view.emb (ix2 r d) = ix2 r d := by
  obtain ⟨e0, e1⟩ := idx2 t
  funext a; apply Fin.ext
  match a with
  | ⟨0, _⟩ => show win0_2.index t (0 : Fin 2) * 4096 + 1 * r.val = r.val; omega
  | ⟨1, _⟩ => show win0_2.index t (1 : Fin 2) * 128 + 1 * d.val = d.val; omega

theorem emb3 (t : Fin cfg0.N) (r : Fin 4096) (d : Fin 128) :
    ((cfg0.win 3).blk t).view.emb (ix2 r d) = ix2 r (c128' (hd t) d) := by
  obtain ⟨e0, e1⟩ := idx3 t
  funext a; apply Fin.ext
  match a with
  | ⟨0, _⟩ => show win0_3.index t (0 : Fin 2) * 4096 + 1 * r.val = r.val; omega
  | ⟨1, _⟩ => show win0_3.index t (1 : Fin 2) * 128 + 1 * d.val = 1024 + ((hd t).val * 128 + d.val); omega

theorem emb4 (t : Fin cfg0.N) (r : Fin 2048) (d : Fin 128) :
    ((cfg0.win 4).blk t).view.emb (ix2 r d) = ix2 (wrow (gr t) r) (c1024 (hd t) d) := by
  obtain ⟨e0, e1⟩ := idx4 t
  funext a; apply Fin.ext
  match a with
  | ⟨0, _⟩ => show win0_4.index t (0 : Fin 2) * 2048 + 1 * r.val = 2048 * (gr t).val + r.val; omega
  | ⟨1, _⟩ => show win0_4.index t (1 : Fin 2) * 128 + 1 * d.val = (hd t).val * 128 + d.val; omega

theorem emb5 (t : Fin cfg0.N) (r : Fin 2048) :
    ((cfg0.win 5).blk t).view.emb (ix3 (0 : Fin 1) r (0 : Fin 1)) = ix3 (hd t) (wrow (gr t) r) (0 : Fin 1) := by
  obtain ⟨e0, e1, e2⟩ := idx5 t
  funext a; apply Fin.ext
  match a with
  | ⟨0, _⟩ => show win0_5.index t (0 : Fin 3) * 1 + 1 * 0 = (hd t).val; omega
  | ⟨1, _⟩ => show win0_5.index t (1 : Fin 3) * 2048 + 1 * r.val = 2048 * (gr t).val + r.val; omega
  | ⟨2, _⟩ => show win0_5.index t (2 : Fin 3) * 1 + 1 * 0 = 0; omega

theorem emb6 (t : Fin cfg0.N) (r : Fin 2048) (d : Fin 128) :
    ((cfg0.win 6).blk t).view.emb (ix2 r d) = ix2 (wrow (gr t) r) (c128 (hd t) d) := by
  obtain ⟨e0, e1⟩ := idx6 t
  funext a; apply Fin.ext
  match a with
  | ⟨0, _⟩ => show win0_6.index t (0 : Fin 2) * 2048 + 1 * r.val = 2048 * (gr t).val + r.val; omega
  | ⟨1, _⟩ => show win0_6.index t (1 : Fin 2) * 128 + 1 * d.val = (hd t).val * 128 + d.val; omega

theorem emb7 (t : Fin cfg0.N) (r : Fin 2048) (d : Fin 256) :
    ((cfg0.win 7).blk t).view.emb (ix2 r d) = ix2 (wrow (gr t) r) (c256 (hd t) d) := by
  obtain ⟨e0, e1⟩ := idx7 t
  funext a; apply Fin.ext
  match a with
  | ⟨0, _⟩ => show win0_7.index t (0 : Fin 2) * 2048 + 1 * r.val = 2048 * (gr t).val + r.val; omega
  | ⟨1, _⟩ => show win0_7.index t (1 : Fin 2) * 256 + 1 * d.val = (hd t).val * 256 + d.val; omega

/-- Row `k` of the rows of 256 a grid point writes. -/
def lrow (g : Fin 2) (k : Fin 8) : Fin 16 := ⟨g.val * 8 + k.val, by omega⟩

theorem emb8 (t : Fin cfg0.N) (k : Fin 8) (w : Fin 256) :
    ((cfg0.win 8).blk t).view.emb (ix4 (0 : Fin 1) k (0 : Fin 1) w) = ix4 (hd t) (lrow (gr t) k) (0 : Fin 1) w := by
  obtain ⟨e0, e1, e2, e3⟩ := idx8 t
  funext a; apply Fin.ext
  match a with
  | ⟨0, _⟩ => show win0_8.index t (0 : Fin 4) * 1 + 1 * 0 = (hd t).val; omega
  | ⟨1, _⟩ => show win0_8.index t (1 : Fin 4) * 8 + 1 * k.val = (gr t).val * 8 + k.val; omega
  | ⟨2, _⟩ => show win0_8.index t (2 : Fin 4) * 1 + 1 * 0 = 0; omega
  | ⟨3, _⟩ => show win0_8.index t (3 : Fin 4) * 256 + 1 * w.val = w.val; omega

/-- Every entry of the queries' gradient is in a point's block. -/
theorem cover_q (i : S4096x2048.Idx) : ∃ t : Fin cfg0.N, (cfg0.win 7).flush t = true ∧ i ∈ ((cfg0.win 7).blk t).view.set := by
  have h0 : (i 0).val < 4096 := (i 0).isLt
  have h1 : (i 1).val < 2048 := (i 1).isLt
  obtain ⟨t, e0, e1⟩ := point ⟨(i 1).val / 256, by omega⟩ ⟨(i 0).val / 2048, by omega⟩
  refine ⟨t, flush0_7 t, ?_⟩
  have h := ((cfg0.win 7).blk t).view.emb_mem_set (ix2 (⟨(i 0).val % 2048, by omega⟩ : Fin 2048) (⟨(i 1).val % 256, by omega⟩ : Fin 256))
  rw [emb7, e0, e1] at h
  have e : (ix2 (wrow ⟨(i 0).val / 2048, by omega⟩ ⟨(i 0).val % 2048, by omega⟩) (c256 ⟨(i 1).val / 256, by omega⟩ ⟨(i 1).val % 256, by omega⟩) : S4096x2048.Idx) = i := by
    funext a; apply Fin.ext
    match a with
    | ⟨0, _⟩ => show 2048 * ((i 0).val / 2048) + (i 0).val % 2048 = (i 0).val; omega
    | ⟨1, _⟩ => show (i 1).val / 256 * 256 + (i 1).val % 256 = (i 1).val; omega
  exact e ▸ h

/-- Every entry of the rows' means is in a point's block. -/
theorem cover_D (i : S8x16x1x256.Idx) : ∃ t : Fin cfg0.N, (cfg0.win 8).flush t = true ∧ i ∈ ((cfg0.win 8).blk t).view.set := by
  have h0 : (i 0).val < 8 := (i 0).isLt
  have h1 : (i 1).val < 16 := (i 1).isLt
  have h2 : (i 2).val < 1 := (i 2).isLt
  have h3 : (i 3).val < 256 := (i 3).isLt
  obtain ⟨t, e0, e1⟩ := point ⟨(i 0).val, h0⟩ ⟨(i 1).val / 8, by omega⟩
  refine ⟨t, flush0_8 t, ?_⟩
  have h := ((cfg0.win 8).blk t).view.emb_mem_set (ix4 (0 : Fin 1) (⟨(i 1).val % 8, by omega⟩ : Fin 8) (0 : Fin 1) (⟨(i 3).val, h3⟩ : Fin 256))
  rw [emb8, e0, e1] at h
  have e : (ix4 (⟨(i 0).val, h0⟩ : Fin 8) (lrow ⟨(i 1).val / 8, by omega⟩ ⟨(i 1).val % 8, by omega⟩) (0 : Fin 1) (⟨(i 3).val, h3⟩ : Fin 256) : S8x16x1x256.Idx) = i := by
    funext a; apply Fin.ext
    match a with
    | ⟨0, _⟩ => rfl
    | ⟨1, _⟩ => show (i 1).val / 8 * 8 + (i 1).val % 8 = (i 1).val; omega
    | ⟨2, _⟩ => show 0 = (i 2).val; omega
    | ⟨3, _⟩ => rfl
  exact e ▸ h

end Cert.Proof.Windows

end
-- ==== Proof.Value.lean ====
/-
  The kernel's two results are the reference's: block by block, entry by entry, both are the same real numbers.
-/
module

public import proofs.«01_k».proof.Proof.Windows

@[expose] public section

noncomputable section

namespace Cert.Proof.Final

open Idealize.ShloMosaic Idealize.ShloMosaic.TcCoe Idealize.ShloMosaic.ValueIdx Cert.KernelIdeal Cert.KernelIdeal.Gen Cert.Proof.KernelIdealFrame
open Cert.Proof.Attn Cert.Proof.KerAttn Cert.Proof.RefAttn Cert.Proof.Windows
open Cert.ReferenceIdeal.Read (val_main_v23 val_main_v40 val_main_v42 val_main_v81 val_main_v83)

variable (m : (ℓ : Loc nD τ sig) → Buf (Elt Ideal) ℓ) (ρ : Dev nD → PrngReg)

/-- The argument arrays of device `c`. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)

section
variable {m} {A : Args} {c : Dev nD} (H : Holds (a0 m c) (a1 m c) (a2 m c) (a3 m c) A)
  (hm : ∀ h t, (val_main_v23 (F := Ideal) (a0 m c) (a1 m c) (a2 m c) (ix2 h t) : EReal) = ((A.m h t : ℝ) : EReal))
include H hm

theorem keyArr (t : Fin cfg0.N) : KeyArr A (hd t) (iblk m c 1 t) (iblk m c 2 t) (iblk m c 3 t) where
  k1 n d := by
    show (V m c main_arg1 (((cfg0.win 1).blk t).view.emb (ix2 n d)) : EReal) = _
    rw [emb1, V_main_arg1]; exact H.kv _ _
  k2 n d := by
    show (V m c main_arg2 (((cfg0.win 2).blk t).view.emb (ix2 n d)) : EReal) = _
    rw [emb2, V_main_arg2]; exact H.kp _ _
  v n d := by
    show (V m c main_arg1 (((cfg0.win 3).blk t).view.emb (ix2 n d)) : EReal) = _
    rw [emb3, V_main_arg1]; exact H.kv _ _

theorem rowArr (t : Fin cfg0.N) : RowArr A (hd t) (gr t) (iblk m c 0 t) (iblk m c 4 t) (iblk m c 5 t) (iblk m c 6 t) where
  q r d := by
    show (V m c main_arg0 (((cfg0.win 0).blk t).view.emb (ix2 r d)) : EReal) = _
    rw [emb0, V_main_arg0]; exact H.q _ _
  o r d := by
    show (V m c main_v36 (((cfg0.win 4).blk t).view.emb (ix2 r d)) : EReal) = _
    rw [emb4, HostPre.v36]; exact v40_at H hm _ _ _
  lse r := by
    show (V m c main_v41 (((cfg0.win 5).blk t).view.emb (ix3 (0 : Fin 1) r (0 : Fin 1))) : EReal) = _
    rw [emb5, HostPre.v41]
    exact div_real (v42_at H hm _ _ _) (log_real lit_2 (by norm_num)) (Real.log_pos (by norm_num)).ne'
  g r d := by
    show (V m c main_arg3 (((cfg0.win 6).blk t).view.emb (ix2 r d)) : EReal) = _
    rw [emb6, V_main_arg3]; exact H.g _ _
end

/-- What each point leaves of the queries' gradient: its block of the reference's. -/
def O7 (c : Dev nD) (t : Fin cfg0.N) : Vec Ideal S2048x256 .f32 := fun j =>
  (val_main_v81 (F := Ideal) (a0 m c) (a1 m c) (a2 m c) (a3 m c)) (ix2 (wrow (gr t) (j 0)) (c256 (hd t) (j 1)))

/-- What each point leaves of the rows' means: its block of the reference's. -/
def O8 (c : Dev nD) (t : Fin cfg0.N) : Vec Ideal S1x8x1x256 .f32 := fun j =>
  (val_main_v83 (F := Ideal) (a0 m c) (a1 m c) (a2 m c) (a3 m c)) (ix4 (hd t) (lrow (gr t) (j 1)) (0 : Fin 1) (j 3))

/-- On every device the arguments are real numbers. -/
def Real' : Prop := ∀ c : Dev nD, ∃ A : Args, Holds (a0 m c) (a1 m c) (a2 m c) (a3 m c) A
  ∧ ∀ h t, (val_main_v23 (F := Ideal) (a0 m c) (a1 m c) (a2 m c) (ix2 h t) : EReal) = ((A.m h t : ℝ) : EReal)

theorem leaves7 (hR : Real' m) : Leaves7 m (O7 m) := fun c t fs2 fs3 => by
  obtain ⟨A, H, hm⟩ := hR c
  funext j
  rw [eq_ix2 j]
  refine (out_q c (grid0.coords t) _ _ _ _ _ _ _ _ _ _ _ _ _ _ _ _ _ _ _ _ _ _ _ _ _ _ _ _ _ _ _ _ _ (keyArr H hm t) (rowArr H hm t) fs2 fs3 (j 0) (j 1)).trans ?_
  exact (v81_at H hm (wrow (gr t) (j 0)) (hd t) (j 1)).symm

theorem leaves8 (hR : Real' m) : Leaves8 m (O8 m) := fun c t => by
  obtain ⟨A, H, hm⟩ := hR c
  funext j
  have ej : j = ix4 (0 : Fin 1) (j 1) (0 : Fin 1) (j 3) := by
    funext a
    match a with
    | ⟨0, _⟩ => exact Subsingleton.elim (α := Fin 1) _ _
    | ⟨1, _⟩ => rfl
    | ⟨2, _⟩ => exact Subsingleton.elim (α := Fin 1) _ _
    | ⟨3, _⟩ => rfl
  rw [ej]
  refine (out_D c (grid0.coords t) _ _ _ _ _ _ _ _ _ _ _ _ _ _ _ _ _ _ _ _ _ _ _ _ _ _ _ _ _ _ _ _ _ (rowArr H hm t) (j 1) (j 3)).trans ?_
  refine Eq.trans ?_ (v83_at H hm (hd t) (lrow (gr t) (j 1)) (0 : Fin 1) (j 3)).symm
  congr 2
  refine Fin.ext ?_
  show 2048 * (gr t).val + (256 * (j 1).val + (j 3).val) = ((gr t).val * 8 + (j 1).val) * 256 + (j 3).val
  omega

/-- The queries' gradient after the run. -/
theorem final7 (c : Dev nD) : (vdats m (O7 m) (O8 m) 0 c).arrAt 7 cfg0.N = val_main_v81 (F := Ideal) (a0 m c) (a1 m c) (a2 m c) (a3 m c) :=
  (vdats m (O7 m) (O8 m) 0 c).arrAt_eq_of_cover 7 (val_main_v81 (F := Ideal) (a0 m c) (a1 m c) (a2 m c) (a3 m c)) (fun t _ => by
    show (cfg0.win 7).cut (grid0.coords t) ((vdats m (O7 m) (O8 m) 0 c).after 7 t) = _
    rw [vafter0_7]
    funext j
    show O7 m c t j = val_main_v81 (F := Ideal) (a0 m c) (a1 m c) (a2 m c) (a3 m c) (((cfg0.win 7).blk t).view.emb j)
    have ej : j = ix2 (j 0) (j 1) := eq_ix2 (n0 := 2048) (n1 := 256) j
    rw [ej]
    exact congrArg (val_main_v81 (F := Ideal) (a0 m c) (a1 m c) (a2 m c) (a3 m c)) (emb7 t (j 0) (j 1)).symm) cover_q

/-- The rows' means after the run. -/
theorem final8 (c : Dev nD) : (vdats m (O7 m) (O8 m) 0 c).arrAt 8 cfg0.N = val_main_v83 (F := Ideal) (a0 m c) (a1 m c) (a2 m c) (a3 m c) :=
  (vdats m (O7 m) (O8 m) 0 c).arrAt_eq_of_cover 8 (val_main_v83 (F := Ideal) (a0 m c) (a1 m c) (a2 m c) (a3 m c)) (fun t _ => by
    show (cfg0.win 8).cut (grid0.coords t) ((vdats m (O7 m) (O8 m) 0 c).after 8 t) = _
    rw [vafter0_8]
    funext j
    show O8 m c t j = val_main_v83 (F := Ideal) (a0 m c) (a1 m c) (a2 m c) (a3 m c) (((cfg0.win 8).blk t).view.emb j)
    have ej : j = ix4 (0 : Fin 1) (j 1) (0 : Fin 1) (j 3) := by
      funext a
      match a with
      | ⟨0, _⟩ => exact Subsingleton.elim (α := Fin 1) _ _
      | ⟨1, _⟩ => rfl
      | ⟨2, _⟩ => exact Subsingleton.elim (α := Fin 1) _ _
      | ⟨3, _⟩ => rfl
    rw [ej]
    exact congrArg (val_main_v83 (F := Ideal) (a0 m c) (a1 m c) (a2 m c) (a3 m c)) (emb8 t (j 1) (j 3)).symm) cover_D

/-- The kernel's run ends with the reference's two arrays. -/
theorem run (hR : Real' m) : θ_run defs (onTc (τ := τ) (main (F := Ideal))) ⟨m, fun _ => 0, ρ⟩ fun r => ∀ c : Dev nD,
      r.2.mem ((c : Thread nD τ).loc main_v42_0) = val_main_v81 (F := Ideal) (a0 m c) (a1 m c) (a2 m c) (a3 m c)
      ∧ r.2.mem ((c : Thread nD τ).loc main_v42_1) = val_main_v83 (F := Ideal) (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final7 m c), (h c).2.1.trans (final8 m c), (h c).2.2⟩)
    (run_blocks m ρ (O7 m) (O8 m) (leaves7 m hR) (leaves8 m hR))

end Cert.Proof.Final

end
-- ==== Proof.Finite.lean ====
/-
  What the precondition says: every entry of the arguments is a real number.
-/
module

public import proofs.«01_k».proof.Defs
public import proofs.«01_k».proof.Proof.Gen.Pre_finite
public import proofs.«01_k».proof.Proof.RefAttn

@[expose] public section

noncomputable section

namespace Cert.Proof.Finite

open Idealize.ShloMosaic Idealize.ShloMosaic.TcCoe Idealize.ShloMosaic.ValueIdx
open Cert.Proof.Attn Cert.Proof.RefAttn

/-- A value whose absolute value is below `+∞` is a real number. -/
theorem real_of_lt {φ : FTy} (x w : Ideal φ) (hw : (w : EReal) = ⊤)
    (h : FloatOps.cmpf (F := Ideal) .olt (FloatOps.hostAbsf x) w = 1#1) : ∃ r : ℝ, (x : EReal) = (r : EReal) := by
  change Ideal.cmp .olt (max (x : EReal) (-(x : EReal))) (w : EReal) = 1#1 at h
  rw [hw] at h
  have hx : max (x : EReal) (-(x : EReal)) < ⊤ := by
    by_contra hc
    simp [Ideal.cmp, hc] at h
  obtain ⟨h1, h2⟩ := max_lt_iff.mp hx
  refine ⟨(x : EReal).toReal, (EReal.coe_toReal (ne_of_lt h1) fun hb => ?_).symm⟩
  have h3 : -(x : EReal) < ⊤ := h2
  rw [hb] at h3; simp at h3

theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

/-- Arguments the precondition admits are arrays of real numbers. -/
theorem reals [hP : Cert.Pre_finite.Facts] (x0 x1 : FVec Ideal Cert.Pre_finite.S4096x2048 .bf16) (x2 : FVec Ideal Cert.Pre_finite.S4096x128 .bf16)
    (x3 : FVec Ideal Cert.Pre_finite.S4096x2048 .f32)
    (h0 : (Cert.Pre_finite.fn (F := Ideal) x0 x1 x2 x3).1 = fun _ => 1#1)
    (h1 : (Cert.Pre_finite.fn (F := Ideal) x0 x1 x2 x3).2.1 = fun _ => 1#1)
    (h2 : (Cert.Pre_finite.fn (F := Ideal) x0 x1 x2 x3).2.2.1 = fun _ => 1#1)
    (h3 : (Cert.Pre_finite.fn (F := Ideal) x0 x1 x2 x3).2.2.2 = fun _ => 1#1) :
    ∃ A : Args, Holds x0 x1 x2 x3 A ∧ ∀ h t, (Cert.ReferenceIdeal.Read.val_main_v23 (F := Ideal) x0 x1 x2 (ix2 h t) : EReal) = ((A.m h t : ℝ) : EReal) := by
  have r0 : ∀ (t : Fin 4096) (j : Fin 2048), ∃ r : ℝ, (x0 (ix2 t j) : EReal) = (r : EReal) := fun t j =>
    real_of_lt (x0 (ix2 t j)) _ inf_bf16 (congrFun h0 (ix2 t j))
  have r1 : ∀ (t : Fin 4096) (j : Fin 2048), ∃ r : ℝ, (x1 (ix2 t j) : EReal) = (r : EReal) := fun t j =>
    real_of_lt (x1 (ix2 t j)) _ inf_bf16 (congrFun h1 (ix2 t j))
  have r2 : ∀ (t : Fin 4096) (j : Fin 128), ∃ r : ℝ, (x2 (ix2 t j) : EReal) = (r : EReal) := fun t j =>
    real_of_lt (x2 (ix2 t j)) _ inf_bf16 (congrFun h2 (ix2 t j))
  have r3 : ∀ (t : Fin 4096) (j : Fin 2048), ∃ r : ℝ, (x3 (ix2 t j) : EReal) = (r : EReal) := fun t j =>
    real_of_lt (x3 (ix2 t j)) _ inf_f32 (congrFun h3 (ix2 t j))
  choose q hq using r0
  choose kv hkv using r1
  choose kp hkp using r2
  choose g hg using r3
  have H0 : Holds x0 x1 x2 x3 ⟨q, kv, kp, g, fun _ _ => 0⟩ := ⟨hq, hkv, hkp, hg⟩
  choose μ hμ using v23_real H0
  exact ⟨⟨q, kv, kp, g, μ⟩, ⟨hq, hkv, hkp, hg⟩, hμ⟩

end Cert.Proof.Finite

end
-- ==== Proof.MmBase.lean ====
/-
  Sums of products shared by the tiled matrix products: a product of two tiles at an entry, in the three arrangements of
  its operands, and a sum over an axis as a sum over its blocks.
-/
module

public import Idealize.ShloMosaic.Lib.MatmulPlain
public import Idealize.ShloMosaic.Lib.WholeRead
public import Idealize.ShloMosaic.Lib.ValueIdx
public import Idealize.ShloMosaic.PureOps.Ideal.Laws

@[expose] public section

noncomputable section

namespace Cert.Proof.Mm

open Idealize.ShloMosaic Idealize.ShloMosaic.ValueIdx

variable {m k n : Nat}

/-- Rows times columns. -/
theorem nn_at (x : FVec Ideal ⟨2, ![m, k]⟩ .bf16) (y : FVec Ideal ⟨2, ![k, n]⟩ .bf16) (i : Fin m) (j : Fin n) :
    (matmul (F := Ideal) (φ₁ := .bf16) (φ₂ := .bf16) (DotDims.plain m k n) none x y (constant ⟨2, ![m, n]⟩ .f32 0x00000000#32) (ix2 i j) : EReal)
      = ∑ t : Fin k, (x (ix2 i t) : EReal) * y (ix2 t j) := by
  rw [matmul, Ideal.matmul_plain_apply]
  show Ideal.ofBits .f32 0x00000000#32 + _ = _
  rw [Ideal.ofBits_zero_f32, zero_add]

/-- Rows times rows. -/
theorem nt_at (x : FVec Ideal ⟨2, ![m, k]⟩ .bf16) (y : FVec Ideal ⟨2, ![n, k]⟩ .bf16) (i : Fin m) (j : Fin n) :
    (matmul (F := Ideal) (φ₁ := .bf16) (φ₂ := .bf16) (DotDims.transposedRhs m k n) none x y (constant ⟨2, ![m, n]⟩ .f32 0x00000000#32) (ix2 i j) : EReal)
      = ∑ t : Fin k, (x (ix2 i t) : EReal) * y (ix2 j t) := by
  rw [matmul, Ideal.matmul_transposedRhs_apply]
  show Ideal.ofBits .f32 0x00000000#32 + _ = _
  rw [Ideal.ofBits_zero_f32, zero_add]

/-- The arrangement of a product of columns with columns. -/
def colcol (m k n : Nat) (wf : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := wf

/-- Columns times columns. -/
theorem tn_at (wf : DotDims.WF ⟨2, ![k, m]⟩ ⟨2, ![k, n]⟩ ⟨2, ![m, n]⟩ [0] [0] [1] [1] [] [])
    (x : FVec Ideal ⟨2, ![k, m]⟩ .bf16) (y : FVec Ideal ⟨2, ![k, n]⟩ .bf16) (i : Fin m) (j : Fin n) :
    (matmul (F := Ideal) (φ₁ := .bf16) (φ₂ := .bf16) (colcol m k n wf) none x y (constant ⟨2, ![m, n]⟩ .f32 0x00000000#32) (ix2 i j) : EReal)
      = ∑ t : Fin k, (x (ix2 t i) : EReal) * y (ix2 t j) := by
  rw [matmul, Ideal.matmul_constant_zero_apply, ← Equiv.sum_comp (contrEquiv1 (colcol m k n wf) k rfl rfl).symm]
  refine Finset.sum_congr rfl fun t _ => ?_
  have ht := contrEquiv1_symm_val (colcol m k n wf) k rfl rfl t
  have el : (colcol m k n wf).lhsIdx (ix2 i j) ((contrEquiv1 (colcol m k n wf) k rfl rfl).symm t) = ix2 t i := funext fun a => Fin.ext (by
    match a with
    | ⟨0, _⟩ => exact ((colcol m k n wf).lhsIdx_val_of_single rfl _ _).trans ht
    | ⟨1, _⟩ =>
      show ((colcol m k n wf).lhsIdx (ix2 i j) _ 1).val = i.val
      unfold DotDims.lhsIdx
      rw [dif_neg (show ¬(1 : Fin 2) ∈ (colcol m k n wf).lhsBatch from List.not_mem_nil), dif_pos (show (1 : Fin 2) ∈ (colcol m k n wf).lhsNonContracting from List.mem_singleton.mpr rfl)]
      rfl)
  have er : (colcol m k n wf).rhsIdx (ix2 i j) ((contrEquiv1 (colcol m k n wf) k rfl rfl).symm t) = ix2 t j := funext fun a => Fin.ext (by
    match a with
    | ⟨0, _⟩ => exact ((colcol m k n wf).rhsIdx_val_of_single rfl _ _).trans ht
    | ⟨1, _⟩ =>
      show ((colcol m k n wf).rhsIdx (ix2 i j) _ 1).val = j.val
      unfold DotDims.rhsIdx
      rw [dif_neg (show ¬(1 : Fin 2) ∈ (colcol m k n wf).rhsBatch from List.not_mem_nil), dif_pos (show (1 : Fin 2) ∈ (colcol m k n wf).rhsNonContracting from List.mem_singleton.mpr rfl)]
      rfl)
  rw [el, er]

/-- A place in the `q`-th of `b` blocks of `s`. -/
def at_ (b s : Nat) (q : Fin b) (r : Fin s) : Fin (b * s) :=
  ⟨q.val * s + r.val, by have := Nat.mul_le_mul_right s (show q.val + 1 ≤ b from q.isLt); have := r.isLt; rw [Nat.add_mul, Nat.one_mul] at *; omega⟩

/-- A sum over an axis, block by block. -/
theorem sum_at (b s : Nat) (f : Fin (b * s) → EReal) : ∑ x, f x = ∑ q : Fin b, ∑ r : Fin s, f (at_ b s q r) := by
  rw [← Fintype.sum_prod_type' (f := fun (q : Fin b) (r : Fin s) => f (at_ b s q r))]
  refine (Fintype.sum_equiv (finProdFinEquiv (m := b) (n := s)) _ _ fun x => congrArg f (Fin.ext ?_)).symm
  show x.1.val * s + x.2.val = x.2.val + s * x.1.val
  rw [Nat.mul_comm, Nat.add_comm]

/-- The same over an axis whose length is written out. -/
theorem sum_blocks {K : Nat} (b s : Nat) (h : b * s = K) (f : Fin K → EReal) :
    ∑ x, f x = ∑ q : Fin b, ∑ r : Fin s, f ⟨q.val * s + r.val, h ▸ (at_ b s q r).isLt⟩ := by
  subst h
  exact sum_at b s f

/-- The offset of a whole block. -/
theorem hz2 : (![0, 0] : Fin 2 → Nat) = fun _ => 0 := funext fun a => by fin_cases a <;> rfl

/-- Two places of an array of rows and columns are one when their rows and columns are. -/
theorem place_eq {a b : Nat} (f g : (⟨2, ![a, b]⟩ : Shape).Idx) (h0 : (f 0).val = (g 0).val) (h1 : (f 1).val = (g 1).val) : f = g := by
  funext q; apply Fin.ext
  match q with
  | ⟨0, _⟩ => exact h0
  | ⟨1, _⟩ => exact h1

/-- A whole block read back. -/
theorem read_block {κ : Kind} {sp : Space} {sig : RefSig} {a b : Nat} {e : EltTy} {Val : EltTy → Type}
    (m : Memref sig κ sp ⟨2, ![a, b]⟩ e) (h : m.IsWhole)
    (hb : ∀ q, (![0, 0] : Fin 2 → Nat) q + (![a, b] : Fin 2 → Nat) q ≤ (⟨2, ![a, b]⟩ : Shape).size q) (x : (⟨2, ![a, b]⟩ : Shape).Idx → Val e) :
    View.readAt Val m.view (Rect.unit (s := ⟨2, ![a, b]⟩) ![0, 0] ![a, b] hb).toLoadRect (h.unread x) = x := by
  funext y
  refine (h.readAt_unread x _ y).trans (congrArg x (place_eq _ _ ?_ ?_))
  · show 0 + 1 * (y 0).val = (y 0).val; omega
  · show 0 + 1 * (y 1).val = (y 1).val; omega

end Cert.Proof.Mm

end
-- ==== Proof.Mm2.lean ====
/-
  The tiled product `in_proj_dx` over the extended reals: its result is the whole product, rows times columns.
-/
module

public import proofs.«01_k».proof.Proof.MmBase
public import proofs.«01_k».proof.Proof.Gen.Kernel2Ideal.Value
public import proofs.«01_k».proof.Proof.Gen.Reference2Ideal.Read
public import proofs.«01_k».proof.Defs

@[expose] public section

noncomputable section

namespace Cert.Proof.Mm2

open Idealize.ShloMosaic Idealize.ShloMosaic.TcCoe Idealize.ShloMosaic.ValueIdx Idealize.SL.Sem
open Cert.Kernel2Ideal Cert.Kernel2Ideal.Gen Cert.Kernel2Ideal.Value Cert.Proof.Mm

/-- The block of rows of the result a grid point writes. -/
def ti (t : Fin cfg0.N) : Fin 4 := grid0.coords t 0

/-- Its block of columns. -/
def tj (t : Fin cfg0.N) : Fin 1 := grid0.coords t 1

/-- The block of the summed axis it reads. -/
def tk (t : Fin cfg0.N) : Fin 3 := grid0.coords t 2

/-- A row of the result from its block. -/
def row (q : Fin 4) (r : Fin 1024) : Fin 4096 := ⟨q.val * 1024 + r.val, by omega⟩

/-- A column of the result from its block. -/
def col (q : Fin 1) (r : Fin 2048) : Fin 2048 := ⟨q.val * 2048 + r.val, by omega⟩

/-- A place on the summed axis from its block. -/
def mid (q : Fin 3) (r : Fin 2048) : Fin 6144 := ⟨q.val * 2048 + r.val, by omega⟩

theorem idx0 : ∀ t : Fin cfg0.N, win0_0.index t (0 : Fin 2) = (ti t).val ∧ win0_0.index t (1 : Fin 2) = (tk t).val :=
  (by decide +kernel : ∀ t : Fin grid0.N, win0_0.index t (0 : Fin 2) = (ti t).val ∧ win0_0.index t (1 : Fin 2) = (tk t).val)

theorem emb0 (t : Fin cfg0.N) (r : Fin 1024) (d : Fin 2048) :
    ((cfg0.win 0).blk t).view.emb (ix2 r d) = ix2 (row (ti t) r) (mid (tk t) d) := by
  obtain ⟨e0, e1⟩ := idx0 t
  funext a; apply Fin.ext
  match a with
  | ⟨0, _⟩ => show win0_0.index t (0 : Fin 2) * 1024 + 1 * r.val = (ti t).val * 1024 + r.val; omega
  | ⟨1, _⟩ => show win0_0.index t (1 : Fin 2) * 2048 + 1 * d.val = (tk t).val * 2048 + d.val; omega

theorem idx1 : ∀ t : Fin cfg0.N, win0_1.index t (0 : Fin 2) = (tk t).val ∧ win0_1.index t (1 : Fin 2) = (tj t).val :=
  (by decide +kernel : ∀ t : Fin grid0.N, win0_1.index t (0 : Fin 2) = (tk t).val ∧ win0_1.index t (1 : Fin 2) = (tj t).val)

theorem emb1 (t : Fin cfg0.N) (r : Fin 2048) (d : Fin 2048) :
    ((cfg0.win 1).blk t).view.emb (ix2 r d) = ix2 (mid (tk t) r) (col (tj t) d) := by
  obtain ⟨e0, e1⟩ := idx1 t
  funext a; apply Fin.ext
  match a with
  | ⟨0, _⟩ => show win0_1.index t (0 : Fin 2) * 2048 + 1 * r.val = (tk t).val * 2048 + r.val; omega
  | ⟨1, _⟩ => show win0_1.index t (1 : Fin 2) * 2048 + 1 * d.val = (tj t).val * 2048 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 2048) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 2048 + 1 * d.val = (tj t).val * 2048 + d.val; omega

/-- Every block of the result is some point's, whose sum is complete there. -/
theorem point : ∀ (p : Fin 4) (q : Fin 1), ∃ t : Fin cfg0.N, ti t = p ∧ tj t = q ∧ t.val % 3 = 2 :=
  (by decide +kernel : ∀ (p : Fin 4) (q : Fin 1), ∃ t : Fin grid0.N, ti t = p ∧ tj t = q ∧ t.val % 3 = 2)

/-- Every entry of the result is in a point's block. -/
theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, e0, e1, e2⟩ := point ⟨(i 0).val / 1024, by omega⟩ ⟨(i 1).val / 2048, by omega⟩
  refine ⟨t, (flush0_2 t).mpr e2, ?_⟩
  have h := ((cfg0.win 2).blk t).view.emb_mem_set (ix2 (⟨(i 0).val % 1024, by omega⟩ : Fin 1024) (⟨(i 1).val % 2048, by omega⟩ : Fin 2048))
  rw [emb2, e0, e1] at h
  have e : (ix2 (row ⟨(i 0).val / 1024, by omega⟩ ⟨(i 0).val % 1024, by omega⟩) (col ⟨(i 1).val / 2048, by omega⟩ ⟨(i 1).val % 2048, by omega⟩) : S4096x2048.Idx) = i := by
    funext a; apply Fin.ext
    match a with
    | ⟨0, _⟩ => show (i 0).val / 1024 * 1024 + (i 0).val % 1024 = (i 0).val; omega
    | ⟨1, _⟩ => show (i 1).val / 2048 * 2048 + (i 1).val % 2048 = (i 1).val; omega
  exact e ▸ h

/-- The product of two tiles at an entry. -/
theorem tile (x : Vec Ideal S1024x2048 .bf16) (y : Vec Ideal S2048x2048 .f32) (i : Fin 1024) (j : Fin 2048) :
    (k0_pay1 x y (ix2 i j) : EReal) = ∑ k : Fin 2048, (x (ix2 i k) : EReal) * y (ix2 k j) := by
  have e : (k0_pay1 x y (ix2 i j) : EReal) = matmul (F := Ideal) (φ₁ := .bf16) (φ₂ := .bf16) (DotDims.plain 1024 2048 2048) none x y (constant S1024x2048 .f32 0x00000000#32) (ix2 i j) := rfl
  exact e.trans (nn_at _ _ i j)

variable (m : (ℓ : Loc nD τ sig) → Buf (Elt Ideal) ℓ) (ρ : Dev nD → PrngReg)

/-- The first factor. -/
abbrev X (c : Dev nD) : S4096x6144.Idx → EReal := m ((c.tc : Thread nD τ).loc main_arg0)

/-- The second factor. -/
abbrev Y (c : Dev nD) : S6144x2048.Idx → EReal := m ((c.tc : Thread nD τ).loc main_arg1)

/-- The whole product. -/
def G (c : Dev nD) : S4096x2048.Idx → EReal := fun y => ∑ k : Fin 6144, X m c (ix2 (y 0 : Fin 4096) k) * Y m c (ix2 k (y 1 : Fin 2048))

theorem x_at (c : Dev nD) (t : Fin cfg0.N) (i : Fin 1024) (k : Fin 2048) :
    (iblk m c 0 t (ix2 i k) : EReal) = X m c (ix2 (row (ti t) i) (mid (tk t) k)) := by
  show (V m c main_arg0 (((cfg0.win 0).blk t).view.emb (ix2 i k)) : EReal) = _
  rw [emb0, V_main_arg0]

theorem y_at (c : Dev nD) (t : Fin cfg0.N) (j : Fin 2048) (k : Fin 2048) :
    (iblk m c 1 t (ix2 k j) : EReal) = Y m c (ix2 (mid (tk t) k) (col (tj t) j)) := by
  show (V m c main_arg1 (((cfg0.win 1).blk t).view.emb (ix2 k j)) : EReal) = _
  rw [emb1, V_main_arg1]

/-- What a point adds to an entry of its block. -/
theorem add_at (c : Dev nD) (t : Fin cfg0.N) (i : Fin 1024) (j : Fin 2048) :
    (k0_pay1 (iblk m c 0 t : Vec Ideal S1024x2048 .bf16) (iblk m c 1 t : Vec Ideal S2048x2048 .f32) (ix2 i j) : EReal)
      = ∑ k : Fin 2048, X m c (ix2 (row (ti t) i) (mid (tk t) k)) * Y m c (ix2 (mid (tk t) k) (col (tj t) j)) := by
  rw [tile]
  exact Finset.sum_congr rfl fun k _ => by rw [x_at, y_at]

/-- The first step stores its own product. -/
theorem outA (c : Dev nD) (i : grid0.Coords) (m3 : Memref sig .tc .vmem S1024x2048 .bf16) (h3 : m3.IsWhole) (m4 : Memref sig .tc .vmem S2048x2048 .f32) (h4 : m4.IsWhole)
    (m5 : Memref sig .tc .vmem S1024x2048 .f32) (h5 : m5.IsWhole) (hc0 : cond0_0 i) (hc1 : ¬cond0_1 i) (x : Vec Ideal S1024x2048 .bf16) (y : Vec Ideal S2048x2048 .f32) :
    out0_A_2 c i m3 h3 m4 h4 m5 h5 hc0 hc1 x y = k0_pay1 x y := by
  unfold out0_A_2
  rw [View.read_writes_junk_eq_canon]
  unfold kernelRun0_A
  dsimp only
  rw [View.canon_unit_zero (S := S1024x2048) hz2 _, read_block m3 h3, read_block m4 h4]

/-- A later step adds its product to what the step before left. -/
theorem outB (c : Dev nD) (i : grid0.Coords) (m3 : Memref sig .tc .vmem S1024x2048 .bf16) (h3 : m3.IsWhole) (m4 : Memref sig .tc .vmem S2048x2048 .f32) (h4 : m4.IsWhole)
    (m5 : Memref sig .tc .vmem S1024x2048 .f32) (h5 : m5.IsWhole) (hc0 : ¬cond0_0 i) (hc1 : cond0_1 i) (x : Vec Ideal S1024x2048 .bf16) (y : Vec Ideal S2048x2048 .f32)
    (z : Vec Ideal S1024x2048 .f32) : out0_B_2 c i m3 h3 m4 h4 m5 h5 hc0 hc1 x y z = k0_pay2 x y z := by
  unfold out0_B_2
  rw [View.read_writes_junk_eq_canon]
  unfold kernelRun0_B
  dsimp only
  rw [View.canon_unit_zero (S := S1024x2048) hz2 _, read_block m3 h3, read_block m4 h4, read_block m5 h5]

/-- What a later step leaves at an entry. -/
theorem pay2_at (x : Vec Ideal S1024x2048 .bf16) (y : Vec Ideal S2048x2048 .f32) (z : Vec Ideal S1024x2048 .f32) (i : Fin 1024) (j : Fin 2048) :
    (k0_pay2 x y z (ix2 i j) : EReal) = (z (ix2 i j) : EReal) + k0_pay1 x y (ix2 i j) := by
  show (shapeCast S1024x2048 z shapeCasts_S1024x2048_S1024x2048 (ix2 i j) : EReal) + _ = _
  rw [shapeCast_self]

theorem tk_val : ∀ t : Fin cfg0.N, (tk t).val = t.val % 3 :=
  (by decide +kernel : ∀ t : Fin grid0.N, (tk t).val = t.val % 3)

theorem prev : ∀ t : Fin cfg0.N, ¬t.val % 3 = 0 → ti ⟨t.val - 1, Nat.lt_of_le_of_lt (Nat.sub_le _ _) t.isLt⟩ = ti t
    ∧ tj ⟨t.val - 1, Nat.lt_of_le_of_lt (Nat.sub_le _ _) t.isLt⟩ = tj t :=
  (by decide +kernel : ∀ t : Fin grid0.N, ¬t.val % 3 = 0 → ti ⟨t.val - 1, Nat.lt_of_le_of_lt (Nat.sub_le _ _) t.isLt⟩ = ti t
    ∧ tj ⟨t.val - 1, Nat.lt_of_le_of_lt (Nat.sub_le _ _) t.isLt⟩ = tj t)

/-- What the `s`-th block of the summed axis gives to an entry of a point's block. -/
def part (c : Dev nD) (p : Fin 4) (q : Fin 1) (i : Fin 1024) (j : Fin 2048) (s : ℕ) : EReal :=
  if h : s < 3 then ∑ k : Fin 2048, X m c (ix2 (row p i) (mid ⟨s, h⟩ k)) * Y m c (ix2 (mid ⟨s, h⟩ k) (col q j)) else 0

theorem add_part (c : Dev nD) (t : Fin cfg0.N) (i : Fin 1024) (j : Fin 2048) :
    (k0_pay1 (iblk m c 0 t : Vec Ideal S1024x2048 .bf16) (iblk m c 1 t : Vec Ideal S2048x2048 .f32) (ix2 i j) : EReal) = part m c (ti t) (tj t) i j (t.val % 3) := by
  rw [add_at, ← tk_val]
  unfold part
  rw [dif_pos (tk t).isLt]

/-- After a point an entry of its block holds the sum over the blocks read so far. -/
theorem acc (c : Dev nD) : ∀ (n : ℕ) (hn : n < cfg0.N) (i : Fin 1024) (j : Fin 2048),
    (outsAt0 m c n hn (ix2 i j) : EReal) = ∑ s ∈ Finset.range (n % 3 + 1), part m c (ti ⟨n, hn⟩) (tj ⟨n, hn⟩) i j s := by
  intro n
  induction n with
  | zero =>
    intro hn i j
    have e := outsAt0_A m c ⟨0, hn⟩ (show 0 % 3 = 0 from rfl) (show ¬1 ≤ 0 % 3 by decide)
    have e' : outsAt0 m c 0 hn = _ := e
    rw [e', outA, add_part]
    exact (Finset.sum_range_one _).symm
  | succ n ih =>
    intro hn i j
    by_cases h0 : (n + 1) % 3 = 0
    · have e := outsAt0_A m c ⟨n + 1, hn⟩ h0 (show ¬1 ≤ (n + 1) % 3 by omega)
      have e' : outsAt0 m c (n + 1) hn = _ := e
      rw [e', outA, add_part, h0]
      exact (Finset.sum_range_one _).symm
    · have e := outsAt0_B m c ⟨n + 1, hn⟩ h0 (show 1 ≤ (n + 1) % 3 by omega)
      have e' : outsAt0 m c (n + 1) hn = _ := e
      have p0 : ti ⟨n, Nat.lt_of_succ_lt hn⟩ = ti ⟨n + 1, hn⟩ := (prev ⟨n + 1, hn⟩ h0).1
      have p1 : tj ⟨n, Nat.lt_of_succ_lt hn⟩ = tj ⟨n + 1, hn⟩ := (prev ⟨n + 1, hn⟩ h0).2
      rw [e', outB, pay2_at, add_part]
      have hi : (outsAt0 m c n (Nat.lt_of_succ_lt hn) (ix2 i j) : EReal) = _ := ih (Nat.lt_of_succ_lt hn) i j
      rw [p0, p1] at hi
      refine (congrArg (· + _) hi).trans ?_
      have e2 : (n + 1) % 3 = n % 3 + 1 := by omega
      rw [e2, Finset.sum_range_succ _ (n % 3 + 1)]

/-- An array read through a point's block. -/
theorem read_at (f : S4096x2048.Idx → EReal) (t : Fin cfg0.N) (i : Fin 1024) (j : Fin 2048) :
    (((cfg0.win 2).blk t).view.read (Elt Ideal) f (ix2 i j) : EReal) = f (ix2 (row (ti t) i) (col (tj t) j)) := by
  show f (((cfg0.win 2).blk t).view.emb (ix2 i j)) = _
  rw [emb2]

theorem final2 (c : Dev nD) : (dats m 0 c).arrAt 2 cfg0.N = G m c :=
  (dats m 0 c).arrAt_eq_of_cover 2 (G m c) (fun t hf => by
    have ht : t.val % 3 = 2 := (flush0_2 t).mp hf
    rw [flushed2]
    funext j
    have ej : j = ix2 (j 0) (j 1) := eq_ix2 (n0 := 1024) (n1 := 2048) j
    rw [ej]
    refine (acc m c t.val t.isLt (j 0) (j 1)).trans ?_
    refine Eq.trans ?_ (read_at (G m c) t (j 0) (j 1)).symm
    rw [ht, Finset.sum_range]
    have eG : G m c (ix2 (row (ti t) (j 0)) (col (tj t) (j 1))) = ∑ k : Fin 6144, X m c (ix2 (row (ti t) (j 0)) k) * Y m c (ix2 k (col (tj t) (j 1))) := rfl
    have eS : ∑ k : Fin 6144, X m c (ix2 (row (ti t) (j 0)) k) * Y m c (ix2 k (col (tj t) (j 1))) = ∑ s : Fin 3, ∑ r : Fin 2048, _ := sum_blocks 3 2048 (by norm_num) _
    refine Eq.trans ?_ (eG.trans eS).symm
    refine Finset.sum_congr rfl fun s _ => ?_
    unfold part
    exact (dif_pos s.isLt).trans rfl) cover2

/-- The reference's result is the whole product. -/
theorem ref0 (c : Dev nD) : Cert.Reference2Ideal.Read.val_main_v4 (F := Ideal) (X m c) (Y m c) = G m c := by
  funext y
  rw [Cert.Reference2Ideal.Read.val_main_v4_apply]
  refine Finset.sum_congr rfl fun k _ => ?_
  rw [Cert.Reference2Ideal.Read.val_main_v1_apply]
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel2Ideal_Reference2Ideal (hKernel2Ideal := Cert.Kernel2Ideal.Gen.facts)
    (hReference2Ideal := Cert.Reference2Ideal.Gen.facts) := fun m g m' g' _ hagree => by
  refine ⟨fun c => G m c, run m g, ?_⟩
  refine (θ_run Cert.Reference2Ideal.defs _ _).mono (fun r h c => ⟨(h c).1.trans ?_, (h c).2⟩)
    (Cert.Reference2Ideal.Value.run (F := Ideal) m' g')
  · refine Eq.trans ?_ (ref0 m c)
    rw [Cert.Reference2Ideal.Read.val_main_v4_eq, (hagree c).1, (hagree c).2]

/-- The reference runs and keeps its arguments; it has no counters. -/
theorem frame_reference : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

end Cert.Proof.Mm2

end
-- ==== Proof.Mm3.lean ====
/-
  The tiled product `in_proj_dw` over the extended reals: its result is the whole product, columns times columns.
-/
module

public import proofs.«01_k».proof.Proof.MmBase
public import proofs.«01_k».proof.Proof.Gen.Kernel3Ideal.Value
public import proofs.«01_k».proof.Proof.Gen.Reference3Ideal.Read
public import proofs.«01_k».proof.Defs

@[expose] public section

noncomputable section

namespace Cert.Proof.Mm3

open Idealize.ShloMosaic Idealize.ShloMosaic.TcCoe Idealize.ShloMosaic.ValueIdx Idealize.SL.Sem
open Cert.Kernel3Ideal Cert.Kernel3Ideal.Gen Cert.Kernel3Ideal.Value Cert.Proof.Mm

/-- The block of rows of the result a grid point writes. -/
def ti (t : Fin cfg0.N) : Fin 6 := grid0.coords t 0

/-- Its block of columns. -/
def tj (t : Fin cfg0.N) : Fin 1 := grid0.coords t 1

/-- The block of the summed axis it reads. -/
def tk (t : Fin cfg0.N) : Fin 2 := grid0.coords t 2

/-- A row of the result from its block. -/
def row (q : Fin 6) (r : Fin 1024) : Fin 6144 := ⟨q.val * 1024 + r.val, by omega⟩

/-- A column of the result from its block. -/
def col (q : Fin 1) (r : Fin 2048) : Fin 2048 := ⟨q.val * 2048 + r.val, by omega⟩

/-- A place on the summed axis from its block. -/
def mid (q : Fin 2) (r : Fin 2048) : Fin 4096 := ⟨q.val * 2048 + r.val, by omega⟩

theorem idx0 : ∀ t : Fin cfg0.N, win0_0.index t (0 : Fin 2) = (tk t).val ∧ win0_0.index t (1 : Fin 2) = (ti t).val :=
  (by decide +kernel : ∀ t : Fin grid0.N, win0_0.index t (0 : Fin 2) = (tk t).val ∧ win0_0.index t (1 : Fin 2) = (ti t).val)

theorem emb0 (t : Fin cfg0.N) (r : Fin 2048) (d : Fin 1024) :
    ((cfg0.win 0).blk t).view.emb (ix2 r d) = ix2 (mid (tk t) r) (row (ti t) d) := by
  obtain ⟨e0, e1⟩ := idx0 t
  funext a; apply Fin.ext
  match a with
  | ⟨0, _⟩ => show win0_0.index t (0 : Fin 2) * 2048 + 1 * r.val = (tk t).val * 2048 + r.val; omega
  | ⟨1, _⟩ => show win0_0.index t (1 : Fin 2) * 1024 + 1 * d.val = (ti t).val * 1024 + d.val; omega

theorem idx1 : ∀ t : Fin cfg0.N, win0_1.index t (0 : Fin 2) = (tk t).val ∧ win0_1.index t (1 : Fin 2) = (tj t).val :=
  (by decide +kernel : ∀ t : Fin grid0.N, win0_1.index t (0 : Fin 2) = (tk t).val ∧ win0_1.index t (1 : Fin 2) = (tj t).val)

theorem emb1 (t : Fin cfg0.N) (r : Fin 2048) (d : Fin 2048) :
    ((cfg0.win 1).blk t).view.emb (ix2 r d) = ix2 (mid (tk t) r) (col (tj t) d) := by
  obtain ⟨e0, e1⟩ := idx1 t
  funext a; apply Fin.ext
  match a with
  | ⟨0, _⟩ => show win0_1.index t (0 : Fin 2) * 2048 + 1 * r.val = (tk t).val * 2048 + r.val; omega
  | ⟨1, _⟩ => show win0_1.index t (1 : Fin 2) * 2048 + 1 * d.val = (tj t).val * 2048 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 2048) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 2048 + 1 * d.val = (tj t).val * 2048 + d.val; omega

/-- Every block of the result is some point's, whose sum is complete there. -/
theorem point : ∀ (p : Fin 6) (q : Fin 1), ∃ t : Fin cfg0.N, ti t = p ∧ tj t = q ∧ t.val % 2 = 1 :=
  (by decide +kernel : ∀ (p : Fin 6) (q : Fin 1), ∃ t : Fin grid0.N, ti t = p ∧ tj t = q ∧ t.val % 2 = 1)

/-- Every entry of the result is in a point's block. -/
theorem cover2 (i : S6144x2048.Idx) : ∃ t : Fin cfg0.N, (cfg0.win 2).flush t = true ∧ i ∈ ((cfg0.win 2).blk t).view.set := by
  have h0 : (i 0).val < 6144 := (i 0).isLt
  have h1 : (i 1).val < 2048 := (i 1).isLt
  obtain ⟨t, e0, e1, e2⟩ := point ⟨(i 0).val / 1024, by omega⟩ ⟨(i 1).val / 2048, by omega⟩
  refine ⟨t, (flush0_2 t).mpr e2, ?_⟩
  have h := ((cfg0.win 2).blk t).view.emb_mem_set (ix2 (⟨(i 0).val % 1024, by omega⟩ : Fin 1024) (⟨(i 1).val % 2048, by omega⟩ : Fin 2048))
  rw [emb2, e0, e1] at h
  have e : (ix2 (row ⟨(i 0).val / 1024, by omega⟩ ⟨(i 0).val % 1024, by omega⟩) (col ⟨(i 1).val / 2048, by omega⟩ ⟨(i 1).val % 2048, by omega⟩) : S6144x2048.Idx) = i := by
    funext a; apply Fin.ext
    match a with
    | ⟨0, _⟩ => show (i 0).val / 1024 * 1024 + (i 0).val % 1024 = (i 0).val; omega
    | ⟨1, _⟩ => show (i 1).val / 2048 * 2048 + (i 1).val % 2048 = (i 1).val; omega
  exact e ▸ h

/-- The product of two tiles at an entry. -/
theorem tile (x : Vec Ideal S2048x1024 .bf16) (y : Vec Ideal S2048x2048 .bf16) (i : Fin 1024) (j : Fin 2048) :
    (k0_pay1 x y (ix2 i j) : EReal) = ∑ k : Fin 2048, (x (ix2 k i) : EReal) * y (ix2 k j) := by
  have e : (k0_pay1 x y (ix2 i j) : EReal) = matmul (F := Ideal) (φ₁ := .bf16) (φ₂ := .bf16) (colcol 1024 2048 2048 dot_S2048x1024_S2048x2048_S1024x2048_0_0_1_1_n_n.wf) none x y (constant S1024x2048 .f32 0x00000000#32) (ix2 i j) := rfl
  exact e.trans (tn_at dot_S2048x1024_S2048x2048_S1024x2048_0_0_1_1_n_n.wf _ _ i j)

variable (m : (ℓ : Loc nD τ sig) → Buf (Elt Ideal) ℓ) (ρ : Dev nD → PrngReg)

/-- The first factor. -/
abbrev X (c : Dev nD) : S4096x6144.Idx → EReal := m ((c.tc : Thread nD τ).loc main_arg0)

/-- The second factor. -/
abbrev Y (c : Dev nD) : S4096x2048.Idx → EReal := m ((c.tc : Thread nD τ).loc main_arg1)

/-- The whole product. -/
def G (c : Dev nD) : S6144x2048.Idx → EReal := fun y => ∑ k : Fin 4096, X m c (ix2 k (y 0 : Fin 6144)) * Y m c (ix2 k (y 1 : Fin 2048))

theorem x_at (c : Dev nD) (t : Fin cfg0.N) (i : Fin 1024) (k : Fin 2048) :
    (iblk m c 0 t (ix2 k i) : EReal) = X m c (ix2 (mid (tk t) k) (row (ti t) i)) := by
  show (V m c main_arg0 (((cfg0.win 0).blk t).view.emb (ix2 k i)) : EReal) = _
  rw [emb0, V_main_arg0]

theorem y_at (c : Dev nD) (t : Fin cfg0.N) (j : Fin 2048) (k : Fin 2048) :
    (iblk m c 1 t (ix2 k j) : EReal) = Y m c (ix2 (mid (tk t) k) (col (tj t) j)) := by
  show (V m c main_arg1 (((cfg0.win 1).blk t).view.emb (ix2 k j)) : EReal) = _
  rw [emb1, V_main_arg1]

/-- What a point adds to an entry of its block. -/
theorem add_at (c : Dev nD) (t : Fin cfg0.N) (i : Fin 1024) (j : Fin 2048) :
    (k0_pay1 (iblk m c 0 t : Vec Ideal S2048x1024 .bf16) (iblk m c 1 t : Vec Ideal S2048x2048 .bf16) (ix2 i j) : EReal)
      = ∑ k : Fin 2048, X m c (ix2 (mid (tk t) k) (row (ti t) i)) * Y m c (ix2 (mid (tk t) k) (col (tj t) j)) := by
  rw [tile]
  exact Finset.sum_congr rfl fun k _ => by rw [x_at, y_at]

/-- The first step stores its own product. -/
theorem outA (c : Dev nD) (i : grid0.Coords) (m3 : Memref sig .tc .vmem S2048x1024 .bf16) (h3 : m3.IsWhole) (m4 : Memref sig .tc .vmem S2048x2048 .bf16) (h4 : m4.IsWhole)
    (m5 : Memref sig .tc .vmem S1024x2048 .f32) (h5 : m5.IsWhole) (hc0 : cond0_0 i) (hc1 : ¬cond0_1 i) (x : Vec Ideal S2048x1024 .bf16) (y : Vec Ideal S2048x2048 .bf16) :
    out0_A_2 c i m3 h3 m4 h4 m5 h5 hc0 hc1 x y = k0_pay1 x y := by
  unfold out0_A_2
  rw [View.read_writes_junk_eq_canon]
  unfold kernelRun0_A
  dsimp only
  rw [View.canon_unit_zero (S := S1024x2048) hz2 _, read_block m3 h3, read_block m4 h4]

/-- A later step adds its product to what the step before left. -/
theorem outB (c : Dev nD) (i : grid0.Coords) (m3 : Memref sig .tc .vmem S2048x1024 .bf16) (h3 : m3.IsWhole) (m4 : Memref sig .tc .vmem S2048x2048 .bf16) (h4 : m4.IsWhole)
    (m5 : Memref sig .tc .vmem S1024x2048 .f32) (h5 : m5.IsWhole) (hc0 : ¬cond0_0 i) (hc1 : cond0_1 i) (x : Vec Ideal S2048x1024 .bf16) (y : Vec Ideal S2048x2048 .bf16)
    (z : Vec Ideal S1024x2048 .f32) : out0_B_2 c i m3 h3 m4 h4 m5 h5 hc0 hc1 x y z = k0_pay2 x y z := by
  unfold out0_B_2
  rw [View.read_writes_junk_eq_canon]
  unfold kernelRun0_B
  dsimp only
  rw [View.canon_unit_zero (S := S1024x2048) hz2 _, read_block m3 h3, read_block m4 h4, read_block m5 h5]

/-- What a later step leaves at an entry. -/
theorem pay2_at (x : Vec Ideal S2048x1024 .bf16) (y : Vec Ideal S2048x2048 .bf16) (z : Vec Ideal S1024x2048 .f32) (i : Fin 1024) (j : Fin 2048) :
    (k0_pay2 x y z (ix2 i j) : EReal) = (z (ix2 i j) : EReal) + k0_pay1 x y (ix2 i j) := by
  show (shapeCast S1024x2048 z shapeCasts_S1024x2048_S1024x2048 (ix2 i j) : EReal) + _ = _
  rw [shapeCast_self]

theorem tk_val : ∀ t : Fin cfg0.N, (tk t).val = t.val % 2 :=
  (by decide +kernel : ∀ t : Fin grid0.N, (tk t).val = t.val % 2)

theorem prev : ∀ t : Fin cfg0.N, ¬t.val % 2 = 0 → ti ⟨t.val - 1, Nat.lt_of_le_of_lt (Nat.sub_le _ _) t.isLt⟩ = ti t
    ∧ tj ⟨t.val - 1, Nat.lt_of_le_of_lt (Nat.sub_le _ _) t.isLt⟩ = tj t :=
  (by decide +kernel : ∀ t : Fin grid0.N, ¬t.val % 2 = 0 → ti ⟨t.val - 1, Nat.lt_of_le_of_lt (Nat.sub_le _ _) t.isLt⟩ = ti t
    ∧ tj ⟨t.val - 1, Nat.lt_of_le_of_lt (Nat.sub_le _ _) t.isLt⟩ = tj t)

/-- What the `s`-th block of the summed axis gives to an entry of a point's block. -/
def part (c : Dev nD) (p : Fin 6) (q : Fin 1) (i : Fin 1024) (j : Fin 2048) (s : ℕ) : EReal :=
  if h : s < 2 then ∑ k : Fin 2048, X m c (ix2 (mid ⟨s, h⟩ k) (row p i)) * Y m c (ix2 (mid ⟨s, h⟩ k) (col q j)) else 0

theorem add_part (c : Dev nD) (t : Fin cfg0.N) (i : Fin 1024) (j : Fin 2048) :
    (k0_pay1 (iblk m c 0 t : Vec Ideal S2048x1024 .bf16) (iblk m c 1 t : Vec Ideal S2048x2048 .bf16) (ix2 i j) : EReal) = part m c (ti t) (tj t) i j (t.val % 2) := by
  rw [add_at, ← tk_val]
  unfold part
  rw [dif_pos (tk t).isLt]

/-- After a point an entry of its block holds the sum over the blocks read so far. -/
theorem acc (c : Dev nD) : ∀ (n : ℕ) (hn : n < cfg0.N) (i : Fin 1024) (j : Fin 2048),
    (outsAt0 m c n hn (ix2 i j) : EReal) = ∑ s ∈ Finset.range (n % 2 + 1), part m c (ti ⟨n, hn⟩) (tj ⟨n, hn⟩) i j s := by
  intro n
  induction n with
  | zero =>
    intro hn i j
    have e := outsAt0_A m c ⟨0, hn⟩ (show 0 % 2 = 0 from rfl) (show ¬0 % 2 = 1 by decide)
    have e' : outsAt0 m c 0 hn = _ := e
    rw [e', outA, add_part]
    exact (Finset.sum_range_one _).symm
  | succ n ih =>
    intro hn i j
    by_cases h0 : (n + 1) % 2 = 0
    · have e := outsAt0_A m c ⟨n + 1, hn⟩ h0 (show ¬(n + 1) % 2 = 1 by omega)
      have e' : outsAt0 m c (n + 1) hn = _ := e
      rw [e', outA, add_part, h0]
      exact (Finset.sum_range_one _).symm
    · have e := outsAt0_B m c ⟨n + 1, hn⟩ h0 (show (n + 1) % 2 = 1 by omega)
      have e' : outsAt0 m c (n + 1) hn = _ := e
      have p0 : ti ⟨n, Nat.lt_of_succ_lt hn⟩ = ti ⟨n + 1, hn⟩ := (prev ⟨n + 1, hn⟩ h0).1
      have p1 : tj ⟨n, Nat.lt_of_succ_lt hn⟩ = tj ⟨n + 1, hn⟩ := (prev ⟨n + 1, hn⟩ h0).2
      rw [e', outB, pay2_at, add_part]
      have hi : (outsAt0 m c n (Nat.lt_of_succ_lt hn) (ix2 i j) : EReal) = _ := ih (Nat.lt_of_succ_lt hn) i j
      rw [p0, p1] at hi
      refine (congrArg (· + _) hi).trans ?_
      have e2 : (n + 1) % 2 = n % 2 + 1 := by omega
      rw [e2, Finset.sum_range_succ _ (n % 2 + 1)]

/-- An array read through a point's block. -/
theorem read_at (f : S6144x2048.Idx → EReal) (t : Fin cfg0.N) (i : Fin 1024) (j : Fin 2048) :
    (((cfg0.win 2).blk t).view.read (Elt Ideal) f (ix2 i j) : EReal) = f (ix2 (row (ti t) i) (col (tj t) j)) := by
  show f (((cfg0.win 2).blk t).view.emb (ix2 i j)) = _
  rw [emb2]

theorem final2 (c : Dev nD) : (dats m 0 c).arrAt 2 cfg0.N = G m c :=
  (dats m 0 c).arrAt_eq_of_cover 2 (G m c) (fun t hf => by
    have ht : t.val % 2 = 1 := (flush0_2 t).mp hf
    rw [flushed2]
    funext j
    have ej : j = ix2 (j 0) (j 1) := eq_ix2 (n0 := 1024) (n1 := 2048) j
    rw [ej]
    refine (acc m c t.val t.isLt (j 0) (j 1)).trans ?_
    refine Eq.trans ?_ (read_at (G m c) t (j 0) (j 1)).symm
    rw [ht, Finset.sum_range]
    have eG : G m c (ix2 (row (ti t) (j 0)) (col (tj t) (j 1))) = ∑ k : Fin 4096, X m c (ix2 k (row (ti t) (j 0))) * Y m c (ix2 k (col (tj t) (j 1))) := rfl
    have eS : ∑ k : Fin 4096, X m c (ix2 k (row (ti t) (j 0))) * Y m c (ix2 k (col (tj t) (j 1))) = ∑ s : Fin 2, ∑ r : Fin 2048, _ := sum_blocks 2 2048 (by norm_num) _
    refine Eq.trans ?_ (eG.trans eS).symm
    refine Finset.sum_congr rfl fun s _ => ?_
    unfold part
    exact (dif_pos s.isLt).trans rfl) cover2

/-- The reference's result is the whole product. -/
theorem ref0 (c : Dev nD) : Cert.Reference3Ideal.Read.val_main_v6 (F := Ideal) (X m c) (Y m c) = G m c := by
  funext y
  rw [Cert.Reference3Ideal.Read.val_main_v6_apply, Cert.Reference3Ideal.Read.val_main_v5_apply, Cert.Reference3Ideal.Read.val_main_v4_apply]
  refine Finset.sum_congr rfl fun k _ => ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel3Ideal_Reference3Ideal (hKernel3Ideal := Cert.Kernel3Ideal.Gen.facts)
    (hReference3Ideal := Cert.Reference3Ideal.Gen.facts) := fun m g m' g' _ hagree => by
  refine ⟨fun c => G m c, run m g, ?_⟩
  refine (θ_run Cert.Reference3Ideal.defs _ _).mono (fun r h c => ⟨(h c).1.trans ?_, (h c).2⟩)
    (Cert.Reference3Ideal.Value.run (F := Ideal) m' g')
  · refine Eq.trans ?_ (ref0 m c)
    rw [Cert.Reference3Ideal.Read.val_main_v6_eq, (hagree c).1, (hagree c).2]

/-- The reference runs and keeps its arguments; it has no counters. -/
theorem frame_reference : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

end Cert.Proof.Mm3

end
-- ==== Proof.Mm4.lean ====
/-
  The tiled product `in_proj` over the extended reals: its result is the whole product, rows times rows.
-/
module

public import proofs.«01_k».proof.Proof.MmBase
public import proofs.«01_k».proof.Proof.Gen.Kernel4Ideal.Value
public import proofs.«01_k».proof.Proof.Gen.Reference4Ideal.Read
public import proofs.«01_k».proof.Defs

@[expose] public section

noncomputable section

namespace Cert.Proof.Mm4

open Idealize.ShloMosaic Idealize.ShloMosaic.TcCoe Idealize.ShloMosaic.ValueIdx Idealize.SL.Sem
open Cert.Kernel4Ideal Cert.Kernel4Ideal.Gen Cert.Kernel4Ideal.Value Cert.Proof.Mm

/-- The block of rows of the result a grid point writes. -/
def ti (t : Fin cfg0.N) : Fin 4 := grid0.coords t 0

/-- Its block of columns. -/
def tj (t : Fin cfg0.N) : Fin 6 := grid0.coords t 1

/-- The block of the summed axis it reads. -/
def tk (t : Fin cfg0.N) : Fin 1 := grid0.coords t 2

/-- A row of the result from its block. -/
def row (q : Fin 4) (r : Fin 1024) : Fin 4096 := ⟨q.val * 1024 + r.val, by omega⟩

/-- A column of the result from its block. -/
def col (q : Fin 6) (r : Fin 1024) : Fin 6144 := ⟨q.val * 1024 + r.val, by omega⟩

/-- A place on the summed axis from its block. -/
def mid (q : Fin 1) (r : Fin 2048) : Fin 2048 := ⟨q.val * 2048 + r.val, by omega⟩

theorem idx0 : ∀ t : Fin cfg0.N, win0_0.index t (0 : Fin 2) = (ti t).val ∧ win0_0.index t (1 : Fin 2) = (tk t).val :=
  (by decide +kernel : ∀ t : Fin grid0.N, win0_0.index t (0 : Fin 2) = (ti t).val ∧ win0_0.index t (1 : Fin 2) = (tk t).val)

theorem emb0 (t : Fin cfg0.N) (r : Fin 1024) (d : Fin 2048) :
    ((cfg0.win 0).blk t).view.emb (ix2 r d) = ix2 (row (ti t) r) (mid (tk t) d) := by
  obtain ⟨e0, e1⟩ := idx0 t
  funext a; apply Fin.ext
  match a with
  | ⟨0, _⟩ => show win0_0.index t (0 : Fin 2) * 1024 + 1 * r.val = (ti t).val * 1024 + r.val; omega
  | ⟨1, _⟩ => show win0_0.index t (1 : Fin 2) * 2048 + 1 * d.val = (tk t).val * 2048 + d.val; omega

theorem idx1 : ∀ t : Fin cfg0.N, win0_1.index t (0 : Fin 2) = (tj t).val ∧ win0_1.index t (1 : Fin 2) = (tk t).val :=
  (by decide +kernel : ∀ t : Fin grid0.N, win0_1.index t (0 : Fin 2) = (tj t).val ∧ win0_1.index t (1 : Fin 2) = (tk t).val)

theorem emb1 (t : Fin cfg0.N) (r : Fin 1024) (d : Fin 2048) :
    ((cfg0.win 1).blk t).view.emb (ix2 r d) = ix2 (col (tj t) r) (mid (tk t) d) := by
  obtain ⟨e0, e1⟩ := idx1 t
  funext a; apply Fin.ext
  match a with
  | ⟨0, _⟩ => show win0_1.index t (0 : Fin 2) * 1024 + 1 * r.val = (tj t).val * 1024 + r.val; omega
  | ⟨1, _⟩ => show win0_1.index t (1 : Fin 2) * 2048 + 1 * d.val = (tk t).val * 2048 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 1024) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 1024 + 1 * d.val = (tj t).val * 1024 + d.val; omega

theorem idx3 : ∀ t : Fin cfg0.N, win0_3.index t (0 : Fin 2) = (ti t).val ∧ win0_3.index t (1 : Fin 2) = (tj t).val :=
  (by decide +kernel : ∀ t : Fin grid0.N, win0_3.index t (0 : Fin 2) = (ti t).val ∧ win0_3.index t (1 : Fin 2) = (tj t).val)

theorem emb3 (t : Fin cfg0.N) (r : Fin 1024) (d : Fin 1024) :
    ((cfg0.win 3).blk t).view.emb (ix2 r d) = ix2 (row (ti t) r) (col (tj t) d) := by
  obtain ⟨e0, e1⟩ := idx3 t
  funext a; apply Fin.ext
  match a with
  | ⟨0, _⟩ => show win0_3.index t (0 : Fin 2) * 1024 + 1 * r.val = (ti t).val * 1024 + r.val; omega
  | ⟨1, _⟩ => show win0_3.index t (1 : Fin 2) * 1024 + 1 * d.val = (tj t).val * 1024 + d.val; omega

/-- Every block of the result is some point's. -/
theorem point : ∀ (p : Fin 4) (q : Fin 6), ∃ t : Fin cfg0.N, ti t = p ∧ tj t = q :=
  (by decide +kernel : ∀ (p : Fin 4) (q : Fin 6), ∃ t : Fin grid0.N, ti t = p ∧ tj t = q)

/-- Every entry of the result is in a point's block. -/
theorem cover2 (i : S4096x6144.Idx) : ∃ t : Fin cfg0.N, (cfg0.win 2).flush t = true ∧ i ∈ ((cfg0.win 2).blk t).view.set := by
  have h0 : (i 0).val < 4096 := (i 0).isLt
  have h1 : (i 1).val < 6144 := (i 1).isLt
  obtain ⟨t, e0, e1⟩ := point ⟨(i 0).val / 1024, by omega⟩ ⟨(i 1).val / 1024, by omega⟩
  refine ⟨t, flush0_2 t, ?_⟩
  have h := ((cfg0.win 2).blk t).view.emb_mem_set (ix2 (⟨(i 0).val % 1024, by omega⟩ : Fin 1024) (⟨(i 1).val % 1024, by omega⟩ : Fin 1024))
  rw [emb2, e0, e1] at h
  have e : (ix2 (row ⟨(i 0).val / 1024, by omega⟩ ⟨(i 0).val % 1024, by omega⟩) (col ⟨(i 1).val / 1024, by omega⟩ ⟨(i 1).val % 1024, by omega⟩) : S4096x6144.Idx) = i := by
    funext a; apply Fin.ext
    match a with
    | ⟨0, _⟩ => show (i 0).val / 1024 * 1024 + (i 0).val % 1024 = (i 0).val; omega
    | ⟨1, _⟩ => show (i 1).val / 1024 * 1024 + (i 1).val % 1024 = (i 1).val; omega
  exact e ▸ h

/-- Every entry of the result is in a point's block. -/
theorem cover3 (i : S4096x6144.Idx) : ∃ t : Fin cfg0.N, (cfg0.win 3).flush t = true ∧ i ∈ ((cfg0.win 3).blk t).view.set := by
  have h0 : (i 0).val < 4096 := (i 0).isLt
  have h1 : (i 1).val < 6144 := (i 1).isLt
  obtain ⟨t, e0, e1⟩ := point ⟨(i 0).val / 1024, by omega⟩ ⟨(i 1).val / 1024, by omega⟩
  refine ⟨t, flush0_3 t, ?_⟩
  have h := ((cfg0.win 3).blk t).view.emb_mem_set (ix2 (⟨(i 0).val % 1024, by omega⟩ : Fin 1024) (⟨(i 1).val % 1024, by omega⟩ : Fin 1024))
  rw [emb3, e0, e1] at h
  have e : (ix2 (row ⟨(i 0).val / 1024, by omega⟩ ⟨(i 0).val % 1024, by omega⟩) (col ⟨(i 1).val / 1024, by omega⟩ ⟨(i 1).val % 1024, by omega⟩) : S4096x6144.Idx) = i := by
    funext a; apply Fin.ext
    match a with
    | ⟨0, _⟩ => show (i 0).val / 1024 * 1024 + (i 0).val % 1024 = (i 0).val; omega
    | ⟨1, _⟩ => show (i 1).val / 1024 * 1024 + (i 1).val % 1024 = (i 1).val; omega
  exact e ▸ h

/-- The product of two tiles at an entry. -/
theorem tile (x : Vec Ideal S1024x2048 .bf16) (y : Vec Ideal S1024x2048 .f32) (i : Fin 1024) (j : Fin 1024) :
    (k0_pay1 x y (ix2 i j) : EReal) = ∑ k : Fin 2048, (x (ix2 i k) : EReal) * y (ix2 j k) := by
  have e : (k0_pay1 x y (ix2 i j) : EReal) = matmul (F := Ideal) (φ₁ := .bf16) (φ₂ := .bf16) (DotDims.transposedRhs 1024 2048 1024) none x y (constant S1024x1024 .f32 0x00000000#32) (ix2 i j) := rfl
  exact e.trans (nt_at _ _ i j)

variable (m : (ℓ : Loc nD τ sig) → Buf (Elt Ideal) ℓ) (ρ : Dev nD → PrngReg)

/-- The first factor. -/
abbrev X (c : Dev nD) : S4096x2048.Idx → EReal := m ((c.tc : Thread nD τ).loc main_arg0)

/-- The second factor. -/
abbrev Y (c : Dev nD) : S6144x2048.Idx → EReal := m ((c.tc : Thread nD τ).loc main_arg1)

/-- The whole product. -/
def G (c : Dev nD) : S4096x6144.Idx → EReal := fun y => ∑ k : Fin 2048, X m c (ix2 (y 0 : Fin 4096) k) * Y m c (ix2 (y 1 : Fin 6144) k)

theorem x_at (c : Dev nD) (t : Fin cfg0.N) (i : Fin 1024) (k : Fin 2048) :
    (iblk m c 0 t (ix2 i k) : EReal) = X m c (ix2 (row (ti t) i) (mid (tk t) k)) := by
  show (V m c main_arg0 (((cfg0.win 0).blk t).view.emb (ix2 i k)) : EReal) = _
  rw [emb0, V_main_arg0]

theorem y_at (c : Dev nD) (t : Fin cfg0.N) (j : Fin 1024) (k : Fin 2048) :
    (iblk m c 1 t (ix2 j k) : EReal) = Y m c (ix2 (col (tj t) j) (mid (tk t) k)) := by
  show (V m c main_arg1 (((cfg0.win 1).blk t).view.emb (ix2 j k)) : EReal) = _
  rw [emb1, V_main_arg1]

/-- What a point adds to an entry of its block. -/
theorem add_at (c : Dev nD) (t : Fin cfg0.N) (i : Fin 1024) (j : Fin 1024) :
    (k0_pay1 (iblk m c 0 t : Vec Ideal S1024x2048 .bf16) (iblk m c 1 t : Vec Ideal S1024x2048 .f32) (ix2 i j) : EReal)
      = ∑ k : Fin 2048, X m c (ix2 (row (ti t) i) (mid (tk t) k)) * Y m c (ix2 (col (tj t) j) (mid (tk t) k)) := by
  rw [tile]
  exact Finset.sum_congr rfl fun k _ => by rw [x_at, y_at]

theorem mid_eq (q : Fin 1) (k : Fin 2048) : mid q k = k := Fin.ext (by show q.val * 2048 + k.val = k.val; omega)

/-- The stored piece is the whole block. -/
theorem out2 (x : Vec Ideal S1024x2048 .bf16) (y : Vec Ideal S1024x2048 .f32) : out0_2 x y = k0_pay1 x y := by
  unfold out0_2
  rw [View.canon_unit_zero (S := S1024x1024) hz2 _, View.ld_unit_zero (S := S1024x2048) hz2 _, View.ld_unit_zero (S := S1024x2048) hz2 _]

theorem final2 (c : Dev nD) : (dats m 0 c).arrAt 2 cfg0.N = G m c :=
  (dats m 0 c).arrAt_eq_of_cover 2 (G m c) (fun t _ => by
    rw [flushed2, out2]
    funext j
    have ej : j = ix2 (j 0) (j 1) := eq_ix2 (n0 := 1024) (n1 := 1024) j
    rw [ej]
    refine (add_at m c t (j 0) (j 1)).trans ?_
    refine Eq.trans ?_ (congrArg (G m c) (emb2 t (j 0) (j 1))).symm
    exact Finset.sum_congr rfl fun k _ => by rw [mid_eq]) cover2

/-- The stored piece is the whole block. -/
theorem out3 (x : Vec Ideal S1024x2048 .bf16) (y : Vec Ideal S1024x2048 .f32) : out0_3 x y = k0_pay2 x y := by
  unfold out0_3
  rw [View.canon_unit_zero (S := S1024x1024) hz2 _, View.ld_unit_zero (S := S1024x2048) hz2 _, View.ld_unit_zero (S := S1024x2048) hz2 _]

theorem final3 (c : Dev nD) : (dats m 0 c).arrAt 3 cfg0.N = G m c :=
  (dats m 0 c).arrAt_eq_of_cover 3 (G m c) (fun t _ => by
    rw [flushed3, out3]
    funext j
    have ej : j = ix2 (j 0) (j 1) := eq_ix2 (n0 := 1024) (n1 := 1024) j
    rw [ej]
    refine (add_at m c t (j 0) (j 1)).trans ?_
    refine Eq.trans ?_ (congrArg (G m c) (emb3 t (j 0) (j 1))).symm
    exact Finset.sum_congr rfl fun k _ => by rw [mid_eq]) cover3

/-- The reference's result is the whole product. -/
theorem ref0 (c : Dev nD) : Cert.Reference4Ideal.Read.val_main_v2 (F := Ideal) (X m c) (Y m c) = G m c := by
  funext y
  rw [Cert.Reference4Ideal.Read.val_main_v2_apply]
  refine Finset.sum_congr rfl fun k _ => ?_
  rw [Cert.Reference4Ideal.Read.val_main_v1_apply]
  exact congrArg₂ (· * ·) (congrArg (X m c) (place_eq _ _ rfl rfl)) (congrArg (Y m c) (place_eq _ _ rfl rfl))

theorem ref1 (c : Dev nD) : Cert.Reference4Ideal.Read.val_main_v3 (F := Ideal) (X m c) (Y m c) = G m c := by
  funext y
  exact congrFun (ref0 m c) y

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0_0) = (G m c : _)
      ∧ r.2.mem ((c.tc : Thread nD τ).loc main_v0_1) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2.1.trans (final3 m c), (h c).2.2⟩) (run_blocks m ρ)

/-- The kernel and the reference end with the same arrays. -/
theorem algebraic : Cert.algebraic_Kernel4Ideal_Reference4Ideal (hKernel4Ideal := Cert.Kernel4Ideal.Gen.facts)
    (hReference4Ideal := Cert.Reference4Ideal.Gen.facts) := fun m g m' g' _ hagree => by
  refine ⟨fun c => G m c, fun c => G m c, run m g, ?_⟩
  refine (θ_run Cert.Reference4Ideal.defs _ _).mono (fun r h c => ⟨(h c).1.trans ?_, (h c).2.1.trans ?_, (h c).2.2⟩)
    (Cert.Reference4Ideal.Value.run (F := Ideal) m' g')
  · refine Eq.trans ?_ (ref0 m c)
    rw [Cert.Reference4Ideal.Read.val_main_v2_eq, (hagree c).1, (hagree c).2]
  · refine Eq.trans ?_ (ref1 m c)
    rw [Cert.Reference4Ideal.Read.val_main_v3_eq, (hagree c).1, (hagree c).2]

/-- The reference runs and keeps its arguments; it has no counters. -/
theorem frame_reference : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run (F := Ideal) m g)

end Cert.Proof.Mm4

end
-- ==== Proof.Mm5.lean ====
/-
  The tiled product `out_proj_dx` over the extended reals: its result is the whole product, rows times rows.
-/
module

public import proofs.«01_k».proof.Proof.MmBase
public import proofs.«01_k».proof.Proof.Gen.Kernel5Ideal.Value
public import proofs.«01_k».proof.Proof.Gen.Reference5Ideal.Read
public import proofs.«01_k».proof.Defs

@[expose] public section

noncomputable section

namespace Cert.Proof.Mm5

open Idealize.ShloMosaic Idealize.ShloMosaic.TcCoe Idealize.ShloMosaic.ValueIdx Idealize.SL.Sem
open Cert.Kernel5Ideal Cert.Kernel5Ideal.Gen Cert.Kernel5Ideal.Value Cert.Proof.Mm

/-- The block of rows of the result a grid point writes. -/
def ti (t : Fin cfg0.N) : Fin 4 := grid0.coords t 0

/-- Its block of columns. -/
def tj (t : Fin cfg0.N) : Fin 1 := grid0.coords t 1

/-- The block of the summed axis it reads. -/
def tk (t : Fin cfg0.N) : Fin 1 := grid0.coords t 2

/-- A row of the result from its block. -/
def row (q : Fin 4) (r : Fin 1024) : Fin 4096 := ⟨q.val * 1024 + r.val, by omega⟩

/-- A column of the result from its block. -/
def col (q : Fin 1) (r : Fin 2048) : Fin 2048 := ⟨q.val * 2048 + r.val, by omega⟩

/-- A place on the summed axis from its block. -/
def mid (q : Fin 1) (r : Fin 2048) : Fin 2048 := ⟨q.val * 2048 + r.val, by omega⟩

theorem idx0 : ∀ t : Fin cfg0.N, win0_0.index t (0 : Fin 2) = (ti t).val ∧ win0_0.index t (1 : Fin 2) = (tk t).val :=
  (by decide +kernel : ∀ t : Fin grid0.N, win0_0.index t (0 : Fin 2) = (ti t).val ∧ win0_0.index t (1 : Fin 2) = (tk t).val)

theorem emb0 (t : Fin cfg0.N) (r : Fin 1024) (d : Fin 2048) :
    ((cfg0.win 0).blk t).view.emb (ix2 r d) = ix2 (row (ti t) r) (mid (tk t) d) := by
  obtain ⟨e0, e1⟩ := idx0 t
  funext a; apply Fin.ext
  match a with
  | ⟨0, _⟩ => show win0_0.index t (0 : Fin 2) * 1024 + 1 * r.val = (ti t).val * 1024 + r.val; omega
  | ⟨1, _⟩ => show win0_0.index t (1 : Fin 2) * 2048 + 1 * d.val = (tk t).val * 2048 + d.val; omega

theorem idx1 : ∀ t : Fin cfg0.N, win0_1.index t (0 : Fin 2) = (tj t).val ∧ win0_1.index t (1 : Fin 2) = (tk t).val :=
  (by decide +kernel : ∀ t : Fin grid0.N, win0_1.index t (0 : Fin 2) = (tj t).val ∧ win0_1.index t (1 : Fin 2) = (tk t).val)

theorem emb1 (t : Fin cfg0.N) (r : Fin 2048) (d : Fin 2048) :
    ((cfg0.win 1).blk t).view.emb (ix2 r d) = ix2 (col (tj t) r) (mid (tk t) d) := by
  obtain ⟨e0, e1⟩ := idx1 t
  funext a; apply Fin.ext
  match a with
  | ⟨0, _⟩ => show win0_1.index t (0 : Fin 2) * 2048 + 1 * r.val = (tj t).val * 2048 + r.val; omega
  | ⟨1, _⟩ => show win0_1.index t (1 : Fin 2) * 2048 + 1 * d.val = (tk t).val * 2048 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 2048) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 2048 + 1 * d.val = (tj t).val * 2048 + d.val; omega

/-- Every block of the result is some point's. -/
theorem point : ∀ (p : Fin 4) (q : Fin 1), ∃ t : Fin cfg0.N, ti t = p ∧ tj t = q :=
  (by decide +kernel : ∀ (p : Fin 4) (q : Fin 1), ∃ t : Fin grid0.N, ti t = p ∧ tj t = q)

/-- Every entry of the result is in a point's block. -/
theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, e0, e1⟩ := point ⟨(i 0).val / 1024, by omega⟩ ⟨(i 1).val / 2048, by omega⟩
  refine ⟨t, flush0_2 t, ?_⟩
  have h := ((cfg0.win 2).blk t).view.emb_mem_set (ix2 (⟨(i 0).val % 1024, by omega⟩ : Fin 1024) (⟨(i 1).val % 2048, by omega⟩ : Fin 2048))
  rw [emb2, e0, e1] at h
  have e : (ix2 (row ⟨(i 0).val / 1024, by omega⟩ ⟨(i 0).val % 1024, by omega⟩) (col ⟨(i 1).val / 2048, by omega⟩ ⟨(i 1).val % 2048, by omega⟩) : S4096x2048.Idx) = i := by
    funext a; apply Fin.ext
    match a with
    | ⟨0, _⟩ => show (i 0).val / 1024 * 1024 + (i 0).val % 1024 = (i 0).val; omega
    | ⟨1, _⟩ => show (i 1).val / 2048 * 2048 + (i 1).val % 2048 = (i 1).val; omega
  exact e ▸ h

/-- The product of two tiles at an entry. -/
theorem tile (x : Vec Ideal S1024x2048 .f32) (y : Vec Ideal S2048x2048 .f32) (i : Fin 1024) (j : Fin 2048) :
    (k0_pay1 x y (ix2 i j) : EReal) = ∑ k : Fin 2048, (x (ix2 i k) : EReal) * y (ix2 j k) := by
  have e : (k0_pay1 x y (ix2 i j) : EReal) = matmul (F := Ideal) (φ₁ := .bf16) (φ₂ := .bf16) (DotDims.transposedRhs 1024 2048 2048) none x y (constant S1024x2048 .f32 0x00000000#32) (ix2 i j) := rfl
  exact e.trans (nt_at _ _ i j)

variable (m : (ℓ : Loc nD τ sig) → Buf (Elt Ideal) ℓ) (ρ : Dev nD → PrngReg)

/-- The first factor. -/
abbrev X (c : Dev nD) : S4096x2048.Idx → EReal := m ((c.tc : Thread nD τ).loc main_arg0)

/-- The second factor. -/
abbrev Y (c : Dev nD) : S2048x2048.Idx → EReal := m ((c.tc : Thread nD τ).loc main_arg1)

/-- The whole product. -/
def G (c : Dev nD) : S4096x2048.Idx → EReal := fun y => ∑ k : Fin 2048, X m c (ix2 (y 0 : Fin 4096) k) * Y m c (ix2 (y 1 : Fin 2048) k)

theorem x_at (c : Dev nD) (t : Fin cfg0.N) (i : Fin 1024) (k : Fin 2048) :
    (iblk m c 0 t (ix2 i k) : EReal) = X m c (ix2 (row (ti t) i) (mid (tk t) k)) := by
  show (V m c main_arg0 (((cfg0.win 0).blk t).view.emb (ix2 i k)) : EReal) = _
  rw [emb0, V_main_arg0]

theorem y_at (c : Dev nD) (t : Fin cfg0.N) (j : Fin 2048) (k : Fin 2048) :
    (iblk m c 1 t (ix2 j k) : EReal) = Y m c (ix2 (col (tj t) j) (mid (tk t) k)) := by
  show (V m c main_arg1 (((cfg0.win 1).blk t).view.emb (ix2 j k)) : EReal) = _
  rw [emb1, V_main_arg1]

/-- What a point adds to an entry of its block. -/
theorem add_at (c : Dev nD) (t : Fin cfg0.N) (i : Fin 1024) (j : Fin 2048) :
    (k0_pay1 (iblk m c 0 t : Vec Ideal S1024x2048 .f32) (iblk m c 1 t : Vec Ideal S2048x2048 .f32) (ix2 i j) : EReal)
      = ∑ k : Fin 2048, X m c (ix2 (row (ti t) i) (mid (tk t) k)) * Y m c (ix2 (col (tj t) j) (mid (tk t) k)) := by
  rw [tile]
  exact Finset.sum_congr rfl fun k _ => by rw [x_at, y_at]

theorem mid_eq (q : Fin 1) (k : Fin 2048) : mid q k = k := Fin.ext (by show q.val * 2048 + k.val = k.val; omega)

/-- The stored piece is the whole block. -/
theorem out2 (x : Vec Ideal S1024x2048 .f32) (y : Vec Ideal S2048x2048 .f32) : out0_2 x y = k0_pay1 x y := by
  unfold out0_2
  rw [View.canon_unit_zero (S := S1024x2048) hz2 _, View.ld_unit_zero (S := S1024x2048) hz2 _, View.ld_unit_zero (S := S2048x2048) hz2 _]

theorem final2 (c : Dev nD) : (dats m 0 c).arrAt 2 cfg0.N = G m c :=
  (dats m 0 c).arrAt_eq_of_cover 2 (G m c) (fun t _ => by
    rw [flushed2, out2]
    funext j
    have ej : j = ix2 (j 0) (j 1) := eq_ix2 (n0 := 1024) (n1 := 2048) j
    rw [ej]
    refine (add_at m c t (j 0) (j 1)).trans ?_
    refine Eq.trans ?_ (congrArg (G m c) (emb2 t (j 0) (j 1))).symm
    exact Finset.sum_congr rfl fun k _ => by rw [mid_eq]) cover2

/-- The reference's result is the whole product. -/
theorem ref0 (c : Dev nD) : Cert.Reference5Ideal.Read.val_main_v2 (F := Ideal) (X m c) (Y m c) = G m c := by
  funext y
  rw [Cert.Reference5Ideal.Read.val_main_v2_apply]
  refine Finset.sum_congr rfl fun k _ => ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel5Ideal_Reference5Ideal (hKernel5Ideal := Cert.Kernel5Ideal.Gen.facts)
    (hReference5Ideal := Cert.Reference5Ideal.Gen.facts) := fun m g m' g' _ hagree => by
  refine ⟨fun c => G m c, run m g, ?_⟩
  refine (θ_run Cert.Reference5Ideal.defs _ _).mono (fun r h c => ⟨(h c).1.trans ?_, (h c).2⟩)
    (Cert.Reference5Ideal.Value.run (F := Ideal) m' g')
  · refine Eq.trans ?_ (ref0 m c)
    rw [Cert.Reference5Ideal.Read.val_main_v2_eq, (hagree c).1, (hagree c).2]

/-- The reference runs and keeps its arguments; it has no counters. -/
theorem frame_reference : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

end Cert.Proof.Mm5

end
-- ==== Proof.Mm6.lean ====
/-
  The tiled product `out_proj_dw` over the extended reals: its result is the whole product, columns times columns.
-/
module

public import proofs.«01_k».proof.Proof.MmBase
public import proofs.«01_k».proof.Proof.Gen.Kernel6Ideal.Value
public import proofs.«01_k».proof.Proof.Gen.Reference6Ideal.Read
public import proofs.«01_k».proof.Defs

@[expose] public section

noncomputable section

namespace Cert.Proof.Mm6

open Idealize.ShloMosaic Idealize.ShloMosaic.TcCoe Idealize.ShloMosaic.ValueIdx Idealize.SL.Sem
open Cert.Kernel6Ideal Cert.Kernel6Ideal.Gen Cert.Kernel6Ideal.Value Cert.Proof.Mm

/-- The block of rows of the result a grid point writes. -/
def ti (t : Fin cfg0.N) : Fin 2 := grid0.coords t 0

/-- Its block of columns. -/
def tj (t : Fin cfg0.N) : Fin 2 := grid0.coords t 1

/-- The block of the summed axis it reads. -/
def tk (t : Fin cfg0.N) : Fin 2 := grid0.coords t 2

/-- A row of the result from its block. -/
def row (q : Fin 2) (r : Fin 1024) : Fin 2048 := ⟨q.val * 1024 + r.val, by omega⟩

/-- A column of the result from its block. -/
def col (q : Fin 2) (r : Fin 1024) : Fin 2048 := ⟨q.val * 1024 + r.val, by omega⟩

/-- A place on the summed axis from its block. -/
def mid (q : Fin 2) (r : Fin 2048) : Fin 4096 := ⟨q.val * 2048 + r.val, by omega⟩

theorem idx0 : ∀ t : Fin cfg0.N, win0_0.index t (0 : Fin 2) = (tk t).val ∧ win0_0.index t (1 : Fin 2) = (ti t).val :=
  (by decide +kernel : ∀ t : Fin grid0.N, win0_0.index t (0 : Fin 2) = (tk t).val ∧ win0_0.index t (1 : Fin 2) = (ti t).val)

theorem emb0 (t : Fin cfg0.N) (r : Fin 2048) (d : Fin 1024) :
    ((cfg0.win 0).blk t).view.emb (ix2 r d) = ix2 (mid (tk t) r) (row (ti t) d) := by
  obtain ⟨e0, e1⟩ := idx0 t
  funext a; apply Fin.ext
  match a with
  | ⟨0, _⟩ => show win0_0.index t (0 : Fin 2) * 2048 + 1 * r.val = (tk t).val * 2048 + r.val; omega
  | ⟨1, _⟩ => show win0_0.index t (1 : Fin 2) * 1024 + 1 * d.val = (ti t).val * 1024 + d.val; omega

theorem idx1 : ∀ t : Fin cfg0.N, win0_1.index t (0 : Fin 2) = (tk t).val ∧ win0_1.index t (1 : Fin 2) = (tj t).val :=
  (by decide +kernel : ∀ t : Fin grid0.N, win0_1.index t (0 : Fin 2) = (tk t).val ∧ win0_1.index t (1 : Fin 2) = (tj t).val)

theorem emb1 (t : Fin cfg0.N) (r : Fin 2048) (d : Fin 1024) :
    ((cfg0.win 1).blk t).view.emb (ix2 r d) = ix2 (mid (tk t) r) (col (tj t) d) := by
  obtain ⟨e0, e1⟩ := idx1 t
  funext a; apply Fin.ext
  match a with
  | ⟨0, _⟩ => show win0_1.index t (0 : Fin 2) * 2048 + 1 * r.val = (tk t).val * 2048 + r.val; omega
  | ⟨1, _⟩ => show win0_1.index t (1 : Fin 2) * 1024 + 1 * d.val = (tj t).val * 1024 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 1024) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 1024 + 1 * d.val = (tj t).val * 1024 + d.val; omega

/-- Every block of the result is some point's, whose sum is complete there. -/
theorem point : ∀ (p : Fin 2) (q : Fin 2), ∃ t : Fin cfg0.N, ti t = p ∧ tj t = q ∧ t.val % 2 = 1 :=
  (by decide +kernel : ∀ (p : Fin 2) (q : Fin 2), ∃ t : Fin grid0.N, ti t = p ∧ tj t = q ∧ t.val % 2 = 1)

/-- Every entry of the result is in a point's block. -/
theorem cover2 (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, e0, e1, e2⟩ := point ⟨(i 0).val / 1024, by omega⟩ ⟨(i 1).val / 1024, by omega⟩
  refine ⟨t, (flush0_2 t).mpr e2, ?_⟩
  have h := ((cfg0.win 2).blk t).view.emb_mem_set (ix2 (⟨(i 0).val % 1024, by omega⟩ : Fin 1024) (⟨(i 1).val % 1024, by omega⟩ : Fin 1024))
  rw [emb2, e0, e1] at h
  have e : (ix2 (row ⟨(i 0).val / 1024, by omega⟩ ⟨(i 0).val % 1024, by omega⟩) (col ⟨(i 1).val / 1024, by omega⟩ ⟨(i 1).val % 1024, by omega⟩) : S2048x2048.Idx) = i := by
    funext a; apply Fin.ext
    match a with
    | ⟨0, _⟩ => show (i 0).val / 1024 * 1024 + (i 0).val % 1024 = (i 0).val; omega
    | ⟨1, _⟩ => show (i 1).val / 1024 * 1024 + (i 1).val % 1024 = (i 1).val; omega
  exact e ▸ h

/-- The product of two tiles at an entry. -/
theorem tile (x : Vec Ideal S2048x1024 .bf16) (y : Vec Ideal S2048x1024 .f32) (i : Fin 1024) (j : Fin 1024) :
    (k0_pay1 x y (ix2 i j) : EReal) = ∑ k : Fin 2048, (x (ix2 k i) : EReal) * y (ix2 k j) := by
  have e : (k0_pay1 x y (ix2 i j) : EReal) = matmul (F := Ideal) (φ₁ := .bf16) (φ₂ := .bf16) (colcol 1024 2048 1024 dot_S2048x1024_S2048x1024_S1024x1024_0_0_1_1_n_n.wf) none x y (constant S1024x1024 .f32 0x00000000#32) (ix2 i j) := rfl
  exact e.trans (tn_at dot_S2048x1024_S2048x1024_S1024x1024_0_0_1_1_n_n.wf _ _ i j)

variable (m : (ℓ : Loc nD τ sig) → Buf (Elt Ideal) ℓ) (ρ : Dev nD → PrngReg)

/-- The first factor. -/
abbrev X (c : Dev nD) : S4096x2048.Idx → EReal := m ((c.tc : Thread nD τ).loc main_arg0)

/-- The second factor. -/
abbrev Y (c : Dev nD) : S4096x2048.Idx → EReal := m ((c.tc : Thread nD τ).loc main_arg1)

/-- The whole product. -/
def G (c : Dev nD) : S2048x2048.Idx → EReal := fun y => ∑ k : Fin 4096, X m c (ix2 k (y 0 : Fin 2048)) * Y m c (ix2 k (y 1 : Fin 2048))

theorem x_at (c : Dev nD) (t : Fin cfg0.N) (i : Fin 1024) (k : Fin 2048) :
    (iblk m c 0 t (ix2 k i) : EReal) = X m c (ix2 (mid (tk t) k) (row (ti t) i)) := by
  show (V m c main_arg0 (((cfg0.win 0).blk t).view.emb (ix2 k i)) : EReal) = _
  rw [emb0, V_main_arg0]

theorem y_at (c : Dev nD) (t : Fin cfg0.N) (j : Fin 1024) (k : Fin 2048) :
    (iblk m c 1 t (ix2 k j) : EReal) = Y m c (ix2 (mid (tk t) k) (col (tj t) j)) := by
  show (V m c main_arg1 (((cfg0.win 1).blk t).view.emb (ix2 k j)) : EReal) = _
  rw [emb1, V_main_arg1]

/-- What a point adds to an entry of its block. -/
theorem add_at (c : Dev nD) (t : Fin cfg0.N) (i : Fin 1024) (j : Fin 1024) :
    (k0_pay1 (iblk m c 0 t : Vec Ideal S2048x1024 .bf16) (iblk m c 1 t : Vec Ideal S2048x1024 .f32) (ix2 i j) : EReal)
      = ∑ k : Fin 2048, X m c (ix2 (mid (tk t) k) (row (ti t) i)) * Y m c (ix2 (mid (tk t) k) (col (tj t) j)) := by
  rw [tile]
  exact Finset.sum_congr rfl fun k _ => by rw [x_at, y_at]

/-- The first step stores its own product. -/
theorem outA (c : Dev nD) (i : grid0.Coords) (m3 : Memref sig .tc .vmem S2048x1024 .bf16) (h3 : m3.IsWhole) (m4 : Memref sig .tc .vmem S2048x1024 .f32) (h4 : m4.IsWhole)
    (m5 : Memref sig .tc .vmem S1024x1024 .f32) (h5 : m5.IsWhole) (hc0 : cond0_0 i) (hc1 : ¬cond0_1 i) (x : Vec Ideal S2048x1024 .bf16) (y : Vec Ideal S2048x1024 .f32) :
    out0_A_2 c i m3 h3 m4 h4 m5 h5 hc0 hc1 x y = k0_pay1 x y := by
  unfold out0_A_2
  rw [View.read_writes_junk_eq_canon]
  unfold kernelRun0_A
  dsimp only
  rw [View.canon_unit_zero (S := S1024x1024) hz2 _, read_block m3 h3, read_block m4 h4]

/-- A later step adds its product to what the step before left. -/
theorem outB (c : Dev nD) (i : grid0.Coords) (m3 : Memref sig .tc .vmem S2048x1024 .bf16) (h3 : m3.IsWhole) (m4 : Memref sig .tc .vmem S2048x1024 .f32) (h4 : m4.IsWhole)
    (m5 : Memref sig .tc .vmem S1024x1024 .f32) (h5 : m5.IsWhole) (hc0 : ¬cond0_0 i) (hc1 : cond0_1 i) (x : Vec Ideal S2048x1024 .bf16) (y : Vec Ideal S2048x1024 .f32)
    (z : Vec Ideal S1024x1024 .f32) : out0_B_2 c i m3 h3 m4 h4 m5 h5 hc0 hc1 x y z = k0_pay2 x y z := by
  unfold out0_B_2
  rw [View.read_writes_junk_eq_canon]
  unfold kernelRun0_B
  dsimp only
  rw [View.canon_unit_zero (S := S1024x1024) hz2 _, read_block m3 h3, read_block m4 h4, read_block m5 h5]

/-- What a later step leaves at an entry. -/
theorem pay2_at (x : Vec Ideal S2048x1024 .bf16) (y : Vec Ideal S2048x1024 .f32) (z : Vec Ideal S1024x1024 .f32) (i : Fin 1024) (j : Fin 1024) :
    (k0_pay2 x y z (ix2 i j) : EReal) = (z (ix2 i j) : EReal) + k0_pay1 x y (ix2 i j) := by
  show (shapeCast S1024x1024 z shapeCasts_S1024x1024_S1024x1024 (ix2 i j) : EReal) + _ = _
  rw [shapeCast_self]

theorem tk_val : ∀ t : Fin cfg0.N, (tk t).val = t.val % 2 :=
  (by decide +kernel : ∀ t : Fin grid0.N, (tk t).val = t.val % 2)

theorem prev : ∀ t : Fin cfg0.N, ¬t.val % 2 = 0 → ti ⟨t.val - 1, Nat.lt_of_le_of_lt (Nat.sub_le _ _) t.isLt⟩ = ti t
    ∧ tj ⟨t.val - 1, Nat.lt_of_le_of_lt (Nat.sub_le _ _) t.isLt⟩ = tj t :=
  (by decide +kernel : ∀ t : Fin grid0.N, ¬t.val % 2 = 0 → ti ⟨t.val - 1, Nat.lt_of_le_of_lt (Nat.sub_le _ _) t.isLt⟩ = ti t
    ∧ tj ⟨t.val - 1, Nat.lt_of_le_of_lt (Nat.sub_le _ _) t.isLt⟩ = tj t)

/-- What the `s`-th block of the summed axis gives to an entry of a point's block. -/
def part (c : Dev nD) (p : Fin 2) (q : Fin 2) (i : Fin 1024) (j : Fin 1024) (s : ℕ) : EReal :=
  if h : s < 2 then ∑ k : Fin 2048, X m c (ix2 (mid ⟨s, h⟩ k) (row p i)) * Y m c (ix2 (mid ⟨s, h⟩ k) (col q j)) else 0

theorem add_part (c : Dev nD) (t : Fin cfg0.N) (i : Fin 1024) (j : Fin 1024) :
    (k0_pay1 (iblk m c 0 t : Vec Ideal S2048x1024 .bf16) (iblk m c 1 t : Vec Ideal S2048x1024 .f32) (ix2 i j) : EReal) = part m c (ti t) (tj t) i j (t.val % 2) := by
  rw [add_at, ← tk_val]
  unfold part
  rw [dif_pos (tk t).isLt]

/-- After a point an entry of its block holds the sum over the blocks read so far. -/
theorem acc (c : Dev nD) : ∀ (n : ℕ) (hn : n < cfg0.N) (i : Fin 1024) (j : Fin 1024),
    (outsAt0 m c n hn (ix2 i j) : EReal) = ∑ s ∈ Finset.range (n % 2 + 1), part m c (ti ⟨n, hn⟩) (tj ⟨n, hn⟩) i j s := by
  intro n
  induction n with
  | zero =>
    intro hn i j
    have e := outsAt0_A m c ⟨0, hn⟩ (show 0 % 2 = 0 from rfl) (show ¬0 % 2 = 1 by decide)
    have e' : outsAt0 m c 0 hn = _ := e
    rw [e', outA, add_part]
    exact (Finset.sum_range_one _).symm
  | succ n ih =>
    intro hn i j
    by_cases h0 : (n + 1) % 2 = 0
    · have e := outsAt0_A m c ⟨n + 1, hn⟩ h0 (show ¬(n + 1) % 2 = 1 by omega)
      have e' : outsAt0 m c (n + 1) hn = _ := e
      rw [e', outA, add_part, h0]
      exact (Finset.sum_range_one _).symm
    · have e := outsAt0_B m c ⟨n + 1, hn⟩ h0 (show (n + 1) % 2 = 1 by omega)
      have e' : outsAt0 m c (n + 1) hn = _ := e
      have p0 : ti ⟨n, Nat.lt_of_succ_lt hn⟩ = ti ⟨n + 1, hn⟩ := (prev ⟨n + 1, hn⟩ h0).1
      have p1 : tj ⟨n, Nat.lt_of_succ_lt hn⟩ = tj ⟨n + 1, hn⟩ := (prev ⟨n + 1, hn⟩ h0).2
      rw [e', outB, pay2_at, add_part]
      have hi : (outsAt0 m c n (Nat.lt_of_succ_lt hn) (ix2 i j) : EReal) = _ := ih (Nat.lt_of_succ_lt hn) i j
      rw [p0, p1] at hi
      refine (congrArg (· + _) hi).trans ?_
      have e2 : (n + 1) % 2 = n % 2 + 1 := by omega
      rw [e2, Finset.sum_range_succ _ (n % 2 + 1)]

/-- An array read through a point's block. -/
theorem read_at (f : S2048x2048.Idx → EReal) (t : Fin cfg0.N) (i : Fin 1024) (j : Fin 1024) :
    (((cfg0.win 2).blk t).view.read (Elt Ideal) f (ix2 i j) : EReal) = f (ix2 (row (ti t) i) (col (tj t) j)) := by
  show f (((cfg0.win 2).blk t).view.emb (ix2 i j)) = _
  rw [emb2]

theorem final2 (c : Dev nD) : (dats m 0 c).arrAt 2 cfg0.N = G m c :=
  (dats m 0 c).arrAt_eq_of_cover 2 (G m c) (fun t hf => by
    have ht : t.val % 2 = 1 := (flush0_2 t).mp hf
    rw [flushed2]
    funext j
    have ej : j = ix2 (j 0) (j 1) := eq_ix2 (n0 := 1024) (n1 := 1024) j
    rw [ej]
    refine (acc m c t.val t.isLt (j 0) (j 1)).trans ?_
    refine Eq.trans ?_ (read_at (G m c) t (j 0) (j 1)).symm
    rw [ht, Finset.sum_range]
    have eG : G m c (ix2 (row (ti t) (j 0)) (col (tj t) (j 1))) = ∑ k : Fin 4096, X m c (ix2 k (row (ti t) (j 0))) * Y m c (ix2 k (col (tj t) (j 1))) := rfl
    have eS : ∑ k : Fin 4096, X m c (ix2 k (row (ti t) (j 0))) * Y m c (ix2 k (col (tj t) (j 1))) = ∑ s : Fin 2, ∑ r : Fin 2048, _ := sum_blocks 2 2048 (by norm_num) _
    refine Eq.trans ?_ (eG.trans eS).symm
    refine Finset.sum_congr rfl fun s _ => ?_
    unfold part
    exact (dif_pos s.isLt).trans rfl) cover2

/-- The reference's result is the whole product. -/
theorem ref0 (c : Dev nD) : Cert.Reference6Ideal.Read.val_main_v4 (F := Ideal) (X m c) (Y m c) = G m c := by
  funext y
  rw [Cert.Reference6Ideal.Read.val_main_v4_apply, Cert.Reference6Ideal.Read.val_main_v3_apply]
  refine Finset.sum_congr rfl fun k _ => ?_
  refine (mul_comm _ _).trans ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel6Ideal_Reference6Ideal (hKernel6Ideal := Cert.Kernel6Ideal.Gen.facts)
    (hReference6Ideal := Cert.Reference6Ideal.Gen.facts) := fun m g m' g' _ hagree => by
  refine ⟨fun c => G m c, run m g, ?_⟩
  refine (θ_run Cert.Reference6Ideal.defs _ _).mono (fun r h c => ⟨(h c).1.trans ?_, (h c).2⟩)
    (Cert.Reference6Ideal.Value.run (F := Ideal) m' g')
  · refine Eq.trans ?_ (ref0 m c)
    rw [Cert.Reference6Ideal.Read.val_main_v4_eq, (hagree c).1, (hagree c).2]

/-- The reference runs and keeps its arguments; it has no counters. -/
theorem frame_reference : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

end Cert.Proof.Mm6

end
-- ==== Proof.Mm7.lean ====
/-
  The tiled product `out_proj` over the extended reals: its result is the whole product, rows times columns.
-/
module

public import proofs.«01_k».proof.Proof.MmBase
public import proofs.«01_k».proof.Proof.Gen.Kernel7Ideal.Value
public import proofs.«01_k».proof.Proof.Gen.Reference7Ideal.Read
public import proofs.«01_k».proof.Defs

@[expose] public section

noncomputable section

namespace Cert.Proof.Mm7

open Idealize.ShloMosaic Idealize.ShloMosaic.TcCoe Idealize.ShloMosaic.ValueIdx Idealize.SL.Sem
open Cert.Kernel7Ideal Cert.Kernel7Ideal.Gen Cert.Kernel7Ideal.Value Cert.Proof.Mm

/-- The block of rows of the result a grid point writes. -/
def ti (t : Fin cfg0.N) : Fin 4 := grid0.coords t 0

/-- Its block of columns. -/
def tj (t : Fin cfg0.N) : Fin 1 := grid0.coords t 1

/-- The block of the summed axis it reads. -/
def tk (t : Fin cfg0.N) : Fin 1 := grid0.coords t 2

/-- A row of the result from its block. -/
def row (q : Fin 4) (r : Fin 1024) : Fin 4096 := ⟨q.val * 1024 + r.val, by omega⟩

/-- A column of the result from its block. -/
def col (q : Fin 1) (r : Fin 2048) : Fin 2048 := ⟨q.val * 2048 + r.val, by omega⟩

/-- A place on the summed axis from its block. -/
def mid (q : Fin 1) (r : Fin 2048) : Fin 2048 := ⟨q.val * 2048 + r.val, by omega⟩

theorem idx0 : ∀ t : Fin cfg0.N, win0_0.index t (0 : Fin 2) = (ti t).val ∧ win0_0.index t (1 : Fin 2) = (tk t).val :=
  (by decide +kernel : ∀ t : Fin grid0.N, win0_0.index t (0 : Fin 2) = (ti t).val ∧ win0_0.index t (1 : Fin 2) = (tk t).val)

theorem emb0 (t : Fin cfg0.N) (r : Fin 1024) (d : Fin 2048) :
    ((cfg0.win 0).blk t).view.emb (ix2 r d) = ix2 (row (ti t) r) (mid (tk t) d) := by
  obtain ⟨e0, e1⟩ := idx0 t
  funext a; apply Fin.ext
  match a with
  | ⟨0, _⟩ => show win0_0.index t (0 : Fin 2) * 1024 + 1 * r.val = (ti t).val * 1024 + r.val; omega
  | ⟨1, _⟩ => show win0_0.index t (1 : Fin 2) * 2048 + 1 * d.val = (tk t).val * 2048 + d.val; omega

theorem idx1 : ∀ t : Fin cfg0.N, win0_1.index t (0 : Fin 2) = (tk t).val ∧ win0_1.index t (1 : Fin 2) = (tj t).val :=
  (by decide +kernel : ∀ t : Fin grid0.N, win0_1.index t (0 : Fin 2) = (tk t).val ∧ win0_1.index t (1 : Fin 2) = (tj t).val)

theorem emb1 (t : Fin cfg0.N) (r : Fin 2048) (d : Fin 2048) :
    ((cfg0.win 1).blk t).view.emb (ix2 r d) = ix2 (mid (tk t) r) (col (tj t) d) := by
  obtain ⟨e0, e1⟩ := idx1 t
  funext a; apply Fin.ext
  match a with
  | ⟨0, _⟩ => show win0_1.index t (0 : Fin 2) * 2048 + 1 * r.val = (tk t).val * 2048 + r.val; omega
  | ⟨1, _⟩ => show win0_1.index t (1 : Fin 2) * 2048 + 1 * d.val = (tj t).val * 2048 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 2048) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 2048 + 1 * d.val = (tj t).val * 2048 + d.val; omega

/-- Every block of the result is some point's. -/
theorem point : ∀ (p : Fin 4) (q : Fin 1), ∃ t : Fin cfg0.N, ti t = p ∧ tj t = q :=
  (by decide +kernel : ∀ (p : Fin 4) (q : Fin 1), ∃ t : Fin grid0.N, ti t = p ∧ tj t = q)

/-- Every entry of the result is in a point's block. -/
theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, e0, e1⟩ := point ⟨(i 0).val / 1024, by omega⟩ ⟨(i 1).val / 2048, by omega⟩
  refine ⟨t, flush0_2 t, ?_⟩
  have h := ((cfg0.win 2).blk t).view.emb_mem_set (ix2 (⟨(i 0).val % 1024, by omega⟩ : Fin 1024) (⟨(i 1).val % 2048, by omega⟩ : Fin 2048))
  rw [emb2, e0, e1] at h
  have e : (ix2 (row ⟨(i 0).val / 1024, by omega⟩ ⟨(i 0).val % 1024, by omega⟩) (col ⟨(i 1).val / 2048, by omega⟩ ⟨(i 1).val % 2048, by omega⟩) : S4096x2048.Idx) = i := by
    funext a; apply Fin.ext
    match a with
    | ⟨0, _⟩ => show (i 0).val / 1024 * 1024 + (i 0).val % 1024 = (i 0).val; omega
    | ⟨1, _⟩ => show (i 1).val / 2048 * 2048 + (i 1).val % 2048 = (i 1).val; omega
  exact e ▸ h

/-- The product of two tiles at an entry. -/
theorem tile (x : Vec Ideal S1024x2048 .bf16) (y : Vec Ideal S2048x2048 .f32) (i : Fin 1024) (j : Fin 2048) :
    (k0_pay1 x y (ix2 i j) : EReal) = ∑ k : Fin 2048, (x (ix2 i k) : EReal) * y (ix2 k j) := by
  have e : (k0_pay1 x y (ix2 i j) : EReal) = matmul (F := Ideal) (φ₁ := .bf16) (φ₂ := .bf16) (DotDims.plain 1024 2048 2048) none x y (constant S1024x2048 .f32 0x00000000#32) (ix2 i j) := rfl
  exact e.trans (nn_at _ _ i j)

variable (m : (ℓ : Loc nD τ sig) → Buf (Elt Ideal) ℓ) (ρ : Dev nD → PrngReg)

/-- The first factor. -/
abbrev X (c : Dev nD) : S4096x2048.Idx → EReal := m ((c.tc : Thread nD τ).loc main_arg0)

/-- The second factor. -/
abbrev Y (c : Dev nD) : S2048x2048.Idx → EReal := m ((c.tc : Thread nD τ).loc main_arg1)

/-- The whole product. -/
def G (c : Dev nD) : S4096x2048.Idx → EReal := fun y => ∑ k : Fin 2048, X m c (ix2 (y 0 : Fin 4096) k) * Y m c (ix2 k (y 1 : Fin 2048))

theorem x_at (c : Dev nD) (t : Fin cfg0.N) (i : Fin 1024) (k : Fin 2048) :
    (iblk m c 0 t (ix2 i k) : EReal) = X m c (ix2 (row (ti t) i) (mid (tk t) k)) := by
  show (V m c main_arg0 (((cfg0.win 0).blk t).view.emb (ix2 i k)) : EReal) = _
  rw [emb0, V_main_arg0]

theorem y_at (c : Dev nD) (t : Fin cfg0.N) (j : Fin 2048) (k : Fin 2048) :
    (iblk m c 1 t (ix2 k j) : EReal) = Y m c (ix2 (mid (tk t) k) (col (tj t) j)) := by
  show (V m c main_arg1 (((cfg0.win 1).blk t).view.emb (ix2 k j)) : EReal) = _
  rw [emb1, V_main_arg1]

/-- What a point adds to an entry of its block. -/
theorem add_at (c : Dev nD) (t : Fin cfg0.N) (i : Fin 1024) (j : Fin 2048) :
    (k0_pay1 (iblk m c 0 t : Vec Ideal S1024x2048 .bf16) (iblk m c 1 t : Vec Ideal S2048x2048 .f32) (ix2 i j) : EReal)
      = ∑ k : Fin 2048, X m c (ix2 (row (ti t) i) (mid (tk t) k)) * Y m c (ix2 (mid (tk t) k) (col (tj t) j)) := by
  rw [tile]
  exact Finset.sum_congr rfl fun k _ => by rw [x_at, y_at]

theorem mid_eq (q : Fin 1) (k : Fin 2048) : mid q k = k := Fin.ext (by show q.val * 2048 + k.val = k.val; omega)

/-- The stored piece is the whole block. -/
theorem out2 (x : Vec Ideal S1024x2048 .bf16) (y : Vec Ideal S2048x2048 .f32) : out0_2 x y = k0_pay1 x y := by
  unfold out0_2
  rw [View.canon_unit_zero (S := S1024x2048) hz2 _, View.ld_unit_zero (S := S1024x2048) hz2 _, View.ld_unit_zero (S := S2048x2048) hz2 _]

theorem final2 (c : Dev nD) : (dats m 0 c).arrAt 2 cfg0.N = G m c :=
  (dats m 0 c).arrAt_eq_of_cover 2 (G m c) (fun t _ => by
    rw [flushed2, out2]
    funext j
    have ej : j = ix2 (j 0) (j 1) := eq_ix2 (n0 := 1024) (n1 := 2048) j
    rw [ej]
    refine (add_at m c t (j 0) (j 1)).trans ?_
    refine Eq.trans ?_ (congrArg (G m c) (emb2 t (j 0) (j 1))).symm
    exact Finset.sum_congr rfl fun k _ => by rw [mid_eq]) cover2

/-- The reference's result is the whole product. -/
theorem ref0 (c : Dev nD) : Cert.Reference7Ideal.Read.val_main_v1 (F := Ideal) (X m c) (Y m c) = G m c := by
  funext y
  rw [Cert.Reference7Ideal.Read.val_main_v1_apply]
  refine Finset.sum_congr rfl fun k _ => ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel7Ideal_Reference7Ideal (hKernel7Ideal := Cert.Kernel7Ideal.Gen.facts)
    (hReference7Ideal := Cert.Reference7Ideal.Gen.facts) := fun m g m' g' _ hagree => by
  refine ⟨fun c => G m c, run m g, ?_⟩
  refine (θ_run Cert.Reference7Ideal.defs _ _).mono (fun r h c => ⟨(h c).1.trans ?_, (h c).2⟩)
    (Cert.Reference7Ideal.Value.run (F := Ideal) m' g')
  · refine Eq.trans ?_ (ref0 m c)
    rw [Cert.Reference7Ideal.Read.val_main_v1_eq, (hagree c).1, (hagree c).2]

/-- The reference runs and keeps its arguments; it has no counters. -/
theorem frame_reference : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

end Cert.Proof.Mm7

end
-- ==== Proof.Mm8.lean ====
/-
  The tiled product `mla_q_dx` over the extended reals: its result is the whole product, rows times rows.
-/
module

public import proofs.«01_k».proof.Proof.MmBase
public import proofs.«01_k».proof.Proof.Gen.Kernel8Ideal.Value
public import proofs.«01_k».proof.Proof.Gen.Reference8Ideal.Read
public import proofs.«01_k».proof.Defs

@[expose] public section

noncomputable section

namespace Cert.Proof.Mm8

open Idealize.ShloMosaic Idealize.ShloMosaic.TcCoe Idealize.ShloMosaic.ValueIdx Idealize.SL.Sem
open Cert.Kernel8Ideal Cert.Kernel8Ideal.Gen Cert.Kernel8Ideal.Value Cert.Proof.Mm

/-- The block of rows of the result a grid point writes. -/
def ti (t : Fin cfg0.N) : Fin 4 := grid0.coords t 0

/-- Its block of columns. -/
def tj (t : Fin cfg0.N) : Fin 1 := grid0.coords t 1

/-- The block of the summed axis it reads. -/
def tk (t : Fin cfg0.N) : Fin 1 := grid0.coords t 2

/-- A row of the result from its block. -/
def row (q : Fin 4) (r : Fin 1024) : Fin 4096 := ⟨q.val * 1024 + r.val, by omega⟩

/-- A column of the result from its block. -/
def col (q : Fin 1) (r : Fin 512) : Fin 512 := ⟨q.val * 512 + r.val, by omega⟩

/-- A place on the summed axis from its block. -/
def mid (q : Fin 1) (r : Fin 2048) : Fin 2048 := ⟨q.val * 2048 + r.val, by omega⟩

theorem idx0 : ∀ t : Fin cfg0.N, win0_0.index t (0 : Fin 2) = (ti t).val ∧ win0_0.index t (1 : Fin 2) = (tk t).val :=
  (by decide +kernel : ∀ t : Fin grid0.N, win0_0.index t (0 : Fin 2) = (ti t).val ∧ win0_0.index t (1 : Fin 2) = (tk t).val)

theorem emb0 (t : Fin cfg0.N) (r : Fin 1024) (d : Fin 2048) :
    ((cfg0.win 0).blk t).view.emb (ix2 r d) = ix2 (row (ti t) r) (mid (tk t) d) := by
  obtain ⟨e0, e1⟩ := idx0 t
  funext a; apply Fin.ext
  match a with
  | ⟨0, _⟩ => show win0_0.index t (0 : Fin 2) * 1024 + 1 * r.val = (ti t).val * 1024 + r.val; omega
  | ⟨1, _⟩ => show win0_0.index t (1 : Fin 2) * 2048 + 1 * d.val = (tk t).val * 2048 + d.val; omega

theorem idx1 : ∀ t : Fin cfg0.N, win0_1.index t (0 : Fin 2) = (tj t).val ∧ win0_1.index t (1 : Fin 2) = (tk t).val :=
  (by decide +kernel : ∀ t : Fin grid0.N, win0_1.index t (0 : Fin 2) = (tj t).val ∧ win0_1.index t (1 : Fin 2) = (tk t).val)

theorem emb1 (t : Fin cfg0.N) (r : Fin 512) (d : Fin 2048) :
    ((cfg0.win 1).blk t).view.emb (ix2 r d) = ix2 (col (tj t) r) (mid (tk t) d) := by
  obtain ⟨e0, e1⟩ := idx1 t
  funext a; apply Fin.ext
  match a with
  | ⟨0, _⟩ => show win0_1.index t (0 : Fin 2) * 512 + 1 * r.val = (tj t).val * 512 + r.val; omega
  | ⟨1, _⟩ => show win0_1.index t (1 : Fin 2) * 2048 + 1 * d.val = (tk t).val * 2048 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 512) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 512 + 1 * d.val = (tj t).val * 512 + d.val; omega

/-- Every block of the result is some point's. -/
theorem point : ∀ (p : Fin 4) (q : Fin 1), ∃ t : Fin cfg0.N, ti t = p ∧ tj t = q :=
  (by decide +kernel : ∀ (p : Fin 4) (q : Fin 1), ∃ t : Fin grid0.N, ti t = p ∧ tj t = q)

/-- Every entry of the result is in a point's block. -/
theorem cover2 (i : S4096x512.Idx) : ∃ t : Fin cfg0.N, (cfg0.win 2).flush t = true ∧ i ∈ ((cfg0.win 2).blk t).view.set := by
  have h0 : (i 0).val < 4096 := (i 0).isLt
  have h1 : (i 1).val < 512 := (i 1).isLt
  obtain ⟨t, e0, e1⟩ := point ⟨(i 0).val / 1024, by omega⟩ ⟨(i 1).val / 512, by omega⟩
  refine ⟨t, flush0_2 t, ?_⟩
  have h := ((cfg0.win 2).blk t).view.emb_mem_set (ix2 (⟨(i 0).val % 1024, by omega⟩ : Fin 1024) (⟨(i 1).val % 512, by omega⟩ : Fin 512))
  rw [emb2, e0, e1] at h
  have e : (ix2 (row ⟨(i 0).val / 1024, by omega⟩ ⟨(i 0).val % 1024, by omega⟩) (col ⟨(i 1).val / 512, by omega⟩ ⟨(i 1).val % 512, by omega⟩) : S4096x512.Idx) = i := by
    funext a; apply Fin.ext
    match a with
    | ⟨0, _⟩ => show (i 0).val / 1024 * 1024 + (i 0).val % 1024 = (i 0).val; omega
    | ⟨1, _⟩ => show (i 1).val / 512 * 512 + (i 1).val % 512 = (i 1).val; omega
  exact e ▸ h

/-- The product of two tiles at an entry. -/
theorem tile (x : Vec Ideal S1024x2048 .bf16) (y : Vec Ideal S512x2048 .f32) (i : Fin 1024) (j : Fin 512) :
    (k0_pay1 x y (ix2 i j) : EReal) = ∑ k : Fin 2048, (x (ix2 i k) : EReal) * y (ix2 j k) := by
  have e : (k0_pay1 x y (ix2 i j) : EReal) = matmul (F := Ideal) (φ₁ := .bf16) (φ₂ := .bf16) (DotDims.transposedRhs 1024 2048 512) none x y (constant S1024x512 .f32 0x00000000#32) (ix2 i j) := rfl
  exact e.trans (nt_at _ _ i j)

variable (m : (ℓ : Loc nD τ sig) → Buf (Elt Ideal) ℓ) (ρ : Dev nD → PrngReg)

/-- The first factor. -/
abbrev X (c : Dev nD) : S4096x2048.Idx → EReal := m ((c.tc : Thread nD τ).loc main_arg0)

/-- The second factor. -/
abbrev Y (c : Dev nD) : S512x2048.Idx → EReal := m ((c.tc : Thread nD τ).loc main_arg1)

/-- The whole product. -/
def G (c : Dev nD) : S4096x512.Idx → EReal := fun y => ∑ k : Fin 2048, X m c (ix2 (y 0 : Fin 4096) k) * Y m c (ix2 (y 1 : Fin 512) k)

theorem x_at (c : Dev nD) (t : Fin cfg0.N) (i : Fin 1024) (k : Fin 2048) :
    (iblk m c 0 t (ix2 i k) : EReal) = X m c (ix2 (row (ti t) i) (mid (tk t) k)) := by
  show (V m c main_arg0 (((cfg0.win 0).blk t).view.emb (ix2 i k)) : EReal) = _
  rw [emb0, V_main_arg0]

theorem y_at (c : Dev nD) (t : Fin cfg0.N) (j : Fin 512) (k : Fin 2048) :
    (iblk m c 1 t (ix2 j k) : EReal) = Y m c (ix2 (col (tj t) j) (mid (tk t) k)) := by
  show (V m c main_arg1 (((cfg0.win 1).blk t).view.emb (ix2 j k)) : EReal) = _
  rw [emb1, V_main_arg1]

/-- What a point adds to an entry of its block. -/
theorem add_at (c : Dev nD) (t : Fin cfg0.N) (i : Fin 1024) (j : Fin 512) :
    (k0_pay1 (iblk m c 0 t : Vec Ideal S1024x2048 .bf16) (iblk m c 1 t : Vec Ideal S512x2048 .f32) (ix2 i j) : EReal)
      = ∑ k : Fin 2048, X m c (ix2 (row (ti t) i) (mid (tk t) k)) * Y m c (ix2 (col (tj t) j) (mid (tk t) k)) := by
  rw [tile]
  exact Finset.sum_congr rfl fun k _ => by rw [x_at, y_at]

theorem mid_eq (q : Fin 1) (k : Fin 2048) : mid q k = k := Fin.ext (by show q.val * 2048 + k.val = k.val; omega)

/-- The stored piece is the whole block. -/
theorem out2 (x : Vec Ideal S1024x2048 .bf16) (y : Vec Ideal S512x2048 .f32) : out0_2 x y = k0_pay1 x y := by
  unfold out0_2
  rw [View.canon_unit_zero (S := S1024x512) hz2 _, View.ld_unit_zero (S := S1024x2048) hz2 _, View.ld_unit_zero (S := S512x2048) hz2 _]

theorem final2 (c : Dev nD) : (dats m 0 c).arrAt 2 cfg0.N = G m c :=
  (dats m 0 c).arrAt_eq_of_cover 2 (G m c) (fun t _ => by
    rw [flushed2, out2]
    funext j
    have ej : j = ix2 (j 0) (j 1) := eq_ix2 (n0 := 1024) (n1 := 512) j
    rw [ej]
    refine (add_at m c t (j 0) (j 1)).trans ?_
    refine Eq.trans ?_ (congrArg (G m c) (emb2 t (j 0) (j 1))).symm
    exact Finset.sum_congr rfl fun k _ => by rw [mid_eq]) cover2

/-- The reference's result is the whole product. -/
theorem ref0 (c : Dev nD) : Cert.Reference8Ideal.Read.val_main_v3 (F := Ideal) (X m c) (Y m c) = G m c := by
  funext y
  rw [Cert.Reference8Ideal.Read.val_main_v3_apply]
  refine Finset.sum_congr rfl fun k _ => ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel8Ideal_Reference8Ideal (hKernel8Ideal := Cert.Kernel8Ideal.Gen.facts)
    (hReference8Ideal := Cert.Reference8Ideal.Gen.facts) := fun m g m' g' _ hagree => by
  refine ⟨fun c => G m c, run m g, ?_⟩
  refine (θ_run Cert.Reference8Ideal.defs _ _).mono (fun r h c => ⟨(h c).1.trans ?_, (h c).2⟩)
    (Cert.Reference8Ideal.Value.run (F := Ideal) m' g')
  · refine Eq.trans ?_ (ref0 m c)
    rw [Cert.Reference8Ideal.Read.val_main_v3_eq, (hagree c).1, (hagree c).2]

/-- The reference runs and keeps its arguments; it has no counters. -/
theorem frame_reference : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

end Cert.Proof.Mm8

end
-- ==== Proof.Mm9.lean ====
/-
  The tiled product `mla_q_dw` over the extended reals: its result is the whole product, columns times columns.
-/
module

public import proofs.«01_k».proof.Proof.MmBase
public import proofs.«01_k».proof.Proof.Gen.Kernel9Ideal.Value
public import proofs.«01_k».proof.Proof.Gen.Reference9Ideal.Read
public import proofs.«01_k».proof.Defs

@[expose] public section

noncomputable section

namespace Cert.Proof.Mm9

open Idealize.ShloMosaic Idealize.ShloMosaic.TcCoe Idealize.ShloMosaic.ValueIdx Idealize.SL.Sem
open Cert.Kernel9Ideal Cert.Kernel9Ideal.Gen Cert.Kernel9Ideal.Value Cert.Proof.Mm

/-- The block of rows of the result a grid point writes. -/
def ti (t : Fin cfg0.N) : Fin 1 := grid0.coords t 0

/-- Its block of columns. -/
def tj (t : Fin cfg0.N) : Fin 2 := grid0.coords t 1

/-- The block of the summed axis it reads. -/
def tk (t : Fin cfg0.N) : Fin 2 := grid0.coords t 2

/-- A row of the result from its block. -/
def row (q : Fin 1) (r : Fin 512) : Fin 512 := ⟨q.val * 512 + r.val, by omega⟩

/-- A column of the result from its block. -/
def col (q : Fin 2) (r : Fin 1024) : Fin 2048 := ⟨q.val * 1024 + r.val, by omega⟩

/-- A place on the summed axis from its block. -/
def mid (q : Fin 2) (r : Fin 2048) : Fin 4096 := ⟨q.val * 2048 + r.val, by omega⟩

theorem idx0 : ∀ t : Fin cfg0.N, win0_0.index t (0 : Fin 2) = (tk t).val ∧ win0_0.index t (1 : Fin 2) = (ti t).val :=
  (by decide +kernel : ∀ t : Fin grid0.N, win0_0.index t (0 : Fin 2) = (tk t).val ∧ win0_0.index t (1 : Fin 2) = (ti t).val)

theorem emb0 (t : Fin cfg0.N) (r : Fin 2048) (d : Fin 512) :
    ((cfg0.win 0).blk t).view.emb (ix2 r d) = ix2 (mid (tk t) r) (row (ti t) d) := by
  obtain ⟨e0, e1⟩ := idx0 t
  funext a; apply Fin.ext
  match a with
  | ⟨0, _⟩ => show win0_0.index t (0 : Fin 2) * 2048 + 1 * r.val = (tk t).val * 2048 + r.val; omega
  | ⟨1, _⟩ => show win0_0.index t (1 : Fin 2) * 512 + 1 * d.val = (ti t).val * 512 + d.val; omega

theorem idx1 : ∀ t : Fin cfg0.N, win0_1.index t (0 : Fin 2) = (tk t).val ∧ win0_1.index t (1 : Fin 2) = (tj t).val :=
  (by decide +kernel : ∀ t : Fin grid0.N, win0_1.index t (0 : Fin 2) = (tk t).val ∧ win0_1.index t (1 : Fin 2) = (tj t).val)

theorem emb1 (t : Fin cfg0.N) (r : Fin 2048) (d : Fin 1024) :
    ((cfg0.win 1).blk t).view.emb (ix2 r d) = ix2 (mid (tk t) r) (col (tj t) d) := by
  obtain ⟨e0, e1⟩ := idx1 t
  funext a; apply Fin.ext
  match a with
  | ⟨0, _⟩ => show win0_1.index t (0 : Fin 2) * 2048 + 1 * r.val = (tk t).val * 2048 + r.val; omega
  | ⟨1, _⟩ => show win0_1.index t (1 : Fin 2) * 1024 + 1 * d.val = (tj t).val * 1024 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 512) (d : Fin 1024) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 512 + 1 * r.val = (ti t).val * 512 + r.val; omega
  | ⟨1, _⟩ => show win0_2.index t (1 : Fin 2) * 1024 + 1 * d.val = (tj t).val * 1024 + d.val; omega

/-- Every block of the result is some point's, whose sum is complete there. -/
theorem point : ∀ (p : Fin 1) (q : Fin 2), ∃ t : Fin cfg0.N, ti t = p ∧ tj t = q ∧ t.val % 2 = 1 :=
  (by decide +kernel : ∀ (p : Fin 1) (q : Fin 2), ∃ t : Fin grid0.N, ti t = p ∧ tj t = q ∧ t.val % 2 = 1)

/-- Every entry of the result is in a point's block. -/
theorem cover2 (i : S512x2048.Idx) : ∃ t : Fin cfg0.N, (cfg0.win 2).flush t = true ∧ i ∈ ((cfg0.win 2).blk t).view.set := by
  have h0 : (i 0).val < 512 := (i 0).isLt
  have h1 : (i 1).val < 2048 := (i 1).isLt
  obtain ⟨t, e0, e1, e2⟩ := point ⟨(i 0).val / 512, by omega⟩ ⟨(i 1).val / 1024, by omega⟩
  refine ⟨t, (flush0_2 t).mpr e2, ?_⟩
  have h := ((cfg0.win 2).blk t).view.emb_mem_set (ix2 (⟨(i 0).val % 512, by omega⟩ : Fin 512) (⟨(i 1).val % 1024, by omega⟩ : Fin 1024))
  rw [emb2, e0, e1] at h
  have e : (ix2 (row ⟨(i 0).val / 512, by omega⟩ ⟨(i 0).val % 512, by omega⟩) (col ⟨(i 1).val / 1024, by omega⟩ ⟨(i 1).val % 1024, by omega⟩) : S512x2048.Idx) = i := by
    funext a; apply Fin.ext
    match a with
    | ⟨0, _⟩ => show (i 0).val / 512 * 512 + (i 0).val % 512 = (i 0).val; omega
    | ⟨1, _⟩ => show (i 1).val / 1024 * 1024 + (i 1).val % 1024 = (i 1).val; omega
  exact e ▸ h

/-- The product of two tiles at an entry. -/
theorem tile (x : Vec Ideal S2048x512 .bf16) (y : Vec Ideal S2048x1024 .bf16) (i : Fin 512) (j : Fin 1024) :
    (k0_pay1 x y (ix2 i j) : EReal) = ∑ k : Fin 2048, (x (ix2 k i) : EReal) * y (ix2 k j) := by
  have e : (k0_pay1 x y (ix2 i j) : EReal) = matmul (F := Ideal) (φ₁ := .bf16) (φ₂ := .bf16) (colcol 512 2048 1024 dot_S2048x512_S2048x1024_S512x1024_0_0_1_1_n_n.wf) none x y (constant S512x1024 .f32 0x00000000#32) (ix2 i j) := rfl
  exact e.trans (tn_at dot_S2048x512_S2048x1024_S512x1024_0_0_1_1_n_n.wf _ _ i j)

variable (m : (ℓ : Loc nD τ sig) → Buf (Elt Ideal) ℓ) (ρ : Dev nD → PrngReg)

/-- The first factor. -/
abbrev X (c : Dev nD) : S4096x512.Idx → EReal := m ((c.tc : Thread nD τ).loc main_arg0)

/-- The second factor. -/
abbrev Y (c : Dev nD) : S4096x2048.Idx → EReal := m ((c.tc : Thread nD τ).loc main_arg1)

/-- The whole product. -/
def G (c : Dev nD) : S512x2048.Idx → EReal := fun y => ∑ k : Fin 4096, X m c (ix2 k (y 0 : Fin 512)) * Y m c (ix2 k (y 1 : Fin 2048))

theorem x_at (c : Dev nD) (t : Fin cfg0.N) (i : Fin 512) (k : Fin 2048) :
    (iblk m c 0 t (ix2 k i) : EReal) = X m c (ix2 (mid (tk t) k) (row (ti t) i)) := by
  show (V m c main_arg0 (((cfg0.win 0).blk t).view.emb (ix2 k i)) : EReal) = _
  rw [emb0, V_main_arg0]

theorem y_at (c : Dev nD) (t : Fin cfg0.N) (j : Fin 1024) (k : Fin 2048) :
    (iblk m c 1 t (ix2 k j) : EReal) = Y m c (ix2 (mid (tk t) k) (col (tj t) j)) := by
  show (V m c main_arg1 (((cfg0.win 1).blk t).view.emb (ix2 k j)) : EReal) = _
  rw [emb1, V_main_arg1]

/-- What a point adds to an entry of its block. -/
theorem add_at (c : Dev nD) (t : Fin cfg0.N) (i : Fin 512) (j : Fin 1024) :
    (k0_pay1 (iblk m c 0 t : Vec Ideal S2048x512 .bf16) (iblk m c 1 t : Vec Ideal S2048x1024 .bf16) (ix2 i j) : EReal)
      = ∑ k : Fin 2048, X m c (ix2 (mid (tk t) k) (row (ti t) i)) * Y m c (ix2 (mid (tk t) k) (col (tj t) j)) := by
  rw [tile]
  exact Finset.sum_congr rfl fun k _ => by rw [x_at, y_at]

/-- The first step stores its own product. -/
theorem outA (c : Dev nD) (i : grid0.Coords) (m3 : Memref sig .tc .vmem S2048x512 .bf16) (h3 : m3.IsWhole) (m4 : Memref sig .tc .vmem S2048x1024 .bf16) (h4 : m4.IsWhole)
    (m5 : Memref sig .tc .vmem S512x1024 .f32) (h5 : m5.IsWhole) (hc0 : cond0_0 i) (hc1 : ¬cond0_1 i) (x : Vec Ideal S2048x512 .bf16) (y : Vec Ideal S2048x1024 .bf16) :
    out0_A_2 c i m3 h3 m4 h4 m5 h5 hc0 hc1 x y = k0_pay1 x y := by
  unfold out0_A_2
  rw [View.read_writes_junk_eq_canon]
  unfold kernelRun0_A
  dsimp only
  rw [View.canon_unit_zero (S := S512x1024) hz2 _, read_block m3 h3, read_block m4 h4]

/-- A later step adds its product to what the step before left. -/
theorem outB (c : Dev nD) (i : grid0.Coords) (m3 : Memref sig .tc .vmem S2048x512 .bf16) (h3 : m3.IsWhole) (m4 : Memref sig .tc .vmem S2048x1024 .bf16) (h4 : m4.IsWhole)
    (m5 : Memref sig .tc .vmem S512x1024 .f32) (h5 : m5.IsWhole) (hc0 : ¬cond0_0 i) (hc1 : cond0_1 i) (x : Vec Ideal S2048x512 .bf16) (y : Vec Ideal S2048x1024 .bf16)
    (z : Vec Ideal S512x1024 .f32) : out0_B_2 c i m3 h3 m4 h4 m5 h5 hc0 hc1 x y z = k0_pay2 x y z := by
  unfold out0_B_2
  rw [View.read_writes_junk_eq_canon]
  unfold kernelRun0_B
  dsimp only
  rw [View.canon_unit_zero (S := S512x1024) hz2 _, read_block m3 h3, read_block m4 h4, read_block m5 h5]

/-- What a later step leaves at an entry. -/
theorem pay2_at (x : Vec Ideal S2048x512 .bf16) (y : Vec Ideal S2048x1024 .bf16) (z : Vec Ideal S512x1024 .f32) (i : Fin 512) (j : Fin 1024) :
    (k0_pay2 x y z (ix2 i j) : EReal) = (z (ix2 i j) : EReal) + k0_pay1 x y (ix2 i j) := by
  show (shapeCast S512x1024 z shapeCasts_S512x1024_S512x1024 (ix2 i j) : EReal) + _ = _
  rw [shapeCast_self]

theorem tk_val : ∀ t : Fin cfg0.N, (tk t).val = t.val % 2 :=
  (by decide +kernel : ∀ t : Fin grid0.N, (tk t).val = t.val % 2)

theorem prev : ∀ t : Fin cfg0.N, ¬t.val % 2 = 0 → ti ⟨t.val - 1, Nat.lt_of_le_of_lt (Nat.sub_le _ _) t.isLt⟩ = ti t
    ∧ tj ⟨t.val - 1, Nat.lt_of_le_of_lt (Nat.sub_le _ _) t.isLt⟩ = tj t :=
  (by decide +kernel : ∀ t : Fin grid0.N, ¬t.val % 2 = 0 → ti ⟨t.val - 1, Nat.lt_of_le_of_lt (Nat.sub_le _ _) t.isLt⟩ = ti t
    ∧ tj ⟨t.val - 1, Nat.lt_of_le_of_lt (Nat.sub_le _ _) t.isLt⟩ = tj t)

/-- What the `s`-th block of the summed axis gives to an entry of a point's block. -/
def part (c : Dev nD) (p : Fin 1) (q : Fin 2) (i : Fin 512) (j : Fin 1024) (s : ℕ) : EReal :=
  if h : s < 2 then ∑ k : Fin 2048, X m c (ix2 (mid ⟨s, h⟩ k) (row p i)) * Y m c (ix2 (mid ⟨s, h⟩ k) (col q j)) else 0

theorem add_part (c : Dev nD) (t : Fin cfg0.N) (i : Fin 512) (j : Fin 1024) :
    (k0_pay1 (iblk m c 0 t : Vec Ideal S2048x512 .bf16) (iblk m c 1 t : Vec Ideal S2048x1024 .bf16) (ix2 i j) : EReal) = part m c (ti t) (tj t) i j (t.val % 2) := by
  rw [add_at, ← tk_val]
  unfold part
  rw [dif_pos (tk t).isLt]

/-- After a point an entry of its block holds the sum over the blocks read so far. -/
theorem acc (c : Dev nD) : ∀ (n : ℕ) (hn : n < cfg0.N) (i : Fin 512) (j : Fin 1024),
    (outsAt0 m c n hn (ix2 i j) : EReal) = ∑ s ∈ Finset.range (n % 2 + 1), part m c (ti ⟨n, hn⟩) (tj ⟨n, hn⟩) i j s := by
  intro n
  induction n with
  | zero =>
    intro hn i j
    have e := outsAt0_A m c ⟨0, hn⟩ (show 0 % 2 = 0 from rfl) (show ¬0 % 2 = 1 by decide)
    have e' : outsAt0 m c 0 hn = _ := e
    rw [e', outA, add_part]
    exact (Finset.sum_range_one _).symm
  | succ n ih =>
    intro hn i j
    by_cases h0 : (n + 1) % 2 = 0
    · have e := outsAt0_A m c ⟨n + 1, hn⟩ h0 (show ¬(n + 1) % 2 = 1 by omega)
      have e' : outsAt0 m c (n + 1) hn = _ := e
      rw [e', outA, add_part, h0]
      exact (Finset.sum_range_one _).symm
    · have e := outsAt0_B m c ⟨n + 1, hn⟩ h0 (show (n + 1) % 2 = 1 by omega)
      have e' : outsAt0 m c (n + 1) hn = _ := e
      have p0 : ti ⟨n, Nat.lt_of_succ_lt hn⟩ = ti ⟨n + 1, hn⟩ := (prev ⟨n + 1, hn⟩ h0).1
      have p1 : tj ⟨n, Nat.lt_of_succ_lt hn⟩ = tj ⟨n + 1, hn⟩ := (prev ⟨n + 1, hn⟩ h0).2
      rw [e', outB, pay2_at, add_part]
      have hi : (outsAt0 m c n (Nat.lt_of_succ_lt hn) (ix2 i j) : EReal) = _ := ih (Nat.lt_of_succ_lt hn) i j
      rw [p0, p1] at hi
      refine (congrArg (· + _) hi).trans ?_
      have e2 : (n + 1) % 2 = n % 2 + 1 := by omega
      rw [e2, Finset.sum_range_succ _ (n % 2 + 1)]

/-- An array read through a point's block. -/
theorem read_at (f : S512x2048.Idx → EReal) (t : Fin cfg0.N) (i : Fin 512) (j : Fin 1024) :
    (((cfg0.win 2).blk t).view.read (Elt Ideal) f (ix2 i j) : EReal) = f (ix2 (row (ti t) i) (col (tj t) j)) := by
  show f (((cfg0.win 2).blk t).view.emb (ix2 i j)) = _
  rw [emb2]

theorem final2 (c : Dev nD) : (dats m 0 c).arrAt 2 cfg0.N = G m c :=
  (dats m 0 c).arrAt_eq_of_cover 2 (G m c) (fun t hf => by
    have ht : t.val % 2 = 1 := (flush0_2 t).mp hf
    rw [flushed2]
    funext j
    have ej : j = ix2 (j 0) (j 1) := eq_ix2 (n0 := 512) (n1 := 1024) j
    rw [ej]
    refine (acc m c t.val t.isLt (j 0) (j 1)).trans ?_
    refine Eq.trans ?_ (read_at (G m c) t (j 0) (j 1)).symm
    rw [ht, Finset.sum_range]
    have eG : G m c (ix2 (row (ti t) (j 0)) (col (tj t) (j 1))) = ∑ k : Fin 4096, X m c (ix2 k (row (ti t) (j 0))) * Y m c (ix2 k (col (tj t) (j 1))) := rfl
    have eS : ∑ k : Fin 4096, X m c (ix2 k (row (ti t) (j 0))) * Y m c (ix2 k (col (tj t) (j 1))) = ∑ s : Fin 2, ∑ r : Fin 2048, _ := sum_blocks 2 2048 (by norm_num) _
    refine Eq.trans ?_ (eG.trans eS).symm
    refine Finset.sum_congr rfl fun s _ => ?_
    unfold part
    exact (dif_pos s.isLt).trans rfl) cover2

/-- The reference's result is the whole product. -/
theorem ref0 (c : Dev nD) : Cert.Reference9Ideal.Read.val_main_v5 (F := Ideal) (X m c) (Y m c) = G m c := by
  funext y
  rw [Cert.Reference9Ideal.Read.val_main_v5_apply, Cert.Reference9Ideal.Read.val_main_v4_apply]
  refine Finset.sum_congr rfl fun k _ => ?_
  refine (mul_comm _ _).trans ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel9Ideal_Reference9Ideal (hKernel9Ideal := Cert.Kernel9Ideal.Gen.facts)
    (hReference9Ideal := Cert.Reference9Ideal.Gen.facts) := fun m g m' g' _ hagree => by
  refine ⟨fun c => G m c, run m g, ?_⟩
  refine (θ_run Cert.Reference9Ideal.defs _ _).mono (fun r h c => ⟨(h c).1.trans ?_, (h c).2⟩)
    (Cert.Reference9Ideal.Value.run (F := Ideal) m' g')
  · refine Eq.trans ?_ (ref0 m c)
    rw [Cert.Reference9Ideal.Read.val_main_v5_eq, (hagree c).1, (hagree c).2]

/-- The reference runs and keeps its arguments; it has no counters. -/
theorem frame_reference : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

end Cert.Proof.Mm9

end
-- ==== Proof.Mm10.lean ====
/-
  The tiled product `mla_q_proj` over the extended reals: its result is the whole product, rows times columns.
-/
module

public import proofs.«01_k».proof.Proof.MmBase
public import proofs.«01_k».proof.Proof.Gen.Kernel10Ideal.Value
public import proofs.«01_k».proof.Proof.Gen.Reference10Ideal.Read
public import proofs.«01_k».proof.Defs

@[expose] public section

noncomputable section

namespace Cert.Proof.Mm10

open Idealize.ShloMosaic Idealize.ShloMosaic.TcCoe Idealize.ShloMosaic.ValueIdx Idealize.SL.Sem
open Cert.Kernel10Ideal Cert.Kernel10Ideal.Gen Cert.Kernel10Ideal.Value Cert.Proof.Mm

/-- The block of rows of the result a grid point writes. -/
def ti (t : Fin cfg0.N) : Fin 4 := grid0.coords t 0

/-- Its block of columns. -/
def tj (t : Fin cfg0.N) : Fin 2 := grid0.coords t 1

/-- The block of the summed axis it reads. -/
def tk (t : Fin cfg0.N) : Fin 1 := grid0.coords t 2

/-- A row of the result from its block. -/
def row (q : Fin 4) (r : Fin 1024) : Fin 4096 := ⟨q.val * 1024 + r.val, by omega⟩

/-- A column of the result from its block. -/
def col (q : Fin 2) (r : Fin 1024) : Fin 2048 := ⟨q.val * 1024 + r.val, by omega⟩

/-- A place on the summed axis from its block. -/
def mid (q : Fin 1) (r : Fin 512) : Fin 512 := ⟨q.val * 512 + r.val, by omega⟩

theorem idx0 : ∀ t : Fin cfg0.N, win0_0.index t (0 : Fin 2) = (ti t).val ∧ win0_0.index t (1 : Fin 2) = (tk t).val :=
  (by decide +kernel : ∀ t : Fin grid0.N, win0_0.index t (0 : Fin 2) = (ti t).val ∧ win0_0.index t (1 : Fin 2) = (tk t).val)

theorem emb0 (t : Fin cfg0.N) (r : Fin 1024) (d : Fin 512) :
    ((cfg0.win 0).blk t).view.emb (ix2 r d) = ix2 (row (ti t) r) (mid (tk t) d) := by
  obtain ⟨e0, e1⟩ := idx0 t
  funext a; apply Fin.ext
  match a with
  | ⟨0, _⟩ => show win0_0.index t (0 : Fin 2) * 1024 + 1 * r.val = (ti t).val * 1024 + r.val; omega
  | ⟨1, _⟩ => show win0_0.index t (1 : Fin 2) * 512 + 1 * d.val = (tk t).val * 512 + d.val; omega

theorem idx1 : ∀ t : Fin cfg0.N, win0_1.index t (0 : Fin 2) = (tk t).val ∧ win0_1.index t (1 : Fin 2) = (tj t).val :=
  (by decide +kernel : ∀ t : Fin grid0.N, win0_1.index t (0 : Fin 2) = (tk t).val ∧ win0_1.index t (1 : Fin 2) = (tj t).val)

theorem emb1 (t : Fin cfg0.N) (r : Fin 512) (d : Fin 1024) :
    ((cfg0.win 1).blk t).view.emb (ix2 r d) = ix2 (mid (tk t) r) (col (tj t) d) := by
  obtain ⟨e0, e1⟩ := idx1 t
  funext a; apply Fin.ext
  match a with
  | ⟨0, _⟩ => show win0_1.index t (0 : Fin 2) * 512 + 1 * r.val = (tk t).val * 512 + r.val; omega
  | ⟨1, _⟩ => show win0_1.index t (1 : Fin 2) * 1024 + 1 * d.val = (tj t).val * 1024 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 1024) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 1024 + 1 * d.val = (tj t).val * 1024 + d.val; omega

/-- Every block of the result is some point's. -/
theorem point : ∀ (p : Fin 4) (q : Fin 2), ∃ t : Fin cfg0.N, ti t = p ∧ tj t = q :=
  (by decide +kernel : ∀ (p : Fin 4) (q : Fin 2), ∃ t : Fin grid0.N, ti t = p ∧ tj t = q)

/-- Every entry of the result is in a point's block. -/
theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, e0, e1⟩ := point ⟨(i 0).val / 1024, by omega⟩ ⟨(i 1).val / 1024, by omega⟩
  refine ⟨t, flush0_2 t, ?_⟩
  have h := ((cfg0.win 2).blk t).view.emb_mem_set (ix2 (⟨(i 0).val % 1024, by omega⟩ : Fin 1024) (⟨(i 1).val % 1024, by omega⟩ : Fin 1024))
  rw [emb2, e0, e1] at h
  have e : (ix2 (row ⟨(i 0).val / 1024, by omega⟩ ⟨(i 0).val % 1024, by omega⟩) (col ⟨(i 1).val / 1024, by omega⟩ ⟨(i 1).val % 1024, by omega⟩) : S4096x2048.Idx) = i := by
    funext a; apply Fin.ext
    match a with
    | ⟨0, _⟩ => show (i 0).val / 1024 * 1024 + (i 0).val % 1024 = (i 0).val; omega
    | ⟨1, _⟩ => show (i 1).val / 1024 * 1024 + (i 1).val % 1024 = (i 1).val; omega
  exact e ▸ h

/-- The product of two tiles at an entry. -/
theorem tile (x : Vec Ideal S1024x512 .bf16) (y : Vec Ideal S512x1024 .f32) (i : Fin 1024) (j : Fin 1024) :
    (k0_pay1 x y (ix2 i j) : EReal) = ∑ k : Fin 512, (x (ix2 i k) : EReal) * y (ix2 k j) := by
  have e : (k0_pay1 x y (ix2 i j) : EReal) = matmul (F := Ideal) (φ₁ := .bf16) (φ₂ := .bf16) (DotDims.plain 1024 512 1024) none x y (constant S1024x1024 .f32 0x00000000#32) (ix2 i j) := rfl
  exact e.trans (nn_at _ _ i j)

variable (m : (ℓ : Loc nD τ sig) → Buf (Elt Ideal) ℓ) (ρ : Dev nD → PrngReg)

/-- The first factor. -/
abbrev X (c : Dev nD) : S4096x512.Idx → EReal := m ((c.tc : Thread nD τ).loc main_arg0)

/-- The second factor. -/
abbrev Y (c : Dev nD) : S512x2048.Idx → EReal := m ((c.tc : Thread nD τ).loc main_arg1)

/-- The whole product. -/
def G (c : Dev nD) : S4096x2048.Idx → EReal := fun y => ∑ k : Fin 512, X m c (ix2 (y 0 : Fin 4096) k) * Y m c (ix2 k (y 1 : Fin 2048))

theorem x_at (c : Dev nD) (t : Fin cfg0.N) (i : Fin 1024) (k : Fin 512) :
    (iblk m c 0 t (ix2 i k) : EReal) = X m c (ix2 (row (ti t) i) (mid (tk t) k)) := by
  show (V m c main_arg0 (((cfg0.win 0).blk t).view.emb (ix2 i k)) : EReal) = _
  rw [emb0, V_main_arg0]

theorem y_at (c : Dev nD) (t : Fin cfg0.N) (j : Fin 1024) (k : Fin 512) :
    (iblk m c 1 t (ix2 k j) : EReal) = Y m c (ix2 (mid (tk t) k) (col (tj t) j)) := by
  show (V m c main_arg1 (((cfg0.win 1).blk t).view.emb (ix2 k j)) : EReal) = _
  rw [emb1, V_main_arg1]

/-- What a point adds to an entry of its block. -/
theorem add_at (c : Dev nD) (t : Fin cfg0.N) (i : Fin 1024) (j : Fin 1024) :
    (k0_pay1 (iblk m c 0 t : Vec Ideal S1024x512 .bf16) (iblk m c 1 t : Vec Ideal S512x1024 .f32) (ix2 i j) : EReal)
      = ∑ k : Fin 512, X m c (ix2 (row (ti t) i) (mid (tk t) k)) * Y m c (ix2 (mid (tk t) k) (col (tj t) j)) := by
  rw [tile]
  exact Finset.sum_congr rfl fun k _ => by rw [x_at, y_at]

theorem mid_eq (q : Fin 1) (k : Fin 512) : mid q k = k := Fin.ext (by show q.val * 512 + k.val = k.val; omega)

/-- The stored piece is the whole block. -/
theorem out2 (x : Vec Ideal S1024x512 .bf16) (y : Vec Ideal S512x1024 .f32) : out0_2 x y = k0_pay1 x y := by
  unfold out0_2
  rw [View.canon_unit_zero (S := S1024x1024) hz2 _, View.ld_unit_zero (S := S1024x512) hz2 _, View.ld_unit_zero (S := S512x1024) hz2 _]

theorem final2 (c : Dev nD) : (dats m 0 c).arrAt 2 cfg0.N = G m c :=
  (dats m 0 c).arrAt_eq_of_cover 2 (G m c) (fun t _ => by
    rw [flushed2, out2]
    funext j
    have ej : j = ix2 (j 0) (j 1) := eq_ix2 (n0 := 1024) (n1 := 1024) j
    rw [ej]
    refine (add_at m c t (j 0) (j 1)).trans ?_
    refine Eq.trans ?_ (congrArg (G m c) (emb2 t (j 0) (j 1))).symm
    exact Finset.sum_congr rfl fun k _ => by rw [mid_eq]) cover2

/-- The reference's result is the whole product. -/
theorem ref0 (c : Dev nD) : Cert.Reference10Ideal.Read.val_main_v1 (F := Ideal) (X m c) (Y m c) = G m c := by
  funext y
  rw [Cert.Reference10Ideal.Read.val_main_v1_apply]
  refine Finset.sum_congr rfl fun k _ => ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel10Ideal_Reference10Ideal (hKernel10Ideal := Cert.Kernel10Ideal.Gen.facts)
    (hReference10Ideal := Cert.Reference10Ideal.Gen.facts) := fun m g m' g' _ hagree => by
  refine ⟨fun c => G m c, run m g, ?_⟩
  refine (θ_run Cert.Reference10Ideal.defs _ _).mono (fun r h c => ⟨(h c).1.trans ?_, (h c).2⟩)
    (Cert.Reference10Ideal.Value.run (F := Ideal) m' g')
  · refine Eq.trans ?_ (ref0 m c)
    rw [Cert.Reference10Ideal.Read.val_main_v1_eq, (hagree c).1, (hagree c).2]

/-- The reference runs and keeps its arguments; it has no counters. -/
theorem frame_reference : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run (F := Ideal) m g)

end Cert.Proof.Mm10

end
-- ==== Proof.Mm11.lean ====
/-
  The tiled product `mla_kv_dx` over the extended reals: its result is the whole product, rows times rows.
-/
module

public import proofs.«01_k».proof.Proof.MmBase
public import proofs.«01_k».proof.Proof.Gen.Kernel11Ideal.Value
public import proofs.«01_k».proof.Proof.Gen.Reference11Ideal.Read
public import proofs.«01_k».proof.Defs

@[expose] public section

noncomputable section

namespace Cert.Proof.Mm11

open Idealize.ShloMosaic Idealize.ShloMosaic.TcCoe Idealize.ShloMosaic.ValueIdx Idealize.SL.Sem
open Cert.Kernel11Ideal Cert.Kernel11Ideal.Gen Cert.Kernel11Ideal.Value Cert.Proof.Mm

/-- The block of rows of the result a grid point writes. -/
def ti (t : Fin cfg0.N) : Fin 4 := grid0.coords t 0

/-- Its block of columns. -/
def tj (t : Fin cfg0.N) : Fin 1 := grid0.coords t 1

/-- The block of the summed axis it reads. -/
def tk (t : Fin cfg0.N) : Fin 1 := grid0.coords t 2

/-- A row of the result from its block. -/
def row (q : Fin 4) (r : Fin 1024) : Fin 4096 := ⟨q.val * 1024 + r.val, by omega⟩

/-- A column of the result from its block. -/
def col (q : Fin 1) (r : Fin 512) : Fin 512 := ⟨q.val * 512 + r.val, by omega⟩

/-- A place on the summed axis from its block. -/
def mid (q : Fin 1) (r : Fin 2048) : Fin 2048 := ⟨q.val * 2048 + r.val, by omega⟩

theorem idx0 : ∀ t : Fin cfg0.N, win0_0.index t (0 : Fin 2) = (ti t).val ∧ win0_0.index t (1 : Fin 2) = (tk t).val :=
  (by decide +kernel : ∀ t : Fin grid0.N, win0_0.index t (0 : Fin 2) = (ti t).val ∧ win0_0.index t (1 : Fin 2) = (tk t).val)

theorem emb0 (t : Fin cfg0.N) (r : Fin 1024) (d : Fin 2048) :
    ((cfg0.win 0).blk t).view.emb (ix2 r d) = ix2 (row (ti t) r) (mid (tk t) d) := by
  obtain ⟨e0, e1⟩ := idx0 t
  funext a; apply Fin.ext
  match a with
  | ⟨0, _⟩ => show win0_0.index t (0 : Fin 2) * 1024 + 1 * r.val = (ti t).val * 1024 + r.val; omega
  | ⟨1, _⟩ => show win0_0.index t (1 : Fin 2) * 2048 + 1 * d.val = (tk t).val * 2048 + d.val; omega

theorem idx1 : ∀ t : Fin cfg0.N, win0_1.index t (0 : Fin 2) = (tj t).val ∧ win0_1.index t (1 : Fin 2) = (tk t).val :=
  (by decide +kernel : ∀ t : Fin grid0.N, win0_1.index t (0 : Fin 2) = (tj t).val ∧ win0_1.index t (1 : Fin 2) = (tk t).val)

theorem emb1 (t : Fin cfg0.N) (r : Fin 512) (d : Fin 2048) :
    ((cfg0.win 1).blk t).view.emb (ix2 r d) = ix2 (col (tj t) r) (mid (tk t) d) := by
  obtain ⟨e0, e1⟩ := idx1 t
  funext a; apply Fin.ext
  match a with
  | ⟨0, _⟩ => show win0_1.index t (0 : Fin 2) * 512 + 1 * r.val = (tj t).val * 512 + r.val; omega
  | ⟨1, _⟩ => show win0_1.index t (1 : Fin 2) * 2048 + 1 * d.val = (tk t).val * 2048 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 512) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 512 + 1 * d.val = (tj t).val * 512 + d.val; omega

/-- Every block of the result is some point's. -/
theorem point : ∀ (p : Fin 4) (q : Fin 1), ∃ t : Fin cfg0.N, ti t = p ∧ tj t = q :=
  (by decide +kernel : ∀ (p : Fin 4) (q : Fin 1), ∃ t : Fin grid0.N, ti t = p ∧ tj t = q)

/-- Every entry of the result is in a point's block. -/
theorem cover2 (i : S4096x512.Idx) : ∃ t : Fin cfg0.N, (cfg0.win 2).flush t = true ∧ i ∈ ((cfg0.win 2).blk t).view.set := by
  have h0 : (i 0).val < 4096 := (i 0).isLt
  have h1 : (i 1).val < 512 := (i 1).isLt
  obtain ⟨t, e0, e1⟩ := point ⟨(i 0).val / 1024, by omega⟩ ⟨(i 1).val / 512, by omega⟩
  refine ⟨t, flush0_2 t, ?_⟩
  have h := ((cfg0.win 2).blk t).view.emb_mem_set (ix2 (⟨(i 0).val % 1024, by omega⟩ : Fin 1024) (⟨(i 1).val % 512, by omega⟩ : Fin 512))
  rw [emb2, e0, e1] at h
  have e : (ix2 (row ⟨(i 0).val / 1024, by omega⟩ ⟨(i 0).val % 1024, by omega⟩) (col ⟨(i 1).val / 512, by omega⟩ ⟨(i 1).val % 512, by omega⟩) : S4096x512.Idx) = i := by
    funext a; apply Fin.ext
    match a with
    | ⟨0, _⟩ => show (i 0).val / 1024 * 1024 + (i 0).val % 1024 = (i 0).val; omega
    | ⟨1, _⟩ => show (i 1).val / 512 * 512 + (i 1).val % 512 = (i 1).val; omega
  exact e ▸ h

/-- The product of two tiles at an entry. -/
theorem tile (x : Vec Ideal S1024x2048 .bf16) (y : Vec Ideal S512x2048 .f32) (i : Fin 1024) (j : Fin 512) :
    (k0_pay1 x y (ix2 i j) : EReal) = ∑ k : Fin 2048, (x (ix2 i k) : EReal) * y (ix2 j k) := by
  have e : (k0_pay1 x y (ix2 i j) : EReal) = matmul (F := Ideal) (φ₁ := .bf16) (φ₂ := .bf16) (DotDims.transposedRhs 1024 2048 512) none x y (constant S1024x512 .f32 0x00000000#32) (ix2 i j) := rfl
  exact e.trans (nt_at _ _ i j)

variable (m : (ℓ : Loc nD τ sig) → Buf (Elt Ideal) ℓ) (ρ : Dev nD → PrngReg)

/-- The first factor. -/
abbrev X (c : Dev nD) : S4096x2048.Idx → EReal := m ((c.tc : Thread nD τ).loc main_arg0)

/-- The second factor. -/
abbrev Y (c : Dev nD) : S512x2048.Idx → EReal := m ((c.tc : Thread nD τ).loc main_arg1)

/-- The whole product. -/
def G (c : Dev nD) : S4096x512.Idx → EReal := fun y => ∑ k : Fin 2048, X m c (ix2 (y 0 : Fin 4096) k) * Y m c (ix2 (y 1 : Fin 512) k)

theorem x_at (c : Dev nD) (t : Fin cfg0.N) (i : Fin 1024) (k : Fin 2048) :
    (iblk m c 0 t (ix2 i k) : EReal) = X m c (ix2 (row (ti t) i) (mid (tk t) k)) := by
  show (V m c main_arg0 (((cfg0.win 0).blk t).view.emb (ix2 i k)) : EReal) = _
  rw [emb0, V_main_arg0]

theorem y_at (c : Dev nD) (t : Fin cfg0.N) (j : Fin 512) (k : Fin 2048) :
    (iblk m c 1 t (ix2 j k) : EReal) = Y m c (ix2 (col (tj t) j) (mid (tk t) k)) := by
  show (V m c main_arg1 (((cfg0.win 1).blk t).view.emb (ix2 j k)) : EReal) = _
  rw [emb1, V_main_arg1]

/-- What a point adds to an entry of its block. -/
theorem add_at (c : Dev nD) (t : Fin cfg0.N) (i : Fin 1024) (j : Fin 512) :
    (k0_pay1 (iblk m c 0 t : Vec Ideal S1024x2048 .bf16) (iblk m c 1 t : Vec Ideal S512x2048 .f32) (ix2 i j) : EReal)
      = ∑ k : Fin 2048, X m c (ix2 (row (ti t) i) (mid (tk t) k)) * Y m c (ix2 (col (tj t) j) (mid (tk t) k)) := by
  rw [tile]
  exact Finset.sum_congr rfl fun k _ => by rw [x_at, y_at]

theorem mid_eq (q : Fin 1) (k : Fin 2048) : mid q k = k := Fin.ext (by show q.val * 2048 + k.val = k.val; omega)

/-- The stored piece is the whole block. -/
theorem out2 (x : Vec Ideal S1024x2048 .bf16) (y : Vec Ideal S512x2048 .f32) : out0_2 x y = k0_pay1 x y := by
  unfold out0_2
  rw [View.canon_unit_zero (S := S1024x512) hz2 _, View.ld_unit_zero (S := S1024x2048) hz2 _, View.ld_unit_zero (S := S512x2048) hz2 _]

theorem final2 (c : Dev nD) : (dats m 0 c).arrAt 2 cfg0.N = G m c :=
  (dats m 0 c).arrAt_eq_of_cover 2 (G m c) (fun t _ => by
    rw [flushed2, out2]
    funext j
    have ej : j = ix2 (j 0) (j 1) := eq_ix2 (n0 := 1024) (n1 := 512) j
    rw [ej]
    refine (add_at m c t (j 0) (j 1)).trans ?_
    refine Eq.trans ?_ (congrArg (G m c) (emb2 t (j 0) (j 1))).symm
    exact Finset.sum_congr rfl fun k _ => by rw [mid_eq]) cover2

/-- The reference's result is the whole product. -/
theorem ref0 (c : Dev nD) : Cert.Reference11Ideal.Read.val_main_v3 (F := Ideal) (X m c) (Y m c) = G m c := by
  funext y
  rw [Cert.Reference11Ideal.Read.val_main_v3_apply]
  refine Finset.sum_congr rfl fun k _ => ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel11Ideal_Reference11Ideal (hKernel11Ideal := Cert.Kernel11Ideal.Gen.facts)
    (hReference11Ideal := Cert.Reference11Ideal.Gen.facts) := fun m g m' g' _ hagree => by
  refine ⟨fun c => G m c, run m g, ?_⟩
  refine (θ_run Cert.Reference11Ideal.defs _ _).mono (fun r h c => ⟨(h c).1.trans ?_, (h c).2⟩)
    (Cert.Reference11Ideal.Value.run (F := Ideal) m' g')
  · refine Eq.trans ?_ (ref0 m c)
    rw [Cert.Reference11Ideal.Read.val_main_v3_eq, (hagree c).1, (hagree c).2]

/-- The reference runs and keeps its arguments; it has no counters. -/
theorem frame_reference : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run (F := Ideal) m g)

end Cert.Proof.Mm11

end
-- ==== Proof.Mm12.lean ====
/-
  The tiled product `mla_kv_dw` over the extended reals: its result is the whole product, columns times columns.
-/
module

public import proofs.«01_k».proof.Proof.MmBase
public import proofs.«01_k».proof.Proof.Gen.Kernel12Ideal.Value
public import proofs.«01_k».proof.Proof.Gen.Reference12Ideal.Read
public import proofs.«01_k».proof.Defs

@[expose] public section

noncomputable section

namespace Cert.Proof.Mm12

open Idealize.ShloMosaic Idealize.ShloMosaic.TcCoe Idealize.ShloMosaic.ValueIdx Idealize.SL.Sem
open Cert.Kernel12Ideal Cert.Kernel12Ideal.Gen Cert.Kernel12Ideal.Value Cert.Proof.Mm

/-- The block of rows of the result a grid point writes. -/
def ti (t : Fin cfg0.N) : Fin 1 := grid0.coords t 0

/-- Its block of columns. -/
def tj (t : Fin cfg0.N) : Fin 2 := grid0.coords t 1

/-- The block of the summed axis it reads. -/
def tk (t : Fin cfg0.N) : Fin 2 := grid0.coords t 2

/-- A row of the result from its block. -/
def row (q : Fin 1) (r : Fin 512) : Fin 512 := ⟨q.val * 512 + r.val, by omega⟩

/-- A column of the result from its block. -/
def col (q : Fin 2) (r : Fin 1024) : Fin 2048 := ⟨q.val * 1024 + r.val, by omega⟩

/-- A place on the summed axis from its block. -/
def mid (q : Fin 2) (r : Fin 2048) : Fin 4096 := ⟨q.val * 2048 + r.val, by omega⟩

theorem idx0 : ∀ t : Fin cfg0.N, win0_0.index t (0 : Fin 2) = (tk t).val ∧ win0_0.index t (1 : Fin 2) = (ti t).val :=
  (by decide +kernel : ∀ t : Fin grid0.N, win0_0.index t (0 : Fin 2) = (tk t).val ∧ win0_0.index t (1 : Fin 2) = (ti t).val)

theorem emb0 (t : Fin cfg0.N) (r : Fin 2048) (d : Fin 512) :
    ((cfg0.win 0).blk t).view.emb (ix2 r d) = ix2 (mid (tk t) r) (row (ti t) d) := by
  obtain ⟨e0, e1⟩ := idx0 t
  funext a; apply Fin.ext
  match a with
  | ⟨0, _⟩ => show win0_0.index t (0 : Fin 2) * 2048 + 1 * r.val = (tk t).val * 2048 + r.val; omega
  | ⟨1, _⟩ => show win0_0.index t (1 : Fin 2) * 512 + 1 * d.val = (ti t).val * 512 + d.val; omega

theorem idx1 : ∀ t : Fin cfg0.N, win0_1.index t (0 : Fin 2) = (tk t).val ∧ win0_1.index t (1 : Fin 2) = (tj t).val :=
  (by decide +kernel : ∀ t : Fin grid0.N, win0_1.index t (0 : Fin 2) = (tk t).val ∧ win0_1.index t (1 : Fin 2) = (tj t).val)

theorem emb1 (t : Fin cfg0.N) (r : Fin 2048) (d : Fin 1024) :
    ((cfg0.win 1).blk t).view.emb (ix2 r d) = ix2 (mid (tk t) r) (col (tj t) d) := by
  obtain ⟨e0, e1⟩ := idx1 t
  funext a; apply Fin.ext
  match a with
  | ⟨0, _⟩ => show win0_1.index t (0 : Fin 2) * 2048 + 1 * r.val = (tk t).val * 2048 + r.val; omega
  | ⟨1, _⟩ => show win0_1.index t (1 : Fin 2) * 1024 + 1 * d.val = (tj t).val * 1024 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 512) (d : Fin 1024) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 512 + 1 * r.val = (ti t).val * 512 + r.val; omega
  | ⟨1, _⟩ => show win0_2.index t (1 : Fin 2) * 1024 + 1 * d.val = (tj t).val * 1024 + d.val; omega

/-- Every block of the result is some point's, whose sum is complete there. -/
theorem point : ∀ (p : Fin 1) (q : Fin 2), ∃ t : Fin cfg0.N, ti t = p ∧ tj t = q ∧ t.val % 2 = 1 :=
  (by decide +kernel : ∀ (p : Fin 1) (q : Fin 2), ∃ t : Fin grid0.N, ti t = p ∧ tj t = q ∧ t.val % 2 = 1)

/-- Every entry of the result is in a point's block. -/
theorem cover2 (i : S512x2048.Idx) : ∃ t : Fin cfg0.N, (cfg0.win 2).flush t = true ∧ i ∈ ((cfg0.win 2).blk t).view.set := by
  have h0 : (i 0).val < 512 := (i 0).isLt
  have h1 : (i 1).val < 2048 := (i 1).isLt
  obtain ⟨t, e0, e1, e2⟩ := point ⟨(i 0).val / 512, by omega⟩ ⟨(i 1).val / 1024, by omega⟩
  refine ⟨t, (flush0_2 t).mpr e2, ?_⟩
  have h := ((cfg0.win 2).blk t).view.emb_mem_set (ix2 (⟨(i 0).val % 512, by omega⟩ : Fin 512) (⟨(i 1).val % 1024, by omega⟩ : Fin 1024))
  rw [emb2, e0, e1] at h
  have e : (ix2 (row ⟨(i 0).val / 512, by omega⟩ ⟨(i 0).val % 512, by omega⟩) (col ⟨(i 1).val / 1024, by omega⟩ ⟨(i 1).val % 1024, by omega⟩) : S512x2048.Idx) = i := by
    funext a; apply Fin.ext
    match a with
    | ⟨0, _⟩ => show (i 0).val / 512 * 512 + (i 0).val % 512 = (i 0).val; omega
    | ⟨1, _⟩ => show (i 1).val / 1024 * 1024 + (i 1).val % 1024 = (i 1).val; omega
  exact e ▸ h

/-- The product of two tiles at an entry. -/
theorem tile (x : Vec Ideal S2048x512 .bf16) (y : Vec Ideal S2048x1024 .bf16) (i : Fin 512) (j : Fin 1024) :
    (k0_pay1 x y (ix2 i j) : EReal) = ∑ k : Fin 2048, (x (ix2 k i) : EReal) * y (ix2 k j) := by
  have e : (k0_pay1 x y (ix2 i j) : EReal) = matmul (F := Ideal) (φ₁ := .bf16) (φ₂ := .bf16) (colcol 512 2048 1024 dot_S2048x512_S2048x1024_S512x1024_0_0_1_1_n_n.wf) none x y (constant S512x1024 .f32 0x00000000#32) (ix2 i j) := rfl
  exact e.trans (tn_at dot_S2048x512_S2048x1024_S512x1024_0_0_1_1_n_n.wf _ _ i j)

variable (m : (ℓ : Loc nD τ sig) → Buf (Elt Ideal) ℓ) (ρ : Dev nD → PrngReg)

/-- The first factor. -/
abbrev X (c : Dev nD) : S4096x512.Idx → EReal := m ((c.tc : Thread nD τ).loc main_arg0)

/-- The second factor. -/
abbrev Y (c : Dev nD) : S4096x2048.Idx → EReal := m ((c.tc : Thread nD τ).loc main_arg1)

/-- The whole product. -/
def G (c : Dev nD) : S512x2048.Idx → EReal := fun y => ∑ k : Fin 4096, X m c (ix2 k (y 0 : Fin 512)) * Y m c (ix2 k (y 1 : Fin 2048))

theorem x_at (c : Dev nD) (t : Fin cfg0.N) (i : Fin 512) (k : Fin 2048) :
    (iblk m c 0 t (ix2 k i) : EReal) = X m c (ix2 (mid (tk t) k) (row (ti t) i)) := by
  show (V m c main_arg0 (((cfg0.win 0).blk t).view.emb (ix2 k i)) : EReal) = _
  rw [emb0, V_main_arg0]

theorem y_at (c : Dev nD) (t : Fin cfg0.N) (j : Fin 1024) (k : Fin 2048) :
    (iblk m c 1 t (ix2 k j) : EReal) = Y m c (ix2 (mid (tk t) k) (col (tj t) j)) := by
  show (V m c main_arg1 (((cfg0.win 1).blk t).view.emb (ix2 k j)) : EReal) = _
  rw [emb1, V_main_arg1]

/-- What a point adds to an entry of its block. -/
theorem add_at (c : Dev nD) (t : Fin cfg0.N) (i : Fin 512) (j : Fin 1024) :
    (k0_pay1 (iblk m c 0 t : Vec Ideal S2048x512 .bf16) (iblk m c 1 t : Vec Ideal S2048x1024 .bf16) (ix2 i j) : EReal)
      = ∑ k : Fin 2048, X m c (ix2 (mid (tk t) k) (row (ti t) i)) * Y m c (ix2 (mid (tk t) k) (col (tj t) j)) := by
  rw [tile]
  exact Finset.sum_congr rfl fun k _ => by rw [x_at, y_at]

/-- The first step stores its own product. -/
theorem outA (c : Dev nD) (i : grid0.Coords) (m3 : Memref sig .tc .vmem S2048x512 .bf16) (h3 : m3.IsWhole) (m4 : Memref sig .tc .vmem S2048x1024 .bf16) (h4 : m4.IsWhole)
    (m5 : Memref sig .tc .vmem S512x1024 .f32) (h5 : m5.IsWhole) (hc0 : cond0_0 i) (hc1 : ¬cond0_1 i) (x : Vec Ideal S2048x512 .bf16) (y : Vec Ideal S2048x1024 .bf16) :
    out0_A_2 c i m3 h3 m4 h4 m5 h5 hc0 hc1 x y = k0_pay1 x y := by
  unfold out0_A_2
  rw [View.read_writes_junk_eq_canon]
  unfold kernelRun0_A
  dsimp only
  rw [View.canon_unit_zero (S := S512x1024) hz2 _, read_block m3 h3, read_block m4 h4]

/-- A later step adds its product to what the step before left. -/
theorem outB (c : Dev nD) (i : grid0.Coords) (m3 : Memref sig .tc .vmem S2048x512 .bf16) (h3 : m3.IsWhole) (m4 : Memref sig .tc .vmem S2048x1024 .bf16) (h4 : m4.IsWhole)
    (m5 : Memref sig .tc .vmem S512x1024 .f32) (h5 : m5.IsWhole) (hc0 : ¬cond0_0 i) (hc1 : cond0_1 i) (x : Vec Ideal S2048x512 .bf16) (y : Vec Ideal S2048x1024 .bf16)
    (z : Vec Ideal S512x1024 .f32) : out0_B_2 c i m3 h3 m4 h4 m5 h5 hc0 hc1 x y z = k0_pay2 x y z := by
  unfold out0_B_2
  rw [View.read_writes_junk_eq_canon]
  unfold kernelRun0_B
  dsimp only
  rw [View.canon_unit_zero (S := S512x1024) hz2 _, read_block m3 h3, read_block m4 h4, read_block m5 h5]

/-- What a later step leaves at an entry. -/
theorem pay2_at (x : Vec Ideal S2048x512 .bf16) (y : Vec Ideal S2048x1024 .bf16) (z : Vec Ideal S512x1024 .f32) (i : Fin 512) (j : Fin 1024) :
    (k0_pay2 x y z (ix2 i j) : EReal) = (z (ix2 i j) : EReal) + k0_pay1 x y (ix2 i j) := by
  show (shapeCast S512x1024 z shapeCasts_S512x1024_S512x1024 (ix2 i j) : EReal) + _ = _
  rw [shapeCast_self]

theorem tk_val : ∀ t : Fin cfg0.N, (tk t).val = t.val % 2 :=
  (by decide +kernel : ∀ t : Fin grid0.N, (tk t).val = t.val % 2)

theorem prev : ∀ t : Fin cfg0.N, ¬t.val % 2 = 0 → ti ⟨t.val - 1, Nat.lt_of_le_of_lt (Nat.sub_le _ _) t.isLt⟩ = ti t
    ∧ tj ⟨t.val - 1, Nat.lt_of_le_of_lt (Nat.sub_le _ _) t.isLt⟩ = tj t :=
  (by decide +kernel : ∀ t : Fin grid0.N, ¬t.val % 2 = 0 → ti ⟨t.val - 1, Nat.lt_of_le_of_lt (Nat.sub_le _ _) t.isLt⟩ = ti t
    ∧ tj ⟨t.val - 1, Nat.lt_of_le_of_lt (Nat.sub_le _ _) t.isLt⟩ = tj t)

/-- What the `s`-th block of the summed axis gives to an entry of a point's block. -/
def part (c : Dev nD) (p : Fin 1) (q : Fin 2) (i : Fin 512) (j : Fin 1024) (s : ℕ) : EReal :=
  if h : s < 2 then ∑ k : Fin 2048, X m c (ix2 (mid ⟨s, h⟩ k) (row p i)) * Y m c (ix2 (mid ⟨s, h⟩ k) (col q j)) else 0

theorem add_part (c : Dev nD) (t : Fin cfg0.N) (i : Fin 512) (j : Fin 1024) :
    (k0_pay1 (iblk m c 0 t : Vec Ideal S2048x512 .bf16) (iblk m c 1 t : Vec Ideal S2048x1024 .bf16) (ix2 i j) : EReal) = part m c (ti t) (tj t) i j (t.val % 2) := by
  rw [add_at, ← tk_val]
  unfold part
  rw [dif_pos (tk t).isLt]

/-- After a point an entry of its block holds the sum over the blocks read so far. -/
theorem acc (c : Dev nD) : ∀ (n : ℕ) (hn : n < cfg0.N) (i : Fin 512) (j : Fin 1024),
    (outsAt0 m c n hn (ix2 i j) : EReal) = ∑ s ∈ Finset.range (n % 2 + 1), part m c (ti ⟨n, hn⟩) (tj ⟨n, hn⟩) i j s := by
  intro n
  induction n with
  | zero =>
    intro hn i j
    have e := outsAt0_A m c ⟨0, hn⟩ (show 0 % 2 = 0 from rfl) (show ¬0 % 2 = 1 by decide)
    have e' : outsAt0 m c 0 hn = _ := e
    rw [e', outA, add_part]
    exact (Finset.sum_range_one _).symm
  | succ n ih =>
    intro hn i j
    by_cases h0 : (n + 1) % 2 = 0
    · have e := outsAt0_A m c ⟨n + 1, hn⟩ h0 (show ¬(n + 1) % 2 = 1 by omega)
      have e' : outsAt0 m c (n + 1) hn = _ := e
      rw [e', outA, add_part, h0]
      exact (Finset.sum_range_one _).symm
    · have e := outsAt0_B m c ⟨n + 1, hn⟩ h0 (show (n + 1) % 2 = 1 by omega)
      have e' : outsAt0 m c (n + 1) hn = _ := e
      have p0 : ti ⟨n, Nat.lt_of_succ_lt hn⟩ = ti ⟨n + 1, hn⟩ := (prev ⟨n + 1, hn⟩ h0).1
      have p1 : tj ⟨n, Nat.lt_of_succ_lt hn⟩ = tj ⟨n + 1, hn⟩ := (prev ⟨n + 1, hn⟩ h0).2
      rw [e', outB, pay2_at, add_part]
      have hi : (outsAt0 m c n (Nat.lt_of_succ_lt hn) (ix2 i j) : EReal) = _ := ih (Nat.lt_of_succ_lt hn) i j
      rw [p0, p1] at hi
      refine (congrArg (· + _) hi).trans ?_
      have e2 : (n + 1) % 2 = n % 2 + 1 := by omega
      rw [e2, Finset.sum_range_succ _ (n % 2 + 1)]

/-- An array read through a point's block. -/
theorem read_at (f : S512x2048.Idx → EReal) (t : Fin cfg0.N) (i : Fin 512) (j : Fin 1024) :
    (((cfg0.win 2).blk t).view.read (Elt Ideal) f (ix2 i j) : EReal) = f (ix2 (row (ti t) i) (col (tj t) j)) := by
  show f (((cfg0.win 2).blk t).view.emb (ix2 i j)) = _
  rw [emb2]

theorem final2 (c : Dev nD) : (dats m 0 c).arrAt 2 cfg0.N = G m c :=
  (dats m 0 c).arrAt_eq_of_cover 2 (G m c) (fun t hf => by
    have ht : t.val % 2 = 1 := (flush0_2 t).mp hf
    rw [flushed2]
    funext j
    have ej : j = ix2 (j 0) (j 1) := eq_ix2 (n0 := 512) (n1 := 1024) j
    rw [ej]
    refine (acc m c t.val t.isLt (j 0) (j 1)).trans ?_
    refine Eq.trans ?_ (read_at (G m c) t (j 0) (j 1)).symm
    rw [ht, Finset.sum_range]
    have eG : G m c (ix2 (row (ti t) (j 0)) (col (tj t) (j 1))) = ∑ k : Fin 4096, X m c (ix2 k (row (ti t) (j 0))) * Y m c (ix2 k (col (tj t) (j 1))) := rfl
    have eS : ∑ k : Fin 4096, X m c (ix2 k (row (ti t) (j 0))) * Y m c (ix2 k (col (tj t) (j 1))) = ∑ s : Fin 2, ∑ r : Fin 2048, _ := sum_blocks 2 2048 (by norm_num) _
    refine Eq.trans ?_ (eG.trans eS).symm
    refine Finset.sum_congr rfl fun s _ => ?_
    unfold part
    exact (dif_pos s.isLt).trans rfl) cover2

/-- The reference's result is the whole product. -/
theorem ref0 (c : Dev nD) : Cert.Reference12Ideal.Read.val_main_v5 (F := Ideal) (X m c) (Y m c) = G m c := by
  funext y
  rw [Cert.Reference12Ideal.Read.val_main_v5_apply, Cert.Reference12Ideal.Read.val_main_v4_apply]
  refine Finset.sum_congr rfl fun k _ => ?_
  refine (mul_comm _ _).trans ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel12Ideal_Reference12Ideal (hKernel12Ideal := Cert.Kernel12Ideal.Gen.facts)
    (hReference12Ideal := Cert.Reference12Ideal.Gen.facts) := fun m g m' g' _ hagree => by
  refine ⟨fun c => G m c, run m g, ?_⟩
  refine (θ_run Cert.Reference12Ideal.defs _ _).mono (fun r h c => ⟨(h c).1.trans ?_, (h c).2⟩)
    (Cert.Reference12Ideal.Value.run (F := Ideal) m' g')
  · refine Eq.trans ?_ (ref0 m c)
    rw [Cert.Reference12Ideal.Read.val_main_v5_eq, (hagree c).1, (hagree c).2]

/-- The reference runs and keeps its arguments; it has no counters. -/
theorem frame_reference : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run (F := Ideal) m g)

end Cert.Proof.Mm12

end
-- ==== Proof.Mm13.lean ====
/-
  The tiled product `mla_kv_proj` over the extended reals: its result is the whole product, rows times columns.
-/
module

public import proofs.«01_k».proof.Proof.MmBase
public import proofs.«01_k».proof.Proof.Gen.Kernel13Ideal.Value
public import proofs.«01_k».proof.Proof.Gen.Reference13Ideal.Read
public import proofs.«01_k».proof.Defs

@[expose] public section

noncomputable section

namespace Cert.Proof.Mm13

open Idealize.ShloMosaic Idealize.ShloMosaic.TcCoe Idealize.ShloMosaic.ValueIdx Idealize.SL.Sem
open Cert.Kernel13Ideal Cert.Kernel13Ideal.Gen Cert.Kernel13Ideal.Value Cert.Proof.Mm

/-- The block of rows of the result a grid point writes. -/
def ti (t : Fin cfg0.N) : Fin 4 := grid0.coords t 0

/-- Its block of columns. -/
def tj (t : Fin cfg0.N) : Fin 2 := grid0.coords t 1

/-- The block of the summed axis it reads. -/
def tk (t : Fin cfg0.N) : Fin 1 := grid0.coords t 2

/-- A row of the result from its block. -/
def row (q : Fin 4) (r : Fin 1024) : Fin 4096 := ⟨q.val * 1024 + r.val, by omega⟩

/-- A column of the result from its block. -/
def col (q : Fin 2) (r : Fin 1024) : Fin 2048 := ⟨q.val * 1024 + r.val, by omega⟩

/-- A place on the summed axis from its block. -/
def mid (q : Fin 1) (r : Fin 512) : Fin 512 := ⟨q.val * 512 + r.val, by omega⟩

theorem idx0 : ∀ t : Fin cfg0.N, win0_0.index t (0 : Fin 2) = (ti t).val ∧ win0_0.index t (1 : Fin 2) = (tk t).val :=
  (by decide +kernel : ∀ t : Fin grid0.N, win0_0.index t (0 : Fin 2) = (ti t).val ∧ win0_0.index t (1 : Fin 2) = (tk t).val)

theorem emb0 (t : Fin cfg0.N) (r : Fin 1024) (d : Fin 512) :
    ((cfg0.win 0).blk t).view.emb (ix2 r d) = ix2 (row (ti t) r) (mid (tk t) d) := by
  obtain ⟨e0, e1⟩ := idx0 t
  funext a; apply Fin.ext
  match a with
  | ⟨0, _⟩ => show win0_0.index t (0 : Fin 2) * 1024 + 1 * r.val = (ti t).val * 1024 + r.val; omega
  | ⟨1, _⟩ => show win0_0.index t (1 : Fin 2) * 512 + 1 * d.val = (tk t).val * 512 + d.val; omega

theorem idx1 : ∀ t : Fin cfg0.N, win0_1.index t (0 : Fin 2) = (tk t).val ∧ win0_1.index t (1 : Fin 2) = (tj t).val :=
  (by decide +kernel : ∀ t : Fin grid0.N, win0_1.index t (0 : Fin 2) = (tk t).val ∧ win0_1.index t (1 : Fin 2) = (tj t).val)

theorem emb1 (t : Fin cfg0.N) (r : Fin 512) (d : Fin 1024) :
    ((cfg0.win 1).blk t).view.emb (ix2 r d) = ix2 (mid (tk t) r) (col (tj t) d) := by
  obtain ⟨e0, e1⟩ := idx1 t
  funext a; apply Fin.ext
  match a with
  | ⟨0, _⟩ => show win0_1.index t (0 : Fin 2) * 512 + 1 * r.val = (tk t).val * 512 + r.val; omega
  | ⟨1, _⟩ => show win0_1.index t (1 : Fin 2) * 1024 + 1 * d.val = (tj t).val * 1024 + d.val; omega

theorem idx2 : ∀ t : Fin cfg0.N, win0_2.index t (0 : Fin 2) = (ti t).val ∧ win0_2.index t (1 : Fin 2) = (tj t).val :=
  (by decide +kernel : ∀ t : Fin grid0.N, win0_2.index t (0 : Fin 2) = (ti t).val ∧ win0_2.index t (1 : Fin 2) = (tj t).val)

theorem emb2 (t : Fin cfg0.N) (r : Fin 1024) (d : Fin 1024) :
    ((cfg0.win 2).blk t).view.emb (ix2 r d) = ix2 (row (ti t) r) (col (tj t) d) := by
  obtain ⟨e0, e1⟩ := idx2 t
  funext a; apply Fin.ext
  match a with
  | ⟨0, _⟩ => show win0_2.index t (0 : Fin 2) * 1024 + 1 * r.val = (ti t).val * 1024 + r.val; omega
  | ⟨1, _⟩ => show win0_2.index t (1 : Fin 2) * 1024 + 1 * d.val = (tj t).val * 1024 + d.val; omega

/-- Every block of the result is some point's. -/
theorem point : ∀ (p : Fin 4) (q : Fin 2), ∃ t : Fin cfg0.N, ti t = p ∧ tj t = q :=
  (by decide +kernel : ∀ (p : Fin 4) (q : Fin 2), ∃ t : Fin grid0.N, ti t = p ∧ tj t = q)

/-- Every entry of the result is in a point's block. -/
theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, e0, e1⟩ := point ⟨(i 0).val / 1024, by omega⟩ ⟨(i 1).val / 1024, by omega⟩
  refine ⟨t, flush0_2 t, ?_⟩
  have h := ((cfg0.win 2).blk t).view.emb_mem_set (ix2 (⟨(i 0).val % 1024, by omega⟩ : Fin 1024) (⟨(i 1).val % 1024, by omega⟩ : Fin 1024))
  rw [emb2, e0, e1] at h
  have e : (ix2 (row ⟨(i 0).val / 1024, by omega⟩ ⟨(i 0).val % 1024, by omega⟩) (col ⟨(i 1).val / 1024, by omega⟩ ⟨(i 1).val % 1024, by omega⟩) : S4096x2048.Idx) = i := by
    funext a; apply Fin.ext
    match a with
    | ⟨0, _⟩ => show (i 0).val / 1024 * 1024 + (i 0).val % 1024 = (i 0).val; omega
    | ⟨1, _⟩ => show (i 1).val / 1024 * 1024 + (i 1).val % 1024 = (i 1).val; omega
  exact e ▸ h

/-- The product of two tiles at an entry. -/
theorem tile (x : Vec Ideal S1024x512 .bf16) (y : Vec Ideal S512x1024 .f32) (i : Fin 1024) (j : Fin 1024) :
    (k0_pay1 x y (ix2 i j) : EReal) = ∑ k : Fin 512, (x (ix2 i k) : EReal) * y (ix2 k j) := by
  have e : (k0_pay1 x y (ix2 i j) : EReal) = matmul (F := Ideal) (φ₁ := .bf16) (φ₂ := .bf16) (DotDims.plain 1024 512 1024) none x y (constant S1024x1024 .f32 0x00000000#32) (ix2 i j) := rfl
  exact e.trans (nn_at _ _ i j)

variable (m : (ℓ : Loc nD τ sig) → Buf (Elt Ideal) ℓ) (ρ : Dev nD → PrngReg)

/-- The first factor. -/
abbrev X (c : Dev nD) : S4096x512.Idx → EReal := m ((c.tc : Thread nD τ).loc main_arg0)

/-- The second factor. -/
abbrev Y (c : Dev nD) : S512x2048.Idx → EReal := m ((c.tc : Thread nD τ).loc main_arg1)

/-- The whole product. -/
def G (c : Dev nD) : S4096x2048.Idx → EReal := fun y => ∑ k : Fin 512, X m c (ix2 (y 0 : Fin 4096) k) * Y m c (ix2 k (y 1 : Fin 2048))

theorem x_at (c : Dev nD) (t : Fin cfg0.N) (i : Fin 1024) (k : Fin 512) :
    (iblk m c 0 t (ix2 i k) : EReal) = X m c (ix2 (row (ti t) i) (mid (tk t) k)) := by
  show (V m c main_arg0 (((cfg0.win 0).blk t).view.emb (ix2 i k)) : EReal) = _
  rw [emb0, V_main_arg0]

theorem y_at (c : Dev nD) (t : Fin cfg0.N) (j : Fin 1024) (k : Fin 512) :
    (iblk m c 1 t (ix2 k j) : EReal) = Y m c (ix2 (mid (tk t) k) (col (tj t) j)) := by
  show (V m c main_arg1 (((cfg0.win 1).blk t).view.emb (ix2 k j)) : EReal) = _
  rw [emb1, V_main_arg1]

/-- What a point adds to an entry of its block. -/
theorem add_at (c : Dev nD) (t : Fin cfg0.N) (i : Fin 1024) (j : Fin 1024) :
    (k0_pay1 (iblk m c 0 t : Vec Ideal S1024x512 .bf16) (iblk m c 1 t : Vec Ideal S512x1024 .f32) (ix2 i j) : EReal)
      = ∑ k : Fin 512, X m c (ix2 (row (ti t) i) (mid (tk t) k)) * Y m c (ix2 (mid (tk t) k) (col (tj t) j)) := by
  rw [tile]
  exact Finset.sum_congr rfl fun k _ => by rw [x_at, y_at]

theorem mid_eq (q : Fin 1) (k : Fin 512) : mid q k = k := Fin.ext (by show q.val * 512 + k.val = k.val; omega)

/-- The stored piece is the whole block. -/
theorem out2 (x : Vec Ideal S1024x512 .bf16) (y : Vec Ideal S512x1024 .f32) : out0_2 x y = k0_pay1 x y := by
  unfold out0_2
  rw [View.canon_unit_zero (S := S1024x1024) hz2 _, View.ld_unit_zero (S := S1024x512) hz2 _, View.ld_unit_zero (S := S512x1024) hz2 _]

theorem final2 (c : Dev nD) : (dats m 0 c).arrAt 2 cfg0.N = G m c :=
  (dats m 0 c).arrAt_eq_of_cover 2 (G m c) (fun t _ => by
    rw [flushed2, out2]
    funext j
    have ej : j = ix2 (j 0) (j 1) := eq_ix2 (n0 := 1024) (n1 := 1024) j
    rw [ej]
    refine (add_at m c t (j 0) (j 1)).trans ?_
    refine Eq.trans ?_ (congrArg (G m c) (emb2 t (j 0) (j 1))).symm
    exact Finset.sum_congr rfl fun k _ => by rw [mid_eq]) cover2

/-- The reference's result is the whole product. -/
theorem ref0 (c : Dev nD) : Cert.Reference13Ideal.Read.val_main_v2 (F := Ideal) (X m c) (Y m c) = G m c := by
  funext y
  show (Cert.Reference13Ideal.Read.val_main_v1 (F := Ideal) (X m c) (Y m c) y : EReal) = _
  rw [Cert.Reference13Ideal.Read.val_main_v1_apply]
  refine Finset.sum_congr rfl fun k _ => ?_
  exact congrArg₂ (· * ·) (congrArg (X m c) (place_eq _ _ rfl rfl)) (congrArg (Y m c) (place_eq _ _ rfl rfl))

/-- The kernel's run ends with the whole product and its arguments kept. -/
theorem run : θ_run defs (onTc (τ := τ) (main (F := Ideal))) ⟨m, fun _ => 0, ρ⟩ fun r => ∀ c : Dev nD,
      r.2.mem ((c.tc : Thread nD τ).loc main_v0) = (G m c : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (run_blocks m ρ)

/-- The kernel and the reference end with the same array. -/
theorem algebraic : Cert.algebraic_Kernel13Ideal_Reference13Ideal (hKernel13Ideal := Cert.Kernel13Ideal.Gen.facts)
    (hReference13Ideal := Cert.Reference13Ideal.Gen.facts) := fun m g m' g' _ hagree => by
  refine ⟨fun c => G m c, run m g, ?_⟩
  refine (θ_run Cert.Reference13Ideal.defs _ _).mono (fun r h c => ⟨(h c).1.trans ?_, (h c).2⟩)
    (Cert.Reference13Ideal.Value.run (F := Ideal) m' g')
  · refine Eq.trans ?_ (ref0 m c)
    rw [Cert.Reference13Ideal.Read.val_main_v2_eq, (hagree c).1, (hagree c).2]

/-- The reference runs and keeps its arguments; it has no counters. -/
theorem frame_reference : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩)
    (Cert.Reference13Ideal.Value.run (F := Ideal) m g)

end Cert.Proof.Mm13

end
-- ==== Proof.Adam14.lean ====
/-
  The optimiser's step of `w_in`: kernel and reference do the same operations at every index.
-/
module

public import proofs.«01_k».proof.Proof.Gen.Kernel14Ideal.Value
public import proofs.«01_k».proof.Proof.Gen.Reference14Ideal.Read
public import proofs.«01_k».proof.Defs

@[expose] public section

noncomputable section

namespace Cert.Proof.Adam14

open Idealize.ShloMosaic Idealize.ShloMosaic.TcCoe Idealize.SL.Sem
open Cert.Kernel14Ideal Cert.Kernel14Ideal.Gen Cert.Kernel14Ideal.Value
open Cert.Reference14Ideal.Read

variable (m : (ℓ : Loc nD τ sig) → Buf (Elt Ideal) ℓ)

/-- The change of the weights. -/
theorem delta (c : Dev nD) : val_main_v23 (F := Ideal) (m ((c.tc : Thread nD τ).loc main_arg0)) (m ((c.tc : Thread nD τ).loc main_arg1)) (m ((c.tc : Thread nD τ).loc main_arg2)) (m ((c.tc : Thread nD τ).loc main_arg3))
    = G4 (m ((c.tc : Thread nD τ).loc main_arg1)) (m ((c.tc : Thread nD τ).loc main_arg2)) (m ((c.tc : Thread nD τ).loc main_arg3)) (m ((c.tc : Thread nD τ).loc main_arg0)) := rfl

/-- The new mean of the gradients. -/
theorem mean (c : Dev nD) : val_main_v4 (F := Ideal) (m ((c.tc : Thread nD τ).loc main_arg1)) (m ((c.tc : Thread nD τ).loc main_arg2))
    = G5 (m ((c.tc : Thread nD τ).loc main_arg1)) (m ((c.tc : Thread nD τ).loc main_arg2)) := rfl

/-- The new mean of their squares. -/
theorem square (c : Dev nD) : val_main_v10 (F := Ideal) (m ((c.tc : Thread nD τ).loc main_arg1)) (m ((c.tc : Thread nD τ).loc main_arg3))
    = G6 (m ((c.tc : Thread nD τ).loc main_arg1)) (m ((c.tc : Thread nD τ).loc main_arg3)) := rfl

/-- The kernel and the reference end with the same three arrays. -/
theorem algebraic : Cert.algebraic_Kernel14Ideal_Reference14Ideal (hKernel14Ideal := Cert.Kernel14Ideal.Gen.facts)
    (hReference14Ideal := Cert.Reference14Ideal.Gen.facts) := fun m g m' g' _ hagree => by
  refine ⟨fun c => G4 (m ((c.tc : Thread nD τ).loc main_arg1)) (m ((c.tc : Thread nD τ).loc main_arg2)) (m ((c.tc : Thread nD τ).loc main_arg3)) (m ((c.tc : Thread nD τ).loc main_arg0)), fun c => G5 (m ((c.tc : Thread nD τ).loc main_arg1)) (m ((c.tc : Thread nD τ).loc main_arg2)), fun c => G6 (m ((c.tc : Thread nD τ).loc main_arg1)) (m ((c.tc : Thread nD τ).loc main_arg3)), run m g, ?_⟩
  refine (θ_run Cert.Reference14Ideal.defs _ _).mono (fun r h c => ⟨(h c).1.trans ?_, (h c).2.1.trans ?_, (h c).2.2.1.trans ?_, (h c).2.2.2⟩)
    (Cert.Reference14Ideal.Value.run (F := Ideal) m' g')
  · refine Eq.trans ?_ (delta m c)
    rw [val_main_v23_eq, (hagree c).1, (hagree c).2.1, (hagree c).2.2.1, (hagree c).2.2.2]
  · refine Eq.trans ?_ (mean m c)
    rw [val_main_v4_eq, (hagree c).2.1, (hagree c).2.2.1]
  · refine Eq.trans ?_ (square m c)
    rw [val_main_v10_eq, (hagree c).2.1, (hagree c).2.2.2]

/-- The reference runs and keeps its arguments; it has no counters. -/
theorem frame_reference : Cert.quiescent_Reference14Ideal (hReference14Ideal := Cert.Reference14Ideal.Gen.facts) := fun m g _ =>
  (θ_run Cert.Reference14Ideal.defs _ _).mono (fun r h => ⟨fun c => (h c).2.2.2, sem_eq_zero_of_no_sems (by decide) r.2⟩)
    (Cert.Reference14Ideal.Value.run (F := Ideal) m g)

end Cert.Proof.Adam14

end
-- ==== Proof.Adam15.lean ====
/-
  The optimiser's step of `w_uq`: kernel and reference do the same operations at every index.
-/
module

public import proofs.«01_k».proof.Proof.Gen.Kernel15Ideal.Value
public import proofs.«01_k».proof.Proof.Gen.Reference15Ideal.Read
public import proofs.«01_k».proof.Defs

@[expose] public section

noncomputable section

namespace Cert.Proof.Adam15

open Idealize.ShloMosaic Idealize.ShloMosaic.TcCoe Idealize.SL.Sem
open Cert.Kernel15Ideal Cert.Kernel15Ideal.Gen Cert.Kernel15Ideal.Value
open Cert.Reference15Ideal.Read

variable (m : (ℓ : Loc nD τ sig) → Buf (Elt Ideal) ℓ)

/-- The change of the weights. -/
theorem delta (c : Dev nD) : val_main_v23 (F := Ideal) (m ((c.tc : Thread nD τ).loc main_arg0)) (m ((c.tc : Thread nD τ).loc main_arg1)) (m ((c.tc : Thread nD τ).loc main_arg2)) (m ((c.tc : Thread nD τ).loc main_arg3))
    = G4 (m ((c.tc : Thread nD τ).loc main_arg1)) (m ((c.tc : Thread nD τ).loc main_arg2)) (m ((c.tc : Thread nD τ).loc main_arg3)) (m ((c.tc : Thread nD τ).loc main_arg0)) := rfl

/-- The new mean of the gradients. -/
theorem mean (c : Dev nD) : val_main_v4 (F := Ideal) (m ((c.tc : Thread nD τ).loc main_arg1)) (m ((c.tc : Thread nD τ).loc main_arg2))
    = G5 (m ((c.tc : Thread nD τ).loc main_arg1)) (m ((c.tc : Thread nD τ).loc main_arg2)) := rfl

/-- The new mean of their squares. -/
theorem square (c : Dev nD) : val_main_v10 (F := Ideal) (m ((c.tc : Thread nD τ).loc main_arg1)) (m ((c.tc : Thread nD τ).loc main_arg3))
    = G6 (m ((c.tc : Thread nD τ).loc main_arg1)) (m ((c.tc : Thread nD τ).loc main_arg3)) := rfl

/-- The kernel and the reference end with the same three arrays. -/
theorem algebraic : Cert.algebraic_Kernel15Ideal_Reference15Ideal (hKernel15Ideal := Cert.Kernel15Ideal.Gen.facts)
    (hReference15Ideal := Cert.Reference15Ideal.Gen.facts) := fun m g m' g' _ hagree => by
  refine ⟨fun c => G4 (m ((c.tc : Thread nD τ).loc main_arg1)) (m ((c.tc : Thread nD τ).loc main_arg2)) (m ((c.tc : Thread nD τ).loc main_arg3)) (m ((c.tc : Thread nD τ).loc main_arg0)), fun c => G5 (m ((c.tc : Thread nD τ).loc main_arg1)) (m ((c.tc : Thread nD τ).loc main_arg2)), fun c => G6 (m ((c.tc : Thread nD τ).loc main_arg1)) (m ((c.tc : Thread nD τ).loc main_arg3)), run m g, ?_⟩
  refine (θ_run Cert.Reference15Ideal.defs _ _).mono (fun r h c => ⟨(h c).1.trans ?_, (h c).2.1.trans ?_, (h c).2.2.1.trans ?_, (h c).2.2.2⟩)
    (Cert.Reference15Ideal.Value.run (F := Ideal) m' g')
  · refine Eq.trans ?_ (delta m c)
    rw [val_main_v23_eq, (hagree c).1, (hagree c).2.1, (hagree c).2.2.1, (hagree c).2.2.2]
  · refine Eq.trans ?_ (mean m c)
    rw [val_main_v4_eq, (hagree c).2.1, (hagree c).2.2.1]
  · refine Eq.trans ?_ (square m c)
    rw [val_main_v10_eq, (hagree c).2.1, (hagree c).2.2.2]

/-- The reference runs and keeps its arguments; it has no counters. -/
theorem frame_reference : Cert.quiescent_Reference15Ideal (hReference15Ideal := Cert.Reference15Ideal.Gen.facts) := fun m g _ =>
  (θ_run Cert.Reference15Ideal.defs _ _).mono (fun r h => ⟨fun c => (h c).2.2.2, sem_eq_zero_of_no_sems (by decide) r.2⟩)
    (Cert.Reference15Ideal.Value.run (F := Ideal) m g)

end Cert.Proof.Adam15

end
-- ==== Proof.Adam16.lean ====
/-
  The optimiser's step of `w_ukv`: kernel and reference do the same operations at every index.
-/
module

public import proofs.«01_k».proof.Proof.Gen.Kernel16Ideal.Value
public import proofs.«01_k».proof.Proof.Gen.Reference16Ideal.Read
public import proofs.«01_k».proof.Defs

@[expose] public section

noncomputable section

namespace Cert.Proof.Adam16

open Idealize.ShloMosaic Idealize.ShloMosaic.TcCoe Idealize.SL.Sem
open Cert.Kernel16Ideal Cert.Kernel16Ideal.Gen Cert.Kernel16Ideal.Value
open Cert.Reference16Ideal.Read

variable (m : (ℓ : Loc nD τ sig) → Buf (Elt Ideal) ℓ)

/-- The change of the weights. -/
theorem delta (c : Dev nD) : val_main_v23 (F := Ideal) (m ((c.tc : Thread nD τ).loc main_arg0)) (m ((c.tc : Thread nD τ).loc main_arg1)) (m ((c.tc : Thread nD τ).loc main_arg2)) (m ((c.tc : Thread nD τ).loc main_arg3))
    = G4 (m ((c.tc : Thread nD τ).loc main_arg1)) (m ((c.tc : Thread nD τ).loc main_arg2)) (m ((c.tc : Thread nD τ).loc main_arg3)) (m ((c.tc : Thread nD τ).loc main_arg0)) := rfl

/-- The new mean of the gradients. -/
theorem mean (c : Dev nD) : val_main_v4 (F := Ideal) (m ((c.tc : Thread nD τ).loc main_arg1)) (m ((c.tc : Thread nD τ).loc main_arg2))
    = G5 (m ((c.tc : Thread nD τ).loc main_arg1)) (m ((c.tc : Thread nD τ).loc main_arg2)) := rfl

/-- The new mean of their squares. -/
theorem square (c : Dev nD) : val_main_v10 (F := Ideal) (m ((c.tc : Thread nD τ).loc main_arg1)) (m ((c.tc : Thread nD τ).loc main_arg3))
    = G6 (m ((c.tc : Thread nD τ).loc main_arg1)) (m ((c.tc : Thread nD τ).loc main_arg3)) := rfl

/-- The kernel and the reference end with the same three arrays. -/
theorem algebraic : Cert.algebraic_Kernel16Ideal_Reference16Ideal (hKernel16Ideal := Cert.Kernel16Ideal.Gen.facts)
    (hReference16Ideal := Cert.Reference16Ideal.Gen.facts) := fun m g m' g' _ hagree => by
  refine ⟨fun c => G4 (m ((c.tc : Thread nD τ).loc main_arg1)) (m ((c.tc : Thread nD τ).loc main_arg2)) (m ((c.tc : Thread nD τ).loc main_arg3)) (m ((c.tc : Thread nD τ).loc main_arg0)), fun c => G5 (m ((c.tc : Thread nD τ).loc main_arg1)) (m ((c.tc : Thread nD τ).loc main_arg2)), fun c => G6 (m ((c.tc : Thread nD τ).loc main_arg1)) (m ((c.tc : Thread nD τ).loc main_arg3)), run m g, ?_⟩
  refine (θ_run Cert.Reference16Ideal.defs _ _).mono (fun r h c => ⟨(h c).1.trans ?_, (h c).2.1.trans ?_, (h c).2.2.1.trans ?_, (h c).2.2.2⟩)
    (Cert.Reference16Ideal.Value.run (F := Ideal) m' g')
  · refine Eq.trans ?_ (delta m c)
    rw [val_main_v23_eq, (hagree c).1, (hagree c).2.1, (hagree c).2.2.1, (hagree c).2.2.2]
  · refine Eq.trans ?_ (mean m c)
    rw [val_main_v4_eq, (hagree c).2.1, (hagree c).2.2.1]
  · refine Eq.trans ?_ (square m c)
    rw [val_main_v10_eq, (hagree c).2.1, (hagree c).2.2.2]

/-- The reference runs and keeps its arguments; it has no counters. -/
theorem frame_reference : Cert.quiescent_Reference16Ideal (hReference16Ideal := Cert.Reference16Ideal.Gen.facts) := fun m g _ =>
  (θ_run Cert.Reference16Ideal.defs _ _).mono (fun r h => ⟨fun c => (h c).2.2.2, sem_eq_zero_of_no_sems (by decide) r.2⟩)
    (Cert.Reference16Ideal.Value.run (F := Ideal) m g)

end Cert.Proof.Adam16

end
-- ==== Proof.Adam17.lean ====
/-
  The optimiser's step of `cmp_w1k`: kernel and reference do the same operations at every index.
-/
module

public import proofs.«01_k».proof.Proof.Gen.Kernel17Ideal.Value
public import proofs.«01_k».proof.Proof.Gen.Reference17Ideal.Read
public import proofs.«01_k».proof.Defs

@[expose] public section

noncomputable section

namespace Cert.Proof.Adam17

open Idealize.ShloMosaic Idealize.ShloMosaic.TcCoe Idealize.SL.Sem
open Cert.Kernel17Ideal Cert.Kernel17Ideal.Gen Cert.Kernel17Ideal.Value
open Cert.Reference17Ideal.Read

variable (m : (ℓ : Loc nD τ sig) → Buf (Elt Ideal) ℓ)

/-- The change of the weights. -/
theorem delta (c : Dev nD) : val_main_v23 (F := Ideal) (m ((c.tc : Thread nD τ).loc main_arg0)) (m ((c.tc : Thread nD τ).loc main_arg1)) (m ((c.tc : Thread nD τ).loc main_arg2)) (m ((c.tc : Thread nD τ).loc main_arg3))
    = G4 (m ((c.tc : Thread nD τ).loc main_arg1)) (m ((c.tc : Thread nD τ).loc main_arg2)) (m ((c.tc : Thread nD τ).loc main_arg3)) (m ((c.tc : Thread nD τ).loc main_arg0)) := rfl

/-- The new mean of the gradients. -/
theorem mean (c : Dev nD) : val_main_v4 (F := Ideal) (m ((c.tc : Thread nD τ).loc main_arg1)) (m ((c.tc : Thread nD τ).loc main_arg2))
    = G5 (m ((c.tc : Thread nD τ).loc main_arg1)) (m ((c.tc : Thread nD τ).loc main_arg2)) := rfl

/-- The new mean of their squares. -/
theorem square (c : Dev nD) : val_main_v10 (F := Ideal) (m ((c.tc : Thread nD τ).loc main_arg1)) (m ((c.tc : Thread nD τ).loc main_arg3))
    = G6 (m ((c.tc : Thread nD τ).loc main_arg1)) (m ((c.tc : Thread nD τ).loc main_arg3)) := rfl

/-- The kernel and the reference end with the same three arrays. -/
theorem algebraic : Cert.algebraic_Kernel17Ideal_Reference17Ideal (hKernel17Ideal := Cert.Kernel17Ideal.Gen.facts)
    (hReference17Ideal := Cert.Reference17Ideal.Gen.facts) := fun m g m' g' _ hagree => by
  refine ⟨fun c => G4 (m ((c.tc : Thread nD τ).loc main_arg1)) (m ((c.tc : Thread nD τ).loc main_arg2)) (m ((c.tc : Thread nD τ).loc main_arg3)) (m ((c.tc : Thread nD τ).loc main_arg0)), fun c => G5 (m ((c.tc : Thread nD τ).loc main_arg1)) (m ((c.tc : Thread nD τ).loc main_arg2)), fun c => G6 (m ((c.tc : Thread nD τ).loc main_arg1)) (m ((c.tc : Thread nD τ).loc main_arg3)), run m g, ?_⟩
  refine (θ_run Cert.Reference17Ideal.defs _ _).mono (fun r h c => ⟨(h c).1.trans ?_, (h c).2.1.trans ?_, (h c).2.2.1.trans ?_, (h c).2.2.2⟩)
    (Cert.Reference17Ideal.Value.run (F := Ideal) m' g')
  · refine Eq.trans ?_ (delta m c)
    rw [val_main_v23_eq, (hagree c).1, (hagree c).2.1, (hagree c).2.2.1, (hagree c).2.2.2]
  · refine Eq.trans ?_ (mean m c)
    rw [val_main_v4_eq, (hagree c).2.1, (hagree c).2.2.1]
  · refine Eq.trans ?_ (square m c)
    rw [val_main_v10_eq, (hagree c).2.1, (hagree c).2.2.2]

/-- The reference runs and keeps its arguments; it has no counters. -/
theorem frame_reference : Cert.quiescent_Reference17Ideal (hReference17Ideal := Cert.Reference17Ideal.Gen.facts) := fun m g _ =>
  (θ_run Cert.Reference17Ideal.defs _ _).mono (fun r h => ⟨fun c => (h c).2.2.2, sem_eq_zero_of_no_sems (by decide) r.2⟩)
    (Cert.Reference17Ideal.Value.run (F := Ideal) m g)

end Cert.Proof.Adam17

end
-- ==== Proof.Adam18.lean ====
/-
  The optimiser's step of `cmp_w1v`: kernel and reference do the same operations at every index.
-/
module

public import proofs.«01_k».proof.Proof.Gen.Kernel18Ideal.Value
public import proofs.«01_k».proof.Proof.Gen.Reference18Ideal.Read
public import proofs.«01_k».proof.Defs

@[expose] public section

noncomputable section

namespace Cert.Proof.Adam18

open Idealize.ShloMosaic Idealize.ShloMosaic.TcCoe Idealize.SL.Sem
open Cert.Kernel18Ideal Cert.Kernel18Ideal.Gen Cert.Kernel18Ideal.Value
open Cert.Reference18Ideal.Read

variable (m : (ℓ : Loc nD τ sig) → Buf (Elt Ideal) ℓ)

/-- The change of the weights. -/
theorem delta (c : Dev nD) : val_main_v23 (F := Ideal) (m ((c.tc : Thread nD τ).loc main_arg0)) (m ((c.tc : Thread nD τ).loc main_arg1)) (m ((c.tc : Thread nD τ).loc main_arg2)) (m ((c.tc : Thread nD τ).loc main_arg3))
    = G4 (m ((c.tc : Thread nD τ).loc main_arg1)) (m ((c.tc : Thread nD τ).loc main_arg2)) (m ((c.tc : Thread nD τ).loc main_arg3)) (m ((c.tc : Thread nD τ).loc main_arg0)) := rfl

/-- The new mean of the gradients. -/
theorem mean (c : Dev nD) : val_main_v4 (F := Ideal) (m ((c.tc : Thread nD τ).loc main_arg1)) (m ((c.tc : Thread nD τ).loc main_arg2))
    = G5 (m ((c.tc : Thread nD τ).loc main_arg1)) (m ((c.tc : Thread nD τ).loc main_arg2)) := rfl

/-- The new mean of their squares. -/
theorem square (c : Dev nD) : val_main_v10 (F := Ideal) (m ((c.tc : Thread nD τ).loc main_arg1)) (m ((c.tc : Thread nD τ).loc main_arg3))
    = G6 (m ((c.tc : Thread nD τ).loc main_arg1)) (m ((c.tc : Thread nD τ).loc main_arg3)) := rfl

/-- The kernel and the reference end with the same three arrays. -/
theorem algebraic : Cert.algebraic_Kernel18Ideal_Reference18Ideal (hKernel18Ideal := Cert.Kernel18Ideal.Gen.facts)
    (hReference18Ideal := Cert.Reference18Ideal.Gen.facts) := fun m g m' g' _ hagree => by
  refine ⟨fun c => G4 (m ((c.tc : Thread nD τ).loc main_arg1)) (m ((c.tc : Thread nD τ).loc main_arg2)) (m ((c.tc : Thread nD τ).loc main_arg3)) (m ((c.tc : Thread nD τ).loc main_arg0)), fun c => G5 (m ((c.tc : Thread nD τ).loc main_arg1)) (m ((c.tc : Thread nD τ).loc main_arg2)), fun c => G6 (m ((c.tc : Thread nD τ).loc main_arg1)) (m ((c.tc : Thread nD τ).loc main_arg3)), run m g, ?_⟩
  refine (θ_run Cert.Reference18Ideal.defs _ _).mono (fun r h c => ⟨(h c).1.trans ?_, (h c).2.1.trans ?_, (h c).2.2.1.trans ?_, (h c).2.2.2⟩)
    (Cert.Reference18Ideal.Value.run (F := Ideal) m' g')
  · refine Eq.trans ?_ (delta m c)
    rw [val_main_v23_eq, (hagree c).1, (hagree c).2.1, (hagree c).2.2.1, (hagree c).2.2.2]
  · refine Eq.trans ?_ (mean m c)
    rw [val_main_v4_eq, (hagree c).2.1, (hagree c).2.2.1]
  · refine Eq.trans ?_ (square m c)
    rw [val_main_v10_eq, (hagree c).2.1, (hagree c).2.2.2]

/-- The reference runs and keeps its arguments; it has no counters. -/
theorem frame_reference : Cert.quiescent_Reference18Ideal (hReference18Ideal := Cert.Reference18Ideal.Gen.facts) := fun m g _ =>
  (θ_run Cert.Reference18Ideal.defs _ _).mono (fun r h => ⟨fun c => (h c).2.2.2, sem_eq_zero_of_no_sems (by decide) r.2⟩)
    (Cert.Reference18Ideal.Value.run (F := Ideal) m g)

end Cert.Proof.Adam18

end
-- ==== Proof.Adam19.lean ====
/-
  The optimiser's step of `w_mem_kv`: kernel and reference do the same operations at every index.
-/
module

public import proofs.«01_k».proof.Proof.Gen.Kernel19Ideal.Value
public import proofs.«01_k».proof.Proof.Gen.Reference19Ideal.Read
public import proofs.«01_k».proof.Defs

@[expose] public section

noncomputable section

namespace Cert.Proof.Adam19

open Idealize.ShloMosaic Idealize.ShloMosaic.TcCoe Idealize.SL.Sem
open Cert.Kernel19Ideal Cert.Kernel19Ideal.Gen Cert.Kernel19Ideal.Value
open Cert.Reference19Ideal.Read

variable (m : (ℓ : Loc nD τ sig) → Buf (Elt Ideal) ℓ)

/-- The change of the weights. -/
theorem delta (c : Dev nD) : val_main_v23 (F := Ideal) (m ((c.tc : Thread nD τ).loc main_arg0)) (m ((c.tc : Thread nD τ).loc main_arg1)) (m ((c.tc : Thread nD τ).loc main_arg2)) (m ((c.tc : Thread nD τ).loc main_arg3))
    = G4 (m ((c.tc : Thread nD τ).loc main_arg1)) (m ((c.tc : Thread nD τ).loc main_arg2)) (m ((c.tc : Thread nD τ).loc main_arg3)) (m ((c.tc : Thread nD τ).loc main_arg0)) := rfl

/-- The new mean of the gradients. -/
theorem mean (c : Dev nD) : val_main_v4 (F := Ideal) (m ((c.tc : Thread nD τ).loc main_arg1)) (m ((c.tc : Thread nD τ).loc main_arg2))
    = G5 (m ((c.tc : Thread nD τ).loc main_arg1)) (m ((c.tc : Thread nD τ).loc main_arg2)) := rfl

/-- The new mean of their squares. -/
theorem square (c : Dev nD) : val_main_v10 (F := Ideal) (m ((c.tc : Thread nD τ).loc main_arg1)) (m ((c.tc : Thread nD τ).loc main_arg3))
    = G6 (m ((c.tc : Thread nD τ).loc main_arg1)) (m ((c.tc : Thread nD τ).loc main_arg3)) := rfl

/-- The kernel and the reference end with the same three arrays. -/
theorem algebraic : Cert.algebraic_Kernel19Ideal_Reference19Ideal (hKernel19Ideal := Cert.Kernel19Ideal.Gen.facts)
    (hReference19Ideal := Cert.Reference19Ideal.Gen.facts) := fun m g m' g' _ hagree => by
  refine ⟨fun c => G4 (m ((c.tc : Thread nD τ).loc main_arg1)) (m ((c.tc : Thread nD τ).loc main_arg2)) (m ((c.tc : Thread nD τ).loc main_arg3)) (m ((c.tc : Thread nD τ).loc main_arg0)), fun c => G5 (m ((c.tc : Thread nD τ).loc main_arg1)) (m ((c.tc : Thread nD τ).loc main_arg2)), fun c => G6 (m ((c.tc : Thread nD τ).loc main_arg1)) (m ((c.tc : Thread nD τ).loc main_arg3)), run m g, ?_⟩
  refine (θ_run Cert.Reference19Ideal.defs _ _).mono (fun r h c => ⟨(h c).1.trans ?_, (h c).2.1.trans ?_, (h c).2.2.1.trans ?_, (h c).2.2.2⟩)
    (Cert.Reference19Ideal.Value.run (F := Ideal) m' g')
  · refine Eq.trans ?_ (delta m c)
    rw [val_main_v23_eq, (hagree c).1, (hagree c).2.1, (hagree c).2.2.1, (hagree c).2.2.2]
  · refine Eq.trans ?_ (mean m c)
    rw [val_main_v4_eq, (hagree c).2.1, (hagree c).2.2.1]
  · refine Eq.trans ?_ (square m c)
    rw [val_main_v10_eq, (hagree c).2.1, (hagree c).2.2.2]

/-- The reference runs and keeps its arguments; it has no counters. -/
theorem frame_reference : Cert.quiescent_Reference19Ideal (hReference19Ideal := Cert.Reference19Ideal.Gen.facts) := fun m g _ =>
  (θ_run Cert.Reference19Ideal.defs _ _).mono (fun r h => ⟨fun c => (h c).2.2.2, sem_eq_zero_of_no_sems (by decide) r.2⟩)
    (Cert.Reference19Ideal.Value.run (F := Ideal) m g)

end Cert.Proof.Adam19

end
-- ==== Proof.Adam20.lean ====
/-
  The optimiser's step of `w_out`: kernel and reference do the same operations at every index.
-/
module

public import proofs.«01_k».proof.Proof.Gen.Kernel20Ideal.Value
public import proofs.«01_k».proof.Proof.Gen.Reference20Ideal.Read
public import proofs.«01_k».proof.Defs

@[expose] public section

noncomputable section

namespace Cert.Proof.Adam20

open Idealize.ShloMosaic Idealize.ShloMosaic.TcCoe Idealize.SL.Sem
open Cert.Kernel20Ideal Cert.Kernel20Ideal.Gen Cert.Kernel20Ideal.Value
open Cert.Reference20Ideal.Read

variable (m : (ℓ : Loc nD τ sig) → Buf (Elt Ideal) ℓ)

/-- The change of the weights. -/
theorem delta (c : Dev nD) : val_main_v23 (F := Ideal) (m ((c.tc : Thread nD τ).loc main_arg0)) (m ((c.tc : Thread nD τ).loc main_arg1)) (m ((c.tc : Thread nD τ).loc main_arg2)) (m ((c.tc : Thread nD τ).loc main_arg3))
    = G4 (m ((c.tc : Thread nD τ).loc main_arg1)) (m ((c.tc : Thread nD τ).loc main_arg2)) (m ((c.tc : Thread nD τ).loc main_arg3)) (m ((c.tc : Thread nD τ).loc main_arg0)) := rfl

/-- The new mean of the gradients. -/
theorem mean (c : Dev nD) : val_main_v4 (F := Ideal) (m ((c.tc : Thread nD τ).loc main_arg1)) (m ((c.tc : Thread nD τ).loc main_arg2))
    = G5 (m ((c.tc : Thread nD τ).loc main_arg1)) (m ((c.tc : Thread nD τ).loc main_arg2)) := rfl

/-- The new mean of their squares. -/
theorem square (c : Dev nD) : val_main_v10 (F := Ideal) (m ((c.tc : Thread nD τ).loc main_arg1)) (m ((c.tc : Thread nD τ).loc main_arg3))
    = G6 (m ((c.tc : Thread nD τ).loc main_arg1)) (m ((c.tc : Thread nD τ).loc main_arg3)) := rfl

/-- The kernel and the reference end with the same three arrays. -/
theorem algebraic : Cert.algebraic_Kernel20Ideal_Reference20Ideal (hKernel20Ideal := Cert.Kernel20Ideal.Gen.facts)
    (hReference20Ideal := Cert.Reference20Ideal.Gen.facts) := fun m g m' g' _ hagree => by
  refine ⟨fun c => G4 (m ((c.tc : Thread nD τ).loc main_arg1)) (m ((c.tc : Thread nD τ).loc main_arg2)) (m ((c.tc : Thread nD τ).loc main_arg3)) (m ((c.tc : Thread nD τ).loc main_arg0)), fun c => G5 (m ((c.tc : Thread nD τ).loc main_arg1)) (m ((c.tc : Thread nD τ).loc main_arg2)), fun c => G6 (m ((c.tc : Thread nD τ).loc main_arg1)) (m ((c.tc : Thread nD τ).loc main_arg3)), run m g, ?_⟩
  refine (θ_run Cert.Reference20Ideal.defs _ _).mono (fun r h c => ⟨(h c).1.trans ?_, (h c).2.1.trans ?_, (h c).2.2.1.trans ?_, (h c).2.2.2⟩)
    (Cert.Reference20Ideal.Value.run (F := Ideal) m' g')
  · refine Eq.trans ?_ (delta m c)
    rw [val_main_v23_eq, (hagree c).1, (hagree c).2.1, (hagree c).2.2.1, (hagree c).2.2.2]
  · refine Eq.trans ?_ (mean m c)
    rw [val_main_v4_eq, (hagree c).2.1, (hagree c).2.2.1]
  · refine Eq.trans ?_ (square m c)
    rw [val_main_v10_eq, (hagree c).2.1, (hagree c).2.2.2]

/-- The reference runs and keeps its arguments; it has no counters. -/
theorem frame_reference : Cert.quiescent_Reference20Ideal (hReference20Ideal := Cert.Reference20Ideal.Gen.facts) := fun m g _ =>
  (θ_run Cert.Reference20Ideal.defs _ _).mono (fun r h => ⟨fun c => (h c).2.2.2, sem_eq_zero_of_no_sems (by decide) r.2⟩)
    (Cert.Reference20Ideal.Value.run (F := Ideal) m g)

end Cert.Proof.Adam20

end
-- ==== Proof.Adam21.lean ====
/-
  The optimiser's step of `replicated`: kernel and reference do the same operations at every index.
-/
module

public import proofs.«01_k».proof.Proof.Gen.Kernel21Ideal.Value
public import proofs.«01_k».proof.Proof.Gen.Reference21Ideal.Read
public import proofs.«01_k».proof.Defs

@[expose] public section

noncomputable section

namespace Cert.Proof.Adam21

open Idealize.ShloMosaic Idealize.ShloMosaic.TcCoe Idealize.SL.Sem
open Cert.Kernel21Ideal Cert.Kernel21Ideal.Gen Cert.Kernel21Ideal.Value
open Cert.Reference21Ideal.Read

variable (m : (ℓ : Loc nD τ sig) → Buf (Elt Ideal) ℓ)

/-- The change of the weights. -/
theorem delta (c : Dev nD) : val_main_v23 (F := Ideal) (m ((c.tc : Thread nD τ).loc main_arg0)) (m ((c.tc : Thread nD τ).loc main_arg1)) (m ((c.tc : Thread nD τ).loc main_arg2)) (m ((c.tc : Thread nD τ).loc main_arg3))
    = G4 (m ((c.tc : Thread nD τ).loc main_arg1)) (m ((c.tc : Thread nD τ).loc main_arg2)) (m ((c.tc : Thread nD τ).loc main_arg3)) (m ((c.tc : Thread nD τ).loc main_arg0)) := rfl

/-- The new mean of the gradients. -/
theorem mean (c : Dev nD) : val_main_v4 (F := Ideal) (m ((c.tc : Thread nD τ).loc main_arg1)) (m ((c.tc : Thread nD τ).loc main_arg2))
    = G5 (m ((c.tc : Thread nD τ).loc main_arg1)) (m ((c.tc : Thread nD τ).loc main_arg2)) := rfl

/-- The new mean of their squares. -/
theorem square (c : Dev nD) : val_main_v10 (F := Ideal) (m ((c.tc : Thread nD τ).loc main_arg1)) (m ((c.tc : Thread nD τ).loc main_arg3))
    = G6 (m ((c.tc : Thread nD τ).loc main_arg1)) (m ((c.tc : Thread nD τ).loc main_arg3)) := rfl

/-- The kernel and the reference end with the same three arrays. -/
theorem algebraic : Cert.algebraic_Kernel21Ideal_Reference21Ideal (hKernel21Ideal := Cert.Kernel21Ideal.Gen.facts)
    (hReference21Ideal := Cert.Reference21Ideal.Gen.facts) := fun m g m' g' _ hagree => by
  refine ⟨fun c => G4 (m ((c.tc : Thread nD τ).loc main_arg1)) (m ((c.tc : Thread nD τ).loc main_arg2)) (m ((c.tc : Thread nD τ).loc main_arg3)) (m ((c.tc : Thread nD τ).loc main_arg0)), fun c => G5 (m ((c.tc : Thread nD τ).loc main_arg1)) (m ((c.tc : Thread nD τ).loc main_arg2)), fun c => G6 (m ((c.tc : Thread nD τ).loc main_arg1)) (m ((c.tc : Thread nD τ).loc main_arg3)), run m g, ?_⟩
  refine (θ_run Cert.Reference21Ideal.defs _ _).mono (fun r h c => ⟨(h c).1.trans ?_, (h c).2.1.trans ?_, (h c).2.2.1.trans ?_, (h c).2.2.2⟩)
    (Cert.Reference21Ideal.Value.run (F := Ideal) m' g')
  · refine Eq.trans ?_ (delta m c)
    rw [val_main_v23_eq, (hagree c).1, (hagree c).2.1, (hagree c).2.2.1, (hagree c).2.2.2]
  · refine Eq.trans ?_ (mean m c)
    rw [val_main_v4_eq, (hagree c).2.1, (hagree c).2.2.1]
  · refine Eq.trans ?_ (square m c)
    rw [val_main_v10_eq, (hagree c).2.1, (hagree c).2.2.2]

/-- The reference runs and keeps its arguments; it has no counters. -/
theorem frame_reference : Cert.quiescent_Reference21Ideal (hReference21Ideal := Cert.Reference21Ideal.Gen.facts) := fun m g _ =>
  (θ_run Cert.Reference21Ideal.defs _ _).mono (fun r h => ⟨fun c => (h c).2.2.2, sem_eq_zero_of_no_sems (by decide) r.2⟩)
    (Cert.Reference21Ideal.Value.run (F := Ideal) m g)

end Cert.Proof.Adam21

end
-- ==== Proof.lean ====
/-
  The certificate: of the attention's gradient with respect to its queries, the programs' frames, the two named constants,
  and the equality of the kernel's two results with the reference's over the extended reals; of each tiled matrix product,
  the frames and the equality of its result with the reference's; of each call of the optimiser, the frames and the
  equality of its three results with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.KernelFrame
public import proofs.«01_k».proof.Proof.IdealFrame
public import proofs.«01_k».proof.Proof.Value
public import proofs.«01_k».proof.Proof.Finite
public import proofs.«01_k».proof.Proof.Gen.Kernel2.Frame
public import proofs.«01_k».proof.Proof.Mm2
public import proofs.«01_k».proof.Proof.Gen.Kernel3.Frame
public import proofs.«01_k».proof.Proof.Mm3
public import proofs.«01_k».proof.Proof.Gen.Kernel4.Frame
public import proofs.«01_k».proof.Proof.Mm4
public import proofs.«01_k».proof.Proof.Gen.Kernel5.Frame
public import proofs.«01_k».proof.Proof.Mm5
public import proofs.«01_k».proof.Proof.Gen.Kernel6.Frame
public import proofs.«01_k».proof.Proof.Mm6
public import proofs.«01_k».proof.Proof.Gen.Kernel7.Frame
public import proofs.«01_k».proof.Proof.Mm7
public import proofs.«01_k».proof.Proof.Gen.Kernel8.Frame
public import proofs.«01_k».proof.Proof.Mm8
public import proofs.«01_k».proof.Proof.Gen.Kernel9.Frame
public import proofs.«01_k».proof.Proof.Mm9
public import proofs.«01_k».proof.Proof.Gen.Kernel10.Frame
public import proofs.«01_k».proof.Proof.Mm10
public import proofs.«01_k».proof.Proof.Gen.Kernel11.Frame
public import proofs.«01_k».proof.Proof.Mm11
public import proofs.«01_k».proof.Proof.Gen.Kernel12.Frame
public import proofs.«01_k».proof.Proof.Mm12
public import proofs.«01_k».proof.Proof.Gen.Kernel13.Frame
public import proofs.«01_k».proof.Proof.Mm13
public import proofs.«01_k».proof.Proof.Gen.Kernel14.Frame
public import proofs.«01_k».proof.Proof.Adam14
public import proofs.«01_k».proof.Proof.Gen.Kernel15.Frame
public import proofs.«01_k».proof.Proof.Adam15
public import proofs.«01_k».proof.Proof.Gen.Kernel16.Frame
public import proofs.«01_k».proof.Proof.Adam16
public import proofs.«01_k».proof.Proof.Gen.Kernel17.Frame
public import proofs.«01_k».proof.Proof.Adam17
public import proofs.«01_k».proof.Proof.Gen.Kernel18.Frame
public import proofs.«01_k».proof.Proof.Adam18
public import proofs.«01_k».proof.Proof.Gen.Kernel19.Frame
public import proofs.«01_k».proof.Proof.Adam19
public import proofs.«01_k».proof.Proof.Gen.Kernel20.Frame
public import proofs.«01_k».proof.Proof.Adam20
public import proofs.«01_k».proof.Proof.Gen.Kernel21.Frame
public import proofs.«01_k».proof.Proof.Adam21
public import Idealize.ShloMosaic.Adequacy
public import Idealize.ShloMosaic.Init

@[expose] public section

noncomputable section

namespace Cert.Proof

open Idealize.ShloMosaic Idealize.SL.Sem

/-- The reference runs and keeps its arguments; it has no counters. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The two named constants stand for the reals they round. -/
theorem preserves : Cert.preserves_Kernel_KernelIdeal :=
  ⟨IdealRules.named_const.statement Cert.KernelIdeal.κ "scale2" .f32 0x3DD53B95#32 _ rfl,
    IdealRules.named_const.statement Cert.KernelIdeal.κ "scale" .f32 0x3D93CD3A#32 _ rfl⟩

/-- Of real arguments the kernel and the reference end with the same two arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hagree => by
  have hR : Final.Real' m := fun c => Finite.reals _ _ _ _ (hpre c).1 (hpre c).2.1 (hpre c).2.2.1 (hpre c).2.2.2
  refine ⟨fun c => Cert.ReferenceIdeal.Read.val_main_v81 (F := Ideal) (Final.a0 m c) (Final.a1 m c) (Final.a2 m c) (Final.a3 m c),
    fun c => Cert.ReferenceIdeal.Read.val_main_v83 (F := Ideal) (Final.a0 m c) (Final.a1 m c) (Final.a2 m c) (Final.a3 m c),
    Final.run m g hR, ?_⟩
  refine (θ_run Cert.ReferenceIdeal.defs _ _).mono (fun r h c => ⟨(h c).1.trans ?_, (h c).2.1.trans ?_, (h c).2.2⟩)
    (Cert.ReferenceIdeal.Value.run (F := Ideal) m' g')
  · rw [Cert.ReferenceIdeal.Read.val_main_v81_eq, (hagree c).1, (hagree c).2.1, (hagree c).2.2.1, (hagree c).2.2.2]
  · rw [Cert.ReferenceIdeal.Read.val_main_v83_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Pre_finite.Gen.facts,
  fun m g _ => KernelFrame.whole_frame m g,
  fun m g _ => KernelIdealFrame.whole_frame m g,
  fun m g _ => KernelIdealFrame.whole_frame m g,
  frame_reference,
  fun m g _ => frame_reference m g trivial,
  fun m g _ => Cert.Kernel2.Gen.frame m g,
  fun m g _ => Cert.Kernel2Ideal.Gen.frame m g,
  Mm2.frame_reference,
  fun m g _ => Cert.Kernel3.Gen.frame m g,
  fun m g _ => Cert.Kernel3Ideal.Gen.frame m g,
  Mm3.frame_reference,
  fun m g _ => Cert.Kernel4.Gen.frame m g,
  fun m g _ => Cert.Kernel4Ideal.Gen.frame m g,
  Mm4.frame_reference,
  fun m g _ => Cert.Kernel5.Gen.frame m g,
  fun m g _ => Cert.Kernel5Ideal.Gen.frame m g,
  Mm5.frame_reference,
  fun m g _ => Cert.Kernel6.Gen.frame m g,
  fun m g _ => Cert.Kernel6Ideal.Gen.frame m g,
  Mm6.frame_reference,
  fun m g _ => Cert.Kernel7.Gen.frame m g,
  fun m g _ => Cert.Kernel7Ideal.Gen.frame m g,
  Mm7.frame_reference,
  fun m g _ => Cert.Kernel8.Gen.frame m g,
  fun m g _ => Cert.Kernel8Ideal.Gen.frame m g,
  Mm8.frame_reference,
  fun m g _ => Cert.Kernel9.Gen.frame m g,
  fun m g _ => Cert.Kernel9Ideal.Gen.frame m g,
  Mm9.frame_reference,
  fun m g _ => Cert.Kernel10.Gen.frame m g,
  fun m g _ => Cert.Kernel10Ideal.Gen.frame m g,
  Mm10.frame_reference,
  fun m g _ => Cert.Kernel11.Gen.frame m g,
  fun m g _ => Cert.Kernel11Ideal.Gen.frame m g,
  Mm11.frame_reference,
  fun m g _ => Cert.Kernel12.Gen.frame m g,
  fun m g _ => Cert.Kernel12Ideal.Gen.frame m g,
  Mm12.frame_reference,
  fun m g _ => Cert.Kernel13.Gen.frame m g,
  fun m g _ => Cert.Kernel13Ideal.Gen.frame m g,
  Mm13.frame_reference,
  fun m g _ => Cert.Kernel14.Gen.frame m g,
  fun m g _ => Cert.Kernel14Ideal.Gen.frame m g,
  Adam14.frame_reference,
  fun m g _ => Cert.Kernel15.Gen.frame m g,
  fun m g _ => Cert.Kernel15Ideal.Gen.frame m g,
  Adam15.frame_reference,
  fun m g _ => Cert.Kernel16.Gen.frame m g,
  fun m g _ => Cert.Kernel16Ideal.Gen.frame m g,
  Adam16.frame_reference,
  fun m g _ => Cert.Kernel17.Gen.frame m g,
  fun m g _ => Cert.Kernel17Ideal.Gen.frame m g,
  Adam17.frame_reference,
  fun m g _ => Cert.Kernel18.Gen.frame m g,
  fun m g _ => Cert.Kernel18Ideal.Gen.frame m g,
  Adam18.frame_reference,
  fun m g _ => Cert.Kernel19.Gen.frame m g,
  fun m g _ => Cert.Kernel19Ideal.Gen.frame m g,
  Adam19.frame_reference,
  fun m g _ => Cert.Kernel20.Gen.frame m g,
  fun m g _ => Cert.Kernel20Ideal.Gen.frame m g,
  Adam20.frame_reference,
  fun m g _ => Cert.Kernel21.Gen.frame m g,
  fun m g _ => Cert.Kernel21Ideal.Gen.frame m g,
  Adam21.frame_reference,
  preserves,
  algebraic,
  trivial,
  Mm2.algebraic,
  trivial,
  Mm3.algebraic,
  trivial,
  Mm4.algebraic,
  trivial,
  Mm5.algebraic,
  trivial,
  Mm6.algebraic,
  trivial,
  Mm7.algebraic,
  trivial,
  Mm8.algebraic,
  trivial,
  Mm9.algebraic,
  trivial,
  Mm10.algebraic,
  trivial,
  Mm11.algebraic,
  trivial,
  Mm12.algebraic,
  trivial,
  Mm13.algebraic,
  trivial,
  Adam14.algebraic,
  trivial,
  Adam15.algebraic,
  trivial,
  Adam16.algebraic,
  trivial,
  Adam17.algebraic,
  trivial,
  Adam18.algebraic,
  trivial,
  Adam19.algebraic,
  trivial,
  Adam20.algebraic,
  trivial,
  Adam21.algebraic⟩

end Cert.Proof

end
